-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_plan : Cert.Pre_plan.Facts] (m : (ℓ : Loc Cert.Kernel2.nD Cert.Kernel2.τ Cert.Kernel2.sig) → Buf (Elt Bits) ℓ) : Prop :=
  ∀ c : Dev Cert.Kernel2.nD,
    (Cert.Pre_plan.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_plan : Cert.Pre_plan.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_plan.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_plan [hPre_plan : Cert.Pre_plan.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_plan.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_plan : Cert.Pre_plan.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_plan : Cert.Pre_plan.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_plan [hReference2Ideal : Cert.Reference2Ideal.Facts] [hPre_plan : Cert.Pre_plan.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_plan m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_plan : Cert.Pre_plan.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_plan : Cert.Pre_plan.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_plan := hPre_plan)
    ∧ quiescent_Kernel2Ideal (hKernel2Ideal := hKernel2Ideal) (hPre_plan := hPre_plan)
    ∧ quiescent_Reference2Ideal (hReference2Ideal := hReference2Ideal)
    ∧ quiescent_Reference2Ideal_pre_plan (hReference2Ideal := hReference2Ideal) (hPre_plan := hPre_plan)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_plan := hPre_plan)
-- ==== Pre_finite.lean ====
abbrev S32x2048x3072 : Shape := ⟨3, ![32, 2048, 3072]⟩
abbrev S16x3072 : Shape := ⟨2, ![16, 3072]⟩
abbrev S32x4 : Shape := ⟨2, ![32, 4]⟩
abbrev S1x64 : Shape := ⟨2, ![1, 64]⟩
abbrev S1x128 : Shape := ⟨2, ![1, 128]⟩
abbrev S_ : Shape := ⟨0, ![]⟩

class Facts : Prop where
  bcast_S_S32x2048x3072 : S_.BroadcastsInDim S32x2048x3072 (![] : Fin 0 → Fin S32x2048x3072.rank)
  reducesTo_S32x2048x3072_S_d0_1_2 : S32x2048x3072.ReducesTo [0, 1, 2] S_
  h_S_ : 0 < S_.numel
  bcast_S_S16x3072 : S_.BroadcastsInDim S16x3072 (![] : Fin 0 → Fin S16x3072.rank)
  reducesTo_S16x3072_S_d0_1 : S16x3072.ReducesTo [0, 1] S_
  bcast_S_S32x4 : S_.BroadcastsInDim S32x4 (![] : Fin 0 → Fin S32x4.rank)
  reducesTo_S32x4_S_d0_1 : S32x4.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S32x2048x3072 .f32) (main_arg1 : FVec F S16x3072 .f32) (main_arg2 : FVec F S32x4 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S32x2048x3072 .f32 := Host.absf main_arg0
  let main_cst : FVec F S_ .f32 := constant S_ .f32 0x7F800000#32
  let main_v1 : FVec F S32x2048x3072 .f32 := broadcastInDim S32x2048x3072 ![] bcast_S_S32x2048x3072 main_cst
  let main_v2 : IVec S32x2048x3072 1 := cmpf .olt main_v0 main_v1
  let main_c : IVec S_ 1 := constantI S_ 1 1#1
  let main_v3 : IVec S_ 1 := (fun x v => Host.reduce IntOp.andi x v reducesTo_S32x2048x3072_S_d0_1_2 h_S_) main_v2 main_c
  let main_v4 : FVec F S16x3072 .f32 := Host.absf main_arg1
  let main_cst_0 : FVec F S_ .f32 := constant S_ .f32 0x7F800000#32
  let main_v5 : FVec F S16x3072 .f32 := broadcastInDim S16x3072 ![] bcast_S_S16x3072 main_cst_0
  let main_v6 : IVec S16x3072 1 := cmpf .olt main_v4 main_v5
  let main_c_1 : IVec S_ 1 := constantI S_ 1 1#1
  let main_v7 : IVec S_ 1 := (fun x v => Host.reduce IntOp.andi x v reducesTo_S16x3072_S_d0_1 h_S_) main_v6 main_c_1
  let main_v8 : IVec S_ 1 := andi main_v3 main_v7
  let main_v9 : FVec F S32x4 .f32 := Host.absf main_arg2
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_c_3 : IVec S_ 1 := constantI S_ 1 1#1
  let main_v12 : IVec S_ 1 := (fun x v => Host.reduce IntOp.andi x v reducesTo_S32x4_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Pre_plan.lean ====
abbrev S544 : Shape := ⟨1, ![544]⟩
abbrev S1 : Shape := ⟨1, ![1]⟩
abbrev S2228224x128 : Shape := ⟨2, ![2228224, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S543 : Shape := ⟨1, ![543]⟩
abbrev S_ : Shape := ⟨0, ![]⟩

class Facts : Prop where
  slices_S544_S543_1 : S544.Slices ![1] S543
  slices_S544_S543_0 : S544.Slices ![0] S543
  bcast_S_S544 : S_.BroadcastsInDim S544 (![] : Fin 0 → Fin S544.rank)
  reducesTo_S544_S_d0 : S544.ReducesTo [0] S_
  h_S_ : 0 < S_.numel
  bcast_S_S1 : S_.BroadcastsInDim S1 (![] : Fin 0 → Fin S1.rank)
  reducesTo_S1_S_d0 : S1.ReducesTo [0] S_
  slices_S544_S1_0 : S544.Slices ![0] S1
  bcast_S_S543 : S_.BroadcastsInDim S543 (![] : Fin 0 → Fin S543.rank)
  reducesTo_S543_S_d0 : S543.ReducesTo [0] S_

variable [Facts]

def fn_part1 {F : FTy → Type} [FloatOps F] (main_arg1 : IVec S544 32) (main_v2 : IVec S543 1) (main_v12 : IVec S_ 1) (main_v16 : IVec S_ 1) : IVec S_ 1 :=
  let main_v17 : IVec S_ 1 := andi main_v12 main_v16
  let main_v18 : IVec S543 32 := (extractStridedSlice S543 ![1] · slices_S544_S543_1) main_arg1
  let main_c_6 : IVec S_ 32 := constantI S_ 32 0#32
  let main_v19 : IVec S543 32 := broadcastInDim S543 ![] bcast_S_S543 main_c_6
  let main_v20 : IVec S543 1 := cmpi .sgt main_v18 main_v19
  let main_v21 : IVec S543 1 := ori main_v20 main_v2
  let main_c_7 : IVec S_ 1 := constantI S_ 1 1#1
  let main_v22 : IVec S_ 1 := (fun x v => Host.reduce IntOp.andi x v reducesTo_S543_S_d0 h_S_) main_v21 main_c_7
  let main_v23 : IVec S_ 1 := andi main_v17 main_v22
  main_v23

def fn {F : FTy → Type} [FloatOps F] (main_arg0 : IVec S544 32) (main_arg1 : IVec S544 32) (main_arg2 : IVec S1 32) (main_arg3 : FVec F S2228224x128 .f32) (main_arg4 : FVec F S32x1024x2048 .f32) (main_arg5 : FVec F S32x1x2048 .f32) (main_arg6 : FVec F S32x1024x1024 .f32) (main_arg7 : FVec F S32x1x1024 .f32) : IVec S_ 1 :=
  let main_v0 : IVec S543 32 := (extractStridedSlice S543 ![1] · slices_S544_S543_1) main_arg0
  let main_v1 : IVec S543 32 := (extractStridedSlice S543 ![0] · slices_S544_S543_0) main_arg0
  let main_v2 : IVec S543 1 := cmpi .eq main_v0 main_v1
  let main_c : IVec S_ 32 := constantI S_ 32 0#32
  let main_v3 : IVec S544 32 := broadcastInDim S544 ![] bcast_S_S544 main_c
  let main_v4 : IVec S544 1 := cmpi .sge main_arg0 main_v3
  let main_c_0 : IVec S_ 32 := constantI S_ 32 32#32
  let main_v5 : IVec S544 32 := broadcastInDim S544 ![] bcast_S_S544 main_c_0
  let main_v6 : IVec S544 1 := cmpi .slt main_arg0 main_v5
  let main_v7 : IVec S544 1 := andi main_v4 main_v6
  let main_c_1 : IVec S_ 1 := constantI S_ 1 1#1
  let main_v8 : IVec S_ 1 := (fun x v => Host.reduce IntOp.andi x v reducesTo_S544_S_d0 h_S_) main_v7 main_c_1
  let main_c_2 : IVec S_ 32 := constantI S_ 32 0#32
  let main_v9 : IVec S1 32 := broadcastInDim S1 ![] bcast_S_S1 main_c_2
  let main_v10 : IVec S1 1 := cmpi .sgt main_arg2 main_v9
  let main_c_3 : IVec S_ 1 := constantI S_ 1 1#1
  let main_v11 : IVec S_ 1 := (fun x v => Host.reduce IntOp.andi x v reducesTo_S1_S_d0 h_S_) main_v10 main_c_3
  let main_v12 : IVec S_ 1 := andi main_v8 main_v11
  let main_v13 : IVec S1 32 := (extractStridedSlice S1 ![0] · slices_S544_S1_0) main_arg1
  let main_c_4 : IVec S_ 32 := constantI S_ 32 0#32
  let main_v14 : IVec S1 32 := broadcastInDim S1 ![] bcast_S_S1 main_c_4
  let main_v15 : IVec S1 1 := cmpi .sgt main_v13 main_v14
  let main_c_5 : IVec S_ 1 := constantI S_ 1 1#1
  let main_v16 : IVec S_ 1 := (fun x v => Host.reduce IntOp.andi x v reducesTo_S1_S_d0 h_S_) main_v15 main_c_5
  fn_part1 (F := F) main_arg1 main_v2 main_v12 main_v16
-- ==== Kernel.lean ====
abbrev S32x2048x3072 : Shape := ⟨3, ![32, 2048, 3072]⟩
abbrev S16x3072 : Shape := ⟨2, ![16, 3072]⟩
abbrev S32x4 : Shape := ⟨2, ![32, 4]⟩
abbrev S1x64 : Shape := ⟨2, ![1, 64]⟩
abbrev S1x128 : Shape := ⟨2, ![1, 128]⟩
abbrev S65536x3072 : Shape := ⟨2, ![65536, 3072]⟩
abbrev S65536x512 : Shape := ⟨2, ![65536, 512]⟩
abbrev S_ : Shape := ⟨0, ![]⟩
abbrev S65536x1536 : Shape := ⟨2, ![65536, 1536]⟩
abbrev S128x512x512 : Shape := ⟨3, ![128, 512, 512]⟩
abbrev S16x512 : Shape := ⟨2, ![16, 512]⟩
abbrev S16x4x128 : Shape := ⟨3, ![16, 4, 128]⟩
abbrev S4x128x16 : Shape := ⟨3, ![4, 128, 16]⟩
abbrev S4x3x512x512 : Shape := ⟨4, ![4, 3, 512, 512]⟩
abbrev S4x16x2048 : Shape := ⟨3, ![4, 16, 2048]⟩
abbrev S1x3x512x512 : Shape := ⟨4, ![1, 3, 512, 512]⟩
abbrev S1x16x2048 : Shape := ⟨3, ![1, 16, 2048]⟩
abbrev S512x512 : Shape := ⟨2, ![512, 512]⟩
abbrev S1x1 : Shape := ⟨2, ![1, 1]⟩
abbrev S1x1x512x512 : Shape := ⟨4, ![1, 1, 512, 512]⟩
abbrev S16x2048 : Shape := ⟨2, ![16, 2048]⟩
abbrev S128 : Shape := ⟨1, ![128]⟩
abbrev S128x1 : Shape := ⟨2, ![128, 1]⟩
abbrev S2048x512 : Shape := ⟨2, ![2048, 512]⟩
abbrev S4x512x512 : Shape := ⟨3, ![4, 512, 512]⟩
abbrev S4x16x512 : Shape := ⟨3, ![4, 16, 512]⟩
abbrev S512x128 : Shape := ⟨2, ![512, 128]⟩
abbrev S16x128 : Shape := ⟨2, ![16, 128]⟩
abbrev S1x16x512 : Shape := ⟨3, ![1, 16, 512]⟩
abbrev S1x128x16 : Shape := ⟨3, ![1, 128, 16]⟩
abbrev S128x16 : Shape := ⟨2, ![128, 16]⟩
abbrev S16x16 : Shape := ⟨2, ![16, 16]⟩
abbrev S144x16 : Shape := ⟨2, ![144, 16]⟩
abbrev S1x512 : Shape := ⟨2, ![1, 512]⟩
abbrev S144x512 : Shape := ⟨2, ![144, 512]⟩
abbrev S512 : Shape := ⟨1, ![512]⟩
abbrev S1x128x512 : Shape := ⟨3, ![1, 128, 512]⟩
abbrev S128x512 : Shape := ⟨2, ![128, 512]⟩
abbrev S1 : Shape := ⟨1, ![1]⟩

abbrev nBuf : Space → Nat
  | .hbm => 33
  | .vmem => 22
  | .smem => 1
  | _ => 0

abbrev bufTy : (tb : Table) → Fin (tcTables nBuf tb) → BufTy
  | .hbm, ⟨0, _⟩ => ⟨S32x2048x3072, .f32⟩
  | .hbm, ⟨1, _⟩ => ⟨S16x3072, .f32⟩
  | .hbm, ⟨2, _⟩ => ⟨S32x4, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S65536x3072, .f32⟩
  | .hbm, ⟨9, _⟩ => ⟨S65536x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x1536, .f32⟩
  | .hbm, ⟨19, _⟩ => ⟨S65536x1536, .bf16⟩
  | .hbm, ⟨20, _⟩ => ⟨S65536x512, .f32⟩
  | .hbm, ⟨21, _⟩ => ⟨S128x512x512, .f32⟩
  | .hbm, ⟨22, _⟩ => ⟨S128x512x512, .f32⟩
  | .hbm, ⟨23, _⟩ => ⟨S128x512x512, .bf16⟩
  | .hbm, ⟨24, _⟩ => ⟨S16x3072, .bf16⟩
  | .hbm, ⟨25, _⟩ => ⟨S16x512, .bf16⟩
  | .hbm, ⟨26, _⟩ => ⟨S16x4x128, .bf16⟩
  | .hbm, ⟨27, _⟩ => ⟨S4x128x16, .bf16⟩
  | .hbm, ⟨28, _⟩ => ⟨S4x3x512x512, .f32⟩
  | .hbm, ⟨29, _⟩ => ⟨S4x16x2048, .f32⟩
  | .hbm, ⟨30, _⟩ => ⟨S128, .f32⟩
  | .hbm, ⟨31, _⟩ => ⟨S128x1, .f32⟩
  | .hbm, ⟨32, _⟩ => ⟨S65536x512, .bf16⟩
  | .local _ .vmem, ⟨0, _⟩ => ⟨S1x3x512x512, .f32⟩
  | .local _ .vmem, ⟨1, _⟩ => ⟨S1x3x512x512, .f32⟩
  | .local _ .vmem, ⟨2, _⟩ => ⟨S1x16x2048, .f32⟩
  | .local _ .vmem, ⟨3, _⟩ => ⟨S1x16x2048, .f32⟩
  | .local _ .vmem, ⟨4, _⟩ => ⟨S512x512, .bf16⟩
  | .local _ .vmem, ⟨5, _⟩ => ⟨S512x512, .bf16⟩
  | .local _ .vmem, ⟨6, _⟩ => ⟨S2048x512, .bf16⟩
  | .local _ .vmem, ⟨7, _⟩ => ⟨S2048x512, .bf16⟩
  | .local _ .vmem, ⟨8, _⟩ => ⟨S4x512x512, .bf16⟩
  | .local _ .vmem, ⟨9, _⟩ => ⟨S4x512x512, .bf16⟩
  | .local _ .vmem, ⟨10, _⟩ => ⟨S16x512, .bf16⟩
  | .local _ .vmem, ⟨11, _⟩ => ⟨S4x128x16, .bf16⟩
  | .local _ .vmem, ⟨12, _⟩ => ⟨S4x3x512x512, .f32⟩
  | .local _ .vmem, ⟨13, _⟩ => ⟨S4x16x512, .f32⟩
  | .local _ .vmem, ⟨14, _⟩ => ⟨S4x16x512, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S128x1, .f32⟩
  | .local _ .vmem, ⟨20, _⟩ => ⟨S512x512, .bf16⟩
  | .local _ .vmem, ⟨21, _⟩ => ⟨S512x512, .bf16⟩
  | .local _ .smem, ⟨0, _⟩ => ⟨S32x4, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem12_1 : DmaSem sig := 22

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0 : Index := 0#32
  let arg0 : BitVec 32 := BitVec.ofNat 32 (i 0).val
  let v111 : Index := Scalar.indexCast arg0
  ![0, v111.toNat]
def k0_off2 (i : grid0.Coords) : Fin 2 → Nat :=
  let c1 : Index := 1#32
  let arg0 : BitVec 32 := BitVec.ofNat 32 (i 0).val
  let v117 : Index := Scalar.indexCast arg0
  ![1, v117.toNat]
def k0_off3 (i : grid0.Coords) : Fin 2 → Nat :=
  let c2 : Index := 2#32
  let arg0 : BitVec 32 := BitVec.ofNat 32 (i 0).val
  let v123 : Index := Scalar.indexCast arg0
  ![2, v123.toNat]
def k0_off4 (i : grid0.Coords) : Fin 2 → Nat :=
  let c3 : Index := 3#32
  let arg0 : BitVec 32 := BitVec.ofNat 32 (i 0).val
  let v129 : Index := Scalar.indexCast arg0
  ![3, v129.toNat]
def k0_off5 (i : grid0.Coords) : Fin 2 → Nat :=
  let c4 : Index := 4#32
  let arg0 : BitVec 32 := BitVec.ofNat 32 (i 0).val
  let v135 : Index := Scalar.indexCast arg0
  ![4, v135.toNat]
def k0_off6 (i : grid0.Coords) : Fin 2 → Nat :=
  let c5 : Index := 5#32
  let arg0 : BitVec 32 := BitVec.ofNat 32 (i 0).val
  let v141 : Index := Scalar.indexCast arg0
  ![5, v141.toNat]
def k0_off7 (i : grid0.Coords) : Fin 2 → Nat :=
  let c6 : Index := 6#32
  let arg0 : BitVec 32 := BitVec.ofNat 32 (i 0).val
  let v147 : Index := Scalar.indexCast arg0
  ![6, v147.toNat]
def k0_off8 (i : grid0.Coords) : Fin 2 → Nat :=
  let c7 : Index := 7#32
  let arg0 : BitVec 32 := BitVec.ofNat 32 (i 0).val
  let v153 : Index := Scalar.indexCast arg0
  ![7, v153.toNat]
def k0_off9 (i : grid0.Coords) : Fin 2 → Nat :=
  let c8 : Index := 8#32
  let arg0 : BitVec 32 := BitVec.ofNat 32 (i 0).val
  let v159 : Index := Scalar.indexCast arg0
  ![8, v159.toNat]
def k0_off10 (i : grid0.Coords) : Fin 2 → Nat :=
  let c9 : Index := 9#32
  let arg0 : BitVec 32 := BitVec.ofNat 32 (i 0).val
  let v165 : Index := Scalar.indexCast arg0
  ![9, v165.toNat]
def k0_off11 (i : grid0.Coords) : Fin 2 → Nat :=
  let c10 : Index := 10#32
  let arg0 : BitVec 32 := BitVec.ofNat 32 (i 0).val
  let v171 : Index := Scalar.indexCast arg0
  ![10, v171.toNat]
def k0_off12 (i : grid0.Coords) : Fin 2 → Nat :=
  let c11 : Index := 11#32
  let arg0 : BitVec 32 := BitVec.ofNat 32 (i 0).val
  let v177 : Index := Scalar.indexCast arg0
  ![11, v177.toNat]
def k0_off13 (i : grid0.Coords) : Fin 2 → Nat :=
  let c12 : Index := 12#32
  let arg0 : BitVec 32 := BitVec.ofNat 32 (i 0).val
  let v183 : Index := Scalar.indexCast arg0
  ![12, v183.toNat]
def k0_off14 (i : grid0.Coords) : Fin 2 → Nat :=
  let c13 : Index := 13#32
  let arg0 : BitVec 32 := BitVec.ofNat 32 (i 0).val
  let v189 : Index := Scalar.indexCast arg0
  ![13, v189.toNat]
def k0_off15 (i : grid0.Coords) : Fin 2 → Nat :=
  let c14 : Index := 14#32
  let arg0 : BitVec 32 := BitVec.ofNat 32 (i 0).val
  let v195 : Index := Scalar.indexCast arg0
  ![14, v195.toNat]
def k0_off16 (i : grid0.Coords) : Fin 2 → Nat :=
  let c15 : Index := 15#32
  let arg0 : BitVec 32 := BitVec.ofNat 32 (i 0).val
  let v201 : Index := Scalar.indexCast arg0
  ![15, v201.toNat]
def k0_off17 (i : grid0.Coords) : Fin 2 → Nat :=
  let c16 : Index := 16#32
  let arg0 : BitVec 32 := BitVec.ofNat 32 (i 0).val
  let v207 : Index := Scalar.indexCast arg0
  ![16, v207.toNat]
def k0_off18 (i : grid0.Coords) : Fin 2 → Nat :=
  let c17 : Index := 17#32
  let arg0 : BitVec 32 := BitVec.ofNat 32 (i 0).val
  let v213 : Index := Scalar.indexCast arg0
  ![17, v213.toNat]
def k0_off19 (i : grid0.Coords) : Fin 2 → Nat :=
  let c18 : Index := 18#32
  let arg0 : BitVec 32 := BitVec.ofNat 32 (i 0).val
  let v219 : Index := Scalar.indexCast arg0
  ![18, v219.toNat]
def k0_off20 (i : grid0.Coords) : Fin 2 → Nat :=
  let c19 : Index := 19#32
  let arg0 : BitVec 32 := BitVec.ofNat 32 (i 0).val
  let v225 : Index := Scalar.indexCast arg0
  ![19, v225.toNat]
def k0_off21 (i : grid0.Coords) : Fin 2 → Nat :=
  let c20 : Index := 20#32
  let arg0 : BitVec 32 := BitVec.ofNat 32 (i 0).val
  let v231 : Index := Scalar.indexCast arg0
  ![20, v231.toNat]
def k0_off22 (i : grid0.Coords) : Fin 2 → Nat :=
  let c21 : Index := 21#32
  let arg0 : BitVec 32 := BitVec.ofNat 32 (i 0).val
  let v237 : Index := Scalar.indexCast arg0
  ![21, v237.toNat]
def k0_off23 (i : grid0.Coords) : Fin 2 → Nat :=
  let c22 : Index := 22#32
  let arg0 : BitVec 32 := BitVec.ofNat 32 (i 0).val
  let v243 : Index := Scalar.indexCast arg0
  ![22, v243.toNat]
def k0_off24 (i : grid0.Coords) : Fin 2 → Nat :=
  let c23 : Index := 23#32
  let arg0 : BitVec 32 := BitVec.ofNat 32 (i 0).val
  let v249 : Index := Scalar.indexCast arg0
  ![23, v249.toNat]
def k0_off25 (i : grid0.Coords) : Fin 2 → Nat :=
  let c24 : Index := 24#32
  let arg0 : BitVec 32 := BitVec.ofNat 32 (i 0).val
  let v255 : Index := Scalar.indexCast arg0
  ![24, v255.toNat]
def k0_off26 (i : grid0.Coords) : Fin 2 → Nat :=
  let c25 : Index := 25#32
  let arg0 : BitVec 32 := BitVec.ofNat 32 (i 0).val
  let v261 : Index := Scalar.indexCast arg0
  ![25, v261.toNat]
def k0_off27 (i : grid0.Coords) : Fin 2 → Nat :=
  let c26 : Index := 26#32
  let arg0 : BitVec 32 := BitVec.ofNat 32 (i 0).val
  let v267 : Index := Scalar.indexCast arg0
  ![26, v267.toNat]
def k0_off28 (i : grid0.Coords) : Fin 2 → Nat :=
  let c27 : Index := 27#32
  let arg0 : BitVec 32 := BitVec.ofNat 32 (i 0).val
  let v273 : Index := Scalar.indexCast arg0
  ![27, v273.toNat]
def k0_off29 (i : grid0.Coords) : Fin 2 → Nat :=
  let c28 : Index := 28#32
  let arg0 : BitVec 32 := BitVec.ofNat 32 (i 0).val
  let v279 : Index := Scalar.indexCast arg0
  ![28, v279.toNat]
def k0_off30 (i : grid0.Coords) : Fin 2 → Nat :=
  let c29 : Index := 29#32
  let arg0 : BitVec 32 := BitVec.ofNat 32 (i 0).val
  let v285 : Index := Scalar.indexCast arg0
  ![29, v285.toNat]
def k0_off31 (i : grid0.Coords) : Fin 2 → Nat :=
  let c30 : Index := 30#32
  let arg0 : BitVec 32 := BitVec.ofNat 32 (i 0).val
  let v291 : Index := Scalar.indexCast arg0
  ![30, v291.toNat]
def k0_off32 (i : grid0.Coords) : Fin 2 → Nat :=
  let c31 : Index := 31#32
  let arg0 : BitVec 32 := BitVec.ofNat 32 (i 0).val
  let v297 : Index := Scalar.indexCast arg0
  ![31, v297.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![32, 1, 4], ![false, false, false]⟩

def k1_mult1 (i : grid1.Coords) : BitVec 32 :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_26 : BitVec 32 := 0#32
  let v75 : BitVec 32 := Scalar.subi v74 c0_i32_26
  let c0_i32_27 : BitVec 32 := 0#32
  let v76 : BitVec 32 := Scalar.maxsi v75 c0_i32_27
  let c512_i32 : BitVec 32 := 512#32
  let v77 : BitVec 32 := Scalar.muli v76 c512_i32
  v77
def k1_off1 (i : grid1.Coords) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_26 : BitVec 32 := 0#32
  let v75 : BitVec 32 := Scalar.subi v74 c0_i32_26
  let c0_i32_27 : BitVec 32 := 0#32
  let v76 : BitVec 32 := Scalar.maxsi v75 c0_i32_27
  let c512_i32 : BitVec 32 := 512#32
  let v77 : BitVec 32 := Scalar.muli v76 c512_i32
  let v78 : BitVec 32 := v77
  let v80 : Index := Scalar.indexCast v78
  let c0_29 : Index := 0#32
  ![v80.toNat, 0]
def k1_off2 : Fin 4 → Nat :=
  let c0_31 : Index := 0#32
  let c0_i32_28 : BitVec 32 := 0#32
  let c2_i32 : BitVec 32 := 2#32
  let v79 : BitVec 32 := Scalar.minsi c0_i32_28 c2_i32
  let v84 : Index := Scalar.indexCast v79
  let c0_32 : Index := 0#32
  let c0_33 : Index := 0#32
  ![0, v84.toNat, 0, 0]
def k1_off3 (i : grid1.Coords) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_26 : BitVec 32 := 0#32
  let v75 : BitVec 32 := Scalar.subi v74 c0_i32_26
  let c0_i32_27 : BitVec 32 := 0#32
  let v76 : BitVec 32 := Scalar.maxsi v75 c0_i32_27
  let c512_i32 : BitVec 32 := 512#32
  let v77 : BitVec 32 := Scalar.muli v76 c512_i32
  let v78 : BitVec 32 := v77
  let v98 : Index := Scalar.indexCast v78
  let c128_39 : Index := 128#32
  ![v98.toNat, 128]
def k1_off4 : Fin 4 → Nat :=
  let c1 : Index := 1#32
  let c0_i32_28 : BitVec 32 := 0#32
  let c2_i32 : BitVec 32 := 2#32
  let v79 : BitVec 32 := Scalar.minsi c0_i32_28 c2_i32
  let v102 : Index := Scalar.indexCast v79
  let c0_41 : Index := 0#32
  let c0_42 : Index := 0#32
  ![1, v102.toNat, 0, 0]
def k1_off5 (i : grid1.Coords) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_26 : BitVec 32 := 0#32
  let v75 : BitVec 32 := Scalar.subi v74 c0_i32_26
  let c0_i32_27 : BitVec 32 := 0#32
  let v76 : BitVec 32 := Scalar.maxsi v75 c0_i32_27
  let c512_i32 : BitVec 32 := 512#32
  let v77 : BitVec 32 := Scalar.muli v76 c512_i32
  let v78 : BitVec 32 := v77
  let v116 : Index := Scalar.indexCast v78
  let c256_48 : Index := 256#32
  ![v116.toNat, 256]
def k1_off6 : Fin 4 → Nat :=
  let c2 : Index := 2#32
  let c0_i32_28 : BitVec 32 := 0#32
  let c2_i32 : BitVec 32 := 2#32
  let v79 : BitVec 32 := Scalar.minsi c0_i32_28 c2_i32
  let v120 : Index := Scalar.indexCast v79
  let c0_50 : Index := 0#32
  let c0_51 : Index := 0#32
  ![2, v120.toNat, 0, 0]
def k1_off7 (i : grid1.Coords) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_26 : BitVec 32 := 0#32
  let v75 : BitVec 32 := Scalar.subi v74 c0_i32_26
  let c0_i32_27 : BitVec 32 := 0#32
  let v76 : BitVec 32 := Scalar.maxsi v75 c0_i32_27
  let c512_i32 : BitVec 32 := 512#32
  let v77 : BitVec 32 := Scalar.muli v76 c512_i32
  let v78 : BitVec 32 := v77
  let v134 : Index := Scalar.indexCast v78
  let c384_57 : Index := 384#32
  ![v134.toNat, 384]
def k1_off8 : Fin 4 → Nat :=
  let c3 : Index := 3#32
  let c0_i32_28 : BitVec 32 := 0#32
  let c2_i32 : BitVec 32 := 2#32
  let v79 : BitVec 32 := Scalar.minsi c0_i32_28 c2_i32
  let v138 : Index := Scalar.indexCast v79
  let c0_59 : Index := 0#32
  let c0_60 : Index := 0#32
  ![3, v138.toNat, 0, 0]
@[reducible] def k1_t1_loop (i : grid1.Coords) : Scf.Loop 32 :=
  let c0_i32_194 : BitVec 32 := 0#32
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_196 : BitVec 32 := 1#32
  ⟨c0_i32_194, v420, c1_i32_196⟩
def k1_mult2 (i : grid1.Coords) (k1_t1 : Fin (k1_t1_loop i).trips) : BitVec 32 :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  v721
def k1_off9 (i : grid1.Coords) (k1_t1 : Fin (k1_t1_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v724 : Index := Scalar.indexCast v722
  let c0_281 : Index := 0#32
  ![v724.toNat, 0]
def k1_off10 (i : grid1.Coords) (k1_t1 : Fin (k1_t1_loop i).trips) : Fin 4 → Nat :=
  let c0_283 : Index := 0#32
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let c2_i32_280 : BitVec 32 := 2#32
  let v723 : BitVec 32 := Scalar.minsi v718 c2_i32_280
  let v728 : Index := Scalar.indexCast v723
  let c0_284 : Index := 0#32
  let c0_285 : Index := 0#32
  ![0, v728.toNat, 0, 0]
def k1_off11 (i : grid1.Coords) (k1_t1 : Fin (k1_t1_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v742 : Index := Scalar.indexCast v722
  let c128_291 : Index := 128#32
  ![v742.toNat, 128]
def k1_off12 (i : grid1.Coords) (k1_t1 : Fin (k1_t1_loop i).trips) : Fin 4 → Nat :=
  let c1_293 : Index := 1#32
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let c2_i32_280 : BitVec 32 := 2#32
  let v723 : BitVec 32 := Scalar.minsi v718 c2_i32_280
  let v746 : Index := Scalar.indexCast v723
  let c0_294 : Index := 0#32
  let c0_295 : Index := 0#32
  ![1, v746.toNat, 0, 0]
def k1_off13 (i : grid1.Coords) (k1_t1 : Fin (k1_t1_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v760 : Index := Scalar.indexCast v722
  let c256_301 : Index := 256#32
  ![v760.toNat, 256]
def k1_off14 (i : grid1.Coords) (k1_t1 : Fin (k1_t1_loop i).trips) : Fin 4 → Nat :=
  let c2_303 : Index := 2#32
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let c2_i32_280 : BitVec 32 := 2#32
  let v723 : BitVec 32 := Scalar.minsi v718 c2_i32_280
  let v764 : Index := Scalar.indexCast v723
  let c0_304 : Index := 0#32
  let c0_305 : Index := 0#32
  ![2, v764.toNat, 0, 0]
def k1_off15 (i : grid1.Coords) (k1_t1 : Fin (k1_t1_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v778 : Index := Scalar.indexCast v722
  let c384_311 : Index := 384#32
  ![v778.toNat, 384]
def k1_off16 (i : grid1.Coords) (k1_t1 : Fin (k1_t1_loop i).trips) : Fin 4 → Nat :=
  let c3_313 : Index := 3#32
  let c0_i32_194 : BitVec 32 := 0#32
  let c1_i32_196 : BitVec 32 := 1#32
  let arg16 : BitVec 32 := Scf.iv c0_i32_194 c1_i32_196 k1_t1
  let c1_i32_277 : BitVec 32 := 1#32
  let v718 : BitVec 32 := Scalar.addi arg16 c1_i32_277
  let c2_i32_280 : BitVec 32 := 2#32
  let v723 : BitVec 32 := Scalar.minsi v718 c2_i32_280
  let v782 : Index := Scalar.indexCast v723
  let c0_314 : Index := 0#32
  let c0_315 : Index := 0#32
  ![3, v782.toNat, 0, 0]
def k1_off17 (i : grid1.Coords) (k1_t1 : Fin (k1_t1_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let v796 : BitVec 32 := Scalar.subi v74 arg16
  let v797 : Index := Scalar.indexCast v796
  let c0_321 : Index := 0#32
  let c0_322 : Index := 0#32
  ![v797.toNat, 0, 0]
def k1_off18 (i : grid1.Coords) (k1_t1 : Fin (k1_t1_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let v808 : BitVec 32 := Scalar.subi v74 arg16
  let v809 : Index := Scalar.indexCast v808
  let c128_326 : Index := 128#32
  let c0_327 : Index := 0#32
  ![v809.toNat, 128, 0]
def k1_off19 (i : grid1.Coords) (k1_t1 : Fin (k1_t1_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let v820 : BitVec 32 := Scalar.subi v74 arg16
  let v821 : Index := Scalar.indexCast v820
  let c256_331 : Index := 256#32
  let c0_332 : Index := 0#32
  ![v821.toNat, 256, 0]
def k1_off20 (i : grid1.Coords) (k1_t1 : Fin (k1_t1_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let c1_i32_196 : BitVec 32 := 1#32
  let arg16 : BitVec 32 := Scf.iv c0_i32_194 c1_i32_196 k1_t1
  let v832 : BitVec 32 := Scalar.subi v74 arg16
  let v833 : Index := Scalar.indexCast v832
  let c384_336 : Index := 384#32
  let c0_337 : Index := 0#32
  ![v833.toNat, 384, 0]
@[reducible] def k1_t2_loop (i : grid1.Coords) : Scf.Loop 32 :=
  let c0_i32_194 : BitVec 32 := 0#32
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let v417 : BitVec 32 := Scalar.addi c0_i32_194 v416
  let c1_i32_197 : BitVec 32 := 1#32
  ⟨v420, v417, c1_i32_197⟩
def k1_mult3 (i : grid1.Coords) (k1_t2 : Fin (k1_t2_loop i).trips) : BitVec 32 :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  v721
def k1_off21 (i : grid1.Coords) (k1_t2 : Fin (k1_t2_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v724 : Index := Scalar.indexCast v722
  let c0_281 : Index := 0#32
  ![v724.toNat, 0]
def k1_off22 (i : grid1.Coords) (k1_t2 : Fin (k1_t2_loop i).trips) : Fin 4 → Nat :=
  let c0_283 : Index := 0#32
  let c0_i32_194 : BitVec 32 := 0#32
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let c2_i32_280 : BitVec 32 := 2#32
  let v723 : BitVec 32 := Scalar.minsi v718 c2_i32_280
  let v728 : Index := Scalar.indexCast v723
  let c0_284 : Index := 0#32
  let c0_285 : Index := 0#32
  ![0, v728.toNat, 0, 0]
def k1_off23 (i : grid1.Coords) (k1_t2 : Fin (k1_t2_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v742 : Index := Scalar.indexCast v722
  let c128_291 : Index := 128#32
  ![v742.toNat, 128]
def k1_off24 (i : grid1.Coords) (k1_t2 : Fin (k1_t2_loop i).trips) : Fin 4 → Nat :=
  let c1_293 : Index := 1#32
  let c0_i32_194 : BitVec 32 := 0#32
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let c2_i32_280 : BitVec 32 := 2#32
  let v723 : BitVec 32 := Scalar.minsi v718 c2_i32_280
  let v746 : Index := Scalar.indexCast v723
  let c0_294 : Index := 0#32
  let c0_295 : Index := 0#32
  ![1, v746.toNat, 0, 0]
def k1_off25 (i : grid1.Coords) (k1_t2 : Fin (k1_t2_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v760 : Index := Scalar.indexCast v722
  let c256_301 : Index := 256#32
  ![v760.toNat, 256]
def k1_off26 (i : grid1.Coords) (k1_t2 : Fin (k1_t2_loop i).trips) : Fin 4 → Nat :=
  let c2_303 : Index := 2#32
  let c0_i32_194 : BitVec 32 := 0#32
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let c2_i32_280 : BitVec 32 := 2#32
  let v723 : BitVec 32 := Scalar.minsi v718 c2_i32_280
  let v764 : Index := Scalar.indexCast v723
  let c0_304 : Index := 0#32
  let c0_305 : Index := 0#32
  ![2, v764.toNat, 0, 0]
def k1_off27 (i : grid1.Coords) (k1_t2 : Fin (k1_t2_loop i).trips) : Fin 2 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let v719 : BitVec 32 := Scalar.subi v74 v718
  let c0_i32_278 : BitVec 32 := 0#32
  let v720 : BitVec 32 := Scalar.maxsi v719 c0_i32_278
  let c512_i32_279 : BitVec 32 := 512#32
  let v721 : BitVec 32 := Scalar.muli v720 c512_i32_279
  let v722 : BitVec 32 := v721
  let v778 : Index := Scalar.indexCast v722
  let c384_311 : Index := 384#32
  ![v778.toNat, 384]
def k1_off28 (i : grid1.Coords) (k1_t2 : Fin (k1_t2_loop i).trips) : Fin 4 → Nat :=
  let c3_313 : Index := 3#32
  let c0_i32_194 : BitVec 32 := 0#32
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let c1_i32_277 : BitVec 32 := 1#32
  let v718 : BitVec 32 := Scalar.addi arg16 c1_i32_277
  let c2_i32_280 : BitVec 32 := 2#32
  let v723 : BitVec 32 := Scalar.minsi v718 c2_i32_280
  let v782 : Index := Scalar.indexCast v723
  let c0_314 : Index := 0#32
  let c0_315 : Index := 0#32
  ![3, v782.toNat, 0, 0]
def k1_off29 (i : grid1.Coords) (k1_t2 : Fin (k1_t2_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let v796 : BitVec 32 := Scalar.subi v74 arg16
  let v797 : Index := Scalar.indexCast v796
  let c0_321 : Index := 0#32
  let c0_322 : Index := 0#32
  ![v797.toNat, 0, 0]
def k1_off30 (i : grid1.Coords) (k1_t2 : Fin (k1_t2_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let v808 : BitVec 32 := Scalar.subi v74 arg16
  let v809 : Index := Scalar.indexCast v808
  let c128_326 : Index := 128#32
  let c0_327 : Index := 0#32
  ![v809.toNat, 128, 0]
def k1_off31 (i : grid1.Coords) (k1_t2 : Fin (k1_t2_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let v820 : BitVec 32 := Scalar.subi v74 arg16
  let v821 : Index := Scalar.indexCast v820
  let c256_331 : Index := 256#32
  let c0_332 : Index := 0#32
  ![v821.toNat, 256, 0]
def k1_off32 (i : grid1.Coords) (k1_t2 : Fin (k1_t2_loop i).trips) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let c0_i32_194 : BitVec 32 := 0#32
  let v416 : BitVec 32 := Scalar.subi v74 c0_i32_194
  let c1_i32_195 : BitVec 32 := 1#32
  let v418 : BitVec 32 := Scalar.divsi v416 c1_i32_195
  let v419 : BitVec 32 := Scalar.muli v418 c1_i32_195
  let v420 : BitVec 32 := Scalar.addi c0_i32_194 v419
  let c1_i32_197 : BitVec 32 := 1#32
  let arg16 : BitVec 32 := Scf.iv v420 c1_i32_197 k1_t2
  let v832 : BitVec 32 := Scalar.subi v74 arg16
  let v833 : Index := Scalar.indexCast v832
  let c384_336 : Index := 384#32
  let c0_337 : Index := 0#32
  ![v833.toNat, 384, 0]
def k1_off33 (i : grid1.Coords) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v423 : BitVec 32 := Scalar.subi v74 v74
  let v424 : Index := Scalar.indexCast v423
  let c0_198 : Index := 0#32
  let c0_199 : Index := 0#32
  ![v424.toNat, 0, 0]
def k1_off34 (i : grid1.Coords) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v435 : BitVec 32 := Scalar.subi v74 v74
  let v436 : Index := Scalar.indexCast v435
  let c128_203 : Index := 128#32
  let c0_204 : Index := 0#32
  ![v436.toNat, 128, 0]
def k1_off35 (i : grid1.Coords) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v447 : BitVec 32 := Scalar.subi v74 v74
  let v448 : Index := Scalar.indexCast v447
  let c256_208 : Index := 256#32
  let c0_209 : Index := 0#32
  ![v448.toNat, 256, 0]
def k1_off36 (i : grid1.Coords) : Fin 3 → Nat :=
  let c1_i32 : BitVec 32 := 1#32
  let arg2 : BitVec 32 := BitVec.ofNat 32 (i 2).val
  let v72 : BitVec 32 := Scalar.muli c1_i32 arg2
  let c1_i32_24 : BitVec 32 := 1#32
  let v73 : BitVec 32 := Scalar.addi v72 c1_i32_24
  let c1_i32_25 : BitVec 32 := 1#32
  let v74 : BitVec 32 := Scalar.subi v73 c1_i32_25
  let v459 : BitVec 32 := Scalar.subi v74 v74
  let v460 : Index := Scalar.indexCast v459
  let c384_213 : Index := 384#32
  let c0_214 : Index := 0#32
  ![v460.toNat, 384, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S4x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S16x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true, false]

abbrev stage1_4 : Fin 1 → Memref sig .tc .vmem S4x128x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 1 → Memref sig .tc .vmem S4x3x512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, true, false]

abbrev stage1_6 : Fin 2 → Memref sig .tc .vmem S4x16x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false, false]

abbrev stage1_11 : Fin 1 → Memref sig .tc .vmem S128x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false, false]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]
-- ==== KernelIdeal.lean ====
variable {F : FTy → Type} [FloatOps F] [Named F]
def κ : String → Option EReal := fun
  | "mask" => some ⊥
  | _ => none
-- ==== ReferenceIdeal.lean ====
abbrev S32x2048x3072 : Shape := ⟨3, ![32, 2048, 3072]⟩
abbrev S16x3072 : Shape := ⟨2, ![16, 3072]⟩
abbrev S32x4 : Shape := ⟨2, ![32, 4]⟩
abbrev S1x64 : Shape := ⟨2, ![1, 64]⟩
abbrev S1x128 : Shape := ⟨2, ![1, 128]⟩
abbrev S1x16x3072 : Shape := ⟨3, ![1, 16, 3072]⟩
abbrev S32x16x3072 : Shape := ⟨3, ![32, 16, 3072]⟩
abbrev S32x2064x3072 : Shape := ⟨3, ![32, 2064, 3072]⟩
abbrev S32x2064x512 : Shape := ⟨3, ![32, 2064, 512]⟩
abbrev S32x2064x8x64 : Shape := ⟨4, ![32, 2064, 8, 64]⟩
abbrev S32x2064x4x128 : Shape := ⟨4, ![32, 2064, 4, 128]⟩
abbrev S64 : Shape := ⟨1, ![64]⟩
abbrev S_ : Shape := ⟨0, ![]⟩
abbrev S32x8x2064x2064 : Shape := ⟨4, ![32, 8, 2064, 2064]⟩
abbrev S32x4x2x2064x2064 : Shape := ⟨5, ![32, 4, 2, 2064, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S2064x2064x1 : Shape := ⟨3, ![2064, 2064, 1]⟩
abbrev S2064x2064x4 : Shape := ⟨3, ![2064, 2064, 4]⟩
abbrev S4x2064x2064 : Shape := ⟨3, ![4, 2064, 2064]⟩
abbrev S1x4x1x2064x2064 : Shape := ⟨5, ![1, 4, 1, 2064, 2064]⟩
abbrev S32x4x2x2064 : Shape := ⟨4, ![32, 4, 2, 2064]⟩
abbrev S32x4x2x2064x1 : Shape := ⟨5, ![32, 4, 2, 2064, 1]⟩
abbrev S32x4x1x2064x2064 : Shape := ⟨5, ![32, 4, 1, 2064, 2064]⟩
abbrev S32x4x2064x2064 : Shape := ⟨4, ![32, 4, 2064, 2064]⟩
abbrev S32x4x128x2064 : Shape := ⟨4, ![32, 4, 128, 2064]⟩
abbrev S128 : Shape := ⟨1, ![128]⟩
abbrev S32x2064x4 : Shape := ⟨3, ![32, 2064, 4]⟩
abbrev S32x2064x4x1 : Shape := ⟨4, ![32, 2064, 4, 1]⟩
abbrev S1x1x1x128 : Shape := ⟨4, ![1, 1, 1, 128]⟩
abbrev S32x2048x4x128 : Shape := ⟨4, ![32, 2048, 4, 128]⟩
abbrev S65536x512 : Shape := ⟨2, ![65536, 512]⟩

abbrev nBuf : Space → Nat
  | .hbm => 211
  | .vmem => 0
  | .smem => 0
  | _ => 0

abbrev hbmTy0_0 (i : Nat) : BufTy := match i % 128 with
  | 0 => ⟨S32x2048x3072, .f32⟩
  | 1 => ⟨S16x3072, .f32⟩
  | 2 => ⟨S32x4, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S1x16x3072, .f32⟩
  | 9 => ⟨S32x16x3072, .f32⟩
  | 10 => ⟨S32x2064x3072, .f32⟩
  | 11 => ⟨S32x2064x512, .f32⟩
  | 12 => ⟨S32x2064x8x64, .f32⟩
  | 13 => ⟨S32x2064x512, .f32⟩
  | 14 => ⟨S32x2064x8x64, .f32⟩
  | 15 => ⟨S32x2064x512, .f32⟩
  | 16 => ⟨S32x2064x4x128, .f32⟩
  | 17 => ⟨S64, .f32⟩
  | 18 => ⟨S64, .f32⟩
  | 19 => ⟨S64, .f32⟩
  | 20 => ⟨S_, .f32⟩
  | 21 => ⟨S_, .f32⟩
  | 22 => ⟨S_, .f32⟩
  | 23 => ⟨S64, .f32⟩
  | 24 => ⟨S64, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S32x8x2064x2064, .f32⟩
  | 33 => ⟨S_, .f32⟩
  | 34 => ⟨S32x8x2064x2064, .f32⟩
  | 35 => ⟨S32x8x2064x2064, .f32⟩
  | 36 => ⟨S32x4x2x2064x2064, .f32⟩
  | 37 => ⟨S2064, .i32⟩
  | 38 => ⟨S1x2064, .i32⟩
  | 39 => ⟨S2064x1, .i32⟩
  | 40 => ⟨S2064x2064, .i32⟩
  | 41 => ⟨S2064x2064, .i32⟩
  | 42 => ⟨S2064x2064, .i32⟩
  | 43 => ⟨S_, .i32⟩
  | 44 => ⟨S2064x2064, .i32⟩
  | 45 => ⟨S2064x2064, .i1⟩
  | 46 => ⟨S_, .i32⟩
  | 47 => ⟨S_, .i32⟩
  | 48 => ⟨S2064x2064, .i32⟩
  | 49 => ⟨S2064x2064, .i32⟩
  | 50 => ⟨S2064x2064, .i32⟩
  | 51 => ⟨S2064x2064, .i32⟩
  | 52 => ⟨S_, .i32⟩
  | 53 => ⟨S2064x2064, .i32⟩
  | 54 => ⟨S2064x2064, .i32⟩
  | 55 => ⟨S2064x2064, .f32⟩
  | 56 => ⟨S_, .f32⟩
  | 57 => ⟨S2064x2064, .f32⟩
  | 58 => ⟨S2064x2064, .f32⟩
  | 59 => ⟨S2064x2064, .f32⟩
  | 60 => ⟨S_, .f32⟩
  | 61 => ⟨S_, .f32⟩
  | 62 => ⟨S2064x2064, .f32⟩
  | 63 => ⟨S2064x2064, .f32⟩
  | 64 => ⟨S_, .f32⟩
  | 65 => ⟨S2064x2064, .f32⟩
  | 66 => ⟨S2064x2064, .f32⟩
  | 67 => ⟨S2064x2064, .i32⟩
  | 68 => ⟨S_, .i32⟩
  | 69 => ⟨S2064x2064, .i32⟩
  | 70 => ⟨S2064x2064, .i32⟩
  | 71 => ⟨S_, .i32⟩
  | 72 => ⟨S2064x2064, .i32⟩
  | 73 => ⟨S2064x2064, .i32⟩
  | 74 => ⟨S_, .i32⟩
  | 75 => ⟨S2064x2064, .i32⟩
  | 76 => ⟨S2064x2064, .i1⟩
  | 77 => ⟨S2064x2064, .i32⟩
  | 78 => ⟨S2064x2064, .i32⟩
  | 79 => ⟨S2064x2064, .i32⟩
  | 80 => ⟨S_, .i32⟩
  | 81 => ⟨S2064x2064, .i32⟩
  | 82 => ⟨S2064x2064, .i1⟩
  | 83 => ⟨S_, .i32⟩
  | 84 => ⟨S2064x2064, .i32⟩
  | 85 => ⟨S2064x2064, .i32⟩
  | 86 => ⟨S2064x2064, .i32⟩
  | 87 => ⟨S2064x2064x1, .i32⟩
  | 88 => ⟨S2064x2064x4, .f32⟩
  | 89 => ⟨S4x2064x2064, .f32⟩
  | 90 => ⟨S_, .i32⟩
  | 91 => ⟨S2064, .i32⟩
  | 92 => ⟨S2064, .i1⟩
  | 93 => ⟨S_, .i32⟩
  | 94 => ⟨S2064, .i32⟩
  | 95 => ⟨S2064, .i32⟩
  | 96 => ⟨S_, .i32⟩
  | 97 => ⟨S_, .i32⟩
  | 98 => ⟨S2064, .i32⟩
  | 99 => ⟨S2064, .i32⟩
  | 100 => ⟨S2064, .i32⟩
  | 101 => ⟨S_, .i32⟩
  | 102 => ⟨S2064, .i32⟩
  | 103 => ⟨S2064, .i1⟩
  | 104 => ⟨S2064, .i32⟩
  | 105 => ⟨S2064, .i32⟩
  | 106 => ⟨S_, .i32⟩
  | 107 => ⟨S2064, .i32⟩
  | 108 => ⟨S2064, .i1⟩
  | 109 => ⟨S2064, .i1⟩
  | 110 => ⟨S_, .i32⟩
  | 111 => ⟨S2064, .i32⟩
  | 112 => ⟨S2064, .i32⟩
  | 113 => ⟨S2064, .i32⟩
  | 114 => ⟨S_, .i32⟩
  | 115 => ⟨S2064, .i32⟩
  | 116 => ⟨S2064, .i32⟩
  | 117 => ⟨S_, .i32⟩
  | 118 => ⟨S_, .i32⟩
  | 119 => ⟨S2064, .i32⟩
  | 120 => ⟨S2064, .i32⟩
  | 121 => ⟨S1x2064, .i32⟩
  | 122 => ⟨S_, .i32⟩
  | 123 => ⟨S2064, .i32⟩
  | 124 => ⟨S2064, .i1⟩
  | 125 => ⟨S_, .i32⟩
  | 126 => ⟨S2064, .i32⟩
  | 127 => ⟨S2064, .i32⟩
  | _ => ⟨S32x2048x3072, .f32⟩

abbrev hbmTy0_1 (i : Nat) : BufTy := match i % 128 with
  | 0 => ⟨S_, .i32⟩
  | 1 => ⟨S_, .i32⟩
  | 2 => ⟨S2064, .i32⟩
  | 3 => ⟨S2064, .i32⟩
  | 4 => ⟨S2064, .i32⟩
  | 5 => ⟨S_, .i32⟩
  | 6 => ⟨S2064, .i32⟩
  | 7 => ⟨S2064, .i1⟩
  | 8 => ⟨S2064, .i32⟩
  | 9 => ⟨S2064, .i32⟩
  | 10 => ⟨S_, .i32⟩
  | 11 => ⟨S2064, .i32⟩
  | 12 => ⟨S2064, .i1⟩
  | 13 => ⟨S2064, .i1⟩
  | 14 => ⟨S_, .i32⟩
  | 15 => ⟨S2064, .i32⟩
  | 16 => ⟨S2064, .i32⟩
  | 17 => ⟨S2064, .i32⟩
  | 18 => ⟨S_, .i32⟩
  | 19 => ⟨S2064, .i32⟩
  | 20 => ⟨S2064, .i32⟩
  | 21 => ⟨S_, .i32⟩
  | 22 => ⟨S_, .i32⟩
  | 23 => ⟨S2064, .i32⟩
  | 24 => ⟨S2064, .i32⟩
  | 25 => ⟨S2064x1, .i32⟩
  | 26 => ⟨S2064x2064, .i32⟩
  | 27 => ⟨S2064x2064, .i32⟩
  | 28 => ⟨S2064x2064, .i1⟩
  | 29 => ⟨S1x4x1x2064x2064, .f32⟩
  | 30 => ⟨S32x4x2x2064x2064, .f32⟩
  | 31 => ⟨S32x4x2x2064x2064, .f32⟩
  | 32 => ⟨S_, .f32⟩
  | 33 => ⟨S_, .f32⟩
  | 34 => ⟨S32x4x2x2064x2064, .i1⟩
  | 35 => ⟨S32x4x2x2064x2064, .f32⟩
  | 36 => ⟨S32x4x2x2064x2064, .f32⟩
  | 37 => ⟨S_, .f32⟩
  | 38 => ⟨S32x4x2x2064, .f32⟩
  | 39 => ⟨S_, .f32⟩
  | 40 => ⟨S32x4x2x2064, .f32⟩
  | 41 => ⟨S32x4x2x2064, .f32⟩
  | 42 => ⟨S32x4x2x2064x1, .f32⟩
  | 43 => ⟨S32x4x2x2064x2064, .f32⟩
  | 44 => ⟨S32x4x2x2064x2064, .f32⟩
  | 45 => ⟨S32x4x2x2064x2064, .f32⟩
  | 46 => ⟨S_, .f32⟩
  | 47 => ⟨S32x4x2x2064, .f32⟩
  | 48 => ⟨S32x4x2x2064x1, .f32⟩
  | 49 => ⟨S32x4x2x2064x2064, .f32⟩
  | 50 => ⟨S32x4x2x2064x2064, .f32⟩
  | 51 => ⟨S32x4x1x2064x2064, .f32⟩
  | 52 => ⟨S32x4x2064x2064, .f32⟩
  | 53 => ⟨S32x4x1x2064x2064, .f32⟩
  | 54 => ⟨S32x4x2064x2064, .f32⟩
  | 55 => ⟨S32x4x2064x2064, .f32⟩
  | 56 => ⟨S32x4x2064x2064, .f32⟩
  | 57 => ⟨S32x4x2064x2064, .f32⟩
  | 58 => ⟨S32x4x128x2064, .f32⟩
  | 59 => ⟨S32x2064x4x128, .f32⟩
  | 60 => ⟨S128, .f32⟩
  | 61 => ⟨S32x2064x4x128, .f32⟩
  | 62 => ⟨S_, .f32⟩
  | 63 => ⟨S32x2064x4, .f32⟩
  | 64 => ⟨S32x2064x4x1, .f32⟩
  | 65 => ⟨S_, .f32⟩
  | 66 => ⟨S32x2064x4x1, .f32⟩
  | 67 => ⟨S32x2064x4x1, .f32⟩
  | 68 => ⟨S_, .f32⟩
  | 69 => ⟨S32x2064x4x1, .f32⟩
  | 70 => ⟨S32x2064x4x1, .f32⟩
  | 71 => ⟨S32x2064x4x1, .f32⟩
  | 72 => ⟨S32x2064x4x128, .f32⟩
  | 73 => ⟨S32x2064x4x128, .f32⟩
  | 74 => ⟨S1x1x1x128, .f32⟩
  | 75 => ⟨S32x2064x4x128, .f32⟩
  | 76 => ⟨S32x2064x4x128, .f32⟩
  | 77 => ⟨S_, .f32⟩
  | 78 => ⟨S32x2064x4x128, .f32⟩
  | 79 => ⟨S32x2064x4x128, .f32⟩
  | 80 => ⟨S32x2048x4x128, .f32⟩
  | 81 => ⟨S65536x512, .f32⟩
  | 82 => ⟨S65536x512, .bf16⟩
  | _ => ⟨S32x2048x3072, .f32⟩

abbrev hbmTy (i : Nat) : BufTy := match i / 128 with
  | 0 => hbmTy0_0 i
  | 1 => hbmTy0_1 i
  | _ => ⟨S32x2048x3072, .f32⟩

abbrev bufTy : (tb : Table) → Fin (tcTables nBuf tb) → BufTy
  | .hbm, ⟨i, _⟩ => hbmTy i
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_c_4 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v68 : Ref sig .tc := ⟨.hbm, 113, rfl⟩
abbrev main_c_17 : Ref sig .tc := ⟨.hbm, 114, rfl⟩
abbrev main_v69 : Ref sig .tc := ⟨.hbm, 115, rfl⟩
abbrev main_v70 : Ref sig .tc := ⟨.hbm, 116, rfl⟩
abbrev main_c_18 : Ref sig .tc := ⟨.hbm, 117, rfl⟩
abbrev main_call3_v0 : Ref sig .tc := ⟨.hbm, 118, rfl⟩
abbrev main_call3_v1 : Ref sig .tc := ⟨.hbm, 119, rfl⟩
abbrev main_v71 : Ref sig .tc := ⟨.hbm, 120, rfl⟩
abbrev main_v72 : Ref sig .tc := ⟨.hbm, 121, rfl⟩
abbrev main_c_19 : Ref sig .tc := ⟨.hbm, 122, rfl⟩
abbrev main_v73 : Ref sig .tc := ⟨.hbm, 123, rfl⟩
abbrev main_v74 : Ref sig .tc := ⟨.hbm, 124, rfl⟩
abbrev main_c_20 : Ref sig .tc := ⟨.hbm, 125, rfl⟩
abbrev main_v75 : Ref sig .tc := ⟨.hbm, 126, rfl⟩
abbrev main_v76 : Ref sig .tc := ⟨.hbm, 127, rfl⟩
abbrev main_c_21 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_c : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_0 : Ref sig .tc := ⟨.hbm, 142, rfl⟩
abbrev main_call4_v12 : Ref sig .tc := ⟨.hbm, 143, rfl⟩
abbrev main_call4_v13 : Ref sig .tc := ⟨.hbm, 144, rfl⟩
abbrev main_v77 : Ref sig .tc := ⟨.hbm, 145, rfl⟩
abbrev main_c_22 : Ref sig .tc := ⟨.hbm, 146, rfl⟩
abbrev main_v78 : Ref sig .tc := ⟨.hbm, 147, rfl⟩
abbrev main_v79 : Ref sig .tc := ⟨.hbm, 148, rfl⟩
abbrev main_c_23 : Ref sig .tc := ⟨.hbm, 149, rfl⟩
abbrev main_call5_v0 : Ref sig .tc := ⟨.hbm, 150, rfl⟩
abbrev main_call5_v1 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_cst_24 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_v88 : Ref sig .tc := ⟨.hbm, 164, rfl⟩
abbrev main_cst_25 : Ref sig .tc := ⟨.hbm, 165, rfl⟩
abbrev main_v89 : Ref sig .tc := ⟨.hbm, 166, rfl⟩
abbrev main_cst_26 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_27 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_28 : Ref sig .tc := ⟨.hbm, 190, rfl⟩
abbrev main_v111 : Ref sig .tc := ⟨.hbm, 191, rfl⟩
abbrev main_v112 : Ref sig .tc := ⟨.hbm, 192, rfl⟩
abbrev main_cst_29 : Ref sig .tc := ⟨.hbm, 193, rfl⟩
abbrev main_v113 : Ref sig .tc := ⟨.hbm, 194, rfl⟩
abbrev main_v114 : Ref sig .tc := ⟨.hbm, 195, rfl⟩
abbrev main_cst_30 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_cst_31 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩

abbrev nD : Nat := 1
abbrev τ : Topo := Topo.v7x

variable {F : FTy → Type} [FloatOps F]
-- ==== Kernel2.lean ====
abbrev S544 : Shape := ⟨1, ![544]⟩
abbrev S1 : Shape := ⟨1, ![1]⟩
abbrev S2228224x128 : Shape := ⟨2, ![2228224, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S2228224x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S2228224x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S544, .i32⟩
  | .local _ .smem, ⟨2, _⟩ => ⟨S1, .i32⟩
  | _, _ => ⟨S2228224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond3 (i : grid0.Coords) (v12 : BitVec 32) : BitVec 1 :=
  let arg0 : BitVec 32 := BitVec.ofNat 32 (i 0).val
  let v13 : BitVec 1 := Scalar.cmpi .slt arg0 v12
  let v14 : BitVec 32 := Scalar.extui v13
  let c0_i32_4 : BitVec 32 := 0#32
  let v15 : BitVec 1 := Scalar.cmpi .ne v14 c0_i32_4
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S544 : Shape := ⟨1, ![544]⟩
abbrev S1 : Shape := ⟨1, ![1]⟩
abbrev S2228224x128 : Shape := ⟨2, ![2228224, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S544x512x1024 : Shape := ⟨3, ![544, 512, 1024]⟩
abbrev S_ : Shape := ⟨0, ![]⟩
abbrev S544x1 : Shape := ⟨2, ![544, 1]⟩
abbrev S544x1024x2048 : Shape := ⟨3, ![544, 1024, 2048]⟩
abbrev S544x512x2048 : Shape := ⟨3, ![544, 512, 2048]⟩
abbrev S544x1x2048 : Shape := ⟨3, ![544, 1, 2048]⟩
abbrev S544x1024x1024 : Shape := ⟨3, ![544, 1024, 1024]⟩
abbrev S544x1x1024 : Shape := ⟨3, ![544, 1, 1024]⟩
abbrev S544x1x1 : Shape := ⟨3, ![544, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S544, .i32⟩
  | .hbm, ⟨1, _⟩ => ⟨S544, .i32⟩
  | .hbm, ⟨2, _⟩ => ⟨S1, .i32⟩
  | .hbm, ⟨3, _⟩ => ⟨S2228224x128, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S544x512x1024, .f32⟩
  | .hbm, ⟨9, _⟩ => ⟨S_, .i32⟩
  | .hbm, ⟨10, _⟩ => ⟨S544, .i32⟩
  | .hbm, ⟨11, _⟩ => ⟨S544, .i1⟩
  | .hbm, ⟨12, _⟩ => ⟨S_, .i32⟩
  | .hbm, ⟨13, _⟩ => ⟨S544, .i32⟩
  | .hbm, ⟨14, _⟩ => ⟨S544, .i32⟩
  | .hbm, ⟨15, _⟩ => ⟨S544, .i32⟩
  | .hbm, ⟨16, _⟩ => ⟨S544x1, .i32⟩
  | .hbm, ⟨17, _⟩ => ⟨S544x1024x2048, .f32⟩
  | .hbm, ⟨18, _⟩ => ⟨S544x512x2048, .f32⟩
  | .hbm, ⟨19, _⟩ => ⟨S_, .i32⟩
  | .hbm, ⟨20, _⟩ => ⟨S544, .i32⟩
  | .hbm, ⟨21, _⟩ => ⟨S544, .i1⟩
  | .hbm, ⟨22, _⟩ => ⟨S_, .i32⟩
  | .hbm, ⟨23, _⟩ => ⟨S544, .i32⟩
  | .hbm, ⟨24, _⟩ => ⟨S544, .i32⟩
  | .hbm, ⟨25, _⟩ => ⟨S544, .i32⟩
  | .hbm, ⟨26, _⟩ => ⟨S544x1, .i32⟩
  | .hbm, ⟨27, _⟩ => ⟨S544x1x2048, .f32⟩
  | .hbm, ⟨28, _⟩ => ⟨S544x512x2048, .f32⟩
  | .hbm, ⟨29, _⟩ => ⟨S544x512x2048, .f32⟩
  | .hbm, ⟨30, _⟩ => ⟨S544x512x1024, .f32⟩
  | .hbm, ⟨31, _⟩ => ⟨S544x512x1024, .f32⟩
  | .hbm, ⟨32, _⟩ => ⟨S_, .f32⟩
  | .hbm, ⟨33, _⟩ => ⟨S544x512x1024, .f32⟩
  | .hbm, ⟨34, _⟩ => ⟨S544x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x512x1024, .f32⟩
  | .hbm, ⟨39, _⟩ => ⟨S544x512x1024, .f32⟩
  | .hbm, ⟨40, _⟩ => ⟨S_, .f32⟩
  | .hbm, ⟨41, _⟩ => ⟨S544x512x1024, .f32⟩
  | .hbm, ⟨42, _⟩ => ⟨S544x512x1024, .f32⟩
  | .hbm, ⟨43, _⟩ => ⟨S_, .f32⟩
  | .hbm, ⟨44, _⟩ => ⟨S544x512x1024, .f32⟩
  | .hbm, ⟨45, _⟩ => ⟨S544x512x1024, .f32⟩
  | .hbm, ⟨46, _⟩ => ⟨S544x512x1024, .f32⟩
  | .hbm, ⟨47, _⟩ => ⟨S544x512x1024, .f32⟩
  | .hbm, ⟨48, _⟩ => ⟨S_, .f32⟩
  | .hbm, ⟨49, _⟩ => ⟨S544x512x1024, .f32⟩
  | .hbm, ⟨50, _⟩ => ⟨S544x512x1024, .f32⟩
  | .hbm, ⟨51, _⟩ => ⟨S_, .f32⟩
  | .hbm, ⟨52, _⟩ => ⟨S544x512x1024, .f32⟩
  | .hbm, ⟨53, _⟩ => ⟨S544x512x1024, .f32⟩
  | .hbm, ⟨54, _⟩ => ⟨S544x512x1024, .f32⟩
  | .hbm, ⟨55, _⟩ => ⟨S_, .f32⟩
  | .hbm, ⟨56, _⟩ => ⟨S544x512x1024, .f32⟩
  | .hbm, ⟨57, _⟩ => ⟨S544x512x1024, .f32⟩
  | .hbm, ⟨58, _⟩ => ⟨S544x512x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x512x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1x1024, .f32⟩
  | .hbm, ⟨78, _⟩ => ⟨S544x512x1024, .f32⟩
  | .hbm, ⟨79, _⟩ => ⟨S544x512x1024, .f32⟩
  | .hbm, ⟨80, _⟩ => ⟨S544, .i32⟩
  | .hbm, ⟨81, _⟩ => ⟨S544x1x1, .i32⟩
  | .hbm, ⟨82, _⟩ => ⟨S_, .i32⟩
  | .hbm, ⟨83, _⟩ => ⟨S544x1x1, .i32⟩
  | .hbm, ⟨84, _⟩ => ⟨S544x1x1, .i1⟩
  | .hbm, ⟨85, _⟩ => ⟨S_, .f32⟩
  | .hbm, ⟨86, _⟩ => ⟨S_, .f32⟩
  | .hbm, ⟨87, _⟩ => ⟨S544x512x1024, .i1⟩
  | .hbm, ⟨88, _⟩ => ⟨S544x512x1024, .f32⟩
  | .hbm, ⟨89, _⟩ => ⟨S544x512x1024, .f32⟩
  | .hbm, ⟨90, _⟩ => ⟨S2228224x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Proof.IdealRegions.lean ====
/- The two pallas regions of the kernel over the extended reals, as proof data at a parameter `V` (launch set-up): each
   window's block at a grid point, the run of each region's body, and what its output blocks hold after each point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rel_bias` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S1x3x512x512 .f32 := (Memref.whole cc0_stg1_0 : Memref sig .tc .vmem S1x3x512x512 .f32).view
/-- One staging buffer of output window 2, through which its contents are stated (`View.read_writes_of_cover`: the
    choice does not matter). -/
abbrev VO0_2 : View sig .tc .vmem S1x16x2048 .f32 := (Memref.whole cc0_stg2_0 : Memref sig .tc .vmem S1x16x2048 .f32).view
/-- Each window's current staging memref at point `t`, spelled as the pipeline passes it (`bodyAt0`), and its wholeness. -/
abbrev ms0_0 (t : Fin cfg0.N) : Memref sig .tc .smem S32x4 .f32 := win0_0.stage (cfg0.slots t 0)
/-- That buffer is a whole one. -/
abbrev hs0_0 (t : Fin cfg0.N) : (ms0_0 t).IsWhole := hstage0_0 ((cfg0.slots t 0).cast nbuf0_0)
/-- The window's buffer at a step. -/
abbrev ms0_1 (t : Fin cfg0.N) : Memref sig .tc .vmem S1x3x512x512 .f32 := win0_1.stage (cfg0.slots t 1)
/-- That buffer is a whole one. -/
abbrev hs0_1 (t : Fin cfg0.N) : (ms0_1 t).IsWhole := hstage0_1 ((cfg0.slots t 1).cast nbuf0_1)
/-- The window's buffer at a step. -/
abbrev ms0_2 (t : Fin cfg0.N) : Memref sig .tc .vmem S1x16x2048 .f32 := win0_2.stage (cfg0.slots t 2)
/-- That buffer is a whole one. -/
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1304000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole)
    (x0 : Vec F S32x4 .f32) :
    Σ' (L1 : List (View.Piece (Elt F) S1x3x512x512 .f32)), { L2 : List (View.Piece (Elt F) S1x16x2048 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0_rel_bias i arg1 harg1 arg2 harg2 arg3 harg3) K } := by
  refine ⟨?_, ?_, fun E K => ?run⟩
  case run =>
    simp only [cc0_rel_bias_eq_skeleton]; unfold cc0_rel_bias_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%d1, %f1, -, H1⟩, ⟨%d2, %f2, -, H2⟩, Hk⟩
    obtain rfl := harg1.eq_unread hf0
    sl_exec
    sl_step
    iapply Hk
    isplitl [H0]
    · iexists _; isplitr; · ipureintro; exact harg1.read_unread _
      iexact H0
    isplitl [H1]; · iexists _; iexact H1
    iexists _; iexact H2

/-- The run's pieces for output 1 tile its block (3 stores of `S1x1x512x512`, checked by the kernel's evaluation: Lib/Ring.lean `Piece.tiledL`, linear in the pieces, through a loop's `@[irreducible]` trip theorem too), so they cover it. -/
theorem cover0_A_1 (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole)
    (x0 : Vec F S32x4 .f32) (y : S1x3x512x512.Idx) :
    ∃ pc ∈ (kernelRun0_A c i arg1 harg1 arg2 harg2 arg3 harg3 x0).1, y ∈ pc.1.set :=
  View.cover_of_tiledL (kernelRun0_A c i arg1 harg1 arg2 harg2 arg3 harg3 x0).1 S1x1x512x512.size (by sl_kernel_rfl) y

/-- What the run leaves in output 1's staging buffer: its pieces read back over junk. -/
def out0_A_1 (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole)
    (x0 : Vec F S32x4 .f32) : Vec F S1x3x512x512 .f32 :=
  VO0_1.read (Elt F) (VO0_1.writes (Elt F) VO0_1.junk (kernelRun0_A c i arg1 harg1 arg2 harg2 arg3 harg3 x0).1)

/-- The run's pieces for output 2 tile its block (1 store of `S1x16x2048`, checked by the kernel's evaluation: Lib/Ring.lean `Piece.tiledL`, linear in the pieces, through a loop's `@[irreducible]` trip theorem too), so they cover it. -/
theorem cover0_A_2 (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole)
    (x0 : Vec F S32x4 .f32) (y : S1x16x2048.Idx) :
    ∃ pc ∈ (kernelRun0_A c i arg1 harg1 arg2 harg2 arg3 harg3 x0).2.1, y ∈ pc.1.set :=
  View.cover_of_tiledL (kernelRun0_A c i arg1 harg1 arg2 harg2 arg3 harg3 x0).2.1 S1x16x2048.size (by sl_kernel_rfl) y

/-- What the run leaves in output 2's staging buffer: its pieces read back over junk. -/
def out0_A_2 (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole)
    (x0 : Vec F S32x4 .f32) : Vec F S1x16x2048 .f32 :=
  VO0_2.read (Elt F) (VO0_2.writes (Elt F) VO0_2.junk (kernelRun0_A c i arg1 harg1 arg2 harg2 arg3 harg3 x0).2.1)

/-! ## What the outputs hold after each point -/

/-- What the outputs' staging buffers hold after the body at point `t` (as a tuple, in window order): the run's contents at
    the point's memrefs and input blocks. -/
def outsAt0 (c : Dev nD) (t : Fin cfg0.N) : Vec F S1x3x512x512 .f32 × Vec F S1x16x2048 .f32 :=
  (out0_A_1 c (grid0.coords t) (ms0_0 t) (hs0_0 t) (ms0_1 t) (hs0_1 t) (ms0_2 t) (hs0_2 t) (iblk0 V c 0 t), out0_A_2 c (grid0.coords t) (ms0_0 t) (hs0_0 t) (ms0_1 t) (hs0_1 t) (ms0_2 t) (hs0_2 t) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What a step leaves in the window's buffer. -/
theorem after0_1 (c : Dev nD) (t : Fin cfg0.N) : (dat0 V c).after 1 t = (outsAt0 V c t).1 := by dsimp only [dat0]
/-- What a step leaves in the window's buffer. -/
theorem after0_2 (c : Dev nD) (t : Fin cfg0.N) : (dat0 V c).after 2 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_1 out0_A_2; (try dsimp only)
  iintro ⟨HΦ, Ho, ⟨%d0, H0⟩, ⟨%d1, H1⟩, ⟨%d2, H2⟩⟩
  iapply ((kernelRun0_A c (grid0.coords t) _ _ _ _ _ _ (iblk0 V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _)
  unfold owns; iexists _; isplitr
  swap; · iexact H2
  ipureintro; exact View.read_writes_of_cover _ _ _ _ _ (cover0_A_2 c _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_diff_attn` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 12, through which its contents are stated (`View.read_writes_of_cover`: the
    choice does not matter). -/
abbrev VO1_12 : View sig .tc .vmem S512x512 .bf16 := (Memref.whole cc1_stg12_0 : Memref sig .tc .vmem S512x512 .bf16).view
/-- Each window's current staging memref at point `t`, spelled as the pipeline passes it (`bodyAt1`), and its wholeness. -/
abbrev ms1_0 (t : Fin cfg1.N) : Memref sig .tc .vmem S512x512 .bf16 := win1_0.stage (cfg1.slots t 0)
/-- That buffer is a whole one. -/
abbrev hs1_0 (t : Fin cfg1.N) : (ms1_0 t).IsWhole := hstage1_0 ((cfg1.slots t 0).cast nbuf1_0)
/-- The window's buffer at a step. -/
abbrev ms1_1 (t : Fin cfg1.N) : Memref sig .tc .vmem S2048x512 .bf16 := win1_1.stage (cfg1.slots t 1)
/-- That buffer is a whole one. -/
abbrev hs1_1 (t : Fin cfg1.N) : (ms1_1 t).IsWhole := hstage1_1 ((cfg1.slots t 1).cast nbuf1_1)
/-- The window's buffer at a step. -/
abbrev ms1_2 (t : Fin cfg1.N) : Memref sig .tc .vmem S4x512x512 .bf16 := win1_2.stage (cfg1.slots t 2)
/-- That buffer is a whole one. -/
abbrev hs1_2 (t : Fin cfg1.N) : (ms1_2 t).IsWhole := hstage1_2 ((cfg1.slots t 2).cast nbuf1_2)
/-- The window's buffer at a step. -/
abbrev ms1_3 (t : Fin cfg1.N) : Memref sig .tc .vmem S16x512 .bf16 := win1_3.stage (cfg1.slots t 3)
/-- That buffer is a whole one. -/
abbrev hs1_3 (t : Fin cfg1.N) : (ms1_3 t).IsWhole := hstage1_3 ((cfg1.slots t 3).cast nbuf1_3)
/-- The window's buffer at a step. -/
abbrev ms1_4 (t : Fin cfg1.N) : Memref sig .tc .vmem S4x128x16 .bf16 := win1_4.stage (cfg1.slots t 4)
/-- That buffer is a whole one. -/
abbrev hs1_4 (t : Fin cfg1.N) : (ms1_4 t).IsWhole := hstage1_4 ((cfg1.slots t 4).cast nbuf1_4)
/-- The window's buffer at a step. -/
abbrev ms1_5 (t : Fin cfg1.N) : Memref sig .tc .vmem S4x3x512x512 .f32 := win1_5.stage (cfg1.slots t 5)
/-- That buffer is a whole one. -/
abbrev hs1_5 (t : Fin cfg1.N) : (ms1_5 t).IsWhole := hstage1_5 ((cfg1.slots t 5).cast nbuf1_5)
/-- The window's buffer at a step. -/
abbrev ms1_6 (t : Fin cfg1.N) : Memref sig .tc .vmem S4x16x512 .f32 := win1_6.stage (cfg1.slots t 6)
/-- That buffer is a whole one. -/
abbrev hs1_6 (t : Fin cfg1.N) : (ms1_6 t).IsWhole := hstage1_6 ((cfg1.slots t 6).cast nbuf1_6)
/-- The window's buffer at a step. -/
abbrev ms1_7 (t : Fin cfg1.N) : Memref sig .tc .vmem S1x64 .f32 := win1_7.stage (cfg1.slots t 7)
/-- That buffer is a whole one. -/
abbrev hs1_7 (t : Fin cfg1.N) : (ms1_7 t).IsWhole := hstage1_7 ((cfg1.slots t 7).cast nbuf1_7)
/-- The window's buffer at a step. -/
abbrev ms1_8 (t : Fin cfg1.N) : Memref sig .tc .vmem S1x64 .f32 := win1_8.stage (cfg1.slots t 8)
/-- That buffer is a whole one. -/
abbrev hs1_8 (t : Fin cfg1.N) : (ms1_8 t).IsWhole := hstage1_8 ((cfg1.slots t 8).cast nbuf1_8)
/-- The window's buffer at a step. -/
abbrev ms1_9 (t : Fin cfg1.N) : Memref sig .tc .vmem S1x64 .f32 := win1_9.stage (cfg1.slots t 9)
/-- That buffer is a whole one. -/
abbrev hs1_9 (t : Fin cfg1.N) : (ms1_9 t).IsWhole := hstage1_9 ((cfg1.slots t 9).cast nbuf1_9)
/-- The window's buffer at a step. -/
abbrev ms1_10 (t : Fin cfg1.N) : Memref sig .tc .vmem S1x64 .f32 := win1_10.stage (cfg1.slots t 10)
/-- That buffer is a whole one. -/
abbrev hs1_10 (t : Fin cfg1.N) : (ms1_10 t).IsWhole := hstage1_10 ((cfg1.slots t 10).cast nbuf1_10)
/-- The window's buffer at a step. -/
abbrev ms1_11 (t : Fin cfg1.N) : Memref sig .tc .vmem S128x1 .f32 := win1_11.stage (cfg1.slots t 11)
/-- That buffer is a whole one. -/
abbrev hs1_11 (t : Fin cfg1.N) : (ms1_11 t).IsWhole := hstage1_11 ((cfg1.slots t 11).cast nbuf1_11)
/-- The window's buffer at a step. -/
abbrev ms1_12 (t : Fin cfg1.N) : Memref sig .tc .vmem S512x512 .bf16 := win1_12.stage (cfg1.slots t 12)
/-- That buffer is a whole one. -/
abbrev hs1_12 (t : Fin cfg1.N) : (ms1_12 t).IsWhole := hstage1_12 ((cfg1.slots t 12).cast nbuf1_12)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole)
    (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) (x7 : Vec F S1x64 .f32) (x8 : Vec F S1x64 .f32) (x9 : Vec F S1x64 .f32) (x10 : Vec F S1x64 .f32) (x11 : Vec F S128x1 .f32) :
    { L12 : List (View.Piece (Elt F) S512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg15.view.loc (c : Thread nD τ) ↦[arg15.view.set]{fullShare} arg15.view.writes (Elt F) f L12)) -∗ K ⟨⟩))
          ⊢ wp frame (wpE (defs₀ (F := F)) Variants.none c none) E (cc1_diff_attn i arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc1_diff_attn_eq_skeleton]; unfold cc1_diff_attn_skel
    simp only [k1_part27_eq_skeleton]; unfold k1_part27_skel
    simp only [k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    iexists _; iexact H12

/-- The run's pieces for output 12 tile its block (4 stores of `S512x128`, checked by the kernel's evaluation: Lib/Ring.lean `Piece.tiledL`, linear in the pieces, through a loop's `@[irreducible]` trip theorem too), so they cover it. -/
theorem cover1_A_12 (c : Dev nD) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole)
    (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) (x7 : Vec F S1x64 .f32) (x8 : Vec F S1x64 .f32) (x9 : Vec F S1x64 .f32) (x10 : Vec F S1x64 .f32) (x11 : Vec F S128x1 .f32) (y : S512x512.Idx) :
    ∃ pc ∈ (kernelRun1_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1, y ∈ pc.1.set :=
  View.cover_of_tiledL (kernelRun1_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1 S512x128.size (by sl_kernel_rfl) y

/-- What the run leaves in output 12's staging buffer: its pieces read back over junk. -/
def out1_A_12 (c : Dev nD) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole)
    (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) (x7 : Vec F S1x64 .f32) (x8 : Vec F S1x64 .f32) (x9 : Vec F S1x64 .f32) (x10 : Vec F S1x64 .f32) (x11 : Vec F S128x1 .f32) : Vec F S512x512 .bf16 :=
  VO1_12.read (Elt F) (VO1_12.writes (Elt F) VO1_12.junk (kernelRun1_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1)

/-! ## What the outputs hold after each point -/

/-- What the outputs' staging buffers hold after the body at point `t`: the run's contents at
    the point's memrefs and input blocks. -/
def outsAt1 (c : Dev nD) (t : Fin cfg1.N) : Vec F S512x512 .bf16 :=
  out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What a step leaves in the window's buffer. -/
theorem after1_1 (c : Dev nD) (t : Fin cfg1.N) : (dat1 V c).after 1 t = iblk1 V c 1 t := by dsimp only [dat1]
/-- What a step leaves in the window's buffer. -/
theorem after1_2 (c : Dev nD) (t : Fin cfg1.N) : (dat1 V c).after 2 t = iblk1 V c 2 t := by dsimp only [dat1]
/-- What a step leaves in the window's buffer. -/
theorem after1_3 (c : Dev nD) (t : Fin cfg1.N) : (dat1 V c).after 3 t = iblk1 V c 3 t := by dsimp only [dat1]
/-- What a step leaves in the window's buffer. -/
theorem after1_4 (c : Dev nD) (t : Fin cfg1.N) : (dat1 V c).after 4 t = iblk1 V c 4 t := by dsimp only [dat1]
/-- What a step leaves in the window's buffer. -/
theorem after1_5 (c : Dev nD) (t : Fin cfg1.N) : (dat1 V c).after 5 t = iblk1 V c 5 t := by dsimp only [dat1]
/-- What a step leaves in the window's buffer. -/
theorem after1_6 (c : Dev nD) (t : Fin cfg1.N) : (dat1 V c).after 6 t = iblk1 V c 6 t := by dsimp only [dat1]
/-- What a step leaves in the window's buffer. -/
theorem after1_7 (c : Dev nD) (t : Fin cfg1.N) : (dat1 V c).after 7 t = iblk1 V c 7 t := by dsimp only [dat1]
/-- What a step leaves in the window's buffer. -/
theorem after1_8 (c : Dev nD) (t : Fin cfg1.N) : (dat1 V c).after 8 t = iblk1 V c 8 t := by dsimp only [dat1]
/-- What a step leaves in the window's buffer. -/
theorem after1_9 (c : Dev nD) (t : Fin cfg1.N) : (dat1 V c).after 9 t = iblk1 V c 9 t := by dsimp only [dat1]
/-- What a step leaves in the window's buffer. -/
theorem after1_10 (c : Dev nD) (t : Fin cfg1.N) : (dat1 V c).after 10 t = iblk1 V c 10 t := by dsimp only [dat1]
/-- What a step leaves in the window's buffer. -/
theorem after1_11 (c : Dev nD) (t : Fin cfg1.N) : (dat1 V c).after 11 t = iblk1 V c 11 t := by dsimp only [dat1]
/-- What a step leaves in the window's buffer. -/
theorem after1_12 (c : Dev nD) (t : Fin cfg1.N) : (dat1 V c).after 12 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the window's buffer holds before a step. -/
theorem before1_1 (c : Dev nD) (t : Fin cfg1.N) (d) : (dat1 V c).before 1 t d = iblk1 V c 1 t :=
  before1_1_of V (dat1 V c) (A_eq1 V c 1) (after1_1 V c) t d
/-- What the window's buffer holds before a step. -/
theorem before1_2 (c : Dev nD) (t : Fin cfg1.N) (d) : (dat1 V c).before 2 t d = iblk1 V c 2 t :=
  before1_2_of V (dat1 V c) (A_eq1 V c 2) (after1_2 V c) t d
/-- What the window's buffer holds before a step. -/
theorem before1_3 (c : Dev nD) (t : Fin cfg1.N) (d) : (dat1 V c).before 3 t d = iblk1 V c 3 t :=
  before1_3_of V (dat1 V c) (A_eq1 V c 3) (after1_3 V c) t d
/-- What the window's buffer holds before a step. -/
theorem before1_4 (c : Dev nD) (t : Fin cfg1.N) (d) : (dat1 V c).before 4 t d = iblk1 V c 4 t :=
  before1_4_of V (dat1 V c) (A_eq1 V c 4) (after1_4 V c) t d
/-- What the window's buffer holds before a step. -/
theorem before1_5 (c : Dev nD) (t : Fin cfg1.N) (d) : (dat1 V c).before 5 t d = iblk1 V c 5 t :=
  before1_5_of V (dat1 V c) (A_eq1 V c 5) (after1_5 V c) t d
/-- What the window's buffer holds before a step. -/
theorem before1_6 (c : Dev nD) (t : Fin cfg1.N) (d) : (dat1 V c).before 6 t d = iblk1 V c 6 t :=
  before1_6_of V (dat1 V c) (A_eq1 V c 6) (after1_6 V c) t d
/-- What the window's buffer holds before a step. -/
theorem before1_7 (c : Dev nD) (t : Fin cfg1.N) (d) : (dat1 V c).before 7 t d = iblk1 V c 7 t :=
  before1_7_of V (dat1 V c) (A_eq1 V c 7) (after1_7 V c) t d
/-- What the window's buffer holds before a step. -/
theorem before1_8 (c : Dev nD) (t : Fin cfg1.N) (d) : (dat1 V c).before 8 t d = iblk1 V c 8 t :=
  before1_8_of V (dat1 V c) (A_eq1 V c 8) (after1_8 V c) t d
/-- What the window's buffer holds before a step. -/
theorem before1_9 (c : Dev nD) (t : Fin cfg1.N) (d) : (dat1 V c).before 9 t d = iblk1 V c 9 t :=
  before1_9_of V (dat1 V c) (A_eq1 V c 9) (after1_9 V c) t d
/-- What the window's buffer holds before a step. -/
theorem before1_10 (c : Dev nD) (t : Fin cfg1.N) (d) : (dat1 V c).before 10 t d = iblk1 V c 10 t :=
  before1_10_of V (dat1 V c) (A_eq1 V c 10) (after1_10 V c) t d
/-- What the window's buffer holds before a step. -/
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 1200000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  unfold outsAt1
  unfold out1_A_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover1_A_12 c _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.IdealRun.lean ====
/- The kernel's program over the extended reals as segments, its buffers at every boundary, and its launch (launch set-up):
   the run ends with the result array at the second region's contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import proofs.«01_k».proof.Proof.IdealRegions
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3, main_v4, main_cst_0, main_v5, main_v6, main_v7, main_v8, main_v9, main_v10, main_v11, main_v12, main_v13, main_v14, main_v15, main_v16, main_v17]
/-- What the first host stretch writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v19, main_v20]
/-- What the second host stretch writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at this point. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at this point. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- The call's arrays hold what its steps wrote back. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Every other array is as it was before the call. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at this point. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The arrays outside the call are as they were. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at this point. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- The call's arrays hold what its steps wrote back. -/
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
/-- Every other array is as it was before the call. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at this point. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
/-- The arrays outside the call are as they were. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

/-- The argument is as launched at the end. -/
theorem W4_main_arg0 (c : Dev nD) : W4 m ρ c (Proc.devRef .tc main_arg0) = m ((c : Thread nD τ).loc main_arg0) :=
  W4_args m ρ c main_arg0 (by decide)
/-- The argument is as launched at the end. -/
theorem W4_main_arg1 (c : Dev nD) : W4 m ρ c (Proc.devRef .tc main_arg1) = m ((c : Thread nD τ).loc main_arg1) :=
  W4_args m ρ c main_arg1 (by decide)
/-- The argument is as launched at the end. -/
theorem W4_main_arg2 (c : Dev nD) : W4 m ρ c (Proc.devRef .tc main_arg2) = m ((c : Thread nD τ).loc main_arg2) :=
  W4_args m ρ c main_arg2 (by decide)
/-- The argument is as launched at the end. -/
theorem W4_main_arg3 (c : Dev nD) : W4 m ρ c (Proc.devRef .tc main_arg3) = m ((c : Thread nD τ).loc main_arg3) :=
  W4_args m ρ c main_arg3 (by decide)
/-- The argument is as launched at the end. -/
theorem W4_main_arg4 (c : Dev nD) : W4 m ρ c (Proc.devRef .tc main_arg4) = m ((c : Thread nD τ).loc main_arg4) :=
  W4_args m ρ c main_arg4 (by decide)
/-- The argument is as launched at the end. -/
theorem W4_main_arg5 (c : Dev nD) : W4 m ρ c (Proc.devRef .tc main_arg5) = m ((c : Thread nD τ).loc main_arg5) :=
  W4_args m ρ c main_arg5 (by decide)
/-- The argument is as launched at the end. -/
theorem W4_main_arg6 (c : Dev nD) : W4 m ρ c (Proc.devRef .tc main_arg6) = m ((c : Thread nD τ).loc main_arg6) :=
  W4_args m ρ c main_arg6 (by decide)
/-- The argument is as launched at the end. -/
theorem W4_main_arg7 (c : Dev nD) : W4 m ρ c (Proc.devRef .tc main_arg7) = m ((c : Thread nD τ).loc main_arg7) :=
  W4_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The whole program terminates from any memory with zero counters; the result array then holds what the second region
    leaves in it, every argument is as launched and every counter is zero. -/
theorem run : θ_run defs (onTc (τ := τ) (main (F := F))) ⟨m, fun _ => 0, ρ⟩ (fun r => (∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩), funext fun g => hz g (.inr (no_unscoped g.2))⟩)

/-- The frame claim: the run without its result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run m ρ)

end Cert.KernelIdeal.Gen

end
-- ==== Proof.BiasTiles.lean ====
/- The bias kernel's two blocks in closed form: three tiles of the relative-position table for one head, and the table's
   rows at the meta positions. -/
module

public import proofs.«01_k».proof.Proof.IdealRegions

@[expose] public section

set_option maxRecDepth 65536

noncomputable section

namespace Cert.DiffAttn

open Idealize.ShloMosaic Idealize.ShloMosaic.TcCoe Idealize.SL.Sem Cert.KernelIdeal Cert.KernelIdeal.Gen

variable {F : FTy → Type} [FloatOps F] [Named F]

/-- Whether the sign of each entry differs from the sign of 64. -/
def signOff {s : Shape} (x : IVec s 32) : IVec s 1 :=
  cmpi .ne (subi (extui 32 (cmpi .sgt x (broadcast s 0#32)) natLt_1_32) (extui 32 (cmpi .slt x (broadcast s 0#32)) natLt_1_32))
    (broadcast s (Scalar.subi (Scalar.extui (Scalar.cmpi .sgt 64#32 0#32)) (Scalar.extui (Scalar.cmpi .slt 64#32 0#32))))

/-- The chunk number of each entry: division by 64, rounded down. -/
def chunkOf {s : Shape} (x : IVec s 32) : IVec s 32 :=
  select (andi (signOff x) (cmpi .ne (remsi x (broadcast s 64#32)) (broadcast s 0#32)))
    (subi (divsi x (broadcast s 64#32)) (broadcast s 1#32)) (divsi x (broadcast s 64#32))

/-- One where the square of the distance has reached `c`. -/
def reached {s : Shape} (n2 : IVec s 32) (c : BitVec 32) : IVec s 32 :=
  select (cmpi .sge n2 (broadcast s c)) (broadcast s 1#32) (broadcast s 0#32)

/-- The bucket of a distance of eight or more, counted from the square of the distance. -/
def farBucket {s : Shape} (n2 : IVec s 32) : IVec s 32 :=
  addi (addi (addi (addi (addi (addi (addi (broadcast s 8#32) (reached n2 128#32)) (reached n2 256#32)) (reached n2 512#32))
    (reached n2 1024#32)) (reached n2 2048#32)) (reached n2 4096#32)) (reached n2 8192#32)

/-- The bucket of each relative position. -/
def bucketOf {s : Shape} (rel : IVec s 32) : IVec s 32 :=
  addi (select (cmpi .sgt rel (broadcast s 0#32)) (broadcast s 16#32) (broadcast s 0#32))
    (select (cmpi .slt (absi rel) (broadcast s 8#32)) (absi rel) (farBucket (muli (absi rel) (absi rel))))

/-- The table's value at each bucket, chosen bucket by bucket. -/
def lookup {s : Shape} (bk : IVec s 32) (rb : ℕ → Elt F .f32) : ℕ → FVec F s .f32
  | 0 => broadcast s (Scalar.ofBits .f32 0x00000000#32)
  | n + 1 => select (cmpi .eq bk (broadcast s (BitVec.ofNat 32 n))) (broadcast s (rb n)) (lookup bk rb n)

/-- The place of each key in its block, moved by the block's distance. -/
def keyAt (off : BitVec 32) : IVec S512x512 32 :=
  addi (broadcast S512x512 off) (iota .tc S512x512 32 [0] iota_S512x512_d0_w32)

/-- The place of each query in its block. -/
def queryAt : IVec S512x512 32 := iota .tc S512x512 32 [1] iota_S512x512_d1_w32

/-- One tile of the biases: the table where the key is visible, the mask elsewhere. -/
def tileFlat (off : BitVec 32) (rb : ℕ → Elt F .f32) : FVec F S512x512 .f32 :=
  select (cmpi .sle (chunkOf (keyAt off)) (chunkOf queryAt)) (lookup (bucketOf (subi (keyAt off) queryAt)) rb 32)
    (broadcast S512x512 (Named.named κ "mask" 0xF149F2CA#32))

/-- One tile, in the shape it is stored in. -/
def tile (off : BitVec 32) (rb : ℕ → Elt F .f32) : FVec F S1x1x512x512 .f32 :=
  shapeCast S1x1x512x512 (tileFlat off rb) shapeCasts_S512x512_S1x1x512x512

/-- The relative positions of the meta keys. -/
def metaRel : IVec S16x2048 32 :=
  subi (iota .tc S16x2048 32 [0] iota_S16x2048_d0_w32)
    (addi (iota .tc S16x2048 32 [1] iota_S16x2048_d1_w32) (broadcast S16x2048 16#32))

/-- The biases of the meta keys. -/
def metaTile (rb : ℕ → Elt F .f32) : FVec F S1x16x2048 .f32 :=
  shapeCast S1x16x2048 (lookup (bucketOf metaRel) rb 32) shapeCasts_S16x2048_S1x16x2048

/-- The table's entry of one head at one bucket, as the kernel reads it. -/
def entryAt (i : grid0.Coords) (arg1 : Memref sig .tc .smem S32x4 .f32) (harg1 : arg1.IsWhole) (x0 : Vec F S32x4 .f32) : ℕ → Elt F .f32
  | 0 => View.readAt (Elt F) arg1.view (Rect.unit (s := S32x4) (k0_off1 i) S1x1.size (k0_off1_inb i)).toLoadRect (harg1.unread x0) (Shape.Idx.first (s := S1x1) (by rw [numel1_S1x1]; exact Nat.one_pos))
  | 1 => View.readAt (Elt F) arg1.view (Rect.unit (s := S32x4) (k0_off2 i) S1x1.size (k0_off2_inb i)).toLoadRect (harg1.unread x0) (Shape.Idx.first (s := S1x1) (by rw [numel1_S1x1]; exact Nat.one_pos))
  | 2 => View.readAt (Elt F) arg1.view (Rect.unit (s := S32x4) (k0_off3 i) S1x1.size (k0_off3_inb i)).toLoadRect (harg1.unread x0) (Shape.Idx.first (s := S1x1) (by rw [numel1_S1x1]; exact Nat.one_pos))
  | 3 => View.readAt (Elt F) arg1.view (Rect.unit (s := S32x4) (k0_off4 i) S1x1.size (k0_off4_inb i)).toLoadRect (harg1.unread x0) (Shape.Idx.first (s := S1x1) (by rw [numel1_S1x1]; exact Nat.one_pos))
  | 4 => View.readAt (Elt F) arg1.view (Rect.unit (s := S32x4) (k0_off5 i) S1x1.size (k0_off5_inb i)).toLoadRect (harg1.unread x0) (Shape.Idx.first (s := S1x1) (by rw [numel1_S1x1]; exact Nat.one_pos))
  | 5 => View.readAt (Elt F) arg1.view (Rect.unit (s := S32x4) (k0_off6 i) S1x1.size (k0_off6_inb i)).toLoadRect (harg1.unread x0) (Shape.Idx.first (s := S1x1) (by rw [numel1_S1x1]; exact Nat.one_pos))
  | 6 => View.readAt (Elt F) arg1.view (Rect.unit (s := S32x4) (k0_off7 i) S1x1.size (k0_off7_inb i)).toLoadRect (harg1.unread x0) (Shape.Idx.first (s := S1x1) (by rw [numel1_S1x1]; exact Nat.one_pos))
  | 7 => View.readAt (Elt F) arg1.view (Rect.unit (s := S32x4) (k0_off8 i) S1x1.size (k0_off8_inb i)).toLoadRect (harg1.unread x0) (Shape.Idx.first (s := S1x1) (by rw [numel1_S1x1]; exact Nat.one_pos))
  | 8 => View.readAt (Elt F) arg1.view (Rect.unit (s := S32x4) (k0_off9 i) S1x1.size (k0_off9_inb i)).toLoadRect (harg1.unread x0) (Shape.Idx.first (s := S1x1) (by rw [numel1_S1x1]; exact Nat.one_pos))
  | 9 => View.readAt (Elt F) arg1.view (Rect.unit (s := S32x4) (k0_off10 i) S1x1.size (k0_off10_inb i)).toLoadRect (harg1.unread x0) (Shape.Idx.first (s := S1x1) (by rw [numel1_S1x1]; exact Nat.one_pos))
  | 10 => View.readAt (Elt F) arg1.view (Rect.unit (s := S32x4) (k0_off11 i) S1x1.size (k0_off11_inb i)).toLoadRect (harg1.unread x0) (Shape.Idx.first (s := S1x1) (by rw [numel1_S1x1]; exact Nat.one_pos))
  | 11 => View.readAt (Elt F) arg1.view (Rect.unit (s := S32x4) (k0_off12 i) S1x1.size (k0_off12_inb i)).toLoadRect (harg1.unread x0) (Shape.Idx.first (s := S1x1) (by rw [numel1_S1x1]; exact Nat.one_pos))
  | 12 => View.readAt (Elt F) arg1.view (Rect.unit (s := S32x4) (k0_off13 i) S1x1.size (k0_off13_inb i)).toLoadRect (harg1.unread x0) (Shape.Idx.first (s := S1x1) (by rw [numel1_S1x1]; exact Nat.one_pos))
  | 13 => View.readAt (Elt F) arg1.view (Rect.unit (s := S32x4) (k0_off14 i) S1x1.size (k0_off14_inb i)).toLoadRect (harg1.unread x0) (Shape.Idx.first (s := S1x1) (by rw [numel1_S1x1]; exact Nat.one_pos))
  | 14 => View.readAt (Elt F) arg1.view (Rect.unit (s := S32x4) (k0_off15 i) S1x1.size (k0_off15_inb i)).toLoadRect (harg1.unread x0) (Shape.Idx.first (s := S1x1) (by rw [numel1_S1x1]; exact Nat.one_pos))
  | 15 => View.readAt (Elt F) arg1.view (Rect.unit (s := S32x4) (k0_off16 i) S1x1.size (k0_off16_inb i)).toLoadRect (harg1.unread x0) (Shape.Idx.first (s := S1x1) (by rw [numel1_S1x1]; exact Nat.one_pos))
  | 16 => View.readAt (Elt F) arg1.view (Rect.unit (s := S32x4) (k0_off17 i) S1x1.size (k0_off17_inb i)).toLoadRect (harg1.unread x0) (Shape.Idx.first (s := S1x1) (by rw [numel1_S1x1]; exact Nat.one_pos))
  | 17 => View.readAt (Elt F) arg1.view (Rect.unit (s := S32x4) (k0_off18 i) S1x1.size (k0_off18_inb i)).toLoadRect (harg1.unread x0) (Shape.Idx.first (s := S1x1) (by rw [numel1_S1x1]; exact Nat.one_pos))
  | 18 => View.readAt (Elt F) arg1.view (Rect.unit (s := S32x4) (k0_off19 i) S1x1.size (k0_off19_inb i)).toLoadRect (harg1.unread x0) (Shape.Idx.first (s := S1x1) (by rw [numel1_S1x1]; exact Nat.one_pos))
  | 19 => View.readAt (Elt F) arg1.view (Rect.unit (s := S32x4) (k0_off20 i) S1x1.size (k0_off20_inb i)).toLoadRect (harg1.unread x0) (Shape.Idx.first (s := S1x1) (by rw [numel1_S1x1]; exact Nat.one_pos))
  | 20 => View.readAt (Elt F) arg1.view (Rect.unit (s := S32x4) (k0_off21 i) S1x1.size (k0_off21_inb i)).toLoadRect (harg1.unread x0) (Shape.Idx.first (s := S1x1) (by rw [numel1_S1x1]; exact Nat.one_pos))
  | 21 => View.readAt (Elt F) arg1.view (Rect.unit (s := S32x4) (k0_off22 i) S1x1.size (k0_off22_inb i)).toLoadRect (harg1.unread x0) (Shape.Idx.first (s := S1x1) (by rw [numel1_S1x1]; exact Nat.one_pos))
  | 22 => View.readAt (Elt F) arg1.view (Rect.unit (s := S32x4) (k0_off23 i) S1x1.size (k0_off23_inb i)).toLoadRect (harg1.unread x0) (Shape.Idx.first (s := S1x1) (by rw [numel1_S1x1]; exact Nat.one_pos))
  | 23 => View.readAt (Elt F) arg1.view (Rect.unit (s := S32x4) (k0_off24 i) S1x1.size (k0_off24_inb i)).toLoadRect (harg1.unread x0) (Shape.Idx.first (s := S1x1) (by rw [numel1_S1x1]; exact Nat.one_pos))
  | 24 => View.readAt (Elt F) arg1.view (Rect.unit (s := S32x4) (k0_off25 i) S1x1.size (k0_off25_inb i)).toLoadRect (harg1.unread x0) (Shape.Idx.first (s := S1x1) (by rw [numel1_S1x1]; exact Nat.one_pos))
  | 25 => View.readAt (Elt F) arg1.view (Rect.unit (s := S32x4) (k0_off26 i) S1x1.size (k0_off26_inb i)).toLoadRect (harg1.unread x0) (Shape.Idx.first (s := S1x1) (by rw [numel1_S1x1]; exact Nat.one_pos))
  | 26 => View.readAt (Elt F) arg1.view (Rect.unit (s := S32x4) (k0_off27 i) S1x1.size (k0_off27_inb i)).toLoadRect (harg1.unread x0) (Shape.Idx.first (s := S1x1) (by rw [numel1_S1x1]; exact Nat.one_pos))
  | 27 => View.readAt (Elt F) arg1.view (Rect.unit (s := S32x4) (k0_off28 i) S1x1.size (k0_off28_inb i)).toLoadRect (harg1.unread x0) (Shape.Idx.first (s := S1x1) (by rw [numel1_S1x1]; exact Nat.one_pos))
  | 28 => View.readAt (Elt F) arg1.view (Rect.unit (s := S32x4) (k0_off29 i) S1x1.size (k0_off29_inb i)).toLoadRect (harg1.unread x0) (Shape.Idx.first (s := S1x1) (by rw [numel1_S1x1]; exact Nat.one_pos))
  | 29 => View.readAt (Elt F) arg1.view (Rect.unit (s := S32x4) (k0_off30 i) S1x1.size (k0_off30_inb i)).toLoadRect (harg1.unread x0) (Shape.Idx.first (s := S1x1) (by rw [numel1_S1x1]; exact Nat.one_pos))
  | 30 => View.readAt (Elt F) arg1.view (Rect.unit (s := S32x4) (k0_off31 i) S1x1.size (k0_off31_inb i)).toLoadRect (harg1.unread x0) (Shape.Idx.first (s := S1x1) (by rw [numel1_S1x1]; exact Nat.one_pos))
  | _ => View.readAt (Elt F) arg1.view (Rect.unit (s := S32x4) (k0_off32 i) S1x1.size (k0_off32_inb i)).toLoadRect (harg1.unread x0) (Shape.Idx.first (s := S1x1) (by rw [numel1_S1x1]; exact Nat.one_pos))

set_option maxHeartbeats 4000000 in
/-- The bias kernel's stores: the three tiles of its head. -/
theorem tiles_eq (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole) (x0 : Vec F S32x4 .f32) :
    (kernelRun0_A c i arg1 harg1 arg2 harg2 arg3 harg3 x0).1 =
      [⟨Rect.unit ![0, 2, 0, 0] S1x1x512x512.size inb_S1x3x512x512_S1x1x512x512_0_2_0_0, tile 4294966272#32 (entryAt i arg1 harg1 x0)⟩,
       ⟨Rect.unit ![0, 1, 0, 0] S1x1x512x512.size inb_S1x3x512x512_S1x1x512x512_0_1_0_0, tile 4294966784#32 (entryAt i arg1 harg1 x0)⟩,
       ⟨Rect.unit ![0, 0, 0, 0] S1x1x512x512.size inb_S1x3x512x512_S1x1x512x512_0_0_0_0, tile 0#32 (entryAt i arg1 harg1 x0)⟩] := by
  unfold kernelRun0_A
  rfl

set_option maxHeartbeats 4000000 in
/-- The bias kernel's store of the meta biases. -/
theorem meta_eq (c : Dev nD) (i : grid0.Coords) (arg1 : Memref sig .tc .smem S32x4 .f32) (harg1 : arg1.IsWhole) (arg2 : Memref sig .tc .vmem S1x3x512x512 .f32) (harg2 : arg2.IsWhole) (arg3 : Memref sig .tc .vmem S1x16x2048 .f32) (harg3 : arg3.IsWhole) (x0 : Vec F S32x4 .f32) :
    (kernelRun0_A c i arg1 harg1 arg2 harg2 arg3 harg3 x0).2.1 =
      [⟨Rect.unit ![0, 0, 0] S1x16x2048.size inb_S1x16x2048_S1x16x2048_0_0_0, metaTile (entryAt i arg1 harg1 x0)⟩] := by
  unfold kernelRun0_A
  rfl

end Cert.DiffAttn
-- ==== Proof.Chain.lean ====
/- One chain of the attention kernel's running softmax, on its own: a chain is one half of one head. The kernel's loop
   carries eight chains at once; here its carry is shown to be eight copies of one recursion. -/
module

public import proofs.«01_k».proof.Proof.IdealRegions

@[expose] public section

set_option maxRecDepth 16384

noncomputable section

namespace Cert.DiffAttn

open Idealize.ShloMosaic Idealize.ShloMosaic.TcCoe Idealize.SL.Sem Cert.KernelIdeal Cert.KernelIdeal.Gen

variable {F : FTy → Type} [FloatOps F] [Named F]

/-- The first half of a head's queries: columns 64 to 127 of the pair put to zero. -/
abbrev half0 (q : Vec F S512x128 .bf16) : FVec F S512x128 .bf16 := k1_pay63 q
/-- The second half of a head's queries: columns 0 to 63 of the pair put to zero. -/
abbrev half1 (q : Vec F S512x128 .bf16) : FVec F S512x128 .bf16 := k1_pay64 q
/-- The scores of one block of keys against one half of a head's queries, with the bias tile added. -/
abbrev score (q : FVec F S512x128 .bf16) (k : Vec F S512x128 .bf16) (b : Vec F S1x1x512x512 .f32) :
    FVec F S512x512 .bf16 := k1_pay2 q k b
/-- The values of one block of keys, with the row of ones under them. -/
abbrev vext (v : Vec F S1x128x512 .bf16) : FVec F S144x512 .bf16 := k1_pay12 v
/-- The new running maximum. -/
abbrev updM (m : FVec F S1x512 .f32) (s : FVec F S512x512 .bf16) : FVec F S1x512 .f32 := k1_pay17 m s
/-- The new running weighted sum of the values. -/
abbrev updA (m : FVec F S1x512 .f32) (a : FVec F S144x512 .f32) (s : FVec F S512x512 .bf16) (v : FVec F S144x512 .bf16) :
    FVec F S144x512 .f32 := k1_pay18 m a s v
/-- The scores of the meta keys. -/
abbrev mscore (q : FVec F S512x128 .bf16) (k : Vec F S16x128 .bf16) (b : Vec F S1x16x512 .f32) : FVec F S16x512 .bf16 :=
  k1_pay87 q k b
/-- The running maximum after the meta keys. -/
abbrev metaM (s : FVec F S16x512 .bf16) : FVec F S1x512 .f32 := k1_pay89 s
/-- The running weighted sum after the meta keys. -/
abbrev metaA (s : FVec F S16x512 .bf16) (v : Vec F S1x128x16 .bf16) : FVec F S144x512 .f32 := k1_pay90 s v
/-- One head's output block from its two weighted sums. -/
abbrev headOut (a1 a2 : FVec F S144x512 .f32) (lam : FVec F S1x1 .f32) (g : Vec F S128x1 .f32) : FVec F S512x128 .bf16 :=
  k1_pay150 a1 a2 lam (k1_pay149 a1) g

/-- The running maximum and weighted sum of one chain after `n` blocks, from the scores and values of each block. -/
def chain (sc : ℕ → FVec F S512x512 .bf16) (vx : ℕ → FVec F S144x512 .bf16) (m : FVec F S1x512 .f32)
    (a : FVec F S144x512 .f32) : ℕ → FVec F S1x512 .f32 × FVec F S144x512 .f32
  | 0 => (m, a)
  | n + 1 => (updM (chain sc vx m a n).1 (sc n), updA (chain sc vx m a n).1 (chain sc vx m a n).2 (sc n) (vx n))

set_option maxHeartbeats 1000000 in
/-- One trip of the kernel's loop moves each of the eight chains on by one block. -/
theorem trip_step (𝒱 : Variants) (c : Dev nD) (bd : Option 𝒱.V) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole) (v9 : FVec F S512x128 .bf16) (v17 : FVec F S512x128 .bf16) (v27 : FVec F S512x128 .bf16) (v35 : FVec F S512x128 .bf16) (v45 : FVec F S512x128 .bf16) (v53 : FVec F S512x128 .bf16) (v63 : FVec F S512x128 .bf16) (v71 : FVec F S512x128 .bf16) (v74 : BitVec 32) (v88 : FVec F S512x512 .bf16) (v97 : FVec F S512x512 .bf16) (v106 : FVec F S512x512 .bf16) (v115 : FVec F S512x512 .bf16) (v124 : FVec F S512x512 .bf16) (v133 : FVec F S512x512 .bf16) (v142 : FVec F S512x512 .bf16) (v151 : FVec F S512x512 .bf16) (v174 : FVec F S1x512 .f32) (v184 : FVec F S144x512 .f32) (v207 : FVec F S1x512 .f32) (v217 : FVec F S144x512 .f32) (v240 : FVec F S1x512 .f32) (v250 : FVec F S144x512 .f32) (v273 : FVec F S1x512 .f32) (v283 : FVec F S144x512 .f32) (v306 : FVec F S1x512 .f32) (v316 : FVec F S144x512 .f32) (v339 : FVec F S1x512 .f32) (v349 : FVec F S144x512 .f32) (v372 : FVec F S1x512 .f32) (v382 : FVec F S144x512 .f32) (v389 : FVec F S16x512 .bf16) (v391 : FVec F S128x16 .bf16) (v394 : IVec S16x16 1) (X4 : BufTy.Contents (Elt F) arg4.view.ty) (X5 : BufTy.Contents (Elt F) arg5.view.ty) (X8 : BufTy.Contents (Elt F) arg8.view.ty)
    (k : Fin (k1_t1_loop i).trips) (acc : FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S512x512 .bf16 × FVec F S512x512 .bf16 × FVec F S512x512 .bf16 × FVec F S512x512 .bf16 × FVec F S512x512 .bf16 × FVec F S512x512 .bf16 × FVec F S512x512 .bf16 × FVec F S512x512 .bf16) :
    (trip_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 v9 v17 v27 v35 v45 v53 v63 v71 v74 v88 v97 v106 v115 v124 v133 v142 v151 v174 v184 v207 v217 v240 v250 v273 v283 v306 v316 v339 v349 v372 v382 v389 v391 v394 X4 X5 X8 k).1 acc =
      (updM acc.1 acc.2.2.2.2.2.2.2.2.2.2.2.2.2.2.2.2.1, updA acc.1 acc.2.1 acc.2.2.2.2.2.2.2.2.2.2.2.2.2.2.2.2.1 (vext (View.readAt (Elt F) arg5.view (Rect.unit (s := S4x512x512) (k1_off17 i k) S1x128x512.size (k1_off17_inb i k)).toLoadRect X5)), updM acc.2.2.1 acc.2.2.2.2.2.2.2.2.2.2.2.2.2.2.2.2.2.1, updA acc.2.2.1 acc.2.2.2.1 acc.2.2.2.2.2.2.2.2.2.2.2.2.2.2.2.2.2.1 (vext (View.readAt (Elt F) arg5.view (Rect.unit (s := S4x512x512) (k1_off17 i k) S1x128x512.size (k1_off17_inb i k)).toLoadRect X5)), updM acc.2.2.2.2.1 acc.2.2.2.2.2.2.2.2.2.2.2.2.2.2.2.2.2.2.1, updA acc.2.2.2.2.1 acc.2.2.2.2.2.1 acc.2.2.2.2.2.2.2.2.2.2.2.2.2.2.2.2.2.2.1 (vext (View.readAt (Elt F) arg5.view (Rect.unit (s := S4x512x512) (k1_off18 i k) S1x128x512.size (k1_off18_inb i k)).toLoadRect X5)), updM acc.2.2.2.2.2.2.1 acc.2.2.2.2.2.2.2.2.2.2.2.2.2.2.2.2.2.2.2.1, updA acc.2.2.2.2.2.2.1 acc.2.2.2.2.2.2.2.1 acc.2.2.2.2.2.2.2.2.2.2.2.2.2.2.2.2.2.2.2.1 (vext (View.readAt (Elt F) arg5.view (Rect.unit (s := S4x512x512) (k1_off18 i k) S1x128x512.size (k1_off18_inb i k)).toLoadRect X5)), updM acc.2.2.2.2.2.2.2.2.1 acc.2.2.2.2.2.2.2.2.2.2.2.2.2.2.2.2.2.2.2.2.1, updA acc.2.2.2.2.2.2.2.2.1 acc.2.2.2.2.2.2.2.2.2.1 acc.2.2.2.2.2.2.2.2.2.2.2.2.2.2.2.2.2.2.2.2.1 (vext (View.readAt (Elt F) arg5.view (Rect.unit (s := S4x512x512) (k1_off19 i k) S1x128x512.size (k1_off19_inb i k)).toLoadRect X5)), updM acc.2.2.2.2.2.2.2.2.2.2.1 acc.2.2.2.2.2.2.2.2.2.2.2.2.2.2.2.2.2.2.2.2.2.1, updA acc.2.2.2.2.2.2.2.2.2.2.1 acc.2.2.2.2.2.2.2.2.2.2.2.1 acc.2.2.2.2.2.2.2.2.2.2.2.2.2.2.2.2.2.2.2.2.2.1 (vext (View.readAt (Elt F) arg5.view (Rect.unit (s := S4x512x512) (k1_off19 i k) S1x128x512.size (k1_off19_inb i k)).toLoadRect X5)), updM acc.2.2.2.2.2.2.2.2.2.2.2.2.1 acc.2.2.2.2.2.2.2.2.2.2.2.2.2.2.2.2.2.2.2.2.2.2.1, updA acc.2.2.2.2.2.2.2.2.2.2.2.2.1 acc.2.2.2.2.2.2.2.2.2.2.2.2.2.1 acc.2.2.2.2.2.2.2.2.2.2.2.2.2.2.2.2.2.2.2.2.2.2.1 (vext (View.readAt (Elt F) arg5.view (Rect.unit (s := S4x512x512) (k1_off20 i k) S1x128x512.size (k1_off20_inb i k)).toLoadRect X5)), updM acc.2.2.2.2.2.2.2.2.2.2.2.2.2.2.1 acc.2.2.2.2.2.2.2.2.2.2.2.2.2.2.2.2.2.2.2.2.2.2.2, updA acc.2.2.2.2.2.2.2.2.2.2.2.2.2.2.1 acc.2.2.2.2.2.2.2.2.2.2.2.2.2.2.2.1 acc.2.2.2.2.2.2.2.2.2.2.2.2.2.2.2.2.2.2.2.2.2.2.2 (vext (View.readAt (Elt F) arg5.view (Rect.unit (s := S4x512x512) (k1_off20 i k) S1x128x512.size (k1_off20_inb i k)).toLoadRect X5)), score v9 (View.readAt (Elt F) arg4.view (Rect.unit (s := S2048x512) (k1_off9 i k) S512x128.size (k1_off9_inb i k)).toLoadRect X4) (View.readAt (Elt F) arg8.view (Rect.unit (s := S4x3x512x512) (k1_off10 i k) S1x1x512x512.size (k1_off10_inb i k)).toLoadRect X8), score v17 (View.readAt (Elt F) arg4.view (Rect.unit (s := S2048x512) (k1_off9 i k) S512x128.size (k1_off9_inb i k)).toLoadRect X4) (View.readAt (Elt F) arg8.view (Rect.unit (s := S4x3x512x512) (k1_off10 i k) S1x1x512x512.size (k1_off10_inb i k)).toLoadRect X8), score v27 (View.readAt (Elt F) arg4.view (Rect.unit (s := S2048x512) (k1_off11 i k) S512x128.size (k1_off11_inb i k)).toLoadRect X4) (View.readAt (Elt F) arg8.view (Rect.unit (s := S4x3x512x512) (k1_off12 i k) S1x1x512x512.size (k1_off12_inb i k)).toLoadRect X8), score v35 (View.readAt (Elt F) arg4.view (Rect.unit (s := S2048x512) (k1_off11 i k) S512x128.size (k1_off11_inb i k)).toLoadRect X4) (View.readAt (Elt F) arg8.view (Rect.unit (s := S4x3x512x512) (k1_off12 i k) S1x1x512x512.size (k1_off12_inb i k)).toLoadRect X8), score v45 (View.readAt (Elt F) arg4.view (Rect.unit (s := S2048x512) (k1_off13 i k) S512x128.size (k1_off13_inb i k)).toLoadRect X4) (View.readAt (Elt F) arg8.view (Rect.unit (s := S4x3x512x512) (k1_off14 i k) S1x1x512x512.size (k1_off14_inb i k)).toLoadRect X8), score v53 (View.readAt (Elt F) arg4.view (Rect.unit (s := S2048x512) (k1_off13 i k) S512x128.size (k1_off13_inb i k)).toLoadRect X4) (View.readAt (Elt F) arg8.view (Rect.unit (s := S4x3x512x512) (k1_off14 i k) S1x1x512x512.size (k1_off14_inb i k)).toLoadRect X8), score v63 (View.readAt (Elt F) arg4.view (Rect.unit (s := S2048x512) (k1_off15 i k) S512x128.size (k1_off15_inb i k)).toLoadRect X4) (View.readAt (Elt F) arg8.view (Rect.unit (s := S4x3x512x512) (k1_off16 i k) S1x1x512x512.size (k1_off16_inb i k)).toLoadRect X8), score v71 (View.readAt (Elt F) arg4.view (Rect.unit (s := S2048x512) (k1_off15 i k) S512x128.size (k1_off15_inb i k)).toLoadRect X4) (View.readAt (Elt F) arg8.view (Rect.unit (s := S4x3x512x512) (k1_off16 i k) S1x1x512x512.size (k1_off16_inb i k)).toLoadRect X8)) := by
  unfold trip_k1_t1
  rfl

set_option maxHeartbeats 1000000 in
/-- The kernel's carry before trip `n` is the eight chains after `n` blocks, with the scores of block `n`. -/
theorem carry_eq (𝒱 : Variants) (c : Dev nD) (bd : Option 𝒱.V) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole) (v9 : FVec F S512x128 .bf16) (v17 : FVec F S512x128 .bf16) (v27 : FVec F S512x128 .bf16) (v35 : FVec F S512x128 .bf16) (v45 : FVec F S512x128 .bf16) (v53 : FVec F S512x128 .bf16) (v63 : FVec F S512x128 .bf16) (v71 : FVec F S512x128 .bf16) (v74 : BitVec 32) (v88 : FVec F S512x512 .bf16) (v97 : FVec F S512x512 .bf16) (v106 : FVec F S512x512 .bf16) (v115 : FVec F S512x512 .bf16) (v124 : FVec F S512x512 .bf16) (v133 : FVec F S512x512 .bf16) (v142 : FVec F S512x512 .bf16) (v151 : FVec F S512x512 .bf16) (v174 : FVec F S1x512 .f32) (v184 : FVec F S144x512 .f32) (v207 : FVec F S1x512 .f32) (v217 : FVec F S144x512 .f32) (v240 : FVec F S1x512 .f32) (v250 : FVec F S144x512 .f32) (v273 : FVec F S1x512 .f32) (v283 : FVec F S144x512 .f32) (v306 : FVec F S1x512 .f32) (v316 : FVec F S144x512 .f32) (v339 : FVec F S1x512 .f32) (v349 : FVec F S144x512 .f32) (v372 : FVec F S1x512 .f32) (v382 : FVec F S144x512 .f32) (v389 : FVec F S16x512 .bf16) (v391 : FVec F S128x16 .bf16) (v394 : IVec S16x16 1) (X4 : BufTy.Contents (Elt F) arg4.view.ty) (X5 : BufTy.Contents (Elt F) arg5.view.ty) (X8 : BufTy.Contents (Elt F) arg8.view.ty)
    (sc0 : ℕ → FVec F S512x512 .bf16) (vx0 : ℕ → FVec F S144x512 .bf16) (m0 : FVec F S1x512 .f32) (a0 : FVec F S144x512 .f32) (sc1 : ℕ → FVec F S512x512 .bf16) (vx1 : ℕ → FVec F S144x512 .bf16) (m1 : FVec F S1x512 .f32) (a1 : FVec F S144x512 .f32) (sc2 : ℕ → FVec F S512x512 .bf16) (vx2 : ℕ → FVec F S144x512 .bf16) (m2 : FVec F S1x512 .f32) (a2 : FVec F S144x512 .f32) (sc3 : ℕ → FVec F S512x512 .bf16) (vx3 : ℕ → FVec F S144x512 .bf16) (m3 : FVec F S1x512 .f32) (a3 : FVec F S144x512 .f32) (sc4 : ℕ → FVec F S512x512 .bf16) (vx4 : ℕ → FVec F S144x512 .bf16) (m4 : FVec F S1x512 .f32) (a4 : FVec F S144x512 .f32) (sc5 : ℕ → FVec F S512x512 .bf16) (vx5 : ℕ → FVec F S144x512 .bf16) (m5 : FVec F S1x512 .f32) (a5 : FVec F S144x512 .f32) (sc6 : ℕ → FVec F S512x512 .bf16) (vx6 : ℕ → FVec F S144x512 .bf16) (m6 : FVec F S1x512 .f32) (a6 : FVec F S144x512 .f32) (sc7 : ℕ → FVec F S512x512 .bf16) (vx7 : ℕ → FVec F S144x512 .bf16) (m7 : FVec F S1x512 .f32) (a7 : FVec F S144x512 .f32) (hs0 : ∀ k : Fin (k1_t1_loop i).trips, sc0 (k.val + 1) = score v9 (View.readAt (Elt F) arg4.view (Rect.unit (s := S2048x512) (k1_off9 i k) S512x128.size (k1_off9_inb i k)).toLoadRect X4) (View.readAt (Elt F) arg8.view (Rect.unit (s := S4x3x512x512) (k1_off10 i k) S1x1x512x512.size (k1_off10_inb i k)).toLoadRect X8)) (hv0 : ∀ k : Fin (k1_t1_loop i).trips, vx0 k.val = vext (View.readAt (Elt F) arg5.view (Rect.unit (s := S4x512x512) (k1_off17 i k) S1x128x512.size (k1_off17_inb i k)).toLoadRect X5)) (hs1 : ∀ k : Fin (k1_t1_loop i).trips, sc1 (k.val + 1) = score v17 (View.readAt (Elt F) arg4.view (Rect.unit (s := S2048x512) (k1_off9 i k) S512x128.size (k1_off9_inb i k)).toLoadRect X4) (View.readAt (Elt F) arg8.view (Rect.unit (s := S4x3x512x512) (k1_off10 i k) S1x1x512x512.size (k1_off10_inb i k)).toLoadRect X8)) (hv1 : ∀ k : Fin (k1_t1_loop i).trips, vx1 k.val = vext (View.readAt (Elt F) arg5.view (Rect.unit (s := S4x512x512) (k1_off17 i k) S1x128x512.size (k1_off17_inb i k)).toLoadRect X5)) (hs2 : ∀ k : Fin (k1_t1_loop i).trips, sc2 (k.val + 1) = score v27 (View.readAt (Elt F) arg4.view (Rect.unit (s := S2048x512) (k1_off11 i k) S512x128.size (k1_off11_inb i k)).toLoadRect X4) (View.readAt (Elt F) arg8.view (Rect.unit (s := S4x3x512x512) (k1_off12 i k) S1x1x512x512.size (k1_off12_inb i k)).toLoadRect X8)) (hv2 : ∀ k : Fin (k1_t1_loop i).trips, vx2 k.val = vext (View.readAt (Elt F) arg5.view (Rect.unit (s := S4x512x512) (k1_off18 i k) S1x128x512.size (k1_off18_inb i k)).toLoadRect X5)) (hs3 : ∀ k : Fin (k1_t1_loop i).trips, sc3 (k.val + 1) = score v35 (View.readAt (Elt F) arg4.view (Rect.unit (s := S2048x512) (k1_off11 i k) S512x128.size (k1_off11_inb i k)).toLoadRect X4) (View.readAt (Elt F) arg8.view (Rect.unit (s := S4x3x512x512) (k1_off12 i k) S1x1x512x512.size (k1_off12_inb i k)).toLoadRect X8)) (hv3 : ∀ k : Fin (k1_t1_loop i).trips, vx3 k.val = vext (View.readAt (Elt F) arg5.view (Rect.unit (s := S4x512x512) (k1_off18 i k) S1x128x512.size (k1_off18_inb i k)).toLoadRect X5)) (hs4 : ∀ k : Fin (k1_t1_loop i).trips, sc4 (k.val + 1) = score v45 (View.readAt (Elt F) arg4.view (Rect.unit (s := S2048x512) (k1_off13 i k) S512x128.size (k1_off13_inb i k)).toLoadRect X4) (View.readAt (Elt F) arg8.view (Rect.unit (s := S4x3x512x512) (k1_off14 i k) S1x1x512x512.size (k1_off14_inb i k)).toLoadRect X8)) (hv4 : ∀ k : Fin (k1_t1_loop i).trips, vx4 k.val = vext (View.readAt (Elt F) arg5.view (Rect.unit (s := S4x512x512) (k1_off19 i k) S1x128x512.size (k1_off19_inb i k)).toLoadRect X5)) (hs5 : ∀ k : Fin (k1_t1_loop i).trips, sc5 (k.val + 1) = score v53 (View.readAt (Elt F) arg4.view (Rect.unit (s := S2048x512) (k1_off13 i k) S512x128.size (k1_off13_inb i k)).toLoadRect X4) (View.readAt (Elt F) arg8.view (Rect.unit (s := S4x3x512x512) (k1_off14 i k) S1x1x512x512.size (k1_off14_inb i k)).toLoadRect X8)) (hv5 : ∀ k : Fin (k1_t1_loop i).trips, vx5 k.val = vext (View.readAt (Elt F) arg5.view (Rect.unit (s := S4x512x512) (k1_off19 i k) S1x128x512.size (k1_off19_inb i k)).toLoadRect X5)) (hs6 : ∀ k : Fin (k1_t1_loop i).trips, sc6 (k.val + 1) = score v63 (View.readAt (Elt F) arg4.view (Rect.unit (s := S2048x512) (k1_off15 i k) S512x128.size (k1_off15_inb i k)).toLoadRect X4) (View.readAt (Elt F) arg8.view (Rect.unit (s := S4x3x512x512) (k1_off16 i k) S1x1x512x512.size (k1_off16_inb i k)).toLoadRect X8)) (hv6 : ∀ k : Fin (k1_t1_loop i).trips, vx6 k.val = vext (View.readAt (Elt F) arg5.view (Rect.unit (s := S4x512x512) (k1_off20 i k) S1x128x512.size (k1_off20_inb i k)).toLoadRect X5)) (hs7 : ∀ k : Fin (k1_t1_loop i).trips, sc7 (k.val + 1) = score v71 (View.readAt (Elt F) arg4.view (Rect.unit (s := S2048x512) (k1_off15 i k) S512x128.size (k1_off15_inb i k)).toLoadRect X4) (View.readAt (Elt F) arg8.view (Rect.unit (s := S4x3x512x512) (k1_off16 i k) S1x1x512x512.size (k1_off16_inb i k)).toLoadRect X8)) (hv7 : ∀ k : Fin (k1_t1_loop i).trips, vx7 k.val = vext (View.readAt (Elt F) arg5.view (Rect.unit (s := S4x512x512) (k1_off20 i k) S1x128x512.size (k1_off20_inb i k)).toLoadRect X5)) (n : ℕ) (hn : n ≤ (k1_t1_loop i).trips) :
    st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 v9 v17 v27 v35 v45 v53 v63 v71 v74 v88 v97 v106 v115 v124 v133 v142 v151 v174 v184 v207 v217 v240 v250 v273 v283 v306 v316 v339 v349 v372 v382 v389 v391 v394 X4 X5 X8 (m0, a0, m1, a1, m2, a2, m3, a3, m4, a4, m5, a5, m6, a6, m7, a7, sc0 0, sc1 0, sc2 0, sc3 0, sc4 0, sc5 0, sc6 0, sc7 0) n =
      ((chain sc0 vx0 m0 a0 n).1, (chain sc0 vx0 m0 a0 n).2, (chain sc1 vx1 m1 a1 n).1, (chain sc1 vx1 m1 a1 n).2, (chain sc2 vx2 m2 a2 n).1, (chain sc2 vx2 m2 a2 n).2, (chain sc3 vx3 m3 a3 n).1, (chain sc3 vx3 m3 a3 n).2, (chain sc4 vx4 m4 a4 n).1, (chain sc4 vx4 m4 a4 n).2, (chain sc5 vx5 m5 a5 n).1, (chain sc5 vx5 m5 a5 n).2, (chain sc6 vx6 m6 a6 n).1, (chain sc6 vx6 m6 a6 n).2, (chain sc7 vx7 m7 a7 n).1, (chain sc7 vx7 m7 a7 n).2, sc0 n, sc1 n, sc2 n, sc3 n, sc4 n, sc5 n, sc6 n, sc7 n) := by
  induction n with
  | zero => rfl
  | succ n ih =>
    have e := st_k1_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 v9 v17 v27 v35 v45 v53 v63 v71 v74 v88 v97 v106 v115 v124 v133 v142 v151 v174 v184 v207 v217 v240 v250 v273 v283 v306 v316 v339 v349 v372 v382 v389 v391 v394 X4 X5 X8 (m0, a0, m1, a1, m2, a2, m3, a3, m4, a4, m5, a5, m6, a6, m7, a7, sc0 0, sc1 0, sc2 0, sc3 0, sc4 0, sc5 0, sc6 0, sc7 0) ⟨n, hn⟩
    refine e.trans ?_
    rw [ih (Nat.le_of_succ_le hn)]
    refine (trip_step 𝒱 c bd i arg3 harg3 arg4 harg4 arg5 harg5 arg6 harg6 arg7 harg7 arg8 harg8 arg9 harg9 arg10 harg10 arg11 harg11 arg12 harg12 arg13 harg13 arg14 harg14 arg15 harg15 v9 v17 v27 v35 v45 v53 v63 v71 v74 v88 v97 v106 v115 v124 v133 v142 v151 v174 v184 v207 v217 v240 v250 v273 v283 v306 v316 v339 v349 v372 v382 v389 v391 v394 X4 X5 X8 ⟨n, hn⟩ _).trans ?_
    rw [hs0 ⟨n, hn⟩, hs1 ⟨n, hn⟩, hs2 ⟨n, hn⟩, hs3 ⟨n, hn⟩, hs4 ⟨n, hn⟩, hs5 ⟨n, hn⟩, hs6 ⟨n, hn⟩, hs7 ⟨n, hn⟩]
    simp only [chain]
    rw [hv0 ⟨n, hn⟩, hv1 ⟨n, hn⟩, hv2 ⟨n, hn⟩, hv3 ⟨n, hn⟩, hv4 ⟨n, hn⟩, hv5 ⟨n, hn⟩, hv6 ⟨n, hn⟩, hv7 ⟨n, hn⟩]

end Cert.DiffAttn
-- ==== Proof.Softmax.lean ====
/- One chain of the kernel's running softmax over the extended reals: scores that are real or −∞, values that are real.
   The running sum is the weighted sum of everything seen so far, times `exp` of minus the running maximum. -/
module

public import proofs.«01_k».proof.Proof.Chain
public import Idealize.ShloMosaic.Lib.Pointwise

@[expose] public section

set_option maxRecDepth 16384

noncomputable section

namespace Cert.DiffAttn

open Idealize.ShloMosaic Idealize.ShloMosaic.TcCoe Idealize.SL.Sem Cert.KernelIdeal Cert.KernelIdeal.Gen

/-- The weight of a score: `exp` of it, and nothing for −∞. -/
def wt (x : EReal) : ℝ := if x = ⊥ then 0 else Real.exp x.toReal

/-- Weights are not negative. -/
theorem wt_nonneg (x : EReal) : 0 ≤ wt x := by
  unfold wt; split_ifs
  · exact le_rfl
  · exact (Real.exp_pos _).le

/-- The weight of a real score. -/
theorem wt_coe (x : ℝ) : wt (x : EReal) = Real.exp x := by
  unfold wt; rw [if_neg (EReal.coe_ne_bot x), EReal.toReal_coe]

/-- A masked score weighs nothing. -/
theorem wt_bot : wt ⊥ = 0 := if_pos rfl

/-- `exp` of a score less a real maximum. -/
theorem exp_sub (x : EReal) (hx : x ≠ ⊤) (μ : ℝ) : Ideal.exp (x - (μ : EReal)) = ((Real.exp (-μ) * wt x : ℝ) : EReal) := by
  induction x with
  | bot => rw [wt_bot, mul_zero]; rfl
  | top => exact absurd rfl hx
  | coe r =>
    rw [wt_coe, ← Real.exp_add, ← EReal.coe_sub]
    show ((Real.exp (r - μ) : ℝ) : EReal) = _
    congr 2; ring

/-- A sum of reals, over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of scores none of which is +∞ is not +∞; it is real as soon as it starts from a real. -/
theorem fold_max_ne_top {ι : Type*} (s : Finset ι) (f : ι → EReal) (hf : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with h | h <;> rw [h]
    · exact hf a
    · exact ih

/-- The greater of a real and something that is not +∞ is real. -/
theorem max_real (μ : ℝ) (x : EReal) (hx : x ≠ ⊤) : ∃ μ' : ℝ, max (μ : EReal) x = (μ' : EReal) := by
  induction x with
  | bot => exact ⟨μ, max_eq_left bot_le⟩
  | top => exact absurd rfl hx
  | coe r => exact ⟨max μ r, (EReal.coe_strictMono.monotone.map_max).symm⟩

/-- Something at least a real and not +∞ is real. -/
theorem real_of_ge (z : ℝ) (x : EReal) (h : (z : EReal) ≤ x) (hx : x ≠ ⊤) : ∃ r : ℝ, x = (r : EReal) := by
  induction x with
  | bot => exact absurd (le_bot_iff.mp h) (EReal.coe_ne_bot _)
  | top => exact absurd rfl hx
  | coe r => exact ⟨r, rfl⟩

/-- The bf16 word of minus infinity. -/
theorem ninf_bf16 : Ideal.ofBits FTy.bf16 65408#16 = ⊥ := by simp [Ideal.ofBits, Ideal.ieee]
/-- The f32 word of minus infinity. -/
theorem ninf_f32 : Ideal.ofBits FTy.f32 4286578688#32 = ⊥ := by simp [Ideal.ofBits, Ideal.ieee]

/-- The rows of a value block with the ones under it: the value in the first 128, then a one, then nothing. -/
def withOnes (f : Fin 128 → ℝ) (r : Fin 144) : ℝ :=
  if h : (r : ℕ) < 128 then f ⟨r, h⟩ else if (r : ℕ) = 128 then 1 else 0

/-- The running maximum after a block, at a query. -/
theorem updM_apply (m : FVec Ideal S1x512 .f32) (s : FVec Ideal S512x512 .bf16) (j : Fin 512) :
    updM m s (ix2 0 j) = max (m (ix2 0 j)) (Finset.univ.fold max ⊥ fun i : Fin 512 => s (ix2 i j)) := by
  pointwise [k1_pay17]
  rw [ninf_bf16]

/-- The running sums after a block, at an entry. -/
theorem updA_apply (m : FVec Ideal S1x512 .f32) (a : FVec Ideal S144x512 .f32) (s : FVec Ideal S512x512 .bf16)
    (v : FVec Ideal S144x512 .bf16) (r : Fin 144) (j : Fin 512) (M : EReal) (hM : updM m s (ix2 0 j) = M) :
    updA m a s v (ix2 r j) = Ideal.exp (m (ix2 0 j) - M) * a (ix2 r j) +
      ∑ i : Fin 512, v (ix2 r i) * Ideal.exp (s (ix2 i j) - M) := by
  pointwise [k1_pay18, hM]

/-- One block: a running sum that is right before it is right after it. -/
theorem upd_ok (m : FVec Ideal S1x512 .f32) (a : FVec Ideal S144x512 .f32) (s : FVec Ideal S512x512 .bf16)
    (v : FVec Ideal S144x512 .bf16) (j : Fin 512) (μ : ℝ) (S : Fin 144 → ℝ) (V : Fin 144 → Fin 512 → ℝ)
    (hm : m (ix2 0 j) = (μ : EReal)) (ha : ∀ r, a (ix2 r j) = ((Real.exp (-μ) * S r : ℝ) : EReal))
    (hs : ∀ i : Fin 512, s (ix2 i j) ≠ ⊤) (hv : ∀ r i, v (ix2 r i) = (V r i : EReal)) :
    ∃ μ' : ℝ, updM m s (ix2 0 j) = (μ' : EReal) ∧
      ∀ r, updA m a s v (ix2 r j) = ((Real.exp (-μ') * (S r + ∑ i : Fin 512, wt (s (ix2 i j)) * V r i) : ℝ) : EReal) := by
  obtain ⟨μ', hμ⟩ : ∃ μ' : ℝ, updM m s (ix2 0 j) = (μ' : EReal) := by
    rw [updM_apply, hm]
    exact max_real μ _ (fold_max_ne_top Finset.univ (fun i : Fin 512 => s (ix2 i j)) hs)
  refine ⟨μ', hμ, fun r => ?_⟩
  rw [updA_apply m a s v r j _ hμ, hm, ha, ← EReal.coe_sub]
  rw [show Ideal.exp ((μ - μ' : ℝ) : EReal) = ((Real.exp (μ - μ') : ℝ) : EReal) from rfl]
  simp only [hv, exp_sub _ (hs _), ← EReal.coe_mul, ← coe_sum, ← EReal.coe_add]
  congr 1
  rw [mul_add, ← mul_assoc, ← Real.exp_add, show μ - μ' + -μ = -μ' by ring, Finset.mul_sum]
  congr 1
  exact Finset.sum_congr rfl fun i _ => by ring

/-- All blocks: the running sum after `n` of them. -/
theorem chain_ok (sc : ℕ → FVec Ideal S512x512 .bf16) (vx : ℕ → FVec Ideal S144x512 .bf16) (m : FVec Ideal S1x512 .f32)
    (a : FVec Ideal S144x512 .f32) (j : Fin 512) (μ : ℝ) (S : Fin 144 → ℝ) (V : ℕ → Fin 144 → Fin 512 → ℝ)
    (hm : m (ix2 0 j) = (μ : EReal)) (ha : ∀ r, a (ix2 r j) = ((Real.exp (-μ) * S r : ℝ) : EReal)) (n : ℕ)
    (hs : ∀ d < n, ∀ i : Fin 512, sc d (ix2 i j) ≠ ⊤) (hv : ∀ d < n, ∀ r i, vx d (ix2 r i) = (V d r i : EReal)) :
    ∃ μ' : ℝ, (chain sc vx m a n).1 (ix2 0 j) = (μ' : EReal) ∧
      ∀ r, (chain sc vx m a n).2 (ix2 r j) =
        ((Real.exp (-μ') * (S r + ∑ d ∈ Finset.range n, ∑ i : Fin 512, wt (sc d (ix2 i j)) * V d r i) : ℝ) : EReal) := by
  induction n with
  | zero => exact ⟨μ, hm, fun r => by simpa [chain] using ha r⟩
  | succ n ih =>
    obtain ⟨μ', h1, h2⟩ := ih (fun d hd => hs d (hd.trans n.lt_succ_self)) (fun d hd => hv d (hd.trans n.lt_succ_self))
    obtain ⟨μ'', h3, h4⟩ := upd_ok _ _ (sc n) (vx n) j μ' _ (V n) h1 h2 (hs n n.lt_succ_self) (hv n n.lt_succ_self)
    refine ⟨μ'', h3, fun r => (h4 r).trans ?_⟩
    rw [Finset.sum_range_succ, ← add_assoc]

/-- The rows of ones behind the values. -/
theorem one_row (n : ℕ) (h : n < 16) :
    (Scalar.select (IntOp.cmpi CmpIPredicate.eq (BitVec.ofNat 32 n) 0#32) (1 : EReal) 0) = ((if n = 0 then 1 else 0 : ℝ) : EReal) := by
  have e : ∀ n < 16, IntOp.cmpi CmpIPredicate.eq (BitVec.ofNat 32 n) 0#32 = if n = 0 then 1#1 else 0#1 := by decide +kernel
  rw [e n h]
  by_cases h0 : n = 0
  · rw [if_pos h0, if_pos h0]; rfl
  · rw [if_neg h0, if_neg h0]; rfl

/-- The value block's rows, at a real block. -/
theorem vext_apply (v : Vec Ideal S1x128x512 .bf16) (f : Fin 128 → Fin 512 → ℝ)
    (hf : ∀ e i, v (ix3 0 e i) = (f e i : EReal)) (r : Fin 144) (j : Fin 512) :
    vext v (ix2 r j) = (withOnes (fun e => f e j) r : EReal) := by
  pointwise [k1_pay12]
  unfold withOnes
  by_cases h : (r : ℕ) < 128
  · rw [dif_pos h, dif_pos h, hf]
  · rw [dif_neg h, dif_neg h, one_row _ (by omega)]
    congr 1
    by_cases h2 : (r : ℕ) = 128
    · rw [if_pos h2, if_pos (by omega)]
    · rw [if_neg h2, if_neg (by omega)]

/-- A block's scores, at an entry. -/
theorem score_apply (q : FVec Ideal S512x128 .bf16) (k : Vec Ideal S512x128 .bf16) (b : Vec Ideal S1x1x512x512 .f32)
    (i j : Fin 512) : score q k b (ix2 i j) = ∑ x : Fin 128, k (ix2 i x) * q (ix2 j x) + b (ix4 0 0 i j) := by
  pointwise [k1_pay2]

/-- The meta block's scores, at an entry. -/
theorem mscore_apply (q : FVec Ideal S512x128 .bf16) (k : Vec Ideal S16x128 .bf16) (b : Vec Ideal S1x16x512 .f32)
    (i : Fin 16) (j : Fin 512) : mscore q k b (ix2 i j) = ∑ x : Fin 128, k (ix2 i x) * q (ix2 j x) + b (ix3 0 i j) := by
  pointwise [k1_pay87]

/-- The first half of a head pair. -/
theorem half0_apply (q : Vec Ideal S512x128 .bf16) (r : Fin 512) (x : Fin 128) :
    half0 q (ix2 r x) = if (x : ℕ) < 64 then q (ix2 r x) else 0 := by
  pointwise [k1_pay63, k1_pay62]
  have h : IntOp.andi (IntOp.cmpi CmpIPredicate.sge (BitVec.ofNat 32 ↑x) 0#32)
        (IntOp.cmpi CmpIPredicate.slt (BitVec.ofNat 32 ↑x) 64#32) = if (x : ℕ) < 64 then 1#1 else 0#1 := by
    revert x; decide +kernel
  rw [h]
  by_cases hx : (x : ℕ) < 64
  · rw [if_pos hx, if_pos hx]; rfl
  · rw [if_neg hx, if_neg hx]; rfl

/-- The second half of a head pair. -/
theorem half1_apply (q : Vec Ideal S512x128 .bf16) (r : Fin 512) (x : Fin 128) :
    half1 q (ix2 r x) = if (x : ℕ) < 64 then 0 else q (ix2 r x) := by
  pointwise [k1_pay64, k1_pay62]
  have h : IntOp.andi (IntOp.cmpi CmpIPredicate.sge (BitVec.ofNat 32 ↑x) 64#32)
        (IntOp.cmpi CmpIPredicate.slt (BitVec.ofNat 32 ↑x) 128#32) = if (x : ℕ) < 64 then 0#1 else 1#1 := by
    revert x; decide +kernel
  rw [h]
  by_cases hx : (x : ℕ) < 64
  · rw [if_pos hx, if_pos hx]; rfl
  · rw [if_neg hx, if_neg hx]; rfl

/-- The maximum over the meta block, at a query. -/
theorem metaM_apply (s : FVec Ideal S16x512 .bf16) (j : Fin 512) :
    metaM s (ix2 0 j) = Finset.univ.fold max ⊥ fun i : Fin 16 => s (ix2 i j) := by
  pointwise [k1_pay89, k1_pay88]
  rw [ninf_bf16, ninf_f32, max_eq_right bot_le]

/-- The sums over the meta block, at an entry. -/
theorem metaA_apply (s : FVec Ideal S16x512 .bf16) (v : Vec Ideal S1x128x16 .bf16) (f : Fin 128 → Fin 16 → ℝ)
    (hf : ∀ e i, v (ix3 0 e i) = (f e i : EReal)) (r : Fin 144) (j : Fin 512) (M : EReal) (hM : metaM s (ix2 0 j) = M) :
    metaA s v (ix2 r j) = ∑ i : Fin 16, (withOnes (fun e => f e i) r : EReal) * Ideal.exp (s (ix2 i j) - M) := by
  have hM' : k1_pay89 s (ix2 0 j) = M := hM
  pointwise [k1_pay90, k1_pay88, hM']
  rw [mul_zero, zero_add]
  refine Finset.sum_congr rfl fun i _ => ?_
  congr 1
  unfold withOnes
  by_cases h : (r : ℕ) < 128
  · rw [dif_pos h, dif_pos h, hf]
  · rw [dif_neg h, dif_neg h, one_row _ (by omega)]
    congr 1
    by_cases h2 : (r : ℕ) = 128
    · rw [if_pos h2, if_pos (by omega)]
    · rw [if_neg h2, if_neg (by omega)]

/-- The meta keys: the running sum they start, when every score is real. -/
theorem meta_ok (s : FVec Ideal S16x512 .bf16) (v : Vec Ideal S1x128x16 .bf16) (f : Fin 128 → Fin 16 → ℝ)
    (hf : ∀ e i, v (ix3 0 e i) = (f e i : EReal)) (j : Fin 512) (z : Fin 16 → ℝ) (hz : ∀ i, s (ix2 i j) = (z i : EReal)) :
    ∃ μ : ℝ, metaM s (ix2 0 j) = (μ : EReal) ∧
      ∀ r, metaA s v (ix2 r j) =
        ((Real.exp (-μ) * ∑ i : Fin 16, wt (s (ix2 i j)) * withOnes (fun e => f e i) r : ℝ) : EReal) := by
  have hs : ∀ i : Fin 16, s (ix2 i j) ≠ ⊤ := fun i => by rw [hz]; exact EReal.coe_ne_top _
  obtain ⟨μ, hμ⟩ : ∃ μ : ℝ, metaM s (ix2 0 j) = (μ : EReal) := by
    rw [metaM_apply]
    have h1 := fold_max_ne_top Finset.univ (fun i : Fin 16 => s (ix2 i j)) hs
    have h2 : (z 0 : EReal) ≤ Finset.fold max ⊥ (fun i : Fin 16 => s (ix2 i j)) Finset.univ := by
      rw [Finset.le_fold_max]
      exact Or.inr ⟨0, Finset.mem_univ _, (hz 0).ge⟩
    exact real_of_ge _ _ h2 h1
  refine ⟨μ, hμ, fun r => ?_⟩
  rw [metaA_apply s v f hf r j _ hμ]
  simp only [exp_sub _ (hs _), ← EReal.coe_mul, ← coe_sum]
  congr 1
  rw [Finset.mul_sum]
  exact Finset.sum_congr rfl fun i _ => by ring

/-- Everything a chain does: from the meta keys through `n` blocks. -/
theorem whole_ok (ms : FVec Ideal S16x512 .bf16) (mv : Vec Ideal S1x128x16 .bf16) (f : Fin 128 → Fin 16 → ℝ)
    (hf : ∀ e i, mv (ix3 0 e i) = (f e i : EReal)) (j : Fin 512) (z : Fin 16 → ℝ) (hz : ∀ i, ms (ix2 i j) = (z i : EReal))
    (sc : ℕ → FVec Ideal S512x512 .bf16) (vx : ℕ → FVec Ideal S144x512 .bf16) (V : ℕ → Fin 128 → Fin 512 → ℝ) (n : ℕ)
    (hs : ∀ d < n, ∀ i : Fin 512, sc d (ix2 i j) ≠ ⊤)
    (hv : ∀ d < n, ∀ r i, vx d (ix2 r i) = (withOnes (fun e => V d e i) r : EReal)) :
    ∃ E : ℝ, 0 < E ∧ ∀ r, (chain sc vx (metaM ms) (metaA ms mv) n).2 (ix2 r j) =
      ((E * (∑ i : Fin 16, wt (ms (ix2 i j)) * withOnes (fun e => f e i) r +
        ∑ d ∈ Finset.range n, ∑ i : Fin 512, wt (sc d (ix2 i j)) * withOnes (fun e => V d e i) r) : ℝ) : EReal) := by
  obtain ⟨μ, h1, h2⟩ := meta_ok ms mv f hf j z hz
  obtain ⟨μ', _, h4⟩ := chain_ok sc vx _ _ j μ _ (fun d r i => withOnes (fun e => V d e i) r) h1 h2 n hs hv
  exact ⟨Real.exp (-μ'), Real.exp_pos _, h4⟩

/-- A quotient of reals by a real that isn't zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The tail both sides end in: one entry of the normalized head from the head's attention output. -/
def tail (o : Fin 128 → EReal) (g : EReal) (e : Fin 128) : EReal :=
  o e * Ideal.rsqrt (Ideal.div (∑ x : Fin 128, o x * o x) (Ideal.ofBits FTy.f32 1124073472#32) +
    Ideal.ofBits FTy.f32 925353388#32) * g * Ideal.ofBits FTy.f32 1061997773#32

/-- A head's output, at an entry. -/
theorem headOut_apply (a1 a2 : FVec Ideal S144x512 .f32) (lam : FVec Ideal S1x1 .f32) (g : Vec Ideal S128x1 .f32)
    (e : Fin 128) (j : Fin 512) :
    headOut a1 a2 lam g (ix2 j e) =
      tail (fun x => Ideal.div (a1 (ix2 ⟨x, by omega⟩ j)) (a1 (ix2 128 j)) -
        lam (ix2 0 0) * Ideal.div (a2 (ix2 ⟨x, by omega⟩ j)) (a2 (ix2 128 j))) (g (ix2 e 0)) e := by
  pointwise [k1_pay149, k1_pay150]
  rfl

/-- The kernel's factor. -/
theorem lam_apply (a b c d : Vec Ideal S1x64 .f32) : k1_pay147 a b c d (ix2 0 0) =
    Ideal.exp (∑ x : Fin 64, a (ix2 0 x) * b (ix2 0 x)) - Ideal.exp (∑ x : Fin 64, c (ix2 0 x) * d (ix2 0 x)) +
      Ideal.ofBits FTy.f32 1045220557#32 := by
  pointwise [k1_pay147]

end Cert.DiffAttn
-- ==== Proof.Spec.lean ====
/- The mathematics both programs compute, over the reals: the positions' chunks and buckets, the scores, and one head's
   difference of two weighted means. -/
module

public import proofs.«01_k».proof.Proof.Softmax

@[expose] public section

set_option maxRecDepth 16384

noncomputable section

namespace Cert.DiffAttn

open Idealize.ShloMosaic

/-- The chunk of a position: the meta positions are chunk zero, then 64 positions each. -/
def chunkNo (p : ℕ) : ℕ := if p < 16 then 0 else 1 + (p - 16) / 64

/-- The bucket of a distance. -/
def distBucket (n : ℕ) : ℕ :=
  if n < 8 then n else
    8 + (if 128 ≤ n * n then 1 else 0) + (if 256 ≤ n * n then 1 else 0) + (if 512 ≤ n * n then 1 else 0)
      + (if 1024 ≤ n * n then 1 else 0) + (if 2048 ≤ n * n then 1 else 0) + (if 4096 ≤ n * n then 1 else 0)
      + (if 8192 ≤ n * n then 1 else 0)

/-- The bucket of a key position as seen from a query position. -/
def bucketNo (q p : ℕ) : ℕ := if q < p then 16 + distBucket (p - q) else distBucket (q - p)

/-- A distance has one of 16 buckets. -/
theorem distBucket_lt (n : ℕ) : distBucket n < 16 := by
  unfold distBucket; split_ifs <;> omega

/-- There are 32 buckets. -/
theorem bucketNo_lt (q p : ℕ) : bucketNo q p < 32 := by
  have h1 := distBucket_lt (p - q); have h2 := distBucket_lt (q - p)
  unfold bucketNo; split_ifs <;> omega

/-- Far away every distance falls into the last bucket. -/
theorem distBucket_far (n : ℕ) (h : 91 ≤ n) : distBucket n = 15 := by
  have h2 : 91 * 91 ≤ n * n := Nat.mul_le_mul h h
  unfold distBucket
  rw [if_neg (by omega)]
  simp only [if_pos (show 128 ≤ n * n by omega), if_pos (show 256 ≤ n * n by omega), if_pos (show 512 ≤ n * n by omega),
    if_pos (show 1024 ≤ n * n by omega), if_pos (show 2048 ≤ n * n by omega), if_pos (show 4096 ≤ n * n by omega),
    if_pos (show 8192 ≤ n * n by omega)]

/-- The bucket depends on the two positions by their difference only. -/
theorem bucketNo_shift (q p c : ℕ) : bucketNo (q + c) (p + c) = bucketNo q p := by
  unfold bucketNo
  rw [Nat.add_sub_add_right, Nat.add_sub_add_right]
  simp only [Nat.add_lt_add_iff_right]

/-- The real inputs of one device. -/
structure Inputs where
  /-- the tokens' projections -/
  proj : Fin 32 → Fin 2048 → Fin 3072 → ℝ
  /-- the meta tokens' projections -/
  mproj : Fin 16 → Fin 3072 → ℝ
  /-- the relative-position table -/
  table : Fin 32 → Fin 4 → ℝ
  /-- the factor of the second attention -/
  lam : ℝ

/-- The projections of a sequence with the meta tokens before it. -/
def Inputs.full (A : Inputs) (b : Fin 32) (p : Fin 2064) (c : Fin 3072) : ℝ :=
  if h : (p : ℕ) < 16 then A.mproj ⟨p, h⟩ c else A.proj b ⟨p - 16, by omega⟩ c

/-- The score of a key for a query, in one half of one head, and −∞ where the key is not visible. -/
def Inputs.sc (A : Inputs) (b : Fin 32) (h : Fin 4) (s : Fin 2) (q p : Fin 2064) : EReal :=
  if chunkNo p ≤ chunkNo q then
    (((∑ x : Fin 64, A.full b q ⟨1536 + 128 * h + 64 * s + x, by omega⟩ * A.full b p ⟨2048 + 128 * h + 64 * s + x, by omega⟩)
      * (1 / 8) + A.table ⟨bucketNo q p, bucketNo_lt q p⟩ h : ℝ) : EReal)
  else ⊥

/-- The weights' sum of one half of one head. -/
def Inputs.den (A : Inputs) (b : Fin 32) (h : Fin 4) (s : Fin 2) (q : Fin 2064) : ℝ := ∑ p : Fin 2064, wt (A.sc b h s q p)

/-- The weighted sum of the values. -/
def Inputs.num (A : Inputs) (b : Fin 32) (h : Fin 4) (s : Fin 2) (q : Fin 2064) (e : Fin 128) : ℝ :=
  ∑ p : Fin 2064, wt (A.sc b h s q p) * A.full b p ⟨2560 + 128 * h + e, by omega⟩

/-- One entry of one head's attention: the difference of the two weighted means. -/
def Inputs.att (A : Inputs) (b : Fin 32) (h : Fin 4) (q : Fin 2064) (e : Fin 128) : ℝ :=
  A.num b h 0 q e / A.den b h 0 q - A.lam * (A.num b h 1 q e / A.den b h 1 q)

/-- No score is plus infinity. -/
theorem Inputs.sc_ne_top (A : Inputs) (b : Fin 32) (h : Fin 4) (s : Fin 2) (q p : Fin 2064) : A.sc b h s q p ≠ ⊤ := by
  unfold Inputs.sc; split_ifs
  · exact EReal.coe_ne_top _
  · exact bot_ne_top

/-- The first meta key is visible from everywhere, so its score is real. -/
theorem Inputs.sc_zero (A : Inputs) (b : Fin 32) (h : Fin 4) (s : Fin 2) (q : Fin 2064) :
    ∃ z : ℝ, A.sc b h s q 0 = (z : EReal) := by
  unfold Inputs.sc
  rw [if_pos (by show chunkNo 0 ≤ _; exact Nat.zero_le _)]
  exact ⟨_, rfl⟩

/-- The softmax's denominator is positive. -/
theorem Inputs.den_pos (A : Inputs) (b : Fin 32) (h : Fin 4) (s : Fin 2) (q : Fin 2064) : 0 < A.den b h s q := by
  obtain ⟨z, hz⟩ := A.sc_zero b h s q
  refine Finset.sum_pos' (fun p _ => wt_nonneg _) ⟨0, Finset.mem_univ _, ?_⟩
  rw [hz, wt_coe]
  exact Real.exp_pos z

end Cert.DiffAttn
-- ==== Proof.BiasVals.lean ====
/- The bias kernel's tiles, entry by entry. -/
module

public import proofs.«01_k».proof.Proof.BiasTiles
public import proofs.«01_k».proof.Proof.Spec

@[expose] public section

set_option maxRecDepth 65536

noncomputable section

namespace Cert.DiffAttn

open Idealize.ShloMosaic Idealize.ShloMosaic.TcCoe Idealize.SL.Sem Cert.KernelIdeal Cert.KernelIdeal.Gen

/-- The bucket of one relative position. -/
def bucketS (r : BitVec 32) : BitVec 32 := bucketOf (s := ⟨0, ![]⟩) (fun _ => r) (fun a => a.elim0)
/-- The chunk of one position. -/
def chunkS (r : BitVec 32) : BitVec 32 := chunkOf (s := ⟨0, ![]⟩) (fun _ => r) (fun a => a.elim0)

/-- The bucket words of an array, at an entry. -/
theorem bucketOf_at {s : Shape} (x : IVec s 32) (i : s.Idx) : bucketOf x i = bucketS (x i) := rfl
/-- The chunk words of an array, at an entry. -/
theorem chunkOf_at {s : Shape} (x : IVec s 32) (i : s.Idx) : chunkOf x i = chunkS (x i) := rfl

/-- The bucket word of a key at or after the query. -/
theorem bucketS_pos : ∀ n : ℕ, n < 2100 → bucketS (BitVec.ofNat 32 n) = BitVec.ofNat 32 (bucketNo 0 n) := by decide +kernel
/-- The bucket word of a key before the query. -/
theorem bucketS_neg : ∀ n : ℕ, n < 2100 → bucketS (-BitVec.ofNat 32 n) = BitVec.ofNat 32 (bucketNo n 0) := by decide +kernel

/-- The bucket of a key position less a query position. -/
theorem bucketS_sub (q p : ℕ) (hq : q < 2100) (hp : p < 2100) :
    bucketS (BitVec.ofNat 32 p - BitVec.ofNat 32 q) = BitVec.ofNat 32 (bucketNo q p) := by
  rcases le_total q p with h | h
  · obtain ⟨n, rfl⟩ := Nat.exists_eq_add_of_le' h
    have e := bucketNo_shift 0 n q
    rw [Nat.zero_add] at e
    rw [e, ← bucketS_pos n (by omega), BitVec.ofNat_add, BitVec.add_sub_cancel]
  · obtain ⟨n, rfl⟩ := Nat.exists_eq_add_of_le' h
    have e := bucketNo_shift n 0 p
    rw [Nat.zero_add] at e
    rw [e, ← bucketS_neg n (by omega), BitVec.ofNat_add]
    congr 1
    bv_omega

/-- The table's value at an entry whose bucket is `b`. -/
theorem lookup_at {s : Shape} (bk : IVec s 32) (rb : ℕ → EReal) (i : s.Idx) (b : ℕ) (hb : bk i = BitVec.ofNat 32 b) :
    ∀ n : ℕ, n ≤ 32 → b < n → lookup (F := Ideal) bk rb n i = rb b
  | 0, _, h => absurd h (Nat.not_lt_zero b)
  | n + 1, hn, h => by
    show Scalar.select (IntOp.cmpi .eq (bk i) (BitVec.ofNat 32 n)) (rb n) (lookup (F := Ideal) bk rb n i) = rb b
    rw [hb]
    have e : ∀ b < 33, ∀ n < 33, IntOp.cmpi .eq (BitVec.ofNat 32 b) (BitVec.ofNat 32 n) = if b = n then 1#1 else 0#1 := by
      decide +kernel
    rw [e b (by omega) n (by omega)]
    by_cases hbn : b = n
    · rw [if_pos hbn, hbn]; rfl
    · rw [if_neg hbn]
      exact lookup_at bk rb i b hb n (by omega) (by omega)

/-- The chunk word of a key on the diagonal tile. -/
theorem chunkS_key0 : ∀ n : ℕ, n < 512 → chunkS (0#32 + BitVec.ofNat 32 n) = BitVec.ofNat 32 (n / 64) := by decide +kernel
/-- The chunk word of a key one tile back. -/
theorem chunkS_key1 : ∀ n : ℕ, n < 512 →
    chunkS (4294966784#32 + BitVec.ofNat 32 n) = BitVec.ofNat 32 (n / 64) - 8#32 := by decide +kernel
/-- The chunk word of a key two tiles back. -/
theorem chunkS_key2 : ∀ n : ℕ, n < 512 →
    chunkS (4294966272#32 + BitVec.ofNat 32 n) = BitVec.ofNat 32 (n / 64) - 16#32 := by decide +kernel
/-- The chunk word of a query. -/
theorem chunkS_query : ∀ n : ℕ, n < 512 → chunkS (BitVec.ofNat 32 n) = BitVec.ofNat 32 (n / 64) := by decide +kernel

/-- Which chunks see which on the diagonal tile. -/
theorem vis0 : ∀ a : ℕ, a < 8 → ∀ b : ℕ, b < 8 →
    IntOp.cmpi .sle (BitVec.ofNat 32 a) (BitVec.ofNat 32 b) = if a ≤ b then 1#1 else 0#1 := by decide +kernel
/-- One tile back every chunk is seen. -/
theorem vis1 : ∀ a : ℕ, a < 8 → ∀ b : ℕ, b < 8 →
    IntOp.cmpi .sle (BitVec.ofNat 32 a - 8#32) (BitVec.ofNat 32 b) = 1#1 := by decide +kernel
/-- Two tiles back every chunk is seen. -/
theorem vis2 : ∀ a : ℕ, a < 8 → ∀ b : ℕ, b < 8 →
    IntOp.cmpi .sle (BitVec.ofNat 32 a - 16#32) (BitVec.ofNat 32 b) = 1#1 := by decide +kernel

/-- A difference of words, reordered. -/
theorem bv_move (c x y : BitVec 32) : -c + x - y = x - (y + c) := by bv_omega

/-- The key position at an entry of a tile. -/
theorem keyAt_at (off : BitVec 32) (i j : Fin 512) : keyAt off (ix2 i j) = off + BitVec.ofNat 32 i := by
  pointwise [keyAt]
  rfl
/-- The query position at an entry of a tile. -/
theorem queryAt_at (i j : Fin 512) : queryAt (ix2 i j) = BitVec.ofNat 32 j := by
  pointwise [queryAt]
/-- The relative position to a meta token, at an entry. -/
theorem metaRel_at (i : Fin 16) (j : Fin 2048) :
    metaRel (ix2 i j) = BitVec.ofNat 32 i - (BitVec.ofNat 32 j + 16#32) := by
  pointwise [metaRel]
  rfl

/-- A tile at an entry, as a choice between the table's value and −∞. -/
theorem tileFlat_at (off : BitVec 32) (rb : ℕ → EReal) (i j : Fin 512) :
    tileFlat (F := Ideal) off rb (ix2 i j) =
      Scalar.select (IntOp.cmpi .sle (chunkS (off + BitVec.ofNat 32 i)) (chunkS (BitVec.ofNat 32 j)))
        (lookup (F := Ideal) (bucketOf (subi (keyAt off) queryAt)) rb 32 (ix2 i j)) ⊥ := by
  rw [← keyAt_at off i j, ← queryAt_at i j]
  rfl

/-- The bucket of a tile's relative position, at an entry. -/
theorem rel_at (off : BitVec 32) (i j : Fin 512) : bucketOf (subi (keyAt off) queryAt) (ix2 i j) =
    bucketS (off + BitVec.ofNat 32 i - BitVec.ofNat 32 j) := by
  rw [← keyAt_at off i j, ← queryAt_at i j]
  rfl

/-- A bias tile, at an entry. -/
theorem tile_at (off : BitVec 32) (rb : ℕ → EReal) (i j : Fin 512) :
    tile (F := Ideal) off rb (ix4 0 0 i j) = tileFlat (F := Ideal) off rb (ix2 i j) := by
  pointwise [tile]

/-- The tile of a block of keys against its own block of queries. -/
theorem tile0_at (rb : ℕ → EReal) (i j : Fin 512) : tile (F := Ideal) 0#32 rb (ix4 0 0 i j) =
    if (i : ℕ) / 64 ≤ (j : ℕ) / 64 then rb (bucketNo j i) else ⊥ := by
  rw [tile_at, tileFlat_at, chunkS_key0 i i.2, chunkS_query j j.2, vis0 _ (by omega) _ (by omega),
    lookup_at _ rb _ (bucketNo j i) (by
      rw [rel_at, BitVec.zero_add, bucketS_sub _ _ (by omega) (by omega)]) 32 le_rfl (bucketNo_lt _ _)]
  split_ifs <;> rfl

/-- The tile of the block of keys before. -/
theorem tile1_at (rb : ℕ → EReal) (i j : Fin 512) : tile (F := Ideal) 4294966784#32 rb (ix4 0 0 i j) =
    rb (bucketNo (j + 512) i) := by
  rw [tile_at, tileFlat_at, chunkS_key1 i i.2, chunkS_query j j.2, vis1 _ (by omega) _ (by omega),
    lookup_at _ rb _ (bucketNo (j + 512) i) (by
      rw [rel_at, ← bucketS_sub _ _ (by omega) (by omega), BitVec.ofNat_add]
      congr 1
      rw [show (4294966784#32 : BitVec 32) = -BitVec.ofNat 32 512 from rfl]; exact bv_move _ _ _) 32 le_rfl (bucketNo_lt _ _)]
  rfl

/-- The tile of the block of keys two before. -/
theorem tile2_at (rb : ℕ → EReal) (i j : Fin 512) : tile (F := Ideal) 4294966272#32 rb (ix4 0 0 i j) =
    rb (bucketNo (j + 1024) i) := by
  rw [tile_at, tileFlat_at, chunkS_key2 i i.2, chunkS_query j j.2, vis2 _ (by omega) _ (by omega),
    lookup_at _ rb _ (bucketNo (j + 1024) i) (by
      rw [rel_at, ← bucketS_sub _ _ (by omega) (by omega), BitVec.ofNat_add]
      congr 1
      rw [show (4294966272#32 : BitVec 32) = -BitVec.ofNat 32 1024 from rfl]; exact bv_move _ _ _) 32 le_rfl (bucketNo_lt _ _)]
  rfl

/-- The biases of the meta keys. -/
theorem metaTile_at (rb : ℕ → EReal) (i : Fin 16) (j : Fin 2048) : metaTile (F := Ideal) rb (ix3 0 i j) =
    rb (bucketNo (j + 16) i) := by
  have e : metaTile (F := Ideal) rb (ix3 0 i j) = lookup (F := Ideal) (bucketOf metaRel) rb 32 (ix2 i j) := by
    pointwise [metaTile]
  rw [e]
  refine lookup_at _ rb _ _ ?_ 32 le_rfl (bucketNo_lt _ _)
  rw [← bucketS_sub _ _ (by omega) (by omega), BitVec.ofNat_add, bucketOf_at, metaRel_at]

end Cert.DiffAttn
-- ==== Proof.BiasArr.lean ====
/- The bias kernel's two result arrays, entry by entry. -/
module

public import proofs.«01_k».proof.Proof.BiasVals
public import Idealize.ShloMosaic.Lib.Pipeline.ValueKit
public import Idealize.ShloMosaic.Lib.VecWindow

@[expose] public section

set_option maxRecDepth 65536

noncomputable section

namespace Cert.DiffAttn

open Idealize.ShloMosaic Idealize.ShloMosaic.Pipeline Idealize.ShloMosaic.TcCoe Idealize.SL.Sem Cert.KernelIdeal Cert.KernelIdeal.Gen

/-- A load of a part of a whole buffer, at an index: the buffer at the part's offset. -/
theorem readAt_at {sp : Space} {s : Shape} {e : EltTy} (arg : Memref sig .tc sp s e) (harg : arg.IsWhole)
    (x : s.Idx → Elt Ideal e) {off size : Fin s.rank → ℕ} (inb : ∀ a, off a + size a ≤ s.size a)
    (y : (Rect.unit (s := s) off size inb).shape.Idx) (z : s.Idx) (hz : ∀ a, (z a : ℕ) = off a + (y a : ℕ)) :
    View.readAt (Elt Ideal) arg.view (Rect.unit (s := s) off size inb).toLoadRect (harg.unread x) y = x z := by
  rw [View.readAt_unit arg.view _ inb rfl inb, harg.read_unread]
  refine congrArg x (funext fun a => Fin.ext ?_)
  rw [hz a]
  first | rfl | (show off a + 1 * (y a : ℕ) = _; rw [one_mul])

variable (V : (c : Dev nD) → (b : Ref sig .tc) → Buf (Elt Ideal) ((c : Thread nD τ).loc b)) (c : Dev nD)

/-- The table's column of one head, by bucket. -/
def column (T : S32x4.Idx → EReal) (h : Fin 4) (n : ℕ) : EReal := if hn : n < 32 then T (ix2 ⟨n, hn⟩ h) else 0

/-- The bias call's grid coordinate is its step. -/
theorem offs0 : ∀ t : Fin cfg0.N, ((grid0.coords t) 0 : ℕ) = t.val := (by decide +kernel : ∀ t : Fin grid0.N, _)

/-- Where the window's block lies at a step. -/
theorem idx0_0 : ∀ t : Fin cfg0.N, win0_0.index t = ![0, 0] := (by decide +kernel : ∀ t : Fin grid0.N, _)
/-- Where the window's block lies at a step. -/
theorem idx0_1 : ∀ t : Fin cfg0.N, win0_1.index t = ![t.val, 0, 0, 0] := (by decide +kernel : ∀ t : Fin grid0.N, _)
/-- Where the window's block lies at a step. -/
theorem idx0_2 : ∀ t : Fin cfg0.N, win0_2.index t = ![t.val, 0, 0] := (by decide +kernel : ∀ t : Fin grid0.N, _)

/-- The block of the table a point reads is the whole table. -/
theorem table_blk (t : Fin cfg0.N) (i : Fin 32) (h : Fin 4) : iblk0 V c 0 t (ix2 i h) = V c main_arg2 (ix2 i h) := by
  blk_simp [iblk0]
  blk_ext [idx0_0 t]

/-- The call's number of grid steps. -/
theorem N0 : cfg0.N = 4 := by decide +kernel

/-- The entry of the table the kernel reads for bucket `n`. -/
theorem entryAt_at (t : Fin cfg0.N) (h : Fin 4) (hh : (h : ℕ) = t.val) (n : ℕ) (hn : n < 32) :
    entryAt (F := Ideal) (grid0.coords t) (ms0_0 t) (hs0_0 t) (iblk0 V c 0 t) n = column (V c main_arg2) h n := by
  unfold column
  rw [dif_pos hn, ← table_blk V c t ⟨n, hn⟩ h]
  have ht := offs0 t
  have h4 : t.val < 4 := lt_of_lt_of_eq t.isLt N0
  interval_cases n <;>
  · unfold entryAt
    refine readAt_at _ _ _ _ _ _ fun a => ?_
    match a with
    | ⟨0, _⟩ => rfl
    | ⟨1, _⟩ =>
      show (h : ℕ) = (BitVec.ofNat 32 ((grid0.coords t) 0).val).toNat + 0
      rw [ht, hh]
      simp only [BitVec.toNat_ofNat]
      omega

/-- Entry of one bias tile: the table's entry for the key's and query's positions, −∞ where the key is not visible. -/
def tileVal (T : S32x4.Idx → EReal) (h : Fin 4) (d : ℕ) (i j : ℕ) : EReal :=
  if d = 0 ∧ ¬ i / 64 ≤ j / 64 then ⊥ else column T h (bucketNo (j + 512 * d) i)

/-- What the bias kernel leaves in a head's block of tiles. -/
theorem tiles_blk (t : Fin cfg0.N) (h : Fin 4) (hh : (h : ℕ) = t.val) (y : S1x3x512x512.Idx) :
    (outsAt0 V c t).1 y = tileVal (V c main_arg2) h (y 1) (y 2) (y 3) := by
  have hcol := fun n hn => entryAt_at V c t h hh n hn
  have hc := cover0_A_1 (F := Ideal) c (grid0.coords t) (ms0_0 t) (hs0_0 t) (ms0_1 t) (hs0_1 t) (ms0_2 t) (hs0_2 t) (iblk0 V c 0 t) y
  unfold outsAt0
  dsimp only
  unfold out0_A_1
  rw [View.read_writes_junk_eq_canon]
  refine View.canon_apply_of_pieces (fun y => tileVal (V c main_arg2) h (y 1) (y 2) (y 3)) _ ?_ y hc
  rw [tiles_eq]
  intro p hp x
  simp only [List.mem_cons, List.not_mem_nil, or_false] at hp
  rcases hp with rfl | rfl | rfl
  · have hx : x = ix4 (0 : Fin 1) (0 : Fin 1) (⟨x 2, (x 2).isLt⟩ : Fin 512) (⟨x 3, (x 3).isLt⟩ : Fin 512) := by
      funext a; match a with | ⟨0, _⟩ => exact Subsingleton.elim (α := Fin 1) _ _ | ⟨1, _⟩ => exact Subsingleton.elim (α := Fin 1) _ _ | ⟨2, _⟩ => rfl | ⟨3, _⟩ => rfl
    have e2 : (((Rect.unit (s := S1x3x512x512) ![0, 2, 0, 0] S1x1x512x512.size inb_S1x3x512x512_S1x1x512x512_0_2_0_0).emb x) 2 : ℕ) = x 2 := by
      show 0 + 1 * (x 2 : ℕ) = _; omega
    have e3 : (((Rect.unit (s := S1x3x512x512) ![0, 2, 0, 0] S1x1x512x512.size inb_S1x3x512x512_S1x1x512x512_0_2_0_0).emb x) 3 : ℕ) = x 3 := by
      show 0 + 1 * (x 3 : ℕ) = _; omega
    have e1 : (((Rect.unit (s := S1x3x512x512) ![0, 2, 0, 0] S1x1x512x512.size inb_S1x3x512x512_S1x1x512x512_0_2_0_0).emb x) 1 : ℕ) = 2 := by
      have hx1 : (x 1 : ℕ) < 1 := (x 1).isLt
      show 2 + 1 * (x 1 : ℕ) = _; omega
    unfold tileVal
    rw [e1, e2, e3, if_neg (by omega)]
    refine (congrArg (tile (F := Ideal) 4294966272#32 _) hx).trans ?_
    exact (tile2_at _ _ _).trans (hcol _ (bucketNo_lt _ _))
  · have hx : x = ix4 (0 : Fin 1) (0 : Fin 1) (⟨x 2, (x 2).isLt⟩ : Fin 512) (⟨x 3, (x 3).isLt⟩ : Fin 512) := by
      funext a; match a with | ⟨0, _⟩ => exact Subsingleton.elim (α := Fin 1) _ _ | ⟨1, _⟩ => exact Subsingleton.elim (α := Fin 1) _ _ | ⟨2, _⟩ => rfl | ⟨3, _⟩ => rfl
    have e2 : (((Rect.unit (s := S1x3x512x512) ![0, 1, 0, 0] S1x1x512x512.size inb_S1x3x512x512_S1x1x512x512_0_1_0_0).emb x) 2 : ℕ) = x 2 := by
      show 0 + 1 * (x 2 : ℕ) = _; omega
    have e3 : (((Rect.unit (s := S1x3x512x512) ![0, 1, 0, 0] S1x1x512x512.size inb_S1x3x512x512_S1x1x512x512_0_1_0_0).emb x) 3 : ℕ) = x 3 := by
      show 0 + 1 * (x 3 : ℕ) = _; omega
    have e1 : (((Rect.unit (s := S1x3x512x512) ![0, 1, 0, 0] S1x1x512x512.size inb_S1x3x512x512_S1x1x512x512_0_1_0_0).emb x) 1 : ℕ) = 1 := by
      have hx1 : (x 1 : ℕ) < 1 := (x 1).isLt
      show 1 + 1 * (x 1 : ℕ) = _; omega
    unfold tileVal
    rw [e1, e2, e3, if_neg (by omega)]
    refine (congrArg (tile (F := Ideal) 4294966784#32 _) hx).trans ?_
    exact (tile1_at _ _ _).trans (hcol _ (bucketNo_lt _ _))
  · have hx : x = ix4 (0 : Fin 1) (0 : Fin 1) (⟨x 2, (x 2).isLt⟩ : Fin 512) (⟨x 3, (x 3).isLt⟩ : Fin 512) := by
      funext a; match a with | ⟨0, _⟩ => exact Subsingleton.elim (α := Fin 1) _ _ | ⟨1, _⟩ => exact Subsingleton.elim (α := Fin 1) _ _ | ⟨2, _⟩ => rfl | ⟨3, _⟩ => rfl
    have e2 : (((Rect.unit (s := S1x3x512x512) ![0, 0, 0, 0] S1x1x512x512.size inb_S1x3x512x512_S1x1x512x512_0_0_0_0).emb x) 2 : ℕ) = x 2 := by
      show 0 + 1 * (x 2 : ℕ) = _; omega
    have e3 : (((Rect.unit (s := S1x3x512x512) ![0, 0, 0, 0] S1x1x512x512.size inb_S1x3x512x512_S1x1x512x512_0_0_0_0).emb x) 3 : ℕ) = x 3 := by
      show 0 + 1 * (x 3 : ℕ) = _; omega
    have e1 : (((Rect.unit (s := S1x3x512x512) ![0, 0, 0, 0] S1x1x512x512.size inb_S1x3x512x512_S1x1x512x512_0_0_0_0).emb x) 1 : ℕ) = 0 := by
      have hx1 : (x 1 : ℕ) < 1 := (x 1).isLt
      show 0 + 1 * (x 1 : ℕ) = _; omega
    unfold tileVal
    rw [e1, e2, e3]
    refine (congrArg (tile (F := Ideal) 0#32 _) hx).trans ?_
    refine (tile0_at _ _ _).trans ?_
    by_cases hv : (x 2 : ℕ) / 64 ≤ (x 3 : ℕ) / 64
    · rw [if_pos hv, if_neg (by tauto)]
      exact hcol _ (bucketNo_lt _ _)
    · rw [if_neg hv, if_pos ⟨rfl, hv⟩]

/-- What the bias kernel leaves in a head's block of meta keys. -/
theorem meta_blk (t : Fin cfg0.N) (h : Fin 4) (hh : (h : ℕ) = t.val) (y : S1x16x2048.Idx) :
    (outsAt0 V c t).2 y = column (V c main_arg2) h (bucketNo (y 2 + 16) (y 1)) := by
  have hcol := fun n hn => entryAt_at V c t h hh n hn
  have hc := cover0_A_2 (F := Ideal) c (grid0.coords t) (ms0_0 t) (hs0_0 t) (ms0_1 t) (hs0_1 t) (ms0_2 t) (hs0_2 t) (iblk0 V c 0 t) y
  unfold outsAt0
  dsimp only
  unfold out0_A_2
  rw [View.read_writes_junk_eq_canon]
  refine View.canon_apply_of_pieces (fun y => column (V c main_arg2) h (bucketNo (y 2 + 16) (y 1))) _ ?_ y hc
  rw [meta_eq]
  intro p hp x
  simp only [List.mem_cons, List.not_mem_nil, or_false] at hp
  subst hp
  have hx : x = ix3 (0 : Fin 1) (⟨x 1, (x 1).isLt⟩ : Fin 16) (⟨x 2, (x 2).isLt⟩ : Fin 2048) := by
    funext a; match a with | ⟨0, _⟩ => exact Subsingleton.elim (α := Fin 1) _ _ | ⟨1, _⟩ => rfl | ⟨2, _⟩ => rfl
  have e1 : (((Rect.unit (s := S1x16x2048) ![0, 0, 0] S1x16x2048.size inb_S1x16x2048_S1x16x2048_0_0_0).emb x) 1 : ℕ) = x 1 := by
    show 0 + 1 * (x 1 : ℕ) = _; omega
  have e2 : (((Rect.unit (s := S1x16x2048) ![0, 0, 0] S1x16x2048.size inb_S1x16x2048_S1x16x2048_0_0_0).emb x) 2 : ℕ) = x 2 := by
    show 0 + 1 * (x 2 : ℕ) = _; omega
  show _ = column (V c main_arg2) h (bucketNo (_ + 16) _)
  rw [e1, e2]
  refine (congrArg (metaTile (F := Ideal) _) hx).trans ?_
  exact (metaTile_at _ _ _).trans (hcol _ (bucketNo_lt _ _))

/-- The bias kernel's array of tiles. -/
theorem tiles_arr : (dat0 V c).arrAt 1 cfg0.N = fun y : S4x3x512x512.Idx => tileVal (V c main_arg2) (y 0) (y 1) (y 2) (y 3) := by
  refine (dat0 V c).arrAt_eq_of_covers 1 _ (by decide +kernel) fun t hf y => ?_
  blk_simp
  rw [after0_1]
  refine (tiles_blk V c t ⟨t.val, lt_of_lt_of_eq t.isLt N0⟩ rfl _).trans ?_
  have h0 : (y 0 : ℕ) < 1 := (y 0).isLt
  congr 1
  · refine Fin.ext ?_
    blk_simp [idx0_1 t]
  all_goals
    blk_simp [idx0_1 t]

/-- The bias kernel's array for the meta keys. -/
theorem meta_arr : (dat0 V c).arrAt 2 cfg0.N = fun y : S4x16x2048.Idx => column (V c main_arg2) (y 0) (bucketNo (y 2 + 16) (y 1)) := by
  refine (dat0 V c).arrAt_eq_of_covers 2 _ (by decide +kernel) fun t hf y => ?_
  blk_simp
  rw [after0_2]
  refine (meta_blk V c t ⟨t.val, lt_of_lt_of_eq t.isLt N0⟩ rfl _).trans ?_
  have h0 : (y 0 : ℕ) < 1 := (y 0).isLt
  congr 1
  · refine Fin.ext ?_
    blk_simp [idx0_2 t]
  congr 1
  all_goals
    blk_simp [idx0_2 t]

end Cert.DiffAttn
-- ==== Proof.HostReads.lean ====
/- What the attention kernel's operands hold, entry by entry, from the arguments. -/
module

public import proofs.«01_k».proof.Proof.BiasArr
public import proofs.«01_k».proof.Proof.IdealRun
public import Idealize.ShloMosaic.Lib.Pointwise

@[expose] public section

set_option maxRecDepth 65536

noncomputable section

namespace Cert.DiffAttn

open Idealize.ShloMosaic Idealize.ShloMosaic.Pipeline Idealize.ShloMosaic.StableHlo Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- An operand the first host stretch writes is still there when the attention kernel starts. -/
theorem kept (r : Ref sig .tc) (h1 : r ∉ hostOps1_W) (h0 : ∀ w, Pipeline.arrRef spec0 w ≠ r) : V3 m ρ c r = V1 m ρ c r :=
  (W3_of m ρ c r h1).trans (W2_of_ne m ρ c r h0)

/-- The queries and keys as the attention kernel gets them. -/
theorem v9_eq : V1 m ρ c main_v9 = (truncf .bf16 (concatenate S65536x1536 1
    [⟨S65536x512, mulf (extractStridedSlice S65536x512 ![0, 0] (shapeCast S65536x3072 (m ((c : Thread nD τ).loc main_arg0)) shapeCasts_S32x2048x3072_S65536x3072 : FVec Ideal S65536x3072 .f32) slices_S65536x3072_S65536x512_0_0) (broadcastInDim S65536x512 ![] bcast_S_S65536x512 (constant S_ .f32 0x3E000000#32 : FVec Ideal S_ .f32) : FVec Ideal S65536x512 .f32)⟩,
     ⟨S65536x512, mulf (extractStridedSlice S65536x512 ![0, 1536] (shapeCast S65536x3072 (m ((c : Thread nD τ).loc main_arg0)) shapeCasts_S32x2048x3072_S65536x3072 : FVec Ideal S65536x3072 .f32) slices_S65536x3072_S65536x512_0_1536) (broadcastInDim S65536x512 ![] bcast_S_S65536x512 (constant S_ .f32 0x3E000000#32 : FVec Ideal S_ .f32) : FVec Ideal S65536x512 .f32)⟩,
     ⟨S65536x512, extractStridedSlice S65536x512 ![0, 2048] (shapeCast S65536x3072 (m ((c : Thread nD τ).loc main_arg0)) shapeCasts_S32x2048x3072_S65536x3072 : FVec Ideal S65536x3072 .f32) slices_S65536x3072_S65536x512_0_2048⟩]
    concatenates_S65536x512_S65536x512_S65536x512_S65536x1536_d1 : FVec Ideal S65536x1536 .f32) bitsLt_bf16_f32 : FVec Ideal S65536x1536 .bf16) := by
  show StableHlo.after hostOps0 (W0 m ρ c) (Proc.devRef .tc main_v9) = _
  after_results
  rfl

/-- The values' tiles are the projections' last columns, transposed by tiles. -/
theorem v13_eq : V1 m ρ c main_v13 = (truncf .bf16 (transpose S128x512x512 [0, 2, 1] (shapeCast S128x512x512
    (extractStridedSlice S65536x512 ![0, 2560] (shapeCast S65536x3072 (m ((c : Thread nD τ).loc main_arg0)) shapeCasts_S32x2048x3072_S65536x3072 : FVec Ideal S65536x3072 .f32) slices_S65536x3072_S65536x512_0_2560 : FVec Ideal S65536x512 .f32)
    shapeCasts_S65536x512_S128x512x512 : FVec Ideal S128x512x512 .f32) transposes_S128x512x512_S128x512x512_0_2_1) bitsLt_bf16_f32 : FVec Ideal S128x512x512 .bf16) := by
  show StableHlo.after hostOps0 (W0 m ρ c) (Proc.devRef .tc main_v13) = _
  after_results
  rfl

/-- The meta projections as the call takes them. -/
theorem v14_eq : V1 m ρ c main_v14 = (truncf .bf16 (m ((c : Thread nD τ).loc main_arg1) : FVec Ideal S16x3072 .f32) bitsLt_bf16_f32 : FVec Ideal S16x3072 .bf16) := by
  show StableHlo.after hostOps0 (W0 m ρ c) (Proc.devRef .tc main_v14) = _
  after_results

/-- The meta tokens' values, transposed by heads. -/
theorem v17_eq : V1 m ρ c main_v17 = (transpose S4x128x16 [1, 2, 0] (shapeCast S16x4x128
    (extractStridedSlice S16x512 ![0, 2560] (truncf .bf16 (m ((c : Thread nD τ).loc main_arg1) : FVec Ideal S16x3072 .f32) bitsLt_bf16_f32 : FVec Ideal S16x3072 .bf16) slices_S16x3072_S16x512_0_2560 : FVec Ideal S16x512 .bf16)
    shapeCasts_S16x512_S16x4x128 : FVec Ideal S16x4x128 .bf16) transposes_S16x4x128_S4x128x16_1_2_0 : FVec Ideal S4x128x16 .bf16) := by
  show StableHlo.after hostOps0 (W0 m ρ c) (Proc.devRef .tc main_v17) = _
  after_results
  rfl

/-- The gain as a column. -/
theorem v20_eq : V3 m ρ c main_v20 = (broadcastInDim S128x1 ![0] bcast_S128_S128x1_0 (shapeCast S128 (V2 m ρ c main_arg7 : FVec Ideal S1x128 .f32) shapeCasts_S1x128_S128 : FVec Ideal S128 .f32) : FVec Ideal S128x1 .f32) := by
  show StableHlo.after hostOps1 (W2 m ρ c) (Proc.devRef .tc main_v20) = _
  after_results
  rfl

/-- The kernel's scale is an eighth. -/
theorem eighth : Ideal.ofBits FTy.f32 1040187392#32 = ((1 / 8 : ℝ) : EReal) := by
  have : ((8388608 : ℝ) : EReal) * (((2 ^ 26)⁻¹ : ℝ) : EReal) = ((1 / 8 : ℝ) : EReal) := by
    rw [← EReal.coe_mul]; norm_num
  simp [Ideal.ofBits, Ideal.ieee]
  simpa using this

/-- A reshape between shapes of the same row-major order. -/
theorem cast2_at (x : S32x2048x3072.Idx → EReal) (b : Fin 32) (p : Fin 2048) (r : Fin 65536) (w : Fin 3072) (hr : (r : ℕ) = 2048 * b + p) :
    (shapeCast S65536x3072 x shapeCasts_S32x2048x3072_S65536x3072 : FVec Ideal S65536x3072 .f32) (ix2 r w) = x (ix3 b p w) := by
  pointwise []
  have hp := p.isLt
  exact congrArg x (by funext a; match a with | ⟨0, _⟩ => exact Fin.ext (by show (r : ℕ) / 2048 = b; omega) | ⟨1, _⟩ => exact Fin.ext (by show (r : ℕ) % 2048 = p; omega) | ⟨2, _⟩ => rfl)

/-- The values' rows regrouped into tiles, read. -/
theorem cast3_at (x : S65536x512.Idx → EReal) (u : Fin 128) (i e : Fin 512) (r : Fin 65536) (hr : (r : ℕ) = 512 * u + i) :
    (shapeCast S128x512x512 x shapeCasts_S65536x512_S128x512x512 : FVec Ideal S128x512x512 .f32) (ix3 u i e) = x (ix2 r e) := by
  pointwise []
  exact congrArg x (by funext a; match a with | ⟨0, _⟩ => exact Fin.ext (by show (u * 512 + i : ℕ) = r; omega) | ⟨1, _⟩ => rfl)

/-- The queries, already scaled. -/
theorem query_at (b : Fin 32) (p : Fin 2048) (r : Fin 65536) (w : Fin 1536) (x : Fin 3072) (hr : (r : ℕ) = 2048 * b + p)
    (h0 : 512 ≤ (w : ℕ)) (h1 : (w : ℕ) < 1024) (hx : (x : ℕ) = 1024 + w) (a : EReal)
    (ha : (m ((c : Thread nD τ).loc main_arg0) : S32x2048x3072.Idx → EReal) (ix3 b p x) = a) :
    V1 m ρ c main_v9 (ix2 r w) = a * ((1 / 8 : ℝ) : EReal) := by
  rw [v9_eq, ← ha, ← cast2_at (m ((c : Thread nD τ).loc main_arg0)) b p r x hr]
  generalize (shapeCast S65536x3072 (m ((c : Thread nD τ).loc main_arg0)) shapeCasts_S32x2048x3072_S65536x3072 : FVec Ideal S65536x3072 .f32) = X
  pointwise []
  rw [dif_neg (by omega), dif_pos (by omega), eighth]
  exact congrArg (· * _) (congrArg X (congrArg (ix2 r) (Fin.ext (by show 1536 + (w - 512 : ℕ) = x; omega))))

/-- The keys. -/
theorem key_at (b : Fin 32) (p : Fin 2048) (r : Fin 65536) (w : Fin 1536) (x : Fin 3072) (hr : (r : ℕ) = 2048 * b + p)
    (h0 : 1024 ≤ (w : ℕ)) (hx : (x : ℕ) = 1024 + w) :
    V1 m ρ c main_v9 (ix2 r w) = m ((c : Thread nD τ).loc main_arg0) (ix3 b p x) := by
  rw [v9_eq]
  refine Eq.trans ?_ (cast2_at (m ((c : Thread nD τ).loc main_arg0)) b p r x hr)
  generalize (shapeCast S65536x3072 (m ((c : Thread nD τ).loc main_arg0)) shapeCasts_S32x2048x3072_S65536x3072 : FVec Ideal S65536x3072 .f32) = X
  pointwise []
  rw [dif_neg (by omega), dif_neg (by omega)]
  exact congrArg X (congrArg (ix2 r) (Fin.ext (by show 2048 + (w - 512 - 512 : ℕ) = x; omega)))

/-- The values, positions last. -/
theorem value_at (b : Fin 32) (p : Fin 2048) (u : Fin 128) (e i : Fin 512) (x : Fin 3072)
    (hp : 512 * (u : ℕ) + i = 2048 * b + p) (hx : (x : ℕ) = 2560 + e) :
    V1 m ρ c main_v13 (ix3 u e i) = m ((c : Thread nD τ).loc main_arg0) (ix3 b p x) := by
  have hu := u.isLt; have hi := i.isLt
  rw [v13_eq]
  refine Eq.trans ?_ (cast2_at (m ((c : Thread nD τ).loc main_arg0)) b p ⟨512 * u + i, by omega⟩ x hp)
  generalize (shapeCast S65536x3072 (m ((c : Thread nD τ).loc main_arg0)) shapeCasts_S32x2048x3072_S65536x3072 : FVec Ideal S65536x3072 .f32) = X
  refine Eq.trans ?_ ((cast3_at (extractStridedSlice S65536x512 ![0, 2560] X slices_S65536x3072_S65536x512_0_2560) u i e ⟨512 * u + i, by omega⟩ rfl).trans ?_)
  · generalize (shapeCast S128x512x512 _ _ : FVec Ideal S128x512x512 .f32) = Y
    pointwise []
  · pointwise []
    exact congrArg X (congrArg (ix2 _) (Fin.ext hx.symm))

/-- The meta tokens' projections. -/
theorem mproj_at (p : Fin 16) (x : Fin 3072) : V1 m ρ c main_v14 (ix2 p x) = m ((c : Thread nD τ).loc main_arg1) (ix2 p x) := by
  rw [v14_eq]
  pointwise []

/-- The meta tokens' values, positions last. -/
theorem mvalue_at (h : Fin 4) (e : Fin 128) (i : Fin 16) (x : Fin 3072) (hx : (x : ℕ) = 2560 + 128 * h + e) :
    V1 m ρ c main_v17 (ix3 h e i) = m ((c : Thread nD τ).loc main_arg1) (ix2 i x) := by
  rw [v17_eq]
  pointwise []
  exact congrArg _ (congrArg (ix2 i) (Fin.ext (by show 2560 + (h * 128 + e : ℕ) = _; omega)))

/-- The gain, one entry per row. -/
theorem gain_at (e : Fin 128) : V3 m ρ c main_v20 (ix2 e 0) = m ((c : Thread nD τ).loc main_arg7) (ix2 0 e) := by
  rw [v20_eq]
  pointwise []
  exact congrFun (W2_args m ρ c main_arg7 (by decide)) _

end Cert.DiffAttn
-- ==== Proof.AttnMath.lean ====
/- One chain of the attention kernel, as mathematics: from its score and value blocks to the weighted sum over all keys. -/
module

public import proofs.«01_k».proof.Proof.Spec

@[expose] public section

set_option maxRecDepth 16384

noncomputable section

namespace Cert.DiffAttn

open Idealize.ShloMosaic Cert.KernelIdeal Cert.KernelIdeal.Gen

/-- Masking a sum over a pair of halves to one half is the sum over that half. -/
theorem half_sum (f : Fin 128 → ℝ) (s : Fin 2) :
    (∑ x : Fin 128, if (x : ℕ) / 64 = s then f x else 0) = ∑ y : Fin 64, f ⟨64 * s + y, by omega⟩ := by
  rw [Fin.sum_univ_add (a := 64) (b := 64)]
  match s with
  | ⟨0, _⟩ =>
    rw [Finset.sum_eq_zero (s := Finset.univ) (f := fun y : Fin 64 => if ((Fin.natAdd 64 y : Fin 128) : ℕ) / 64 = 0 then f (Fin.natAdd 64 y) else 0)
      (fun y _ => if_neg (by show ¬ (64 + (y : ℕ)) / 64 = 0; omega)), add_zero]
    exact Finset.sum_congr rfl fun y _ => (if_pos (by show (y : ℕ) / 64 = 0; omega)).trans
      (congrArg f (Fin.ext (by show (y : ℕ) = 64 * 0 + y; omega)))
  | ⟨1, _⟩ =>
    rw [Finset.sum_eq_zero (s := Finset.univ) (f := fun y : Fin 64 => if ((Fin.castAdd 64 y : Fin 128) : ℕ) / 64 = 1 then f (Fin.castAdd 64 y) else 0)
      (fun y _ => if_neg (by show ¬ (y : ℕ) / 64 = 1; omega)), zero_add]
    exact Finset.sum_congr rfl fun y _ => (if_pos (by show (64 + (y : ℕ)) / 64 = 1; omega)).trans
      (congrArg f (Fin.ext (by show 64 + (y : ℕ) = 64 * 1 + y; omega)))

/-- One entry of a bias tile: the query block is `d` blocks after the key block. -/
def Inputs.tile (A : Inputs) (h : Fin 4) (d i j : ℕ) : EReal :=
  if d = 0 ∧ ¬ i / 64 ≤ j / 64 then ⊥ else (A.table ⟨bucketNo (j + 512 * d) i, bucketNo_lt _ _⟩ h : EReal)

/-- From two blocks on the bucket no longer changes. -/
theorem bucketNo_block (qi kb i j : ℕ) (hi : i < 512) (hj : j < 512) (hkb : kb ≤ qi) :
    bucketNo (16 + 512 * qi + j) (16 + 512 * kb + i) = bucketNo (j + 512 * min (qi - kb) 2) i := by
  rw [show 16 + 512 * qi + j = (j + 512 * (qi - kb)) + (16 + 512 * kb) by omega,
    show 16 + 512 * kb + i = i + (16 + 512 * kb) by omega, bucketNo_shift]
  by_cases h : qi - kb ≤ 2
  · rw [min_eq_left h]
  · rw [min_eq_right (by omega)]
    unfold bucketNo
    rw [if_neg (by omega), if_neg (by omega), distBucket_far _ (by omega), distBucket_far _ (by omega)]

/-- The dot product of a masked query with a key. -/
theorem dot_real (A : Inputs) (b : Fin 32) (h : Fin 4) (s : Fin 2) (q p : Fin 2064) (qh k : Fin 128 → EReal)
    (hq : ∀ x : Fin 128, qh x = if (x : ℕ) / 64 = s then ((A.full b q ⟨1536 + 128 * h + x, by omega⟩ * (1 / 8) : ℝ) : EReal) else 0)
    (hk : ∀ x : Fin 128, k x = (A.full b p ⟨2048 + 128 * h + x, by omega⟩ : EReal)) :
    ∑ x : Fin 128, k x * qh x = (((∑ x : Fin 64, A.full b q ⟨1536 + 128 * h + 64 * s + x, by omega⟩ * A.full b p ⟨2048 + 128 * h + 64 * s + x, by omega⟩) * (1 / 8) : ℝ) : EReal) := by
  have e : ∀ x : Fin 128, k x * qh x = ((if (x : ℕ) / 64 = s then A.full b p ⟨2048 + 128 * h + x, by omega⟩ * (A.full b q ⟨1536 + 128 * h + x, by omega⟩ * (1 / 8)) else 0 : ℝ) : EReal) := by
    intro x
    rw [hq, hk]
    split_ifs
    · rw [← EReal.coe_mul]
    · rw [mul_zero]; rfl
  rw [Finset.sum_congr rfl fun x _ => e x, ← coe_sum,
    half_sum (fun x => A.full b p ⟨2048 + 128 * h + x, by omega⟩ * (A.full b q ⟨1536 + 128 * h + x, by omega⟩ * (1 / 8))) s, Finset.sum_mul]
  refine congrArg _ (Finset.sum_congr rfl fun y _ => ?_)
  rw [← mul_assoc, mul_comm (A.full b p _)]
  exact congrArg₂ (fun u v => A.full b q u * A.full b p v * (1 / 8)) (Fin.ext (by show 1536 + 128 * (h : ℕ) + (64 * s + y) = 1536 + 128 * h + 64 * s + y; omega))
    (Fin.ext (by show 2048 + 128 * (h : ℕ) + (64 * s + y) = 2048 + 128 * h + 64 * s + y; omega))

/-- A block's scores are the mathematics' scores. -/
theorem score_val (A : Inputs) (b : Fin 32) (h : Fin 4) (s : Fin 2) (qi kb : ℕ) (hqi : qi < 4) (hkb : kb ≤ qi) (i j : Fin 512)
    (qh : FVec Ideal S512x128 .bf16) (k : Vec Ideal S512x128 .bf16) (t : Vec Ideal S1x1x512x512 .f32)
    (hq : ∀ x : Fin 128, qh (ix2 j x) = if (x : ℕ) / 64 = s then ((A.full b ⟨16 + 512 * qi + j, by omega⟩ ⟨1536 + 128 * h + x, by omega⟩ * (1 / 8) : ℝ) : EReal) else 0)
    (hk : ∀ x : Fin 128, k (ix2 i x) = (A.full b ⟨16 + 512 * kb + i, by omega⟩ ⟨2048 + 128 * h + x, by omega⟩ : EReal))
    (ht : t (ix4 0 0 i j) = A.tile h (min (qi - kb) 2) i j) :
    score qh k t (ix2 i j) = A.sc b h s ⟨16 + 512 * qi + j, by omega⟩ ⟨16 + 512 * kb + i, by omega⟩ := by
  rw [score_apply, dot_real A b h s _ _ (fun x => qh (ix2 j x)) (fun x => k (ix2 i x)) hq hk, ht]
  have hi := i.isLt; have hj := j.isLt
  unfold Inputs.sc Inputs.tile
  have hb := bucketNo_block qi kb i j hi hj hkb
  by_cases hv : chunkNo (16 + 512 * kb + i) ≤ chunkNo (16 + 512 * qi + j)
  · rw [if_pos hv, if_neg (by unfold chunkNo at hv; rw [if_neg (by omega), if_neg (by omega)] at hv; omega), ← EReal.coe_add]
    exact congrArg (fun n : Fin 32 => ((_ + A.table n h : ℝ) : EReal)) (Fin.ext hb.symm)
  · rw [if_neg hv, if_pos (by unfold chunkNo at hv; rw [if_neg (by omega), if_neg (by omega)] at hv; omega), EReal.add_bot]

/-- The meta keys' scores are the mathematics' scores. -/
theorem mscore_val (A : Inputs) (b : Fin 32) (h : Fin 4) (s : Fin 2) (qi : ℕ) (hqi : qi < 4) (i : Fin 16) (j : Fin 512)
    (qh : FVec Ideal S512x128 .bf16) (k : Vec Ideal S16x128 .bf16) (t : Vec Ideal S1x16x512 .f32)
    (hq : ∀ x : Fin 128, qh (ix2 j x) = if (x : ℕ) / 64 = s then ((A.full b ⟨16 + 512 * qi + j, by omega⟩ ⟨1536 + 128 * h + x, by omega⟩ * (1 / 8) : ℝ) : EReal) else 0)
    (hk : ∀ x : Fin 128, k (ix2 i x) = (A.full b ⟨i, by omega⟩ ⟨2048 + 128 * h + x, by omega⟩ : EReal))
    (ht : t (ix3 0 i j) = (A.table ⟨bucketNo (16 + 512 * qi + j) i, bucketNo_lt _ _⟩ h : EReal)) :
    mscore qh k t (ix2 i j) = A.sc b h s ⟨16 + 512 * qi + j, by omega⟩ ⟨i, by omega⟩ := by
  rw [mscore_apply, dot_real A b h s _ _ (fun x => qh (ix2 j x)) (fun x => k (ix2 i x)) hq hk, ht]
  unfold Inputs.sc
  rw [if_pos (by show chunkNo i ≤ _; unfold chunkNo; rw [if_pos i.isLt]; exact Nat.zero_le _), ← EReal.coe_add]

/-- A sum over all positions: the meta positions, then block after block. -/
theorem sum_blocks (F : Fin 2064 → ℝ) :
    ∑ p, F p = ∑ i : Fin 16, F ⟨i, by omega⟩ + ∑ kb : Fin 4, ∑ i : Fin 512, F ⟨16 + 512 * kb + i, by omega⟩ := by
  rw [Fin.sum_univ_add (a := 16) (b := 2048)]
  congr 1
  rw [← (finProdFinEquiv (m := 4) (n := 512)).sum_comp, Fintype.sum_prod_type]
  refine Finset.sum_congr rfl fun kb _ => Finset.sum_congr rfl fun i _ => congrArg F (Fin.ext ?_)
  show 16 + (i + 512 * kb : ℕ) = 16 + 512 * kb + i
  omega

/-- What a chain ends with, over all keys: a positive multiple of the weighted sum. -/
theorem chain_val (A : Inputs) (b : Fin 32) (h : Fin 4) (s : Fin 2) (qi : ℕ) (hqi : qi < 4) (j : Fin 512)
    (ms : FVec Ideal S16x512 .bf16) (mv : Vec Ideal S1x128x16 .bf16)
    (sc : ℕ → FVec Ideal S512x512 .bf16) (vx : ℕ → FVec Ideal S144x512 .bf16)
    (hms : ∀ i : Fin 16, ms (ix2 i j) = A.sc b h s ⟨16 + 512 * qi + j, by omega⟩ ⟨i, by omega⟩)
    (hmv : ∀ e i, mv (ix3 0 e i) = (A.full b ⟨i, by omega⟩ ⟨2560 + 128 * h + e, by omega⟩ : EReal))
    (hs : ∀ d ≤ qi, ∀ i : Fin 512, sc d (ix2 i j) = A.sc b h s ⟨16 + 512 * qi + j, by omega⟩ ⟨16 + 512 * (qi - d) + i, by omega⟩)
    (hv : ∀ d ≤ qi, ∀ r i, vx d (ix2 r i) = (withOnes (fun e => A.full b ⟨16 + 512 * (qi - d) + i, by omega⟩ ⟨2560 + 128 * h + e, by omega⟩) r : EReal)) :
    ∃ E : ℝ, 0 < E ∧ ∀ r, (chain sc vx (metaM ms) (metaA ms mv) (qi + 1)).2 (ix2 r j) =
      ((E * ∑ p : Fin 2064, wt (A.sc b h s ⟨16 + 512 * qi + j, by omega⟩ p) * withOnes (fun e => A.full b p ⟨2560 + 128 * h + e, by omega⟩) r : ℝ) : EReal) := by
  have hz : ∀ i : Fin 16, ms (ix2 i j) = ((ms (ix2 i j)).toReal : EReal) := by
    intro i
    rw [hms]
    unfold Inputs.sc
    rw [if_pos (by show chunkNo i ≤ _; unfold chunkNo; rw [if_pos i.isLt]; exact Nat.zero_le _), EReal.toReal_coe]
  obtain ⟨E, hE, hr⟩ := whole_ok ms mv (fun e i => A.full b ⟨i, by omega⟩ ⟨2560 + 128 * h + e, by omega⟩) hmv j _ hz sc vx
    (fun d e i => if hd : d ≤ qi then A.full b ⟨16 + 512 * (qi - d) + i, by omega⟩ ⟨2560 + 128 * h + e, by omega⟩ else 0) (qi + 1)
    (fun d hd i => by rw [hs d (by omega)]; exact A.sc_ne_top _ _ _ _ _)
    (fun d hd r i => by rw [hv d (by omega)]; simp only [dif_pos (show d ≤ qi by omega)])
  refine ⟨E, hE, fun r => (hr r).trans (congrArg (fun z : ℝ => ((E * z : ℝ) : EReal)) ?_)⟩
  rw [sum_blocks]
  congr 1
  · exact Finset.sum_congr rfl fun i _ => by rw [hms]
  · have hH : ∀ kb : Fin 4, qi < kb → ∑ i : Fin 512, wt (A.sc b h s ⟨16 + 512 * qi + j, by omega⟩ ⟨16 + 512 * kb + i, by omega⟩) *
        withOnes (fun e => A.full b ⟨16 + 512 * kb + i, by omega⟩ ⟨2560 + 128 * h + e, by omega⟩) r = 0 := by
      intro kb hkb
      refine Finset.sum_eq_zero fun i _ => ?_
      have e : A.sc b h s ⟨16 + 512 * qi + j, by omega⟩ ⟨16 + 512 * kb + i, by omega⟩ = ⊥ := by
        unfold Inputs.sc
        refine if_neg ?_
        show ¬ chunkNo (16 + 512 * kb + i) ≤ chunkNo (16 + 512 * qi + j)
        unfold chunkNo
        rw [if_neg (by omega), if_neg (by omega)]
        omega
      rw [e, wt_bot, zero_mul]
    have hT : ∀ d ≤ qi, ∑ i : Fin 512, wt (sc d (ix2 i j)) * withOnes (fun e => if hd : d ≤ qi then A.full b ⟨16 + 512 * (qi - d) + i, by omega⟩ ⟨2560 + 128 * h + e, by omega⟩ else 0) r
        = ∑ i : Fin 512, wt (A.sc b h s ⟨16 + 512 * qi + j, by omega⟩ ⟨16 + 512 * (qi - d) + i, by omega⟩) *
        withOnes (fun e => A.full b ⟨16 + 512 * (qi - d) + i, by omega⟩ ⟨2560 + 128 * h + e, by omega⟩) r := by
      intro d hd
      refine Finset.sum_congr rfl fun i _ => ?_
      rw [hs d hd]
      simp only [dif_pos hd]
    rw [Finset.sum_congr rfl fun d hd => hT d (by have := Finset.mem_range.mp hd; omega)]
    rw [Fin.sum_univ_four]
    interval_cases qi
    · rw [hH 1 (by decide), hH 2 (by decide), hH 3 (by decide)]
      simp only [Finset.sum_range_succ, Finset.sum_range_zero, zero_add, add_zero]
      rfl
    · rw [hH 2 (by decide), hH 3 (by decide)]
      simp only [Finset.sum_range_succ, Finset.sum_range_zero, zero_add, add_zero]
      have key : ∀ H : Fin 4 → ℝ, H 1 + H 0 = H 0 + H 1 := fun H => by ring
      exact key (fun kb => ∑ i : Fin 512, wt (A.sc b h s ⟨16 + 512 * 1 + j, by omega⟩ ⟨16 + 512 * kb + i, by omega⟩) *
        withOnes (fun e => A.full b ⟨16 + 512 * kb + i, by omega⟩ ⟨2560 + 128 * h + e, by omega⟩) r)
    · rw [hH 3 (by decide)]
      simp only [Finset.sum_range_succ, Finset.sum_range_zero, zero_add, add_zero]
      have key : ∀ H : Fin 4 → ℝ, H 2 + H 1 + H 0 = H 0 + H 1 + H 2 := fun H => by ring
      exact key (fun kb => ∑ i : Fin 512, wt (A.sc b h s ⟨16 + 512 * 2 + j, by omega⟩ ⟨16 + 512 * kb + i, by omega⟩) *
        withOnes (fun e => A.full b ⟨16 + 512 * kb + i, by omega⟩ ⟨2560 + 128 * h + e, by omega⟩) r)
    · simp only [Finset.sum_range_succ, Finset.sum_range_zero, zero_add, add_zero]
      have key : ∀ H : Fin 4 → ℝ, H 3 + H 2 + H 1 + H 0 = H 0 + H 1 + H 2 + H 3 := fun H => by ring
      exact key (fun kb => ∑ i : Fin 512, wt (A.sc b h s ⟨16 + 512 * 3 + j, by omega⟩ ⟨16 + 512 * kb + i, by omega⟩) *
        withOnes (fun e => A.full b ⟨16 + 512 * kb + i, by omega⟩ ⟨2560 + 128 * h + e, by omega⟩) r)

end Cert.DiffAttn
-- ==== Proof.Offsets.lean ====
/- Where the attention kernel's loads start, in closed form. -/
module

public import proofs.«01_k».proof.Proof.IdealRegions

@[expose] public section

set_option maxRecDepth 16384

noncomputable section

namespace Cert.DiffAttn

open Idealize.ShloMosaic Idealize.ShloMosaic.TcCoe Idealize.SL.Sem Cert.KernelIdeal Cert.KernelIdeal.Gen

/-- The number of the query block, as the kernel computes it. -/
abbrev qWord (n : ℕ) : BitVec 32 := Scalar.subi (Scalar.addi (Scalar.muli 1#32 (BitVec.ofNat 32 n)) 1#32) 1#32

/-- The loop's count of trips is the query block's number. -/
theorem trips_word : ∀ n : Fin 4, (Scf.Loop.mk 0#32 (Scalar.addi 0#32 (Scalar.muli (Scalar.divsi (Scalar.subi (qWord n) 0#32) 1#32) 1#32)) 1#32).trips = n := by
  decide +kernel

/-- The row of the first key block. -/
theorem first_row_word : ∀ n : Fin 4, (Scalar.indexCast (Scalar.muli (Scalar.maxsi (Scalar.subi (qWord n) 0#32) 0#32) 512#32) : Index).toNat = 512 * n := by
  decide +kernel

/-- The row of the key block fetched next. -/
theorem next_row_word : ∀ n k : Fin 4, k.val < n.val →
    (Scalar.indexCast (Scalar.muli (Scalar.maxsi (Scalar.subi (qWord n) (Scalar.addi (Scf.iv 0#32 1#32 k.val) 1#32)) 0#32) 512#32) : Index).toNat = 512 * (n - (k + 1)) := by
  decide +kernel

/-- The bias tile fetched next. -/
theorem next_tile_word : ∀ k : Fin 4,
    (Scalar.indexCast (Scalar.minsi (Scalar.addi (Scf.iv 0#32 1#32 k.val) 1#32) 2#32) : Index).toNat = min ((k : ℕ) + 1) 2 := by
  decide +kernel

/-- The value block of a trip. -/
theorem block_word : ∀ n k : Fin 4, k.val < n.val →
    (Scalar.indexCast (Scalar.subi (qWord n) (Scf.iv 0#32 1#32 k.val)) : Index).toNat = n - k := by
  decide +kernel

/-- The value block after the loop. -/
theorem last_word : ∀ n : Fin 4, (Scalar.indexCast (Scalar.subi (qWord n) (qWord n)) : Index).toNat = 0 := by
  decide +kernel

variable (i : grid1.Coords)

/-- The loop makes as many trips as there are earlier blocks. -/
theorem trips_eq : (k1_t1_loop i).trips = (i 2 : ℕ) := trips_word ⟨(i 2 : ℕ), (i 2).isLt⟩

/-- The query block's number is below 4. -/
theorem q_lt : (i 2 : ℕ) < 4 := (i 2).isLt
/-- A trip is below the query block's number. -/
theorem k_lt (k : Fin (k1_t1_loop i).trips) : (k : ℕ) < (i 2 : ℕ) := lt_of_lt_of_eq k.isLt (trips_eq i)
/-- A trip is below 4. -/
theorem k_lt4 (k : Fin (k1_t1_loop i).trips) : (k : ℕ) < 4 := (k_lt i k).trans (q_lt i)

/-- An offset of the body, as numbers. -/
theorem off1_eq : k1_off1 i = ![512 * (i 2 : ℕ), 0] := by
  funext a
  match a with
  | ⟨0, _⟩ => exact first_row_word ⟨(i 2 : ℕ), (i 2).isLt⟩
  | ⟨1, _⟩ => rfl

/-- An offset of the body, as numbers. -/
theorem off2_eq : k1_off2 = ![0, 0, 0, 0] := by decide +kernel

/-- An offset of the body, as numbers. -/
theorem off9_eq (k : Fin (k1_t1_loop i).trips) : k1_off9 i k = ![512 * ((i 2 : ℕ) - (k + 1)), 0] := by
  funext a
  match a with
  | ⟨0, _⟩ => exact next_row_word ⟨(i 2 : ℕ), (i 2).isLt⟩ ⟨k, k_lt4 i k⟩ (k_lt i k)
  | ⟨1, _⟩ => rfl

/-- An offset of the body, as numbers. -/
theorem off10_eq (k : Fin (k1_t1_loop i).trips) : k1_off10 i k = ![0, min ((k : ℕ) + 1) 2, 0, 0] := by
  funext a
  match a with
  | ⟨0, _⟩ => rfl
  | ⟨1, _⟩ => exact next_tile_word ⟨k, k_lt4 i k⟩
  | ⟨2, _⟩ => rfl
  | ⟨3, _⟩ => rfl

/-- An offset of the body, as numbers. -/
theorem off17_eq (k : Fin (k1_t1_loop i).trips) : k1_off17 i k = ![(i 2 : ℕ) - k, 0, 0] := by
  funext a
  match a with
  | ⟨0, _⟩ => exact block_word ⟨(i 2 : ℕ), (i 2).isLt⟩ ⟨k, k_lt4 i k⟩ (k_lt i k)
  | ⟨1, _⟩ => rfl
  | ⟨2, _⟩ => rfl

/-- An offset of the body, as numbers. -/
theorem off33_eq : k1_off33 i = ![0, 0, 0] := by
  funext a
  match a with
  | ⟨0, _⟩ => exact last_word ⟨(i 2 : ℕ), (i 2).isLt⟩
  | ⟨1, _⟩ => rfl
  | ⟨2, _⟩ => rfl

/-- An offset of the body, as numbers. -/
theorem off3_eq : k1_off3 i = ![512 * (i 2 : ℕ), 128] := by
  funext a
  match a with
  | ⟨0, _⟩ => exact first_row_word ⟨(i 2 : ℕ), (i 2).isLt⟩
  | ⟨1, _⟩ => rfl

/-- An offset of the body, as numbers. -/
theorem off4_eq : k1_off4 = ![1, 0, 0, 0] := by decide +kernel

/-- An offset of the body, as numbers. -/
theorem off11_eq (k : Fin (k1_t1_loop i).trips) : k1_off11 i k = ![512 * ((i 2 : ℕ) - (k + 1)), 128] := by
  funext a
  match a with
  | ⟨0, _⟩ => exact next_row_word ⟨(i 2 : ℕ), (i 2).isLt⟩ ⟨k, k_lt4 i k⟩ (k_lt i k)
  | ⟨1, _⟩ => rfl

/-- An offset of the body, as numbers. -/
theorem off12_eq (k : Fin (k1_t1_loop i).trips) : k1_off12 i k = ![1, min ((k : ℕ) + 1) 2, 0, 0] := by
  funext a
  match a with
  | ⟨0, _⟩ => rfl
  | ⟨1, _⟩ => exact next_tile_word ⟨k, k_lt4 i k⟩
  | ⟨2, _⟩ => rfl
  | ⟨3, _⟩ => rfl

/-- An offset of the body, as numbers. -/
theorem off18_eq (k : Fin (k1_t1_loop i).trips) : k1_off18 i k = ![(i 2 : ℕ) - k, 128, 0] := by
  funext a
  match a with
  | ⟨0, _⟩ => exact block_word ⟨(i 2 : ℕ), (i 2).isLt⟩ ⟨k, k_lt4 i k⟩ (k_lt i k)
  | ⟨1, _⟩ => rfl
  | ⟨2, _⟩ => rfl

/-- An offset of the body, as numbers. -/
theorem off34_eq : k1_off34 i = ![0, 128, 0] := by
  funext a
  match a with
  | ⟨0, _⟩ => exact last_word ⟨(i 2 : ℕ), (i 2).isLt⟩
  | ⟨1, _⟩ => rfl
  | ⟨2, _⟩ => rfl

/-- An offset of the body, as numbers. -/
theorem off5_eq : k1_off5 i = ![512 * (i 2 : ℕ), 256] := by
  funext a
  match a with
  | ⟨0, _⟩ => exact first_row_word ⟨(i 2 : ℕ), (i 2).isLt⟩
  | ⟨1, _⟩ => rfl

/-- An offset of the body, as numbers. -/
theorem off6_eq : k1_off6 = ![2, 0, 0, 0] := by decide +kernel

/-- An offset of the body, as numbers. -/
theorem off13_eq (k : Fin (k1_t1_loop i).trips) : k1_off13 i k = ![512 * ((i 2 : ℕ) - (k + 1)), 256] := by
  funext a
  match a with
  | ⟨0, _⟩ => exact next_row_word ⟨(i 2 : ℕ), (i 2).isLt⟩ ⟨k, k_lt4 i k⟩ (k_lt i k)
  | ⟨1, _⟩ => rfl

/-- An offset of the body, as numbers. -/
theorem off14_eq (k : Fin (k1_t1_loop i).trips) : k1_off14 i k = ![2, min ((k : ℕ) + 1) 2, 0, 0] := by
  funext a
  match a with
  | ⟨0, _⟩ => rfl
  | ⟨1, _⟩ => exact next_tile_word ⟨k, k_lt4 i k⟩
  | ⟨2, _⟩ => rfl
  | ⟨3, _⟩ => rfl

/-- An offset of the body, as numbers. -/
theorem off19_eq (k : Fin (k1_t1_loop i).trips) : k1_off19 i k = ![(i 2 : ℕ) - k, 256, 0] := by
  funext a
  match a with
  | ⟨0, _⟩ => exact block_word ⟨(i 2 : ℕ), (i 2).isLt⟩ ⟨k, k_lt4 i k⟩ (k_lt i k)
  | ⟨1, _⟩ => rfl
  | ⟨2, _⟩ => rfl

/-- An offset of the body, as numbers. -/
theorem off35_eq : k1_off35 i = ![0, 256, 0] := by
  funext a
  match a with
  | ⟨0, _⟩ => exact last_word ⟨(i 2 : ℕ), (i 2).isLt⟩
  | ⟨1, _⟩ => rfl
  | ⟨2, _⟩ => rfl

/-- An offset of the body, as numbers. -/
theorem off7_eq : k1_off7 i = ![512 * (i 2 : ℕ), 384] := by
  funext a
  match a with
  | ⟨0, _⟩ => exact first_row_word ⟨(i 2 : ℕ), (i 2).isLt⟩
  | ⟨1, _⟩ => rfl

/-- An offset of the body, as numbers. -/
theorem off8_eq : k1_off8 = ![3, 0, 0, 0] := by decide +kernel

/-- An offset of the body, as numbers. -/
theorem off15_eq (k : Fin (k1_t1_loop i).trips) : k1_off15 i k = ![512 * ((i 2 : ℕ) - (k + 1)), 384] := by
  funext a
  match a with
  | ⟨0, _⟩ => exact next_row_word ⟨(i 2 : ℕ), (i 2).isLt⟩ ⟨k, k_lt4 i k⟩ (k_lt i k)
  | ⟨1, _⟩ => rfl

/-- An offset of the body, as numbers. -/
theorem off16_eq (k : Fin (k1_t1_loop i).trips) : k1_off16 i k = ![3, min ((k : ℕ) + 1) 2, 0, 0] := by
  funext a
  match a with
  | ⟨0, _⟩ => rfl
  | ⟨1, _⟩ => exact next_tile_word ⟨k, k_lt4 i k⟩
  | ⟨2, _⟩ => rfl
  | ⟨3, _⟩ => rfl

/-- An offset of the body, as numbers. -/
theorem off20_eq (k : Fin (k1_t1_loop i).trips) : k1_off20 i k = ![(i 2 : ℕ) - k, 384, 0] := by
  funext a
  match a with
  | ⟨0, _⟩ => exact block_word ⟨(i 2 : ℕ), (i 2).isLt⟩ ⟨k, k_lt4 i k⟩ (k_lt i k)
  | ⟨1, _⟩ => rfl
  | ⟨2, _⟩ => rfl

/-- An offset of the body, as numbers. -/
theorem off36_eq : k1_off36 i = ![0, 384, 0] := by
  funext a
  match a with
  | ⟨0, _⟩ => exact last_word ⟨(i 2 : ℕ), (i 2).isLt⟩
  | ⟨1, _⟩ => rfl
  | ⟨2, _⟩ => rfl

end Cert.DiffAttn
-- ==== Proof.AttnReads.lean ====
/- What the attention kernel's windows show it at a point of its grid. -/
module

public import proofs.«01_k».proof.Proof.HostReads
public import proofs.«01_k».proof.Proof.AttnMath
public import proofs.«01_k».proof.Proof.Offsets

@[expose] public section

set_option maxRecDepth 65536

noncomputable section

namespace Cert.DiffAttn

open Idealize.ShloMosaic Idealize.ShloMosaic.Pipeline Idealize.ShloMosaic.TcCoe Idealize.SL.Sem Cert.KernelIdeal Cert.KernelIdeal.Gen

/-- The call's number of grid steps. -/
theorem N1 : cfg1.N = 128 := by decide +kernel
/-- The last grid coordinate is the query block. -/
theorem coords1 : ∀ t : Fin cfg1.N, ((grid1.coords t) 2 : ℕ) = t.val % 4 := (by decide +kernel : ∀ t : Fin grid1.N, _)
/-- Where the window's block lies at a step. -/
theorem idx1_0 : ∀ t : Fin cfg1.N, win1_0.index t = ![t.val, 1] := (by decide +kernel : ∀ t : Fin grid1.N, _)
/-- Where the window's block lies at a step. -/
theorem idx1_1 : ∀ t : Fin cfg1.N, win1_1.index t = ![t.val / 4, 2] := (by decide +kernel : ∀ t : Fin grid1.N, _)
/-- Where the window's block lies at a step. -/
theorem idx1_2 : ∀ t : Fin cfg1.N, win1_2.index t = ![t.val / 4, 0, 0] := (by decide +kernel : ∀ t : Fin grid1.N, _)
/-- Where the window's block lies at a step. -/
theorem idx1_3 : ∀ t : Fin cfg1.N, win1_3.index t = ![0, 4] := (by decide +kernel : ∀ t : Fin grid1.N, _)
/-- Where the window's block lies at a step. -/
theorem idx1_4 : ∀ t : Fin cfg1.N, win1_4.index t = ![0, 0, 0] := (by decide +kernel : ∀ t : Fin grid1.N, _)
/-- Where the window's block lies at a step. -/
theorem idx1_5 : ∀ t : Fin cfg1.N, win1_5.index t = ![0, 0, 0, 0] := (by decide +kernel : ∀ t : Fin grid1.N, _)
/-- Where the window's block lies at a step. -/
theorem idx1_6 : ∀ t : Fin cfg1.N, win1_6.index t = ![0, 0, t.val % 4] := (by decide +kernel : ∀ t : Fin grid1.N, _)
/-- Where the window's block lies at a step. -/
theorem idx1_7 : ∀ t : Fin cfg1.N, win1_7.index t = ![0, 0] := (by decide +kernel : ∀ t : Fin grid1.N, _)
/-- Where the window's block lies at a step. -/
theorem idx1_8 : ∀ t : Fin cfg1.N, win1_8.index t = ![0, 0] := (by decide +kernel : ∀ t : Fin grid1.N, _)
/-- Where the window's block lies at a step. -/
theorem idx1_9 : ∀ t : Fin cfg1.N, win1_9.index t = ![0, 0] := (by decide +kernel : ∀ t : Fin grid1.N, _)
/-- Where the window's block lies at a step. -/
theorem idx1_10 : ∀ t : Fin cfg1.N, win1_10.index t = ![0, 0] := (by decide +kernel : ∀ t : Fin grid1.N, _)
/-- Where the window's block lies at a step. -/
theorem idx1_11 : ∀ t : Fin cfg1.N, win1_11.index t = ![0, 0] := (by decide +kernel : ∀ t : Fin grid1.N, _)
/-- Where the window's block lies at a step. -/
theorem idx1_12 : ∀ t : Fin cfg1.N, win1_12.index t = ![t.val, 0] := (by decide +kernel : ∀ t : Fin grid1.N, _)

variable (V : (c : Dev nD) → (b : Ref sig .tc) → Buf (Elt Ideal) ((c : Thread nD τ).loc b)) (c : Dev nD) (t : Fin cfg1.N)

/-- The query block of a step, read. -/
theorem query_blk (j w : Fin 512) (r : Fin 65536) (v : Fin 1536) (hr : (r : ℕ) = 512 * t.val + j) (hv : (v : ℕ) = 512 + w) :
    iblk1 V c 0 t (ix2 j w) = V c main_v9 (ix2 r v) := by
  blk_simp [iblk1]
  blk_ext [idx1_0 t]
/-- The key block of a step, read. -/
theorem key_blk (j : Fin 2048) (w : Fin 512) (r : Fin 65536) (v : Fin 1536) (hr : (r : ℕ) = 2048 * (t.val / 4) + j) (hv : (v : ℕ) = 1024 + w) :
    iblk1 V c 1 t (ix2 j w) = V c main_v9 (ix2 r v) := by
  blk_simp [iblk1]
  blk_ext [idx1_1 t]
/-- The value block of a step, read. -/
theorem value_blk (kb : Fin 4) (e i : Fin 512) (u : Fin 128) (hu : (u : ℕ) = 4 * (t.val / 4) + kb) :
    iblk1 V c 2 t (ix3 kb e i) = V c main_v13 (ix3 u e i) := by
  blk_simp [iblk1]
  blk_ext [idx1_2 t]
/-- The meta tokens' key block, read. -/
theorem mkey_blk (i : Fin 16) (w : Fin 512) (v : Fin 3072) (hv : (v : ℕ) = 2048 + w) :
    iblk1 V c 3 t (ix2 i w) = V c main_v14 (ix2 i v) := by
  blk_simp [iblk1]
  blk_ext [idx1_3 t]
/-- The meta tokens' value block, read. -/
theorem mvalue_blk (h : Fin 4) (e : Fin 128) (i : Fin 16) :
    iblk1 V c 4 t (ix3 h e i) = V c main_v17 (ix3 h e i) := by
  blk_simp [iblk1]
  blk_ext [idx1_4 t]
/-- The bias tiles' block, read. -/
theorem tile_blk (h : Fin 4) (d : Fin 3) (i j : Fin 512) :
    iblk1 V c 5 t (ix4 h d i j) = V c main_v18_0 (ix4 h d i j) := by
  blk_simp [iblk1]
  blk_ext [idx1_5 t]
/-- The meta bias block, read. -/
theorem mtile_blk (h : Fin 4) (i : Fin 16) (j : Fin 512) (w : Fin 2048) (hw : (w : ℕ) = 512 * (t.val % 4) + j) :
    iblk1 V c 6 t (ix3 h i j) = V c main_v18_1 (ix3 h i w) := by
  blk_simp [iblk1]
  blk_ext [idx1_6 t]
/-- The first row behind the factor, read. -/
theorem lam0_blk (x : Fin 64) : iblk1 V c 7 t (ix2 0 x) = V c main_arg3 (ix2 0 x) := by
  blk_simp [iblk1]
  blk_ext [idx1_7 t]
/-- The second row behind the factor, read. -/
theorem lam1_blk (x : Fin 64) : iblk1 V c 8 t (ix2 0 x) = V c main_arg4 (ix2 0 x) := by
  blk_simp [iblk1]
  blk_ext [idx1_8 t]
/-- The third row behind the factor, read. -/
theorem lam2_blk (x : Fin 64) : iblk1 V c 9 t (ix2 0 x) = V c main_arg5 (ix2 0 x) := by
  blk_simp [iblk1]
  blk_ext [idx1_9 t]
/-- The fourth row behind the factor, read. -/
theorem lam3_blk (x : Fin 64) : iblk1 V c 10 t (ix2 0 x) = V c main_arg6 (ix2 0 x) := by
  blk_simp [iblk1]
  blk_ext [idx1_10 t]
/-- The gain's column, read. -/
theorem gain_blk (e : Fin 128) : iblk1 V c 11 t (ix2 e 0) = V c main_v20 (ix2 e 0) := by
  blk_simp [iblk1]
  blk_ext [idx1_11 t]

end Cert.DiffAttn
-- ==== Proof.Pieces.lean ====
/- What one run of the attention kernel's body writes, as four output blocks, one per head, each from the two chains of
   its head. -/
module

public import proofs.«01_k».proof.Proof.Chain

@[expose] public section

set_option maxRecDepth 16384

noncomputable section

namespace Cert.DiffAttn

open Idealize.ShloMosaic Idealize.ShloMosaic.TcCoe Idealize.SL.Sem Cert.KernelIdeal Cert.KernelIdeal.Gen

variable {F : FTy → Type} [FloatOps F] [Named F]

/-- A sequence that starts with `z` and goes on with the `T` values of `f`. -/
def headThen {α : Type} {T : ℕ} (z : α) (f : Fin T → α) : ℕ → α
  | 0 => z
  | n + 1 => if h : n < T then f ⟨n, h⟩ else z

/-- A sequence of the `T` values of `f`, then `z`. -/
def thenLast {α : Type} {T : ℕ} (f : Fin T → α) (z : α) (n : ℕ) : α := if h : n < T then f ⟨n, h⟩ else z

/-- The sequence that starts anew, after its start. -/
theorem headThen_succ {α : Type} {T : ℕ} (z : α) (f : Fin T → α) (k : Fin T) : headThen z f (k.val + 1) = f k :=
  dif_pos k.isLt
/-- The sequence with a last entry, before it. -/
theorem thenLast_lt {α : Type} {T : ℕ} (f : Fin T → α) (z : α) (k : Fin T) : thenLast f z k.val = f k := dif_pos k.isLt
/-- The sequence with a last entry, at it. -/
theorem thenLast_last {α : Type} {T : ℕ} (f : Fin T → α) (z : α) : thenLast f z T = z := dif_neg (lt_irrefl _)

/-- The score blocks chain 0 works through. -/
def sc0 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half0 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5)))
    (fun k => score (half0 (View.readAt (Elt F) arg3.view (Rect.unit (s := S512x512) ![0, 0] S512x128.size inb_S512x512_S512x128_0_0).toLoadRect (harg3.unread x0))) (View.readAt (Elt F) arg4.view (Rect.unit (s := S2048x512) (k1_off9 i k) S512x128.size (k1_off9_inb i k)).toLoadRect (harg4.unread x1)) (View.readAt (Elt F) arg8.view (Rect.unit (s := S4x3x512x512) (k1_off10 i k) S1x1x512x512.size (k1_off10_inb i k)).toLoadRect (harg8.unread x5)))
/-- The value blocks chain 0 works through. -/
def vx0 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off17 i k) S1x128x512.size (k1_off17_inb i k)).toLoadRect (harg5.unread x2))) (vext (View.readAt (Elt F) arg5.view (Rect.unit (s := S4x512x512) (k1_off33 i) S1x128x512.size (k1_off33_inb i)).toLoadRect (harg5.unread x2)))
/-- The scores of the meta keys in chain 0. -/
def ms0 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half0 (View.readAt (Elt F) arg3.view (Rect.unit (s := S512x512) ![0, 0] S512x128.size inb_S512x512_S512x128_0_0).toLoadRect (harg3.unread x0))) (View.readAt (Elt F) arg6.view (Rect.unit (s := S16x512) ![0, 0] S16x128.size inb_S16x512_S16x128_0_0).toLoadRect (harg6.unread x3)) (View.readAt (Elt F) arg9.view (Rect.unit (s := S4x16x512) ![0, 0, 0] S1x16x512.size inb_S4x16x512_S1x16x512_0_0_0).toLoadRect (harg9.unread x6))
/-- The weighted sum chain 0 ends with. -/
def fin0 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc0 i arg3 harg3 arg4 harg4 arg8 harg8 x0 x1 x5) (vx0 i arg5 harg5 x2) (metaM (ms0 arg3 harg3 arg6 harg6 arg9 harg9 x0 x3 x6))
    (metaA (ms0 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) ((k1_t1_loop i).trips + 1)).2

/-- The score blocks chain 1 works through. -/
def sc1 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half1 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5)))
    (fun k => score (half1 (View.readAt (Elt F) arg3.view (Rect.unit (s := S512x512) ![0, 0] S512x128.size inb_S512x512_S512x128_0_0).toLoadRect (harg3.unread x0))) (View.readAt (Elt F) arg4.view (Rect.unit (s := S2048x512) (k1_off9 i k) S512x128.size (k1_off9_inb i k)).toLoadRect (harg4.unread x1)) (View.readAt (Elt F) arg8.view (Rect.unit (s := S4x3x512x512) (k1_off10 i k) S1x1x512x512.size (k1_off10_inb i k)).toLoadRect (harg8.unread x5)))
/-- The value blocks chain 1 works through. -/
def vx1 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off17 i k) S1x128x512.size (k1_off17_inb i k)).toLoadRect (harg5.unread x2))) (vext (View.readAt (Elt F) arg5.view (Rect.unit (s := S4x512x512) (k1_off33 i) S1x128x512.size (k1_off33_inb i)).toLoadRect (harg5.unread x2)))
/-- The scores of the meta keys in chain 1. -/
def ms1 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half1 (View.readAt (Elt F) arg3.view (Rect.unit (s := S512x512) ![0, 0] S512x128.size inb_S512x512_S512x128_0_0).toLoadRect (harg3.unread x0))) (View.readAt (Elt F) arg6.view (Rect.unit (s := S16x512) ![0, 0] S16x128.size inb_S16x512_S16x128_0_0).toLoadRect (harg6.unread x3)) (View.readAt (Elt F) arg9.view (Rect.unit (s := S4x16x512) ![0, 0, 0] S1x16x512.size inb_S4x16x512_S1x16x512_0_0_0).toLoadRect (harg9.unread x6))
/-- The weighted sum chain 1 ends with. -/
def fin1 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc1 i arg3 harg3 arg4 harg4 arg8 harg8 x0 x1 x5) (vx1 i arg5 harg5 x2) (metaM (ms1 arg3 harg3 arg6 harg6 arg9 harg9 x0 x3 x6))
    (metaA (ms1 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) ((k1_t1_loop i).trips + 1)).2

/-- The score blocks chain 2 works through. -/
def sc2 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half0 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5)))
    (fun k => score (half0 (View.readAt (Elt F) arg3.view (Rect.unit (s := S512x512) ![0, 128] S512x128.size inb_S512x512_S512x128_0_128).toLoadRect (harg3.unread x0))) (View.readAt (Elt F) arg4.view (Rect.unit (s := S2048x512) (k1_off11 i k) S512x128.size (k1_off11_inb i k)).toLoadRect (harg4.unread x1)) (View.readAt (Elt F) arg8.view (Rect.unit (s := S4x3x512x512) (k1_off12 i k) S1x1x512x512.size (k1_off12_inb i k)).toLoadRect (harg8.unread x5)))
/-- The value blocks chain 2 works through. -/
def vx2 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off18 i k) S1x128x512.size (k1_off18_inb i k)).toLoadRect (harg5.unread x2))) (vext (View.readAt (Elt F) arg5.view (Rect.unit (s := S4x512x512) (k1_off34 i) S1x128x512.size (k1_off34_inb i)).toLoadRect (harg5.unread x2)))
/-- The scores of the meta keys in chain 2. -/
def ms2 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half0 (View.readAt (Elt F) arg3.view (Rect.unit (s := S512x512) ![0, 128] S512x128.size inb_S512x512_S512x128_0_128).toLoadRect (harg3.unread x0))) (View.readAt (Elt F) arg6.view (Rect.unit (s := S16x512) ![0, 128] S16x128.size inb_S16x512_S16x128_0_128).toLoadRect (harg6.unread x3)) (View.readAt (Elt F) arg9.view (Rect.unit (s := S4x16x512) ![1, 0, 0] S1x16x512.size inb_S4x16x512_S1x16x512_1_0_0).toLoadRect (harg9.unread x6))
/-- The weighted sum chain 2 ends with. -/
def fin2 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc2 i arg3 harg3 arg4 harg4 arg8 harg8 x0 x1 x5) (vx2 i arg5 harg5 x2) (metaM (ms2 arg3 harg3 arg6 harg6 arg9 harg9 x0 x3 x6))
    (metaA (ms2 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) ((k1_t1_loop i).trips + 1)).2

/-- The score blocks chain 3 works through. -/
def sc3 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half1 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5)))
    (fun k => score (half1 (View.readAt (Elt F) arg3.view (Rect.unit (s := S512x512) ![0, 128] S512x128.size inb_S512x512_S512x128_0_128).toLoadRect (harg3.unread x0))) (View.readAt (Elt F) arg4.view (Rect.unit (s := S2048x512) (k1_off11 i k) S512x128.size (k1_off11_inb i k)).toLoadRect (harg4.unread x1)) (View.readAt (Elt F) arg8.view (Rect.unit (s := S4x3x512x512) (k1_off12 i k) S1x1x512x512.size (k1_off12_inb i k)).toLoadRect (harg8.unread x5)))
/-- The value blocks chain 3 works through. -/
def vx3 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off18 i k) S1x128x512.size (k1_off18_inb i k)).toLoadRect (harg5.unread x2))) (vext (View.readAt (Elt F) arg5.view (Rect.unit (s := S4x512x512) (k1_off34 i) S1x128x512.size (k1_off34_inb i)).toLoadRect (harg5.unread x2)))
/-- The scores of the meta keys in chain 3. -/
def ms3 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half1 (View.readAt (Elt F) arg3.view (Rect.unit (s := S512x512) ![0, 128] S512x128.size inb_S512x512_S512x128_0_128).toLoadRect (harg3.unread x0))) (View.readAt (Elt F) arg6.view (Rect.unit (s := S16x512) ![0, 128] S16x128.size inb_S16x512_S16x128_0_128).toLoadRect (harg6.unread x3)) (View.readAt (Elt F) arg9.view (Rect.unit (s := S4x16x512) ![1, 0, 0] S1x16x512.size inb_S4x16x512_S1x16x512_1_0_0).toLoadRect (harg9.unread x6))
/-- The weighted sum chain 3 ends with. -/
def fin3 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc3 i arg3 harg3 arg4 harg4 arg8 harg8 x0 x1 x5) (vx3 i arg5 harg5 x2) (metaM (ms3 arg3 harg3 arg6 harg6 arg9 harg9 x0 x3 x6))
    (metaA (ms3 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) ((k1_t1_loop i).trips + 1)).2

/-- The score blocks chain 4 works through. -/
def sc4 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half0 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5)))
    (fun k => score (half0 (View.readAt (Elt F) arg3.view (Rect.unit (s := S512x512) ![0, 256] S512x128.size inb_S512x512_S512x128_0_256).toLoadRect (harg3.unread x0))) (View.readAt (Elt F) arg4.view (Rect.unit (s := S2048x512) (k1_off13 i k) S512x128.size (k1_off13_inb i k)).toLoadRect (harg4.unread x1)) (View.readAt (Elt F) arg8.view (Rect.unit (s := S4x3x512x512) (k1_off14 i k) S1x1x512x512.size (k1_off14_inb i k)).toLoadRect (harg8.unread x5)))
/-- The value blocks chain 4 works through. -/
def vx4 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off19 i k) S1x128x512.size (k1_off19_inb i k)).toLoadRect (harg5.unread x2))) (vext (View.readAt (Elt F) arg5.view (Rect.unit (s := S4x512x512) (k1_off35 i) S1x128x512.size (k1_off35_inb i)).toLoadRect (harg5.unread x2)))
/-- The scores of the meta keys in chain 4. -/
def ms4 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half0 (View.readAt (Elt F) arg3.view (Rect.unit (s := S512x512) ![0, 256] S512x128.size inb_S512x512_S512x128_0_256).toLoadRect (harg3.unread x0))) (View.readAt (Elt F) arg6.view (Rect.unit (s := S16x512) ![0, 256] S16x128.size inb_S16x512_S16x128_0_256).toLoadRect (harg6.unread x3)) (View.readAt (Elt F) arg9.view (Rect.unit (s := S4x16x512) ![2, 0, 0] S1x16x512.size inb_S4x16x512_S1x16x512_2_0_0).toLoadRect (harg9.unread x6))
/-- The weighted sum chain 4 ends with. -/
def fin4 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc4 i arg3 harg3 arg4 harg4 arg8 harg8 x0 x1 x5) (vx4 i arg5 harg5 x2) (metaM (ms4 arg3 harg3 arg6 harg6 arg9 harg9 x0 x3 x6))
    (metaA (ms4 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) ((k1_t1_loop i).trips + 1)).2

/-- The score blocks chain 5 works through. -/
def sc5 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half1 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5)))
    (fun k => score (half1 (View.readAt (Elt F) arg3.view (Rect.unit (s := S512x512) ![0, 256] S512x128.size inb_S512x512_S512x128_0_256).toLoadRect (harg3.unread x0))) (View.readAt (Elt F) arg4.view (Rect.unit (s := S2048x512) (k1_off13 i k) S512x128.size (k1_off13_inb i k)).toLoadRect (harg4.unread x1)) (View.readAt (Elt F) arg8.view (Rect.unit (s := S4x3x512x512) (k1_off14 i k) S1x1x512x512.size (k1_off14_inb i k)).toLoadRect (harg8.unread x5)))
/-- The value blocks chain 5 works through. -/
def vx5 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off19 i k) S1x128x512.size (k1_off19_inb i k)).toLoadRect (harg5.unread x2))) (vext (View.readAt (Elt F) arg5.view (Rect.unit (s := S4x512x512) (k1_off35 i) S1x128x512.size (k1_off35_inb i)).toLoadRect (harg5.unread x2)))
/-- The scores of the meta keys in chain 5. -/
def ms5 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half1 (View.readAt (Elt F) arg3.view (Rect.unit (s := S512x512) ![0, 256] S512x128.size inb_S512x512_S512x128_0_256).toLoadRect (harg3.unread x0))) (View.readAt (Elt F) arg6.view (Rect.unit (s := S16x512) ![0, 256] S16x128.size inb_S16x512_S16x128_0_256).toLoadRect (harg6.unread x3)) (View.readAt (Elt F) arg9.view (Rect.unit (s := S4x16x512) ![2, 0, 0] S1x16x512.size inb_S4x16x512_S1x16x512_2_0_0).toLoadRect (harg9.unread x6))
/-- The weighted sum chain 5 ends with. -/
def fin5 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc5 i arg3 harg3 arg4 harg4 arg8 harg8 x0 x1 x5) (vx5 i arg5 harg5 x2) (metaM (ms5 arg3 harg3 arg6 harg6 arg9 harg9 x0 x3 x6))
    (metaA (ms5 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) ((k1_t1_loop i).trips + 1)).2

/-- The score blocks chain 6 works through. -/
def sc6 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half0 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5)))
    (fun k => score (half0 (View.readAt (Elt F) arg3.view (Rect.unit (s := S512x512) ![0, 384] S512x128.size inb_S512x512_S512x128_0_384).toLoadRect (harg3.unread x0))) (View.readAt (Elt F) arg4.view (Rect.unit (s := S2048x512) (k1_off15 i k) S512x128.size (k1_off15_inb i k)).toLoadRect (harg4.unread x1)) (View.readAt (Elt F) arg8.view (Rect.unit (s := S4x3x512x512) (k1_off16 i k) S1x1x512x512.size (k1_off16_inb i k)).toLoadRect (harg8.unread x5)))
/-- The value blocks chain 6 works through. -/
def vx6 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off20 i k) S1x128x512.size (k1_off20_inb i k)).toLoadRect (harg5.unread x2))) (vext (View.readAt (Elt F) arg5.view (Rect.unit (s := S4x512x512) (k1_off36 i) S1x128x512.size (k1_off36_inb i)).toLoadRect (harg5.unread x2)))
/-- The scores of the meta keys in chain 6. -/
def ms6 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half0 (View.readAt (Elt F) arg3.view (Rect.unit (s := S512x512) ![0, 384] S512x128.size inb_S512x512_S512x128_0_384).toLoadRect (harg3.unread x0))) (View.readAt (Elt F) arg6.view (Rect.unit (s := S16x512) ![0, 384] S16x128.size inb_S16x512_S16x128_0_384).toLoadRect (harg6.unread x3)) (View.readAt (Elt F) arg9.view (Rect.unit (s := S4x16x512) ![3, 0, 0] S1x16x512.size inb_S4x16x512_S1x16x512_3_0_0).toLoadRect (harg9.unread x6))
/-- The weighted sum chain 6 ends with. -/
def fin6 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc6 i arg3 harg3 arg4 harg4 arg8 harg8 x0 x1 x5) (vx6 i arg5 harg5 x2) (metaM (ms6 arg3 harg3 arg6 harg6 arg9 harg9 x0 x3 x6))
    (metaA (ms6 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) ((k1_t1_loop i).trips + 1)).2

/-- The score blocks chain 7 works through. -/
def sc7 (i : grid1.Coords) (arg3 : Memref sig .tc .vmem S512x512 .bf16) (harg3 : arg3.IsWhole) (arg4 : Memref sig .tc .vmem S2048x512 .bf16) (harg4 : arg4.IsWhole) (arg8 : Memref sig .tc .vmem S4x3x512x512 .f32) (harg8 : arg8.IsWhole) (x0 : Vec F S512x512 .bf16) (x1 : Vec F S2048x512 .bf16) (x5 : Vec F S4x3x512x512 .f32) : ℕ → FVec F S512x512 .bf16 :=
  headThen (T := (k1_t1_loop i).trips) (score (half1 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5)))
    (fun k => score (half1 (View.readAt (Elt F) arg3.view (Rect.unit (s := S512x512) ![0, 384] S512x128.size inb_S512x512_S512x128_0_384).toLoadRect (harg3.unread x0))) (View.readAt (Elt F) arg4.view (Rect.unit (s := S2048x512) (k1_off15 i k) S512x128.size (k1_off15_inb i k)).toLoadRect (harg4.unread x1)) (View.readAt (Elt F) arg8.view (Rect.unit (s := S4x3x512x512) (k1_off16 i k) S1x1x512x512.size (k1_off16_inb i k)).toLoadRect (harg8.unread x5)))
/-- The value blocks chain 7 works through. -/
def vx7 (i : grid1.Coords) (arg5 : Memref sig .tc .vmem S4x512x512 .bf16) (harg5 : arg5.IsWhole) (x2 : Vec F S4x512x512 .bf16) : ℕ → FVec F S144x512 .bf16 :=
  thenLast (T := (k1_t1_loop i).trips) (fun k => vext (View.readAt (Elt F) arg5.view (Rect.unit (s := S4x512x512) (k1_off20 i k) S1x128x512.size (k1_off20_inb i k)).toLoadRect (harg5.unread x2))) (vext (View.readAt (Elt F) arg5.view (Rect.unit (s := S4x512x512) (k1_off36 i) S1x128x512.size (k1_off36_inb i)).toLoadRect (harg5.unread x2)))
/-- The scores of the meta keys in chain 7. -/
def ms7 (arg3 : Memref sig .tc .vmem S512x512 .bf16) (harg3 : arg3.IsWhole) (arg6 : Memref sig .tc .vmem S16x512 .bf16) (harg6 : arg6.IsWhole) (arg9 : Memref sig .tc .vmem S4x16x512 .f32) (harg9 : arg9.IsWhole) (x0 : Vec F S512x512 .bf16) (x3 : Vec F S16x512 .bf16) (x6 : Vec F S4x16x512 .f32) : FVec F S16x512 .bf16 :=
  mscore (half1 (View.readAt (Elt F) arg3.view (Rect.unit (s := S512x512) ![0, 384] S512x128.size inb_S512x512_S512x128_0_384).toLoadRect (harg3.unread x0))) (View.readAt (Elt F) arg6.view (Rect.unit (s := S16x512) ![0, 384] S16x128.size inb_S16x512_S16x128_0_384).toLoadRect (harg6.unread x3)) (View.readAt (Elt F) arg9.view (Rect.unit (s := S4x16x512) ![3, 0, 0] S1x16x512.size inb_S4x16x512_S1x16x512_3_0_0).toLoadRect (harg9.unread x6))
/-- The weighted sum chain 7 ends with. -/
def fin7 (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) : FVec F S144x512 .f32 :=
  (chain (sc7 i arg3 harg3 arg4 harg4 arg8 harg8 x0 x1 x5) (vx7 i arg5 harg5 x2) (metaM (ms7 arg3 harg3 arg6 harg6 arg9 harg9 x0 x3 x6))
    (metaA (ms7 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) ((k1_t1_loop i).trips + 1)).2

/-- The kernel's remainder loop makes no trip. -/
theorem rest_eq (𝒱 : Variants) (c : Dev nD) (bd : Option 𝒱.V) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole) (v9 : FVec F S512x128 .bf16) (v17 : FVec F S512x128 .bf16) (v27 : FVec F S512x128 .bf16) (v35 : FVec F S512x128 .bf16) (v45 : FVec F S512x128 .bf16) (v53 : FVec F S512x128 .bf16) (v63 : FVec F S512x128 .bf16) (v71 : FVec F S512x128 .bf16) (v74 : BitVec 32) (v88 : FVec F S512x512 .bf16) (v97 : FVec F S512x512 .bf16) (v106 : FVec F S512x512 .bf16) (v115 : FVec F S512x512 .bf16) (v124 : FVec F S512x512 .bf16) (v133 : FVec F S512x512 .bf16) (v142 : FVec F S512x512 .bf16) (v151 : FVec F S512x512 .bf16) (v174 : FVec F S1x512 .f32) (v184 : FVec F S144x512 .f32) (v207 : FVec F S1x512 .f32) (v217 : FVec F S144x512 .f32) (v240 : FVec F S1x512 .f32) (v250 : FVec F S144x512 .f32) (v273 : FVec F S1x512 .f32) (v283 : FVec F S144x512 .f32) (v306 : FVec F S1x512 .f32) (v316 : FVec F S144x512 .f32) (v339 : FVec F S1x512 .f32) (v349 : FVec F S144x512 .f32) (v372 : FVec F S1x512 .f32) (v382 : FVec F S144x512 .f32) (v389 : FVec F S16x512 .bf16) (v391 : FVec F S128x16 .bf16) (v394 : IVec S16x16 1) (v420 : BitVec 32) (X4 : BufTy.Contents (Elt F) arg4.view.ty) (X5 : BufTy.Contents (Elt F) arg5.view.ty) (X8 : BufTy.Contents (Elt F) arg8.view.ty) (init : FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S512x512 .bf16 × FVec F S512x512 .bf16 × FVec F S512x512 .bf16 × FVec F S512x512 .bf16 × FVec F S512x512 .bf16 × FVec F S512x512 .bf16 × FVec F S512x512 .bf16 × FVec F S512x512 .bf16) :
    st_k1_t2 (F := F) 𝒱 c bd i arg3 harg3 arg4 harg4 arg5 harg5 arg6 harg6 arg7 harg7 arg8 harg8 arg9 harg9 arg10 harg10 arg11 harg11 arg12 harg12 arg13 harg13 arg14 harg14 arg15 harg15 v9 v17 v27 v35 v45 v53 v63 v71 v74 v88 v97 v106 v115 v124 v133 v142 v151 v174 v184 v207 v217 v240 v250 v273 v283 v306 v316 v339 v349 v372 v382 v389 v391 v394 v420 X4 X5 X8 init (k1_t2_loop i).trips = init := by
  have h : (k1_t2_loop i).trips = 0 := Nat.le_zero.mp (k1_t2_abs i).2.1
  rw [h]
  rfl

/-- The four output blocks from what the loop carries out: the last block is reduced after the loop. -/
def finish (i : grid1.Coords) (arg5 : Memref sig .tc .vmem S4x512x512 .bf16) (harg5 : arg5.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (x2 : Vec F S4x512x512 .bf16) (x7 : Vec F S1x64 .f32) (x8 : Vec F S1x64 .f32) (x9 : Vec F S1x64 .f32) (x10 : Vec F S1x64 .f32) (x11 : Vec F S128x1 .f32) (L : FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S1x512 .f32 × FVec F S144x512 .f32 × FVec F S512x512 .bf16 × FVec F S512x512 .bf16 × FVec F S512x512 .bf16 × FVec F S512x512 .bf16 × FVec F S512x512 .bf16 × FVec F S512x512 .bf16 × FVec F S512x512 .bf16 × FVec F S512x512 .bf16) : List (View.Piece (Elt F) S512x512 .bf16) :=
  [⟨Rect.unit ![0, 384] ![512, 128] inb_S512x512_S512x128_0_384, headOut (updA L.2.2.2.2.2.2.2.2.2.2.2.2.1 L.2.2.2.2.2.2.2.2.2.2.2.2.2.1 L.2.2.2.2.2.2.2.2.2.2.2.2.2.2.2.2.2.2.2.2.2.2.1 (vext (View.readAt (Elt F) arg5.view (Rect.unit (s := S4x512x512) (k1_off36 i) S1x128x512.size (k1_off36_inb i)).toLoadRect (harg5.unread x2)))) (updA L.2.2.2.2.2.2.2.2.2.2.2.2.2.2.1 L.2.2.2.2.2.2.2.2.2.2.2.2.2.2.2.1 L.2.2.2.2.2.2.2.2.2.2.2.2.2.2.2.2.2.2.2.2.2.2.2 (vext (View.readAt (Elt F) arg5.view (Rect.unit (s := S4x512x512) (k1_off36 i) S1x128x512.size (k1_off36_inb i)).toLoadRect (harg5.unread x2)))) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩,
    ⟨Rect.unit ![0, 256] ![512, 128] inb_S512x512_S512x128_0_256, headOut (updA L.2.2.2.2.2.2.2.2.1 L.2.2.2.2.2.2.2.2.2.1 L.2.2.2.2.2.2.2.2.2.2.2.2.2.2.2.2.2.2.2.2.1 (vext (View.readAt (Elt F) arg5.view (Rect.unit (s := S4x512x512) (k1_off35 i) S1x128x512.size (k1_off35_inb i)).toLoadRect (harg5.unread x2)))) (updA L.2.2.2.2.2.2.2.2.2.2.1 L.2.2.2.2.2.2.2.2.2.2.2.1 L.2.2.2.2.2.2.2.2.2.2.2.2.2.2.2.2.2.2.2.2.2.1 (vext (View.readAt (Elt F) arg5.view (Rect.unit (s := S4x512x512) (k1_off35 i) S1x128x512.size (k1_off35_inb i)).toLoadRect (harg5.unread x2)))) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩,
    ⟨Rect.unit ![0, 128] ![512, 128] inb_S512x512_S512x128_0_128, headOut (updA L.2.2.2.2.1 L.2.2.2.2.2.1 L.2.2.2.2.2.2.2.2.2.2.2.2.2.2.2.2.2.2.1 (vext (View.readAt (Elt F) arg5.view (Rect.unit (s := S4x512x512) (k1_off34 i) S1x128x512.size (k1_off34_inb i)).toLoadRect (harg5.unread x2)))) (updA L.2.2.2.2.2.2.1 L.2.2.2.2.2.2.2.1 L.2.2.2.2.2.2.2.2.2.2.2.2.2.2.2.2.2.2.2.1 (vext (View.readAt (Elt F) arg5.view (Rect.unit (s := S4x512x512) (k1_off34 i) S1x128x512.size (k1_off34_inb i)).toLoadRect (harg5.unread x2)))) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩,
    ⟨Rect.unit ![0, 0] ![512, 128] inb_S512x512_S512x128_0_0, headOut (updA L.1 L.2.1 L.2.2.2.2.2.2.2.2.2.2.2.2.2.2.2.2.1 (vext (View.readAt (Elt F) arg5.view (Rect.unit (s := S4x512x512) (k1_off33 i) S1x128x512.size (k1_off33_inb i)).toLoadRect (harg5.unread x2)))) (updA L.2.2.1 L.2.2.2.1 L.2.2.2.2.2.2.2.2.2.2.2.2.2.2.2.2.2.1 (vext (View.readAt (Elt F) arg5.view (Rect.unit (s := S4x512x512) (k1_off33 i) S1x128x512.size (k1_off33_inb i)).toLoadRect (harg5.unread x2)))) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩]

set_option maxHeartbeats 4000000 in
/-- One run of the body writes four blocks, each its head's output from the weighted sums its two chains end with. -/
theorem pieces_eq (c : Dev nD) (i : grid1.Coords) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S512x512 .bf16) (harg15 : arg15.IsWhole) (x0 : Vec F S512x512 .bf16) (x1 : Vec F S2048x512 .bf16) (x2 : Vec F S4x512x512 .bf16) (x3 : Vec F S16x512 .bf16) (x4 : Vec F S4x128x16 .bf16) (x5 : Vec F S4x3x512x512 .f32) (x6 : Vec F S4x16x512 .f32) (x7 : Vec F S1x64 .f32) (x8 : Vec F S1x64 .f32) (x9 : Vec F S1x64 .f32) (x10 : Vec F S1x64 .f32) (x11 : Vec F S128x1 .f32) :
    (kernelRun1_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11).1 =
    [⟨Rect.unit ![0, 384] ![512, 128] inb_S512x512_S512x128_0_384, headOut (fin6 i arg3 harg3 arg4 harg4 arg5 harg5 arg6 harg6 arg7 harg7 arg8 harg8 arg9 harg9 x0 x1 x2 x3 x4 x5 x6) (fin7 i arg3 harg3 arg4 harg4 arg5 harg5 arg6 harg6 arg7 harg7 arg8 harg8 arg9 harg9 x0 x1 x2 x3 x4 x5 x6) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩,
    ⟨Rect.unit ![0, 256] ![512, 128] inb_S512x512_S512x128_0_256, headOut (fin4 i arg3 harg3 arg4 harg4 arg5 harg5 arg6 harg6 arg7 harg7 arg8 harg8 arg9 harg9 x0 x1 x2 x3 x4 x5 x6) (fin5 i arg3 harg3 arg4 harg4 arg5 harg5 arg6 harg6 arg7 harg7 arg8 harg8 arg9 harg9 x0 x1 x2 x3 x4 x5 x6) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩,
    ⟨Rect.unit ![0, 128] ![512, 128] inb_S512x512_S512x128_0_128, headOut (fin2 i arg3 harg3 arg4 harg4 arg5 harg5 arg6 harg6 arg7 harg7 arg8 harg8 arg9 harg9 x0 x1 x2 x3 x4 x5 x6) (fin3 i arg3 harg3 arg4 harg4 arg5 harg5 arg6 harg6 arg7 harg7 arg8 harg8 arg9 harg9 x0 x1 x2 x3 x4 x5 x6) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩,
    ⟨Rect.unit ![0, 0] ![512, 128] inb_S512x512_S512x128_0_0, headOut (fin0 i arg3 harg3 arg4 harg4 arg5 harg5 arg6 harg6 arg7 harg7 arg8 harg8 arg9 harg9 x0 x1 x2 x3 x4 x5 x6) (fin1 i arg3 harg3 arg4 harg4 arg5 harg5 arg6 harg6 arg7 harg7 arg8 harg8 arg9 harg9 x0 x1 x2 x3 x4 x5 x6) (k1_pay147 (View.readAt (Elt F) arg10.view (Rect.unit (s := S1x64) ![0, 0] S1x64.size inb_S1x64_S1x64_0_0).toLoadRect (harg10.unread x7)) (View.readAt (Elt F) arg11.view (Rect.unit (s := S1x64) ![0, 0] S1x64.size inb_S1x64_S1x64_0_0).toLoadRect (harg11.unread x8)) (View.readAt (Elt F) arg12.view (Rect.unit (s := S1x64) ![0, 0] S1x64.size inb_S1x64_S1x64_0_0).toLoadRect (harg12.unread x9)) (View.readAt (Elt F) arg13.view (Rect.unit (s := S1x64) ![0, 0] S1x64.size inb_S1x64_S1x64_0_0).toLoadRect (harg13.unread x10))) (View.readAt (Elt F) arg14.view (Rect.unit (s := S128x1) ![0, 0] S128x1.size inb_S128x1_S128x1_0_0).toLoadRect (harg14.unread x11))⟩] := by
  have e2 := carry_eq (F := F) Variants.none c none i arg3 harg3 arg4 harg4 arg5 harg5 arg6 harg6 arg7 harg7 arg8 harg8 arg9 harg9 arg10 harg10 arg11 harg11 arg12 harg12 arg13 harg13 arg14 harg14 arg15 harg15 (half0 (View.readAt (Elt F) arg3.view (Rect.unit (s := S512x512) ![0, 0] S512x128.size inb_S512x512_S512x128_0_0).toLoadRect (harg3.unread x0))) (half1 (View.readAt (Elt F) arg3.view (Rect.unit (s := S512x512) ![0, 0] S512x128.size inb_S512x512_S512x128_0_0).toLoadRect (harg3.unread x0))) (half0 (View.readAt (Elt F) arg3.view (Rect.unit (s := S512x512) ![0, 128] S512x128.size inb_S512x512_S512x128_0_128).toLoadRect (harg3.unread x0))) (half1 (View.readAt (Elt F) arg3.view (Rect.unit (s := S512x512) ![0, 128] S512x128.size inb_S512x512_S512x128_0_128).toLoadRect (harg3.unread x0))) (half0 (View.readAt (Elt F) arg3.view (Rect.unit (s := S512x512) ![0, 256] S512x128.size inb_S512x512_S512x128_0_256).toLoadRect (harg3.unread x0))) (half1 (View.readAt (Elt F) arg3.view (Rect.unit (s := S512x512) ![0, 256] S512x128.size inb_S512x512_S512x128_0_256).toLoadRect (harg3.unread x0))) (half0 (View.readAt (Elt F) arg3.view (Rect.unit (s := S512x512) ![0, 384] S512x128.size inb_S512x512_S512x128_0_384).toLoadRect (harg3.unread x0))) (half1 (View.readAt (Elt F) arg3.view (Rect.unit (s := S512x512) ![0, 384] S512x128.size inb_S512x512_S512x128_0_384).toLoadRect (harg3.unread x0))) (Scalar.subi (Scalar.addi (Scalar.muli 1#32 (BitVec.ofNat 32 (i 2).val)) 1#32) 1#32) (score (half0 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5))) (score (half1 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5))) (score (half0 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5))) (score (half1 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5))) (score (half0 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5))) (score (half1 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5))) (score (half0 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5))) (score (half1 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5))) (metaM (ms0 arg3 harg3 arg6 harg6 arg9 harg9 x0 x3 x6)) (metaA (ms0 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (metaM (ms1 arg3 harg3 arg6 harg6 arg9 harg9 x0 x3 x6)) (metaA (ms1 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (metaM (ms2 arg3 harg3 arg6 harg6 arg9 harg9 x0 x3 x6)) (metaA (ms2 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (metaM (ms3 arg3 harg3 arg6 harg6 arg9 harg9 x0 x3 x6)) (metaA (ms3 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (metaM (ms4 arg3 harg3 arg6 harg6 arg9 harg9 x0 x3 x6)) (metaA (ms4 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (metaM (ms5 arg3 harg3 arg6 harg6 arg9 harg9 x0 x3 x6)) (metaA (ms5 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (metaM (ms6 arg3 harg3 arg6 harg6 arg9 harg9 x0 x3 x6)) (metaA (ms6 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) (ms7 arg3 harg3 arg6 harg6 arg9 harg9 x0 x3 x6) (k1_pay118 (View.readAt (Elt F) arg7.view (Rect.unit (s := S4x128x16) ![3, 0, 0] S1x128x16.size inb_S4x128x16_S1x128x16_3_0_0).toLoadRect (harg7.unread x4))) k1_pay119 (harg4.unread x1) (harg5.unread x2) (harg8.unread x5) (sc0 i arg3 harg3 arg4 harg4 arg8 harg8 x0 x1 x5) (vx0 i arg5 harg5 x2) (metaM (ms0 arg3 harg3 arg6 harg6 arg9 harg9 x0 x3 x6)) (metaA (ms0 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (sc1 i arg3 harg3 arg4 harg4 arg8 harg8 x0 x1 x5) (vx1 i arg5 harg5 x2) (metaM (ms1 arg3 harg3 arg6 harg6 arg9 harg9 x0 x3 x6)) (metaA (ms1 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (sc2 i arg3 harg3 arg4 harg4 arg8 harg8 x0 x1 x5) (vx2 i arg5 harg5 x2) (metaM (ms2 arg3 harg3 arg6 harg6 arg9 harg9 x0 x3 x6)) (metaA (ms2 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (sc3 i arg3 harg3 arg4 harg4 arg8 harg8 x0 x1 x5) (vx3 i arg5 harg5 x2) (metaM (ms3 arg3 harg3 arg6 harg6 arg9 harg9 x0 x3 x6)) (metaA (ms3 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (sc4 i arg3 harg3 arg4 harg4 arg8 harg8 x0 x1 x5) (vx4 i arg5 harg5 x2) (metaM (ms4 arg3 harg3 arg6 harg6 arg9 harg9 x0 x3 x6)) (metaA (ms4 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (sc5 i arg3 harg3 arg4 harg4 arg8 harg8 x0 x1 x5) (vx5 i arg5 harg5 x2) (metaM (ms5 arg3 harg3 arg6 harg6 arg9 harg9 x0 x3 x6)) (metaA (ms5 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (sc6 i arg3 harg3 arg4 harg4 arg8 harg8 x0 x1 x5) (vx6 i arg5 harg5 x2) (metaM (ms6 arg3 harg3 arg6 harg6 arg9 harg9 x0 x3 x6)) (metaA (ms6 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) (sc7 i arg3 harg3 arg4 harg4 arg8 harg8 x0 x1 x5) (vx7 i arg5 harg5 x2) (metaM (ms7 arg3 harg3 arg6 harg6 arg9 harg9 x0 x3 x6)) (metaA (ms7 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) (fun k => headThen_succ _ _ k) (fun k => thenLast_lt _ _ k) (fun k => headThen_succ _ _ k) (fun k => thenLast_lt _ _ k) (fun k => headThen_succ _ _ k) (fun k => thenLast_lt _ _ k) (fun k => headThen_succ _ _ k) (fun k => thenLast_lt _ _ k) (fun k => headThen_succ _ _ k) (fun k => thenLast_lt _ _ k) (fun k => headThen_succ _ _ k) (fun k => thenLast_lt _ _ k) (fun k => headThen_succ _ _ k) (fun k => thenLast_lt _ _ k) (fun k => headThen_succ _ _ k) (fun k => thenLast_lt _ _ k) (k1_t1_loop i).trips le_rfl
  generalize hL : st_k1_t1 (F := F) Variants.none c none i arg3 harg3 arg4 harg4 arg5 harg5 arg6 harg6 arg7 harg7 arg8 harg8 arg9 harg9 arg10 harg10 arg11 harg11 arg12 harg12 arg13 harg13 arg14 harg14 arg15 harg15 (half0 (View.readAt (Elt F) arg3.view (Rect.unit (s := S512x512) ![0, 0] S512x128.size inb_S512x512_S512x128_0_0).toLoadRect (harg3.unread x0))) (half1 (View.readAt (Elt F) arg3.view (Rect.unit (s := S512x512) ![0, 0] S512x128.size inb_S512x512_S512x128_0_0).toLoadRect (harg3.unread x0))) (half0 (View.readAt (Elt F) arg3.view (Rect.unit (s := S512x512) ![0, 128] S512x128.size inb_S512x512_S512x128_0_128).toLoadRect (harg3.unread x0))) (half1 (View.readAt (Elt F) arg3.view (Rect.unit (s := S512x512) ![0, 128] S512x128.size inb_S512x512_S512x128_0_128).toLoadRect (harg3.unread x0))) (half0 (View.readAt (Elt F) arg3.view (Rect.unit (s := S512x512) ![0, 256] S512x128.size inb_S512x512_S512x128_0_256).toLoadRect (harg3.unread x0))) (half1 (View.readAt (Elt F) arg3.view (Rect.unit (s := S512x512) ![0, 256] S512x128.size inb_S512x512_S512x128_0_256).toLoadRect (harg3.unread x0))) (half0 (View.readAt (Elt F) arg3.view (Rect.unit (s := S512x512) ![0, 384] S512x128.size inb_S512x512_S512x128_0_384).toLoadRect (harg3.unread x0))) (half1 (View.readAt (Elt F) arg3.view (Rect.unit (s := S512x512) ![0, 384] S512x128.size inb_S512x512_S512x128_0_384).toLoadRect (harg3.unread x0))) (Scalar.subi (Scalar.addi (Scalar.muli 1#32 (BitVec.ofNat 32 (i 2).val)) 1#32) 1#32) (score (half0 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5))) (score (half1 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5))) (score (half0 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5))) (score (half1 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5))) (score (half0 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5))) (score (half1 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5))) (score (half0 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5))) (score (half1 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5))) (metaM (ms0 arg3 harg3 arg6 harg6 arg9 harg9 x0 x3 x6)) (metaA (ms0 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (metaM (ms1 arg3 harg3 arg6 harg6 arg9 harg9 x0 x3 x6)) (metaA (ms1 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (metaM (ms2 arg3 harg3 arg6 harg6 arg9 harg9 x0 x3 x6)) (metaA (ms2 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (metaM (ms3 arg3 harg3 arg6 harg6 arg9 harg9 x0 x3 x6)) (metaA (ms3 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (metaM (ms4 arg3 harg3 arg6 harg6 arg9 harg9 x0 x3 x6)) (metaA (ms4 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (metaM (ms5 arg3 harg3 arg6 harg6 arg9 harg9 x0 x3 x6)) (metaA (ms5 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (metaM (ms6 arg3 harg3 arg6 harg6 arg9 harg9 x0 x3 x6)) (metaA (ms6 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) (ms7 arg3 harg3 arg6 harg6 arg9 harg9 x0 x3 x6) (k1_pay118 (View.readAt (Elt F) arg7.view (Rect.unit (s := S4x128x16) ![3, 0, 0] S1x128x16.size inb_S4x128x16_S1x128x16_3_0_0).toLoadRect (harg7.unread x4))) k1_pay119 (harg4.unread x1) (harg5.unread x2) (harg8.unread x5) (metaM (ms0 arg3 harg3 arg6 harg6 arg9 harg9 x0 x3 x6), metaA (ms0 arg3 harg3 arg6 harg6 arg9 harg9 x0 x3 x6) (View.readAt (Elt F) arg7.view (Rect.unit (s := S4x128x16) ![0, 0, 0] S1x128x16.size inb_S4x128x16_S1x128x16_0_0_0).toLoadRect (harg7.unread x4)), metaM (ms1 arg3 harg3 arg6 harg6 arg9 harg9 x0 x3 x6), metaA (ms1 arg3 harg3 arg6 harg6 arg9 harg9 x0 x3 x6) (View.readAt (Elt F) arg7.view (Rect.unit (s := S4x128x16) ![0, 0, 0] S1x128x16.size inb_S4x128x16_S1x128x16_0_0_0).toLoadRect (harg7.unread x4)), metaM (ms2 arg3 harg3 arg6 harg6 arg9 harg9 x0 x3 x6), metaA (ms2 arg3 harg3 arg6 harg6 arg9 harg9 x0 x3 x6) (View.readAt (Elt F) arg7.view (Rect.unit (s := S4x128x16) ![1, 0, 0] S1x128x16.size inb_S4x128x16_S1x128x16_1_0_0).toLoadRect (harg7.unread x4)), metaM (ms3 arg3 harg3 arg6 harg6 arg9 harg9 x0 x3 x6), metaA (ms3 arg3 harg3 arg6 harg6 arg9 harg9 x0 x3 x6) (View.readAt (Elt F) arg7.view (Rect.unit (s := S4x128x16) ![1, 0, 0] S1x128x16.size inb_S4x128x16_S1x128x16_1_0_0).toLoadRect (harg7.unread x4)), metaM (ms4 arg3 harg3 arg6 harg6 arg9 harg9 x0 x3 x6), metaA (ms4 arg3 harg3 arg6 harg6 arg9 harg9 x0 x3 x6) (View.readAt (Elt F) arg7.view (Rect.unit (s := S4x128x16) ![2, 0, 0] S1x128x16.size inb_S4x128x16_S1x128x16_2_0_0).toLoadRect (harg7.unread x4)), metaM (ms5 arg3 harg3 arg6 harg6 arg9 harg9 x0 x3 x6), metaA (ms5 arg3 harg3 arg6 harg6 arg9 harg9 x0 x3 x6) (View.readAt (Elt F) arg7.view (Rect.unit (s := S4x128x16) ![2, 0, 0] S1x128x16.size inb_S4x128x16_S1x128x16_2_0_0).toLoadRect (harg7.unread x4)), metaM (ms6 arg3 harg3 arg6 harg6 arg9 harg9 x0 x3 x6), metaA (ms6 arg3 harg3 arg6 harg6 arg9 harg9 x0 x3 x6) (View.readAt (Elt F) arg7.view (Rect.unit (s := S4x128x16) ![3, 0, 0] S1x128x16.size inb_S4x128x16_S1x128x16_3_0_0).toLoadRect (harg7.unread x4)), metaM (ms7 arg3 harg3 arg6 harg6 arg9 harg9 x0 x3 x6), metaA (ms7 arg3 harg3 arg6 harg6 arg9 harg9 x0 x3 x6) (View.readAt (Elt F) arg7.view (Rect.unit (s := S4x128x16) ![3, 0, 0] S1x128x16.size inb_S4x128x16_S1x128x16_3_0_0).toLoadRect (harg7.unread x4)), (sc0 i arg3 harg3 arg4 harg4 arg8 harg8 x0 x1 x5) 0, (sc1 i arg3 harg3 arg4 harg4 arg8 harg8 x0 x1 x5) 0, (sc2 i arg3 harg3 arg4 harg4 arg8 harg8 x0 x1 x5) 0, (sc3 i arg3 harg3 arg4 harg4 arg8 harg8 x0 x1 x5) 0, (sc4 i arg3 harg3 arg4 harg4 arg8 harg8 x0 x1 x5) 0, (sc5 i arg3 harg3 arg4 harg4 arg8 harg8 x0 x1 x5) 0, (sc6 i arg3 harg3 arg4 harg4 arg8 harg8 x0 x1 x5) 0, (sc7 i arg3 harg3 arg4 harg4 arg8 harg8 x0 x1 x5) 0) (k1_t1_loop i).trips = L at e2
  have e1 := rest_eq (F := F) Variants.none c none i arg3 harg3 arg4 harg4 arg5 harg5 arg6 harg6 arg7 harg7 arg8 harg8 arg9 harg9 arg10 harg10 arg11 harg11 arg12 harg12 arg13 harg13 arg14 harg14 arg15 harg15 (half0 (View.readAt (Elt F) arg3.view (Rect.unit (s := S512x512) ![0, 0] S512x128.size inb_S512x512_S512x128_0_0).toLoadRect (harg3.unread x0))) (half1 (View.readAt (Elt F) arg3.view (Rect.unit (s := S512x512) ![0, 0] S512x128.size inb_S512x512_S512x128_0_0).toLoadRect (harg3.unread x0))) (half0 (View.readAt (Elt F) arg3.view (Rect.unit (s := S512x512) ![0, 128] S512x128.size inb_S512x512_S512x128_0_128).toLoadRect (harg3.unread x0))) (half1 (View.readAt (Elt F) arg3.view (Rect.unit (s := S512x512) ![0, 128] S512x128.size inb_S512x512_S512x128_0_128).toLoadRect (harg3.unread x0))) (half0 (View.readAt (Elt F) arg3.view (Rect.unit (s := S512x512) ![0, 256] S512x128.size inb_S512x512_S512x128_0_256).toLoadRect (harg3.unread x0))) (half1 (View.readAt (Elt F) arg3.view (Rect.unit (s := S512x512) ![0, 256] S512x128.size inb_S512x512_S512x128_0_256).toLoadRect (harg3.unread x0))) (half0 (View.readAt (Elt F) arg3.view (Rect.unit (s := S512x512) ![0, 384] S512x128.size inb_S512x512_S512x128_0_384).toLoadRect (harg3.unread x0))) (half1 (View.readAt (Elt F) arg3.view (Rect.unit (s := S512x512) ![0, 384] S512x128.size inb_S512x512_S512x128_0_384).toLoadRect (harg3.unread x0))) (Scalar.subi (Scalar.addi (Scalar.muli 1#32 (BitVec.ofNat 32 (i 2).val)) 1#32) 1#32) (score (half0 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5))) (score (half1 (View.readAt (Elt F) arg3.view (Rect.unit (s := S512x512) ![0, 0] S512x128.size inb_S512x512_S512x128_0_0).toLoadRect (harg3.unread x0))) (View.readAt (Elt F) arg4.view (Rect.unit (s := S2048x512) (k1_off1 i) S512x128.size (k1_off1_inb i)).toLoadRect (harg4.unread x1)) (View.readAt (Elt F) arg8.view (Rect.unit (s := S4x3x512x512) k1_off2 S1x1x512x512.size k1_off2_inb).toLoadRect (harg8.unread x5))) (score (half0 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5))) (score (half1 (View.readAt (Elt F) arg3.view (Rect.unit (s := S512x512) ![0, 128] S512x128.size inb_S512x512_S512x128_0_128).toLoadRect (harg3.unread x0))) (View.readAt (Elt F) arg4.view (Rect.unit (s := S2048x512) (k1_off3 i) S512x128.size (k1_off3_inb i)).toLoadRect (harg4.unread x1)) (View.readAt (Elt F) arg8.view (Rect.unit (s := S4x3x512x512) k1_off4 S1x1x512x512.size k1_off4_inb).toLoadRect (harg8.unread x5))) (score (half0 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5))) (score (half1 (View.readAt (Elt F) arg3.view (Rect.unit (s := S512x512) ![0, 256] S512x128.size inb_S512x512_S512x128_0_256).toLoadRect (harg3.unread x0))) (View.readAt (Elt F) arg4.view (Rect.unit (s := S2048x512) (k1_off5 i) S512x128.size (k1_off5_inb i)).toLoadRect (harg4.unread x1)) (View.readAt (Elt F) arg8.view (Rect.unit (s := S4x3x512x512) k1_off6 S1x1x512x512.size k1_off6_inb).toLoadRect (harg8.unread x5))) (score (half0 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5))) (score (half1 (View.readAt (Elt F) arg3.view (Rect.unit (s := S512x512) ![0, 384] S512x128.size inb_S512x512_S512x128_0_384).toLoadRect (harg3.unread x0))) (View.readAt (Elt F) arg4.view (Rect.unit (s := S2048x512) (k1_off7 i) S512x128.size (k1_off7_inb i)).toLoadRect (harg4.unread x1)) (View.readAt (Elt F) arg8.view (Rect.unit (s := S4x3x512x512) k1_off8 S1x1x512x512.size k1_off8_inb).toLoadRect (harg8.unread x5))) (metaM (ms0 arg3 harg3 arg6 harg6 arg9 harg9 x0 x3 x6)) (metaA (ms0 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (metaM (ms1 arg3 harg3 arg6 harg6 arg9 harg9 x0 x3 x6)) (metaA (ms1 arg3 harg3 arg6 harg6 arg9 harg9 x0 x3 x6) (View.readAt (Elt F) arg7.view (Rect.unit (s := S4x128x16) ![0, 0, 0] S1x128x16.size inb_S4x128x16_S1x128x16_0_0_0).toLoadRect (harg7.unread x4))) (metaM (ms2 arg3 harg3 arg6 harg6 arg9 harg9 x0 x3 x6)) (metaA (ms2 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (metaM (ms3 arg3 harg3 arg6 harg6 arg9 harg9 x0 x3 x6)) (metaA (ms3 arg3 harg3 arg6 harg6 arg9 harg9 x0 x3 x6) (View.readAt (Elt F) arg7.view (Rect.unit (s := S4x128x16) ![1, 0, 0] S1x128x16.size inb_S4x128x16_S1x128x16_1_0_0).toLoadRect (harg7.unread x4))) (metaM (ms4 arg3 harg3 arg6 harg6 arg9 harg9 x0 x3 x6)) (metaA (ms4 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (metaM (ms5 arg3 harg3 arg6 harg6 arg9 harg9 x0 x3 x6)) (metaA (ms5 arg3 harg3 arg6 harg6 arg9 harg9 x0 x3 x6) (View.readAt (Elt F) arg7.view (Rect.unit (s := S4x128x16) ![2, 0, 0] S1x128x16.size inb_S4x128x16_S1x128x16_2_0_0).toLoadRect (harg7.unread x4))) (metaM (ms6 arg3 harg3 arg6 harg6 arg9 harg9 x0 x3 x6)) (metaA (ms6 arg3 harg3 arg6 harg6 arg9 harg9 x0 x3 x6) (View.readAt (Elt F) arg7.view (Rect.unit (s := S4x128x16) ![3, 0, 0] S1x128x16.size inb_S4x128x16_S1x128x16_3_0_0).toLoadRect (harg7.unread x4))) (ms7 arg3 harg3 arg6 harg6 arg9 harg9 x0 x3 x6) (k1_pay118 (View.readAt (Elt F) arg7.view (Rect.unit (s := S4x128x16) ![3, 0, 0] S1x128x16.size inb_S4x128x16_S1x128x16_3_0_0).toLoadRect (harg7.unread x4))) k1_pay119 (Scalar.addi 0#32 (Scalar.muli (Scalar.divsi (Scalar.subi (Scalar.subi (Scalar.addi (Scalar.muli 1#32 (BitVec.ofNat 32 (i 2).val)) 1#32) 1#32) 0#32) 1#32) 1#32)) (harg4.unread x1) (harg5.unread x2) (harg8.unread x5) (L.1, L.2.1, L.2.2.1, L.2.2.2.1, L.2.2.2.2.1, L.2.2.2.2.2.1, L.2.2.2.2.2.2.1, L.2.2.2.2.2.2.2.1, L.2.2.2.2.2.2.2.2.1, L.2.2.2.2.2.2.2.2.2.1, L.2.2.2.2.2.2.2.2.2.2.1, L.2.2.2.2.2.2.2.2.2.2.2.1, L.2.2.2.2.2.2.2.2.2.2.2.2.1, L.2.2.2.2.2.2.2.2.2.2.2.2.2.1, L.2.2.2.2.2.2.2.2.2.2.2.2.2.2.1, L.2.2.2.2.2.2.2.2.2.2.2.2.2.2.2.1, L.2.2.2.2.2.2.2.2.2.2.2.2.2.2.2.2.1, L.2.2.2.2.2.2.2.2.2.2.2.2.2.2.2.2.2.1, L.2.2.2.2.2.2.2.2.2.2.2.2.2.2.2.2.2.2.1, L.2.2.2.2.2.2.2.2.2.2.2.2.2.2.2.2.2.2.2.1, L.2.2.2.2.2.2.2.2.2.2.2.2.2.2.2.2.2.2.2.2.1, L.2.2.2.2.2.2.2.2.2.2.2.2.2.2.2.2.2.2.2.2.2.1, L.2.2.2.2.2.2.2.2.2.2.2.2.2.2.2.2.2.2.2.2.2.2.1, L.2.2.2.2.2.2.2.2.2.2.2.2.2.2.2.2.2.2.2.2.2.2.2)
  have e3 := congrArg (finish i arg5 harg5 arg10 harg10 arg11 harg11 arg12 harg12 arg13 harg13 arg14 harg14 x2 x7 x8 x9 x10 x11) (e1.trans e2)
  subst hL
  refine Eq.trans ?_ (e3.trans ?_)
  · unfold kernelRun1_A
    rfl
  · simp only [finish, fin0, fin1, fin2, fin3, fin4, fin5, fin6, fin7, chain]
    simp only [vx0, vx1, vx2, vx3, vx4, vx5, vx6, vx7, thenLast_last]

end Cert.DiffAttn
-- ==== Proof.Heads.lean ====
/- The attention kernel's eight chains: what each ends with, from what its operands' blocks hold. -/
module

public import proofs.«01_k».proof.Proof.AttnMath
public import proofs.«01_k».proof.Proof.Offsets
public import proofs.«01_k».proof.Proof.BiasArr
public import proofs.«01_k».proof.Proof.Pieces

@[expose] public section

set_option maxRecDepth 16384

noncomputable section

namespace Cert.DiffAttn

open Idealize.ShloMosaic Idealize.ShloMosaic.TcCoe Idealize.SL.Sem Cert.KernelIdeal Cert.KernelIdeal.Gen

/-- What the blocks of a point hold, for batch entry `b` and query block `qi`. -/
structure Blocks (A : Inputs) (b : Fin 32) (qi : ℕ) (hqi : qi < 4) (x0 : Vec Ideal S512x512 .bf16) (x1 : Vec Ideal S2048x512 .bf16)
    (x2 : Vec Ideal S4x512x512 .bf16) (x3 : Vec Ideal S16x512 .bf16) (x4 : Vec Ideal S4x128x16 .bf16)
    (x5 : Vec Ideal S4x3x512x512 .f32) (x6 : Vec Ideal S4x16x512 .f32) : Prop where
  query : ∀ (j : Fin 512) (w : Fin 512), x0 (ix2 j w) = ((A.full b ⟨16 + 512 * qi + j, by omega⟩ ⟨1536 + w, by omega⟩ * (1 / 8) : ℝ) : EReal)
  key : ∀ (r : Fin 2048) (w : Fin 512), x1 (ix2 r w) = (A.full b ⟨16 + r, by omega⟩ ⟨2048 + w, by omega⟩ : EReal)
  value : ∀ (kb : Fin 4) (e i : Fin 512), x2 (ix3 kb e i) = (A.full b ⟨16 + 512 * kb + i, by omega⟩ ⟨2560 + e, by omega⟩ : EReal)
  mkey : ∀ (i : Fin 16) (w : Fin 512), x3 (ix2 i w) = (A.full b ⟨i, by omega⟩ ⟨2048 + w, by omega⟩ : EReal)
  mvalue : ∀ (h : Fin 4) (e : Fin 128) (i : Fin 16), x4 (ix3 h e i) = (A.full b ⟨i, by omega⟩ ⟨2560 + 128 * h + e, by omega⟩ : EReal)
  tile : ∀ (h : Fin 4) (d : Fin 3) (i j : Fin 512), x5 (ix4 h d i j) = A.tile h d i j
  mtile : ∀ (h : Fin 4) (i : Fin 16) (j : Fin 512), x6 (ix3 h i j) = (A.table ⟨bucketNo (16 + 512 * qi + j) i, bucketNo_lt _ _⟩ h : EReal)

variable {A : Inputs} {b : Fin 32} {qi : ℕ} {hqi : qi < 4} {x0 : Vec Ideal S512x512 .bf16} {x1 : Vec Ideal S2048x512 .bf16}
    {x2 : Vec Ideal S4x512x512 .bf16} {x3 : Vec Ideal S16x512 .bf16} {x4 : Vec Ideal S4x128x16 .bf16}
    {x5 : Vec Ideal S4x3x512x512 .f32} {x6 : Vec Ideal S4x16x512 .f32} (B : Blocks A b qi hqi x0 x1 x2 x3 x4 x5 x6) (h : Fin 4)
include B

/-- A head's queries. -/
theorem query_read (arg : Memref sig .tc .vmem S512x512 .bf16) (harg : arg.IsWhole) (off : Fin 2 → ℕ) (ho : off = ![0, 128 * (h : ℕ)])
    (inb : ∀ a, off a + S512x128.size a ≤ S512x512.size a) (j : Fin 512) (x : Fin 128) :
    View.readAt (Elt Ideal) arg.view (Rect.unit (s := S512x512) off S512x128.size inb).toLoadRect (harg.unread x0) (ix2 j x)
      = ((A.full b ⟨16 + 512 * qi + j, by omega⟩ ⟨1536 + 128 * h + x, by omega⟩ * (1 / 8) : ℝ) : EReal) := by
  subst ho
  refine (readAt_at arg harg x0 inb (ix2 j x) (ix2 j ⟨128 * h + x, by omega⟩) fun a => ?_).trans ((B.query j ⟨128 * h + x, by omega⟩).trans ?_)
  · match a with
    | ⟨0, _⟩ => exact (Nat.zero_add _).symm
    | ⟨1, _⟩ => rfl
  · exact congrArg (fun w => ((A.full b _ w * (1 / 8) : ℝ) : EReal)) (Fin.ext (by show 1536 + (128 * (h : ℕ) + x) = 1536 + 128 * h + x; omega))

/-- A head's queries, masked to the first half. -/
theorem half0_read (arg : Memref sig .tc .vmem S512x512 .bf16) (harg : arg.IsWhole) (off : Fin 2 → ℕ) (ho : off = ![0, 128 * (h : ℕ)])
    (inb : ∀ a, off a + S512x128.size a ≤ S512x512.size a) (j : Fin 512) (x : Fin 128) :
    half0 (View.readAt (Elt Ideal) arg.view (Rect.unit (s := S512x512) off S512x128.size inb).toLoadRect (harg.unread x0)) (ix2 j x)
      = if (x : ℕ) / 64 = (0 : Fin 2) then ((A.full b ⟨16 + 512 * qi + j, by omega⟩ ⟨1536 + 128 * h + x, by omega⟩ * (1 / 8) : ℝ) : EReal) else 0 := by
  refine (half0_apply _ j x).trans ?_
  by_cases hx : (x : ℕ) < 64
  · rw [if_pos hx, if_pos (by show (x : ℕ) / 64 = 0; omega)]
    exact query_read B h arg harg off ho inb j x
  · rw [if_neg hx, if_neg (by show ¬ (x : ℕ) / 64 = 0; omega)]

/-- A head's queries, masked to the second half. -/
theorem half1_read (arg : Memref sig .tc .vmem S512x512 .bf16) (harg : arg.IsWhole) (off : Fin 2 → ℕ) (ho : off = ![0, 128 * (h : ℕ)])
    (inb : ∀ a, off a + S512x128.size a ≤ S512x512.size a) (j : Fin 512) (x : Fin 128) :
    half1 (View.readAt (Elt Ideal) arg.view (Rect.unit (s := S512x512) off S512x128.size inb).toLoadRect (harg.unread x0)) (ix2 j x)
      = if (x : ℕ) / 64 = (1 : Fin 2) then ((A.full b ⟨16 + 512 * qi + j, by omega⟩ ⟨1536 + 128 * h + x, by omega⟩ * (1 / 8) : ℝ) : EReal) else 0 := by
  refine (half1_apply _ j x).trans ?_
  by_cases hx : (x : ℕ) < 64
  · rw [if_pos hx, if_neg (by show ¬ (x : ℕ) / 64 = 1; omega)]
  · rw [if_neg hx, if_pos (by show (x : ℕ) / 64 = 1; omega)]
    exact query_read B h arg harg off ho inb j x

/-- A block of a head's keys. -/
theorem key_read (arg : Memref sig .tc .vmem S2048x512 .bf16) (harg : arg.IsWhole) (kb : ℕ) (hkb : kb < 4) (off : Fin 2 → ℕ) (ho : off = ![512 * kb, 128 * h])
    (inb : ∀ a, off a + S512x128.size a ≤ S2048x512.size a) (i : Fin 512) (x : Fin 128) :
    View.readAt (Elt Ideal) arg.view (Rect.unit (s := S2048x512) off S512x128.size inb).toLoadRect (harg.unread x1) (ix2 i x)
      = (A.full b ⟨16 + 512 * kb + i, by omega⟩ ⟨2048 + 128 * h + x, by omega⟩ : EReal) := by
  subst ho
  refine (readAt_at arg harg x1 inb (ix2 i x) (ix2 ⟨512 * kb + i, by omega⟩ ⟨128 * h + x, by omega⟩) fun a => ?_).trans ((B.key ⟨512 * kb + i, by omega⟩ ⟨128 * h + x, by omega⟩).trans ?_)
  · match a with
    | ⟨0, _⟩ => rfl
    | ⟨1, _⟩ => rfl
  · exact congrArg₂ (fun p w => (A.full b p w : EReal)) (Fin.ext (by show 16 + (512 * kb + i : ℕ) = 16 + 512 * kb + i; omega))
      (Fin.ext (by show 2048 + (128 * (h : ℕ) + x) = 2048 + 128 * h + x; omega))

/-- A head's bias tile. -/
theorem tile_read (arg : Memref sig .tc .vmem S4x3x512x512 .f32) (harg : arg.IsWhole) (d : ℕ) (hd : d < 3) (off : Fin 4 → ℕ) (ho : off = ![(h : ℕ), d, 0, 0])
    (inb : ∀ a, off a + S1x1x512x512.size a ≤ S4x3x512x512.size a) (i j : Fin 512) :
    View.readAt (Elt Ideal) arg.view (Rect.unit (s := S4x3x512x512) off S1x1x512x512.size inb).toLoadRect (harg.unread x5) (ix4 0 0 i j)
      = A.tile h d i j := by
  subst ho
  refine (readAt_at arg harg x5 inb (ix4 0 0 i j) (ix4 h ⟨d, hd⟩ i j) fun a => ?_).trans (B.tile h ⟨d, hd⟩ i j)
  match a with
  | ⟨0, _⟩ => rfl
  | ⟨1, _⟩ => rfl
  | ⟨2, _⟩ => exact (Nat.zero_add _).symm
  | ⟨3, _⟩ => exact (Nat.zero_add _).symm

/-- A block of a head's values, with the ones under it. -/
theorem value_read (arg : Memref sig .tc .vmem S4x512x512 .bf16) (harg : arg.IsWhole) (kb : ℕ) (hkb : kb < 4) (off : Fin 3 → ℕ) (ho : off = ![kb, 128 * h, 0])
    (inb : ∀ a, off a + S1x128x512.size a ≤ S4x512x512.size a) (r : Fin 144) (i : Fin 512) :
    vext (View.readAt (Elt Ideal) arg.view (Rect.unit (s := S4x512x512) off S1x128x512.size inb).toLoadRect (harg.unread x2)) (ix2 r i)
      = (withOnes (fun e => A.full b ⟨16 + 512 * kb + i, by omega⟩ ⟨2560 + 128 * h + e, by omega⟩) r : EReal) := by
  subst ho
  refine vext_apply _ (fun e i => A.full b ⟨16 + 512 * kb + i, by omega⟩ ⟨2560 + 128 * h + e, by omega⟩) (fun e i => ?_) r i
  refine (readAt_at arg harg x2 inb (ix3 0 e i) (ix3 ⟨kb, hkb⟩ ⟨128 * h + e, by omega⟩ i) fun a => ?_).trans ((B.value ⟨kb, hkb⟩ ⟨128 * h + e, by omega⟩ i).trans ?_)
  · match a with
    | ⟨0, _⟩ => rfl
    | ⟨1, _⟩ => rfl
    | ⟨2, _⟩ => exact (Nat.zero_add _).symm
  · exact congrArg (fun w => (A.full b _ w : EReal)) (Fin.ext (by show 2560 + (128 * (h : ℕ) + e) = 2560 + 128 * h + e; omega))

/-- A head's meta keys. -/
theorem mkey_read (arg : Memref sig .tc .vmem S16x512 .bf16) (harg : arg.IsWhole) (off : Fin 2 → ℕ) (ho : off = ![0, 128 * (h : ℕ)])
    (inb : ∀ a, off a + S16x128.size a ≤ S16x512.size a) (i : Fin 16) (x : Fin 128) :
    View.readAt (Elt Ideal) arg.view (Rect.unit (s := S16x512) off S16x128.size inb).toLoadRect (harg.unread x3) (ix2 i x)
      = (A.full b ⟨i, by omega⟩ ⟨2048 + 128 * h + x, by omega⟩ : EReal) := by
  subst ho
  refine (readAt_at arg harg x3 inb (ix2 i x) (ix2 i ⟨128 * h + x, by omega⟩) fun a => ?_).trans ((B.mkey i ⟨128 * h + x, by omega⟩).trans ?_)
  · match a with
    | ⟨0, _⟩ => exact (Nat.zero_add _).symm
    | ⟨1, _⟩ => rfl
  · exact congrArg (fun w => (A.full b _ w : EReal)) (Fin.ext (by show 2048 + (128 * (h : ℕ) + x) = 2048 + 128 * h + x; omega))

/-- A head's meta values. -/
theorem mvalue_read (arg : Memref sig .tc .vmem S4x128x16 .bf16) (harg : arg.IsWhole) (off : Fin 3 → ℕ) (ho : off = ![(h : ℕ), 0, 0])
    (inb : ∀ a, off a + S1x128x16.size a ≤ S4x128x16.size a) (e : Fin 128) (i : Fin 16) :
    View.readAt (Elt Ideal) arg.view (Rect.unit (s := S4x128x16) off S1x128x16.size inb).toLoadRect (harg.unread x4) (ix3 0 e i)
      = (A.full b ⟨i, by omega⟩ ⟨2560 + 128 * h + e, by omega⟩ : EReal) := by
  subst ho
  refine (readAt_at arg harg x4 inb (ix3 0 e i) (ix3 h e i) fun a => ?_).trans (B.mvalue h e i)
  match a with
  | ⟨0, _⟩ => rfl
  | ⟨1, _⟩ => exact (Nat.zero_add _).symm
  | ⟨2, _⟩ => exact (Nat.zero_add _).symm

/-- A head's bias for the meta keys. -/
theorem mtile_read (arg : Memref sig .tc .vmem S4x16x512 .f32) (harg : arg.IsWhole) (off : Fin 3 → ℕ) (ho : off = ![(h : ℕ), 0, 0])
    (inb : ∀ a, off a + S1x16x512.size a ≤ S4x16x512.size a) (i : Fin 16) (j : Fin 512) :
    View.readAt (Elt Ideal) arg.view (Rect.unit (s := S4x16x512) off S1x16x512.size inb).toLoadRect (harg.unread x6) (ix3 0 i j)
      = (A.table ⟨bucketNo (16 + 512 * qi + j) i, bucketNo_lt _ _⟩ h : EReal) := by
  subst ho
  refine (readAt_at arg harg x6 inb (ix3 0 i j) (ix3 h i j) fun a => ?_).trans (B.mtile h i j)
  match a with
  | ⟨0, _⟩ => rfl
  | ⟨1, _⟩ => exact (Nat.zero_add _).symm
  | ⟨2, _⟩ => exact (Nat.zero_add _).symm

/-- What chain 0 ends with. -/
theorem fin0_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin0 i arg3 harg3 arg4 harg4 arg5 harg5 arg6 harg6 arg7 harg7 arg8 harg8 arg9 harg9 x0 x1 x2 x3 x4 x5 x6 (ix2 r j) =
      ((E * ∑ p : Fin 2064, wt (A.sc b 0 0 ⟨16 + 512 * qi + j, by omega⟩ p) * withOnes (fun e => A.full b p ⟨2560 + 128 * (0 : Fin 4) + e, by omega⟩) r : ℝ) : EReal) := by
  subst hi
  have hT := trips_eq i
  unfold fin0
  rw [hT]
  refine chain_val A b 0 0 (i 2 : ℕ) hqi j _ _ _ _ (fun i' => ?_) (fun e i' => ?_) (fun d hd i' => ?_) (fun d hd r i' => ?_)
  · exact mscore_val A b 0 0 _ hqi i' j _ _ _ (half0_read B 0 arg3 harg3 _ rfl _ j) (mkey_read B 0 arg6 harg6 _ rfl _ i') (mtile_read B 0 arg9 harg9 _ rfl _ i' j)
  · exact mvalue_read B 0 arg7 harg7 _ rfl _ e i'
  · match d, hd with
    | 0, _ =>
      exact score_val A b 0 0 _ _ hqi (Nat.sub_le _ _) i' j _ _ _ (half0_read B 0 arg3 harg3 _ rfl _ j) (key_read B 0 arg4 harg4 _ (by omega) _ (off1_eq i) _ i')
        ((tile_read B 0 arg8 harg8 0 (by omega) _ off2_eq _ i' j).trans (congrArg (fun d => A.tile 0 d i' j) (by omega)))
    | k + 1, hk =>
      have hk' : k < (k1_t1_loop i).trips := by omega
      refine (congrFun (headThen_succ _ _ ⟨k, hk'⟩) (ix2 i' j)).trans ?_
      exact score_val A b 0 0 _ _ hqi (Nat.sub_le _ _) i' j _ _ _ (half0_read B 0 arg3 harg3 _ rfl _ j) (key_read B 0 arg4 harg4 _ (by omega) _ (off9_eq i ⟨k, hk'⟩) _ i')
        ((tile_read B 0 arg8 harg8 _ (by omega) _ (off10_eq i ⟨k, hk'⟩) _ i' j).trans (congrArg (fun d => A.tile 0 d i' j) (by show min (k + 1) 2 = _; omega)))
  · by_cases hk : d < (k1_t1_loop i).trips
    · refine (congrFun (thenLast_lt _ _ ⟨d, hk⟩) (ix2 r i')).trans ?_
      exact value_read B 0 arg5 harg5 _ (by omega) _ (off17_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 0 arg5 harg5 0 (by omega) _ (off33_eq i) _ r i'

/-- What chain 1 ends with. -/
theorem fin1_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin1 i arg3 harg3 arg4 harg4 arg5 harg5 arg6 harg6 arg7 harg7 arg8 harg8 arg9 harg9 x0 x1 x2 x3 x4 x5 x6 (ix2 r j) =
      ((E * ∑ p : Fin 2064, wt (A.sc b 0 1 ⟨16 + 512 * qi + j, by omega⟩ p) * withOnes (fun e => A.full b p ⟨2560 + 128 * (0 : Fin 4) + e, by omega⟩) r : ℝ) : EReal) := by
  subst hi
  have hT := trips_eq i
  unfold fin1
  rw [hT]
  refine chain_val A b 0 1 (i 2 : ℕ) hqi j _ _ _ _ (fun i' => ?_) (fun e i' => ?_) (fun d hd i' => ?_) (fun d hd r i' => ?_)
  · exact mscore_val A b 0 1 _ hqi i' j _ _ _ (half1_read B 0 arg3 harg3 _ rfl _ j) (mkey_read B 0 arg6 harg6 _ rfl _ i') (mtile_read B 0 arg9 harg9 _ rfl _ i' j)
  · exact mvalue_read B 0 arg7 harg7 _ rfl _ e i'
  · match d, hd with
    | 0, _ =>
      exact score_val A b 0 1 _ _ hqi (Nat.sub_le _ _) i' j _ _ _ (half1_read B 0 arg3 harg3 _ rfl _ j) (key_read B 0 arg4 harg4 _ (by omega) _ (off1_eq i) _ i')
        ((tile_read B 0 arg8 harg8 0 (by omega) _ off2_eq _ i' j).trans (congrArg (fun d => A.tile 0 d i' j) (by omega)))
    | k + 1, hk =>
      have hk' : k < (k1_t1_loop i).trips := by omega
      refine (congrFun (headThen_succ _ _ ⟨k, hk'⟩) (ix2 i' j)).trans ?_
      exact score_val A b 0 1 _ _ hqi (Nat.sub_le _ _) i' j _ _ _ (half1_read B 0 arg3 harg3 _ rfl _ j) (key_read B 0 arg4 harg4 _ (by omega) _ (off9_eq i ⟨k, hk'⟩) _ i')
        ((tile_read B 0 arg8 harg8 _ (by omega) _ (off10_eq i ⟨k, hk'⟩) _ i' j).trans (congrArg (fun d => A.tile 0 d i' j) (by show min (k + 1) 2 = _; omega)))
  · by_cases hk : d < (k1_t1_loop i).trips
    · refine (congrFun (thenLast_lt _ _ ⟨d, hk⟩) (ix2 r i')).trans ?_
      exact value_read B 0 arg5 harg5 _ (by omega) _ (off17_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 0 arg5 harg5 0 (by omega) _ (off33_eq i) _ r i'

/-- What chain 2 ends with. -/
theorem fin2_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin2 i arg3 harg3 arg4 harg4 arg5 harg5 arg6 harg6 arg7 harg7 arg8 harg8 arg9 harg9 x0 x1 x2 x3 x4 x5 x6 (ix2 r j) =
      ((E * ∑ p : Fin 2064, wt (A.sc b 1 0 ⟨16 + 512 * qi + j, by omega⟩ p) * withOnes (fun e => A.full b p ⟨2560 + 128 * (1 : Fin 4) + e, by omega⟩) r : ℝ) : EReal) := by
  subst hi
  have hT := trips_eq i
  unfold fin2
  rw [hT]
  refine chain_val A b 1 0 (i 2 : ℕ) hqi j _ _ _ _ (fun i' => ?_) (fun e i' => ?_) (fun d hd i' => ?_) (fun d hd r i' => ?_)
  · exact mscore_val A b 1 0 _ hqi i' j _ _ _ (half0_read B 1 arg3 harg3 _ rfl _ j) (mkey_read B 1 arg6 harg6 _ rfl _ i') (mtile_read B 1 arg9 harg9 _ rfl _ i' j)
  · exact mvalue_read B 1 arg7 harg7 _ rfl _ e i'
  · match d, hd with
    | 0, _ =>
      exact score_val A b 1 0 _ _ hqi (Nat.sub_le _ _) i' j _ _ _ (half0_read B 1 arg3 harg3 _ rfl _ j) (key_read B 1 arg4 harg4 _ (by omega) _ (off3_eq i) _ i')
        ((tile_read B 1 arg8 harg8 0 (by omega) _ off4_eq _ i' j).trans (congrArg (fun d => A.tile 1 d i' j) (by omega)))
    | k + 1, hk =>
      have hk' : k < (k1_t1_loop i).trips := by omega
      refine (congrFun (headThen_succ _ _ ⟨k, hk'⟩) (ix2 i' j)).trans ?_
      exact score_val A b 1 0 _ _ hqi (Nat.sub_le _ _) i' j _ _ _ (half0_read B 1 arg3 harg3 _ rfl _ j) (key_read B 1 arg4 harg4 _ (by omega) _ (off11_eq i ⟨k, hk'⟩) _ i')
        ((tile_read B 1 arg8 harg8 _ (by omega) _ (off12_eq i ⟨k, hk'⟩) _ i' j).trans (congrArg (fun d => A.tile 1 d i' j) (by show min (k + 1) 2 = _; omega)))
  · by_cases hk : d < (k1_t1_loop i).trips
    · refine (congrFun (thenLast_lt _ _ ⟨d, hk⟩) (ix2 r i')).trans ?_
      exact value_read B 1 arg5 harg5 _ (by omega) _ (off18_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 1 arg5 harg5 0 (by omega) _ (off34_eq i) _ r i'

/-- What chain 3 ends with. -/
theorem fin3_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin3 i arg3 harg3 arg4 harg4 arg5 harg5 arg6 harg6 arg7 harg7 arg8 harg8 arg9 harg9 x0 x1 x2 x3 x4 x5 x6 (ix2 r j) =
      ((E * ∑ p : Fin 2064, wt (A.sc b 1 1 ⟨16 + 512 * qi + j, by omega⟩ p) * withOnes (fun e => A.full b p ⟨2560 + 128 * (1 : Fin 4) + e, by omega⟩) r : ℝ) : EReal) := by
  subst hi
  have hT := trips_eq i
  unfold fin3
  rw [hT]
  refine chain_val A b 1 1 (i 2 : ℕ) hqi j _ _ _ _ (fun i' => ?_) (fun e i' => ?_) (fun d hd i' => ?_) (fun d hd r i' => ?_)
  · exact mscore_val A b 1 1 _ hqi i' j _ _ _ (half1_read B 1 arg3 harg3 _ rfl _ j) (mkey_read B 1 arg6 harg6 _ rfl _ i') (mtile_read B 1 arg9 harg9 _ rfl _ i' j)
  · exact mvalue_read B 1 arg7 harg7 _ rfl _ e i'
  · match d, hd with
    | 0, _ =>
      exact score_val A b 1 1 _ _ hqi (Nat.sub_le _ _) i' j _ _ _ (half1_read B 1 arg3 harg3 _ rfl _ j) (key_read B 1 arg4 harg4 _ (by omega) _ (off3_eq i) _ i')
        ((tile_read B 1 arg8 harg8 0 (by omega) _ off4_eq _ i' j).trans (congrArg (fun d => A.tile 1 d i' j) (by omega)))
    | k + 1, hk =>
      have hk' : k < (k1_t1_loop i).trips := by omega
      refine (congrFun (headThen_succ _ _ ⟨k, hk'⟩) (ix2 i' j)).trans ?_
      exact score_val A b 1 1 _ _ hqi (Nat.sub_le _ _) i' j _ _ _ (half1_read B 1 arg3 harg3 _ rfl _ j) (key_read B 1 arg4 harg4 _ (by omega) _ (off11_eq i ⟨k, hk'⟩) _ i')
        ((tile_read B 1 arg8 harg8 _ (by omega) _ (off12_eq i ⟨k, hk'⟩) _ i' j).trans (congrArg (fun d => A.tile 1 d i' j) (by show min (k + 1) 2 = _; omega)))
  · by_cases hk : d < (k1_t1_loop i).trips
    · refine (congrFun (thenLast_lt _ _ ⟨d, hk⟩) (ix2 r i')).trans ?_
      exact value_read B 1 arg5 harg5 _ (by omega) _ (off18_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 1 arg5 harg5 0 (by omega) _ (off34_eq i) _ r i'

/-- What chain 4 ends with. -/
theorem fin4_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin4 i arg3 harg3 arg4 harg4 arg5 harg5 arg6 harg6 arg7 harg7 arg8 harg8 arg9 harg9 x0 x1 x2 x3 x4 x5 x6 (ix2 r j) =
      ((E * ∑ p : Fin 2064, wt (A.sc b 2 0 ⟨16 + 512 * qi + j, by omega⟩ p) * withOnes (fun e => A.full b p ⟨2560 + 128 * (2 : Fin 4) + e, by omega⟩) r : ℝ) : EReal) := by
  subst hi
  have hT := trips_eq i
  unfold fin4
  rw [hT]
  refine chain_val A b 2 0 (i 2 : ℕ) hqi j _ _ _ _ (fun i' => ?_) (fun e i' => ?_) (fun d hd i' => ?_) (fun d hd r i' => ?_)
  · exact mscore_val A b 2 0 _ hqi i' j _ _ _ (half0_read B 2 arg3 harg3 _ rfl _ j) (mkey_read B 2 arg6 harg6 _ rfl _ i') (mtile_read B 2 arg9 harg9 _ rfl _ i' j)
  · exact mvalue_read B 2 arg7 harg7 _ rfl _ e i'
  · match d, hd with
    | 0, _ =>
      exact score_val A b 2 0 _ _ hqi (Nat.sub_le _ _) i' j _ _ _ (half0_read B 2 arg3 harg3 _ rfl _ j) (key_read B 2 arg4 harg4 _ (by omega) _ (off5_eq i) _ i')
        ((tile_read B 2 arg8 harg8 0 (by omega) _ off6_eq _ i' j).trans (congrArg (fun d => A.tile 2 d i' j) (by omega)))
    | k + 1, hk =>
      have hk' : k < (k1_t1_loop i).trips := by omega
      refine (congrFun (headThen_succ _ _ ⟨k, hk'⟩) (ix2 i' j)).trans ?_
      exact score_val A b 2 0 _ _ hqi (Nat.sub_le _ _) i' j _ _ _ (half0_read B 2 arg3 harg3 _ rfl _ j) (key_read B 2 arg4 harg4 _ (by omega) _ (off13_eq i ⟨k, hk'⟩) _ i')
        ((tile_read B 2 arg8 harg8 _ (by omega) _ (off14_eq i ⟨k, hk'⟩) _ i' j).trans (congrArg (fun d => A.tile 2 d i' j) (by show min (k + 1) 2 = _; omega)))
  · by_cases hk : d < (k1_t1_loop i).trips
    · refine (congrFun (thenLast_lt _ _ ⟨d, hk⟩) (ix2 r i')).trans ?_
      exact value_read B 2 arg5 harg5 _ (by omega) _ (off19_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 2 arg5 harg5 0 (by omega) _ (off35_eq i) _ r i'

/-- What chain 5 ends with. -/
theorem fin5_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin5 i arg3 harg3 arg4 harg4 arg5 harg5 arg6 harg6 arg7 harg7 arg8 harg8 arg9 harg9 x0 x1 x2 x3 x4 x5 x6 (ix2 r j) =
      ((E * ∑ p : Fin 2064, wt (A.sc b 2 1 ⟨16 + 512 * qi + j, by omega⟩ p) * withOnes (fun e => A.full b p ⟨2560 + 128 * (2 : Fin 4) + e, by omega⟩) r : ℝ) : EReal) := by
  subst hi
  have hT := trips_eq i
  unfold fin5
  rw [hT]
  refine chain_val A b 2 1 (i 2 : ℕ) hqi j _ _ _ _ (fun i' => ?_) (fun e i' => ?_) (fun d hd i' => ?_) (fun d hd r i' => ?_)
  · exact mscore_val A b 2 1 _ hqi i' j _ _ _ (half1_read B 2 arg3 harg3 _ rfl _ j) (mkey_read B 2 arg6 harg6 _ rfl _ i') (mtile_read B 2 arg9 harg9 _ rfl _ i' j)
  · exact mvalue_read B 2 arg7 harg7 _ rfl _ e i'
  · match d, hd with
    | 0, _ =>
      exact score_val A b 2 1 _ _ hqi (Nat.sub_le _ _) i' j _ _ _ (half1_read B 2 arg3 harg3 _ rfl _ j) (key_read B 2 arg4 harg4 _ (by omega) _ (off5_eq i) _ i')
        ((tile_read B 2 arg8 harg8 0 (by omega) _ off6_eq _ i' j).trans (congrArg (fun d => A.tile 2 d i' j) (by omega)))
    | k + 1, hk =>
      have hk' : k < (k1_t1_loop i).trips := by omega
      refine (congrFun (headThen_succ _ _ ⟨k, hk'⟩) (ix2 i' j)).trans ?_
      exact score_val A b 2 1 _ _ hqi (Nat.sub_le _ _) i' j _ _ _ (half1_read B 2 arg3 harg3 _ rfl _ j) (key_read B 2 arg4 harg4 _ (by omega) _ (off13_eq i ⟨k, hk'⟩) _ i')
        ((tile_read B 2 arg8 harg8 _ (by omega) _ (off14_eq i ⟨k, hk'⟩) _ i' j).trans (congrArg (fun d => A.tile 2 d i' j) (by show min (k + 1) 2 = _; omega)))
  · by_cases hk : d < (k1_t1_loop i).trips
    · refine (congrFun (thenLast_lt _ _ ⟨d, hk⟩) (ix2 r i')).trans ?_
      exact value_read B 2 arg5 harg5 _ (by omega) _ (off19_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 2 arg5 harg5 0 (by omega) _ (off35_eq i) _ r i'

/-- What chain 6 ends with. -/
theorem fin6_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin6 i arg3 harg3 arg4 harg4 arg5 harg5 arg6 harg6 arg7 harg7 arg8 harg8 arg9 harg9 x0 x1 x2 x3 x4 x5 x6 (ix2 r j) =
      ((E * ∑ p : Fin 2064, wt (A.sc b 3 0 ⟨16 + 512 * qi + j, by omega⟩ p) * withOnes (fun e => A.full b p ⟨2560 + 128 * (3 : Fin 4) + e, by omega⟩) r : ℝ) : EReal) := by
  subst hi
  have hT := trips_eq i
  unfold fin6
  rw [hT]
  refine chain_val A b 3 0 (i 2 : ℕ) hqi j _ _ _ _ (fun i' => ?_) (fun e i' => ?_) (fun d hd i' => ?_) (fun d hd r i' => ?_)
  · exact mscore_val A b 3 0 _ hqi i' j _ _ _ (half0_read B 3 arg3 harg3 _ rfl _ j) (mkey_read B 3 arg6 harg6 _ rfl _ i') (mtile_read B 3 arg9 harg9 _ rfl _ i' j)
  · exact mvalue_read B 3 arg7 harg7 _ rfl _ e i'
  · match d, hd with
    | 0, _ =>
      exact score_val A b 3 0 _ _ hqi (Nat.sub_le _ _) i' j _ _ _ (half0_read B 3 arg3 harg3 _ rfl _ j) (key_read B 3 arg4 harg4 _ (by omega) _ (off7_eq i) _ i')
        ((tile_read B 3 arg8 harg8 0 (by omega) _ off8_eq _ i' j).trans (congrArg (fun d => A.tile 3 d i' j) (by omega)))
    | k + 1, hk =>
      have hk' : k < (k1_t1_loop i).trips := by omega
      refine (congrFun (headThen_succ _ _ ⟨k, hk'⟩) (ix2 i' j)).trans ?_
      exact score_val A b 3 0 _ _ hqi (Nat.sub_le _ _) i' j _ _ _ (half0_read B 3 arg3 harg3 _ rfl _ j) (key_read B 3 arg4 harg4 _ (by omega) _ (off15_eq i ⟨k, hk'⟩) _ i')
        ((tile_read B 3 arg8 harg8 _ (by omega) _ (off16_eq i ⟨k, hk'⟩) _ i' j).trans (congrArg (fun d => A.tile 3 d i' j) (by show min (k + 1) 2 = _; omega)))
  · by_cases hk : d < (k1_t1_loop i).trips
    · refine (congrFun (thenLast_lt _ _ ⟨d, hk⟩) (ix2 r i')).trans ?_
      exact value_read B 3 arg5 harg5 _ (by omega) _ (off20_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 3 arg5 harg5 0 (by omega) _ (off36_eq i) _ r i'

/-- What chain 7 ends with. -/
theorem fin7_val (i : grid1.Coords) (hi : (i 2 : ℕ) = qi) (arg3 : Memref sig .tc .vmem S512x512 .bf16) (harg3 : arg3.IsWhole) (arg4 : Memref sig .tc .vmem S2048x512 .bf16) (harg4 : arg4.IsWhole) (arg5 : Memref sig .tc .vmem S4x512x512 .bf16) (harg5 : arg5.IsWhole) (arg6 : Memref sig .tc .vmem S16x512 .bf16) (harg6 : arg6.IsWhole) (arg7 : Memref sig .tc .vmem S4x128x16 .bf16) (harg7 : arg7.IsWhole) (arg8 : Memref sig .tc .vmem S4x3x512x512 .f32) (harg8 : arg8.IsWhole) (arg9 : Memref sig .tc .vmem S4x16x512 .f32) (harg9 : arg9.IsWhole) (j : Fin 512) :
    ∃ E : ℝ, 0 < E ∧ ∀ r, fin7 i arg3 harg3 arg4 harg4 arg5 harg5 arg6 harg6 arg7 harg7 arg8 harg8 arg9 harg9 x0 x1 x2 x3 x4 x5 x6 (ix2 r j) =
      ((E * ∑ p : Fin 2064, wt (A.sc b 3 1 ⟨16 + 512 * qi + j, by omega⟩ p) * withOnes (fun e => A.full b p ⟨2560 + 128 * (3 : Fin 4) + e, by omega⟩) r : ℝ) : EReal) := by
  subst hi
  have hT := trips_eq i
  unfold fin7
  rw [hT]
  refine chain_val A b 3 1 (i 2 : ℕ) hqi j _ _ _ _ (fun i' => ?_) (fun e i' => ?_) (fun d hd i' => ?_) (fun d hd r i' => ?_)
  · exact mscore_val A b 3 1 _ hqi i' j _ _ _ (half1_read B 3 arg3 harg3 _ rfl _ j) (mkey_read B 3 arg6 harg6 _ rfl _ i') (mtile_read B 3 arg9 harg9 _ rfl _ i' j)
  · exact mvalue_read B 3 arg7 harg7 _ rfl _ e i'
  · match d, hd with
    | 0, _ =>
      exact score_val A b 3 1 _ _ hqi (Nat.sub_le _ _) i' j _ _ _ (half1_read B 3 arg3 harg3 _ rfl _ j) (key_read B 3 arg4 harg4 _ (by omega) _ (off7_eq i) _ i')
        ((tile_read B 3 arg8 harg8 0 (by omega) _ off8_eq _ i' j).trans (congrArg (fun d => A.tile 3 d i' j) (by omega)))
    | k + 1, hk =>
      have hk' : k < (k1_t1_loop i).trips := by omega
      refine (congrFun (headThen_succ _ _ ⟨k, hk'⟩) (ix2 i' j)).trans ?_
      exact score_val A b 3 1 _ _ hqi (Nat.sub_le _ _) i' j _ _ _ (half1_read B 3 arg3 harg3 _ rfl _ j) (key_read B 3 arg4 harg4 _ (by omega) _ (off15_eq i ⟨k, hk'⟩) _ i')
        ((tile_read B 3 arg8 harg8 _ (by omega) _ (off16_eq i ⟨k, hk'⟩) _ i' j).trans (congrArg (fun d => A.tile 3 d i' j) (by show min (k + 1) 2 = _; omega)))
  · by_cases hk : d < (k1_t1_loop i).trips
    · refine (congrFun (thenLast_lt _ _ ⟨d, hk⟩) (ix2 r i')).trans ?_
      exact value_read B 3 arg5 harg5 _ (by omega) _ (off20_eq i ⟨d, hk⟩) _ r i'
    · have hd' : d = (k1_t1_loop i).trips := by omega
      subst hd'
      refine (congrFun (thenLast_last _ _) (ix2 r i')).trans ?_
      have hz : (i 2 : ℕ) - (k1_t1_loop i).trips = 0 := by omega
      simp only [hz]
      exact value_read B 3 arg5 harg5 0 (by omega) _ (off36_eq i) _ r i'

end Cert.DiffAttn
-- ==== Proof.AttnBlocks.lean ====
/- The attention kernel's blocks at a point, from the program's arguments. -/
module

public import proofs.«01_k».proof.Proof.AttnReads
public import proofs.«01_k».proof.Proof.Heads

@[expose] public section

set_option maxRecDepth 65536

noncomputable section

namespace Cert.DiffAttn

open Idealize.ShloMosaic Idealize.ShloMosaic.Pipeline Idealize.ShloMosaic.TcCoe Idealize.SL.Sem Cert.KernelIdeal Cert.KernelIdeal.Gen

/-- A token's projections, among those with the meta tokens in front. -/
theorem Inputs.full_token (A : Inputs) (b : Fin 32) (p : Fin 2048) (q : Fin 2064) (hq : (q : ℕ) = 16 + p) (w : Fin 3072) :
    A.full b q w = A.proj b p w := by
  unfold Inputs.full
  rw [dif_neg (by omega)]
  exact congrArg (fun p => A.proj b p w) (Fin.ext (by show (q : ℕ) - 16 = p; omega))

/-- A meta token's projections, among those with the meta tokens in front. -/
theorem Inputs.full_meta (A : Inputs) (b : Fin 32) (p : Fin 16) (w : Fin 3072) : A.full b ⟨p, by omega⟩ w = A.mproj p w := by
  unfold Inputs.full
  rw [dif_pos p.isLt]

variable (m : (ℓ : Loc nD τ sig) → Buf (Elt Ideal) ℓ) (ρ : Dev nD → PrngReg) (c : Dev nD)

/-- The bias tiles as the attention kernel finds them. -/
theorem v18_0_eq : V3 m ρ c main_v18_0 = fun y : S4x3x512x512.Idx => tileVal (m ((c : Thread nD τ).loc main_arg2)) (y 0) (y 1) (y 2) (y 3) := by
  have e : V1 m ρ c main_arg2 = m ((c : Thread nD τ).loc main_arg2) := W1_args m ρ c main_arg2 (by decide)
  refine (W3_of m ρ c main_v18_0 (by decide)).trans ((W2_arr m ρ c 1).trans ((tiles_arr (V1 m ρ) c).trans ?_))
  rw [e]

/-- The meta keys' bias as the attention kernel finds it. -/
theorem v18_1_eq : V3 m ρ c main_v18_1 = fun y : S4x16x2048.Idx => column (m ((c : Thread nD τ).loc main_arg2)) (y 0) (bucketNo (y 2 + 16) (y 1)) := by
  have e : V1 m ρ c main_arg2 = m ((c : Thread nD τ).loc main_arg2) := W1_args m ρ c main_arg2 (by decide)
  refine (W3_of m ρ c main_v18_1 (by decide)).trans ((W2_arr m ρ c 2).trans ((meta_arr (V1 m ρ) c).trans ?_))
  rw [e]

/-- The first three arguments are the real inputs `A`. -/
structure Holds (A : Inputs) : Prop where
  proj : ∀ b p x, (m ((c : Thread nD τ).loc main_arg0) : S32x2048x3072.Idx → EReal) (ix3 b p x) = (A.proj b p x : EReal)
  mproj : ∀ p x, (m ((c : Thread nD τ).loc main_arg1) : S16x3072.Idx → EReal) (ix2 p x) = (A.mproj p x : EReal)
  table : ∀ n h, (m ((c : Thread nD τ).loc main_arg2) : S32x4.Idx → EReal) (ix2 n h) = (A.table n h : EReal)

variable {m c} {A : Inputs} (hA : Holds m c A)
include hA

/-- The table's column of a head is real. -/
theorem column_real (h : Fin 4) (n : ℕ) (hn : n < 32) : column (m ((c : Thread nD τ).loc main_arg2)) h n = (A.table ⟨n, hn⟩ h : EReal) := by
  unfold column
  rw [dif_pos hn]
  exact hA.table _ _

/-- What a point's blocks hold. -/
theorem blocks_at (t : Fin cfg1.N) (b : Fin 32) (hb : (b : ℕ) = t.val / 4) :
    Blocks A b (t.val % 4) (Nat.mod_lt _ (by decide)) (iblk1 (V3 m ρ) c 0 t) (iblk1 (V3 m ρ) c 1 t) (iblk1 (V3 m ρ) c 2 t)
      (iblk1 (V3 m ρ) c 3 t) (iblk1 (V3 m ρ) c 4 t) (iblk1 (V3 m ρ) c 5 t) (iblk1 (V3 m ρ) c 6 t) := by
  have ht : t.val < 128 := lt_of_lt_of_eq t.isLt N1
  have k9 := kept m ρ c main_v9 (by decide) (by decide)
  have k13 := kept m ρ c main_v13 (by decide) (by decide)
  have k14 := kept m ρ c main_v14 (by decide) (by decide)
  have k17 := kept m ρ c main_v17 (by decide) (by decide)
  constructor
  · intro j w
    rw [query_blk (V3 m ρ) c t j w ⟨512 * t.val + j, by omega⟩ ⟨512 + w, by omega⟩ rfl rfl, k9,
      query_at m ρ c b ⟨512 * (t.val % 4) + j, by omega⟩ _ _ ⟨1536 + w, by omega⟩ (by simp only; omega) (by simp only; omega) (by simp only; omega) (by simp only; omega) _ (hA.proj _ _ _), ← EReal.coe_mul,
      A.full_token b ⟨512 * (t.val % 4) + j, by omega⟩ _ (by simp only; omega)]
  · intro r w
    rw [key_blk (V3 m ρ) c t r w ⟨2048 * (t.val / 4) + r, by omega⟩ ⟨1024 + w, by omega⟩ rfl rfl, k9,
      key_at m ρ c b r _ _ ⟨2048 + w, by omega⟩ (by simp only; omega) (by simp only; omega) (by simp only; omega),
      A.full_token b r _ rfl]
    exact hA.proj _ _ _
  · intro kb e i
    rw [value_blk (V3 m ρ) c t kb e i ⟨4 * (t.val / 4) + kb, by omega⟩ rfl, k13,
      value_at m ρ c b ⟨512 * kb + i, by omega⟩ _ e i ⟨2560 + e, by omega⟩ (by simp only; omega) rfl,
      A.full_token b ⟨512 * kb + i, by omega⟩ _ (by simp only; omega)]
    exact hA.proj _ _ _
  · intro i w
    rw [mkey_blk (V3 m ρ) c t i w ⟨2048 + w, by omega⟩ rfl, k14, mproj_at, A.full_meta]
    exact hA.mproj _ _
  · intro h e i
    rw [mvalue_blk, k17, mvalue_at m ρ c h e i ⟨2560 + 128 * h + e, by omega⟩ rfl, A.full_meta]
    exact hA.mproj _ _
  · intro h d i j
    rw [tile_blk, v18_0_eq]
    show tileVal _ h d i j = _
    unfold tileVal Inputs.tile
    rw [column_real hA h _ (bucketNo_lt _ _)]
  · intro h i j
    rw [mtile_blk (V3 m ρ) c t h i j ⟨512 * (t.val % 4) + j, by omega⟩ rfl, v18_1_eq]
    show column _ h (bucketNo (512 * (t.val % 4) + j + 16) i) = _
    rw [column_real hA h _ (bucketNo_lt _ _)]
    exact congrArg (fun n : Fin 32 => (A.table n h : EReal)) (Fin.ext (congrArg (fun q => bucketNo q i) (by omega)))

end Cert.DiffAttn
-- ==== Proof.AttnOut.lean ====
/- The attention kernel's result array, entry by entry. -/
module

public import proofs.«01_k».proof.Proof.AttnBlocks

@[expose] public section

set_option maxRecDepth 65536

noncomputable section

namespace Cert.DiffAttn

open Idealize.ShloMosaic Idealize.ShloMosaic.Pipeline Idealize.ShloMosaic.TcCoe Idealize.SL.Sem Cert.KernelIdeal Cert.KernelIdeal.Gen

/-- The weighted sum at a row of values is the numerator. -/
theorem sum_num (A : Inputs) (b : Fin 32) (h : Fin 4) (s : Fin 2) (q : Fin 2064) (e : Fin 128) (r : Fin 144) (hr : (r : ℕ) = e) :
    ∑ p : Fin 2064, wt (A.sc b h s q p) * withOnes (fun e => A.full b p ⟨2560 + 128 * h + e, by omega⟩) r = A.num b h s q e := by
  refine Finset.sum_congr rfl fun p _ => congrArg (wt (A.sc b h s q p) * ·) ?_
  unfold withOnes
  rw [dif_pos (by omega)]
  exact congrArg (A.full b p) (Fin.ext (by show 2560 + 128 * (h : ℕ) + r = 2560 + 128 * h + e; omega))

/-- At the row of ones it is the denominator. -/
theorem sum_den (A : Inputs) (b : Fin 32) (h : Fin 4) (s : Fin 2) (q : Fin 2064) :
    ∑ p : Fin 2064, wt (A.sc b h s q p) * withOnes (fun e => A.full b p ⟨2560 + 128 * h + e, by omega⟩) 128 = A.den b h s q := by
  refine Finset.sum_congr rfl fun p _ => ?_
  unfold withOnes
  rw [dif_neg (by decide), if_pos (by decide), mul_one]

/-- A head's output from what its two chains end with. -/
theorem head_val (A : Inputs) (b : Fin 32) (h : Fin 4) (q : Fin 2064) (j : Fin 512) (a1 a2 : FVec Ideal S144x512 .f32)
    (h1 : ∃ E : ℝ, 0 < E ∧ ∀ r, a1 (ix2 r j) = ((E * ∑ p : Fin 2064, wt (A.sc b h 0 q p) * withOnes (fun e => A.full b p ⟨2560 + 128 * h + e, by omega⟩) r : ℝ) : EReal))
    (h2 : ∃ E : ℝ, 0 < E ∧ ∀ r, a2 (ix2 r j) = ((E * ∑ p : Fin 2064, wt (A.sc b h 1 q p) * withOnes (fun e => A.full b p ⟨2560 + 128 * h + e, by omega⟩) r : ℝ) : EReal))
    (lam : FVec Ideal S1x1 .f32) (hl : lam (ix2 0 0) = (A.lam : EReal)) (g : Vec Ideal S128x1 .f32) (e : Fin 128) :
    headOut a1 a2 lam g (ix2 j e) = tail (fun x => (A.att b h q x : EReal)) (g (ix2 e 0)) e := by
  obtain ⟨E1, hE1, h1⟩ := h1
  obtain ⟨E2, hE2, h2⟩ := h2
  refine (headOut_apply a1 a2 lam g e j).trans (congrArg (fun f => tail f (g (ix2 e 0)) e) (funext fun x => ?_))
  have d1 := A.den_pos b h 0 q
  have d2 := A.den_pos b h 1 q
  rw [h1, h1, h2, h2, sum_num A b h 0 q x _ rfl, sum_num A b h 1 q x _ rfl, sum_den, sum_den, hl,
    div_coe _ _ (mul_pos hE1 d1).ne', div_coe _ _ (mul_pos hE2 d2).ne', ← EReal.coe_mul, ← EReal.coe_sub,
    mul_div_mul_left _ _ hE1.ne', mul_div_mul_left _ _ hE2.ne']
  rfl

variable {m : (ℓ : Loc nD τ sig) → Buf (Elt Ideal) ℓ} {ρ : Dev nD → PrngReg} {c : Dev nD}

/-- The second attention's factor, from the four small vectors. -/
def lamOf (x3 x4 x5 x6 : S1x64.Idx → EReal) : EReal :=
  Ideal.exp (∑ x : Fin 64, x3 (ix2 0 x) * x4 (ix2 0 x)) - Ideal.exp (∑ x : Fin 64, x5 (ix2 0 x) * x6 (ix2 0 x)) + Ideal.ofBits FTy.f32 1045220557#32

/-- A load of a whole one-row buffer. -/
theorem row_read (arg : Memref sig .tc .vmem S1x64 .f32) (harg : arg.IsWhole) (x : Vec Ideal S1x64 .f32)
    (inb : ∀ a, (![0, 0] : Fin 2 → ℕ) a + S1x64.size a ≤ S1x64.size a) (i : Fin 64) :
    View.readAt (Elt Ideal) arg.view (Rect.unit (s := S1x64) ![0, 0] S1x64.size inb).toLoadRect (harg.unread x) (ix2 0 i) = x (ix2 0 i) := by
  refine readAt_at arg harg x inb (ix2 0 i) (ix2 0 i) fun a => ?_
  match a with
  | ⟨0, _⟩ => rfl
  | ⟨1, _⟩ => exact (Nat.zero_add _).symm

/-- A load of the whole gain. -/
theorem gain_read (arg : Memref sig .tc .vmem S128x1 .f32) (harg : arg.IsWhole) (x : Vec Ideal S128x1 .f32)
    (inb : ∀ a, (![0, 0] : Fin 2 → ℕ) a + S128x1.size a ≤ S128x1.size a) (i : Fin 128) :
    View.readAt (Elt Ideal) arg.view (Rect.unit (s := S128x1) ![0, 0] S128x1.size inb).toLoadRect (harg.unread x) (ix2 i 0) = x (ix2 i 0) := by
  refine readAt_at arg harg x inb (ix2 i 0) (ix2 i 0) fun a => ?_
  match a with
  | ⟨0, _⟩ => exact (Nat.zero_add _).symm
  | ⟨1, _⟩ => rfl

/-- The factor as the kernel computes it at a point. -/
theorem lam_at (t : Fin cfg1.N) :
    lamOf (fun y => iblk1 (V3 m ρ) c 7 t y) (fun y => iblk1 (V3 m ρ) c 8 t y) (fun y => iblk1 (V3 m ρ) c 9 t y) (fun y => iblk1 (V3 m ρ) c 10 t y) =
      lamOf (m ((c : Thread nD τ).loc main_arg3)) (m ((c : Thread nD τ).loc main_arg4)) (m ((c : Thread nD τ).loc main_arg5)) (m ((c : Thread nD τ).loc main_arg6)) := by
  have e3 : V3 m ρ c main_arg3 = m ((c : Thread nD τ).loc main_arg3) := W3_args m ρ c main_arg3 (by decide)
  have e4 : V3 m ρ c main_arg4 = m ((c : Thread nD τ).loc main_arg4) := W3_args m ρ c main_arg4 (by decide)
  have e5 : V3 m ρ c main_arg5 = m ((c : Thread nD τ).loc main_arg5) := W3_args m ρ c main_arg5 (by decide)
  have e6 : V3 m ρ c main_arg6 = m ((c : Thread nD τ).loc main_arg6) := W3_args m ρ c main_arg6 (by decide)
  unfold lamOf
  simp only [lam0_blk, lam1_blk, lam2_blk, lam3_blk, e3, e4, e5, e6]

variable {A : Inputs} (hA : Holds m c A)
  (hl : lamOf (m ((c : Thread nD τ).loc main_arg3)) (m ((c : Thread nD τ).loc main_arg4)) (m ((c : Thread nD τ).loc main_arg5)) (m ((c : Thread nD τ).loc main_arg6)) = (A.lam : EReal))
include hA hl

/-- One entry of the result, by batch entry, position, head and column. -/
def outVal (A : Inputs) (g : S1x128.Idx → EReal) (b : Fin 32) (j : Fin 2048) (h : Fin 4) (e : Fin 128) : EReal :=
  tail (fun x => (A.att b h ⟨16 + j, by omega⟩ x : EReal)) (g (ix2 0 e)) e

/-- What a point leaves in its block of the result. -/
theorem out_blk (t : Fin cfg1.N) (b : Fin 32) (hb : (b : ℕ) = t.val / 4) (y : S512x512.Idx) :
    outsAt1 (V3 m ρ) c t y = outVal A (m ((c : Thread nD τ).loc main_arg7)) b
      ⟨512 * (t.val % 4) + (y 0 : ℕ), by have h0 : (y 0 : ℕ) < 512 := (y 0).isLt; omega⟩
      ⟨(y 1 : ℕ) / 128, by have h1 : (y 1 : ℕ) < 512 := (y 1).isLt; omega⟩ ⟨(y 1 : ℕ) % 128, Nat.mod_lt _ (by decide)⟩ := by
  have B := blocks_at ρ hA t b hb
  have hi := coords1 t
  have hL := (lam_at (m := m) (ρ := ρ) (c := c) t).trans hl
  have hg : ∀ e : Fin 128, iblk1 (V3 m ρ) c 11 t (ix2 e 0) = (m ((c : Thread nD τ).loc main_arg7) : S1x128.Idx → EReal) (ix2 0 e) := fun e =>
    (gain_blk (V3 m ρ) c t e).trans (gain_at m ρ c e)
  have hc := cover1_A_12 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) y
  unfold outsAt1
  unfold out1_A_12
  rw [View.read_writes_junk_eq_canon]
  refine View.canon_apply_of_pieces (fun y : S512x512.Idx => outVal A (m ((c : Thread nD τ).loc main_arg7)) b
      ⟨512 * (t.val % 4) + (y 0 : ℕ), by have h0 : (y 0 : ℕ) < 512 := (y 0).isLt; omega⟩
      ⟨(y 1 : ℕ) / 128, by have h1 : (y 1 : ℕ) < 512 := (y 1).isLt; omega⟩ ⟨(y 1 : ℕ) % 128, Nat.mod_lt _ (by decide)⟩) _ ?_ y hc
  rw [pieces_eq]
  generalize iblk1 (V3 m ρ) c 7 t = x7 at hL ⊢
  generalize iblk1 (V3 m ρ) c 8 t = x8 at hL ⊢
  generalize iblk1 (V3 m ρ) c 9 t = x9 at hL ⊢
  generalize iblk1 (V3 m ρ) c 10 t = x10 at hL ⊢
  generalize iblk1 (V3 m ρ) c 11 t = x11 at hg ⊢
  have hlam : (k1_pay147 (View.readAt (Elt Ideal) (ms1_7 t).view (Rect.unit (s := S1x64) ![0, 0] S1x64.size inb_S1x64_S1x64_0_0).toLoadRect ((hs1_7 t).unread x7)) (View.readAt (Elt Ideal) (ms1_8 t).view (Rect.unit (s := S1x64) ![0, 0] S1x64.size inb_S1x64_S1x64_0_0).toLoadRect ((hs1_8 t).unread x8)) (View.readAt (Elt Ideal) (ms1_9 t).view (Rect.unit (s := S1x64) ![0, 0] S1x64.size inb_S1x64_S1x64_0_0).toLoadRect ((hs1_9 t).unread x9)) (View.readAt (Elt Ideal) (ms1_10 t).view (Rect.unit (s := S1x64) ![0, 0] S1x64.size inb_S1x64_S1x64_0_0).toLoadRect ((hs1_10 t).unread x10)) : FVec Ideal S1x1 .f32) (ix2 0 0) = (A.lam : EReal) := by
    refine (lam_apply _ _ _ _).trans (Eq.trans ?_ hL)
    unfold lamOf
    refine congrArg₂ (fun u v => Ideal.exp u - Ideal.exp v + _) (Finset.sum_congr rfl fun x _ => ?_) (Finset.sum_congr rfl fun x _ => ?_)
    · exact congrArg₂ (· * ·) (row_read (ms1_7 t) (hs1_7 t) x7 _ x) (row_read (ms1_8 t) (hs1_8 t) x8 _ x)
    · exact congrArg₂ (· * ·) (row_read (ms1_9 t) (hs1_9 t) x9 _ x) (row_read (ms1_10 t) (hs1_10 t) x10 _ x)
  intro p hp x
  simp only [List.mem_cons, List.not_mem_nil, or_false] at hp
  rcases hp with rfl | rfl | rfl | rfl

  · have hx : x = ix2 (⟨x 0, (x 0).isLt⟩ : Fin 512) (⟨x 1, (x 1).isLt⟩ : Fin 128) := by
      funext a; match a with | ⟨0, _⟩ => rfl | ⟨1, _⟩ => rfl
    have hx0 : (x 0 : ℕ) < 512 := (x 0).isLt
    have hx1 : (x 1 : ℕ) < 128 := (x 1).isLt
    have e0 : (((Rect.unit (s := S512x512) ![0, 384] ![512, 128] inb_S512x512_S512x128_0_384).emb x) 0 : ℕ) = x 0 := by
      show 0 + 1 * (x 0 : ℕ) = _; omega
    have e1 : (((Rect.unit (s := S512x512) ![0, 384] ![512, 128] inb_S512x512_S512x128_0_384).emb x) 1 : ℕ) = 384 + x 1 := by
      show 384 + 1 * (x 1 : ℕ) = _; omega
    refine (congrArg (headOut (F := Ideal) _ _ _ _) hx).trans ?_
    refine (head_val A b 3 ⟨16 + 512 * (t.val % 4) + (x 0 : ℕ), by omega⟩ ⟨x 0, hx0⟩ _ _ (fin6_val B (grid1.coords t) hi _ _ _ _ _ _ _ _ _ _ _ _ _ _ ⟨x 0, hx0⟩) (fin7_val B (grid1.coords t) hi _ _ _ _ _ _ _ _ _ _ _ _ _ _ ⟨x 0, hx0⟩) _ hlam _ ⟨x 1, hx1⟩).trans ?_
    rw [gain_read (ms1_11 t) (hs1_11 t) x11 _ ⟨x 1, hx1⟩, hg]
    have q0 : (⟨512 * (t.val % 4) + (((Rect.unit (s := S512x512) ![0, 384] ![512, 128] inb_S512x512_S512x128_0_384).emb x) 0 : ℕ), by omega⟩ : Fin 2048) = ⟨512 * (t.val % 4) + (x 0 : ℕ), by omega⟩ := Fin.ext (by simp only [e0])
    have q1 : (⟨(((Rect.unit (s := S512x512) ![0, 384] ![512, 128] inb_S512x512_S512x128_0_384).emb x) 1 : ℕ) / 128, by omega⟩ : Fin 4) = 3 := Fin.ext (by simp only [e1]; show (384 + (x 1 : ℕ)) / 128 = 3; omega)
    have q2 : (⟨(((Rect.unit (s := S512x512) ![0, 384] ![512, 128] inb_S512x512_S512x128_0_384).emb x) 1 : ℕ) % 128, Nat.mod_lt _ (by decide)⟩ : Fin 128) = ⟨x 1, hx1⟩ := Fin.ext (by simp only [e1]; omega)
    refine Eq.trans ?_ (congr (congr (congrArg (outVal A (m ((c : Thread nD τ).loc main_arg7)) b) q0.symm) q1.symm) q2.symm)
    unfold outVal
    simp only [← Nat.add_assoc]

  · have hx : x = ix2 (⟨x 0, (x 0).isLt⟩ : Fin 512) (⟨x 1, (x 1).isLt⟩ : Fin 128) := by
      funext a; match a with | ⟨0, _⟩ => rfl | ⟨1, _⟩ => rfl
    have hx0 : (x 0 : ℕ) < 512 := (x 0).isLt
    have hx1 : (x 1 : ℕ) < 128 := (x 1).isLt
    have e0 : (((Rect.unit (s := S512x512) ![0, 256] ![512, 128] inb_S512x512_S512x128_0_256).emb x) 0 : ℕ) = x 0 := by
      show 0 + 1 * (x 0 : ℕ) = _; omega
    have e1 : (((Rect.unit (s := S512x512) ![0, 256] ![512, 128] inb_S512x512_S512x128_0_256).emb x) 1 : ℕ) = 256 + x 1 := by
      show 256 + 1 * (x 1 : ℕ) = _; omega
    refine (congrArg (headOut (F := Ideal) _ _ _ _) hx).trans ?_
    refine (head_val A b 2 ⟨16 + 512 * (t.val % 4) + (x 0 : ℕ), by omega⟩ ⟨x 0, hx0⟩ _ _ (fin4_val B (grid1.coords t) hi _ _ _ _ _ _ _ _ _ _ _ _ _ _ ⟨x 0, hx0⟩) (fin5_val B (grid1.coords t) hi _ _ _ _ _ _ _ _ _ _ _ _ _ _ ⟨x 0, hx0⟩) _ hlam _ ⟨x 1, hx1⟩).trans ?_
    rw [gain_read (ms1_11 t) (hs1_11 t) x11 _ ⟨x 1, hx1⟩, hg]
    have q0 : (⟨512 * (t.val % 4) + (((Rect.unit (s := S512x512) ![0, 256] ![512, 128] inb_S512x512_S512x128_0_256).emb x) 0 : ℕ), by omega⟩ : Fin 2048) = ⟨512 * (t.val % 4) + (x 0 : ℕ), by omega⟩ := Fin.ext (by simp only [e0])
    have q1 : (⟨(((Rect.unit (s := S512x512) ![0, 256] ![512, 128] inb_S512x512_S512x128_0_256).emb x) 1 : ℕ) / 128, by omega⟩ : Fin 4) = 2 := Fin.ext (by simp only [e1]; show (256 + (x 1 : ℕ)) / 128 = 2; omega)
    have q2 : (⟨(((Rect.unit (s := S512x512) ![0, 256] ![512, 128] inb_S512x512_S512x128_0_256).emb x) 1 : ℕ) % 128, Nat.mod_lt _ (by decide)⟩ : Fin 128) = ⟨x 1, hx1⟩ := Fin.ext (by simp only [e1]; omega)
    refine Eq.trans ?_ (congr (congr (congrArg (outVal A (m ((c : Thread nD τ).loc main_arg7)) b) q0.symm) q1.symm) q2.symm)
    unfold outVal
    simp only [← Nat.add_assoc]

  · have hx : x = ix2 (⟨x 0, (x 0).isLt⟩ : Fin 512) (⟨x 1, (x 1).isLt⟩ : Fin 128) := by
      funext a; match a with | ⟨0, _⟩ => rfl | ⟨1, _⟩ => rfl
    have hx0 : (x 0 : ℕ) < 512 := (x 0).isLt
    have hx1 : (x 1 : ℕ) < 128 := (x 1).isLt
    have e0 : (((Rect.unit (s := S512x512) ![0, 128] ![512, 128] inb_S512x512_S512x128_0_128).emb x) 0 : ℕ) = x 0 := by
      show 0 + 1 * (x 0 : ℕ) = _; omega
    have e1 : (((Rect.unit (s := S512x512) ![0, 128] ![512, 128] inb_S512x512_S512x128_0_128).emb x) 1 : ℕ) = 128 + x 1 := by
      show 128 + 1 * (x 1 : ℕ) = _; omega
    refine (congrArg (headOut (F := Ideal) _ _ _ _) hx).trans ?_
    refine (head_val A b 1 ⟨16 + 512 * (t.val % 4) + (x 0 : ℕ), by omega⟩ ⟨x 0, hx0⟩ _ _ (fin2_val B (grid1.coords t) hi _ _ _ _ _ _ _ _ _ _ _ _ _ _ ⟨x 0, hx0⟩) (fin3_val B (grid1.coords t) hi _ _ _ _ _ _ _ _ _ _ _ _ _ _ ⟨x 0, hx0⟩) _ hlam _ ⟨x 1, hx1⟩).trans ?_
    rw [gain_read (ms1_11 t) (hs1_11 t) x11 _ ⟨x 1, hx1⟩, hg]
    have q0 : (⟨512 * (t.val % 4) + (((Rect.unit (s := S512x512) ![0, 128] ![512, 128] inb_S512x512_S512x128_0_128).emb x) 0 : ℕ), by omega⟩ : Fin 2048) = ⟨512 * (t.val % 4) + (x 0 : ℕ), by omega⟩ := Fin.ext (by simp only [e0])
    have q1 : (⟨(((Rect.unit (s := S512x512) ![0, 128] ![512, 128] inb_S512x512_S512x128_0_128).emb x) 1 : ℕ) / 128, by omega⟩ : Fin 4) = 1 := Fin.ext (by simp only [e1]; show (128 + (x 1 : ℕ)) / 128 = 1; omega)
    have q2 : (⟨(((Rect.unit (s := S512x512) ![0, 128] ![512, 128] inb_S512x512_S512x128_0_128).emb x) 1 : ℕ) % 128, Nat.mod_lt _ (by decide)⟩ : Fin 128) = ⟨x 1, hx1⟩ := Fin.ext (by simp only [e1]; omega)
    refine Eq.trans ?_ (congr (congr (congrArg (outVal A (m ((c : Thread nD τ).loc main_arg7)) b) q0.symm) q1.symm) q2.symm)
    unfold outVal
    simp only [← Nat.add_assoc]

  · have hx : x = ix2 (⟨x 0, (x 0).isLt⟩ : Fin 512) (⟨x 1, (x 1).isLt⟩ : Fin 128) := by
      funext a; match a with | ⟨0, _⟩ => rfl | ⟨1, _⟩ => rfl
    have hx0 : (x 0 : ℕ) < 512 := (x 0).isLt
    have hx1 : (x 1 : ℕ) < 128 := (x 1).isLt
    have e0 : (((Rect.unit (s := S512x512) ![0, 0] ![512, 128] inb_S512x512_S512x128_0_0).emb x) 0 : ℕ) = x 0 := by
      show 0 + 1 * (x 0 : ℕ) = _; omega
    have e1 : (((Rect.unit (s := S512x512) ![0, 0] ![512, 128] inb_S512x512_S512x128_0_0).emb x) 1 : ℕ) = 0 + x 1 := by
      show 0 + 1 * (x 1 : ℕ) = _; omega
    refine (congrArg (headOut (F := Ideal) _ _ _ _) hx).trans ?_
    refine (head_val A b 0 ⟨16 + 512 * (t.val % 4) + (x 0 : ℕ), by omega⟩ ⟨x 0, hx0⟩ _ _ (fin0_val B (grid1.coords t) hi _ _ _ _ _ _ _ _ _ _ _ _ _ _ ⟨x 0, hx0⟩) (fin1_val B (grid1.coords t) hi _ _ _ _ _ _ _ _ _ _ _ _ _ _ ⟨x 0, hx0⟩) _ hlam _ ⟨x 1, hx1⟩).trans ?_
    rw [gain_read (ms1_11 t) (hs1_11 t) x11 _ ⟨x 1, hx1⟩, hg]
    have q0 : (⟨512 * (t.val % 4) + (((Rect.unit (s := S512x512) ![0, 0] ![512, 128] inb_S512x512_S512x128_0_0).emb x) 0 : ℕ), by omega⟩ : Fin 2048) = ⟨512 * (t.val % 4) + (x 0 : ℕ), by omega⟩ := Fin.ext (by simp only [e0])
    have q1 : (⟨(((Rect.unit (s := S512x512) ![0, 0] ![512, 128] inb_S512x512_S512x128_0_0).emb x) 1 : ℕ) / 128, by omega⟩ : Fin 4) = 0 := Fin.ext (by simp only [e1]; show (0 + (x 1 : ℕ)) / 128 = 0; omega)
    have q2 : (⟨(((Rect.unit (s := S512x512) ![0, 0] ![512, 128] inb_S512x512_S512x128_0_0).emb x) 1 : ℕ) % 128, Nat.mod_lt _ (by decide)⟩ : Fin 128) = ⟨x 1, hx1⟩ := Fin.ext (by simp only [e1]; omega)
    refine Eq.trans ?_ (congr (congr (congrArg (outVal A (m ((c : Thread nD τ).loc main_arg7)) b) q0.symm) q1.symm) q2.symm)
    unfold outVal
    simp only [← Nat.add_assoc]

/-- The attention kernel's result array. -/
theorem out_arr : (dat1 (V3 m ρ) c).arrAt 12 cfg1.N = fun y : S65536x512.Idx => outVal A (m ((c : Thread nD τ).loc main_arg7))
    ⟨(y 0 : ℕ) / 2048, by have h0 : (y 0 : ℕ) < 65536 := (y 0).isLt; omega⟩ ⟨(y 0 : ℕ) % 2048, Nat.mod_lt _ (by decide)⟩
    ⟨(y 1 : ℕ) / 128, by have h1 : (y 1 : ℕ) < 512 := (y 1).isLt; omega⟩ ⟨(y 1 : ℕ) % 128, Nat.mod_lt _ (by decide)⟩ := by
  refine (dat1 (V3 m ρ) c).arrAt_eq_of_covers 12 _ (by decide +kernel) fun t hf y => ?_
  have ht : t.val < 128 := lt_of_lt_of_eq t.isLt N1
  have h0 : (y 0 : ℕ) < 512 := (y 0).isLt
  have h1 : (y 1 : ℕ) < 512 := (y 1).isLt
  blk_simp
  rw [after1_12]
  refine (out_blk hA hl t ⟨t.val / 4, by omega⟩ rfl _).trans ?_
  congr 1
  · refine Fin.ext ?_
    blk_simp [idx1_12 t]
    show t.val / 4 = (t.val * 512 + (y 0 : ℕ)) / 2048
    omega
  · refine Fin.ext ?_
    blk_simp [idx1_12 t]
    show 512 * (t.val % 4) + (y 0 : ℕ) = (t.val * 512 + (y 0 : ℕ)) % 2048
    omega
  · refine Fin.ext ?_
    blk_simp [idx1_12 t]
  · refine Fin.ext ?_
    blk_simp [idx1_12 t]

end Cert.DiffAttn
-- ==== Proof.RefBucket.lean ====
/- The reference's table index: which bucket the distance between two positions falls into. -/
module

public import proofs.«01_k».proof.Proof.Gen.ReferenceIdeal.Read
public import proofs.«01_k».proof.Proof.Spec
public import Idealize.ShloMosaic.Lib.Pointwise

@[expose] public section

set_option maxRecDepth 16384

noncomputable section

namespace Cert.DiffAttn

open Idealize.ShloMosaic Cert.ReferenceIdeal Cert.ReferenceIdeal.Read

/-- The word of 8. -/
theorem eight : Ideal.ofBits FTy.f32 1090519040#32 = ((8 : ℝ) : EReal) := by
  simp [Ideal.ofBits, Ideal.ieee]; rw [← EReal.coe_mul]; norm_num
/-- The word of 16. -/
theorem sixteen : Ideal.ofBits FTy.f32 1098907648#32 = ((16 : ℝ) : EReal) := by
  simp [Ideal.ofBits, Ideal.ieee]; rw [← EReal.coe_mul]; norm_num

/-- The logarithm of a positive real. -/
theorem log_pos (x : ℝ) (h : 0 < x) : Ideal.log (x : EReal) = ((Real.log x : ℝ) : EReal) := by
  show (if x ≤ 0 then (⊥ : EReal) else (Real.log x : EReal)) = _
  rw [if_neg (not_le.mpr h)]

/-- Twice the binary logarithm of an eighth of a distance. -/
def logPart (n : ℕ) : ℝ := Real.log ((n : ℝ) / 8) / Real.log 16 * 8

/-- When the logarithmic part reaches a whole number. -/
theorem logPart_ge (n k : ℕ) (h : 8 ≤ n) : (k : ℝ) ≤ logPart n ↔ 64 * 2 ^ k ≤ n * n := by
  have hn : (0 : ℝ) < n := by exact_mod_cast (by omega : 0 < n)
  have h2 : 0 < Real.log 2 := Real.log_pos (by norm_num)
  have h16 : Real.log 16 = 4 * Real.log 2 := by
    rw [show (16 : ℝ) = 2 ^ 4 by norm_num, Real.log_pow]; norm_num
  have e : logPart n = Real.log ((n : ℝ) * n / 64) / Real.log 2 := by
    unfold logPart
    rw [h16, show (n : ℝ) * n / 64 = ((n : ℝ) / 8) ^ 2 by ring, Real.log_pow]
    field_simp
    ring
  rw [e, le_div_iff₀ h2, ← Real.log_pow, Real.log_le_log_iff (by positivity) (by positivity), le_div_iff₀ (by norm_num)]
  constructor
  · intro h'
    have : ((2 : ℝ) ^ k * 64) = ((64 * 2 ^ k : ℕ) : ℝ) := by push_cast; ring
    rw [this] at h'
    exact_mod_cast h'
  · intro h'
    have : ((2 : ℝ) ^ k * 64) = ((64 * 2 ^ k : ℕ) : ℝ) := by push_cast; ring
    rw [this]
    exact_mod_cast h'

/-- A large distance's bucket from the whole part of its logarithm. -/
theorem distBucket_floor (n : ℕ) (h : 8 ≤ n) : distBucket n = min (8 + ⌊logPart n⌋₊) 15 := by
  have h0 : 0 ≤ logPart n := by
    have := (logPart_ge n 0 h).mpr (by nlinarith)
    exact_mod_cast this
  have key : ∀ k : ℕ, k ≤ ⌊logPart n⌋₊ ↔ 64 * 2 ^ k ≤ n * n := fun k => by rw [Nat.le_floor_iff h0, logPart_ge n k h]
  generalize ⌊logPart n⌋₊ = t at key ⊢
  have k1 : 1 ≤ t ↔ 128 ≤ n * n := key 1
  have k2 : 2 ≤ t ↔ 256 ≤ n * n := key 2
  have k3 : 3 ≤ t ↔ 512 ≤ n * n := key 3
  have k4 : 4 ≤ t ↔ 1024 ≤ n * n := key 4
  have k5 : 5 ≤ t ↔ 2048 ≤ n * n := key 5
  have k6 : 6 ≤ t ↔ 4096 ≤ n * n := key 6
  have k7 : 7 ≤ t ↔ 8192 ≤ n * n := key 7
  unfold distBucket
  rw [if_neg (by omega)]
  simp only [← k1, ← k2, ← k3, ← k4, ← k5, ← k6, ← k7]
  split_ifs <;> omega

/-- The logarithmic part stays below 17. -/
theorem floor_lt (n : ℕ) (h : 8 ≤ n) (hn : n < 2064) : ⌊logPart n⌋₊ < 17 := by
  have h0 : 0 ≤ logPart n := by
    have := (logPart_ge n 0 h).mpr (by nlinarith)
    exact_mod_cast this
  have h17 : ¬ ((17 : ℕ) : ℝ) ≤ logPart n := by
    rw [logPart_ge n 17 h]; nlinarith
  push_cast at h17
  exact (Nat.floor_lt h0).mpr (by push_cast; linarith)

/-- The whole part as the reference computes it. -/
theorem fptosi_logPart (n : ℕ) (h : 8 ≤ n) (hn : n < 2064) :
    Ideal.fptosi 32 ((logPart n : ℝ) : EReal) = BitVec.ofNat 32 ⌊logPart n⌋₊ := by
  have h0 : 0 ≤ logPart n := by
    have := (logPart_ge n 0 h).mpr (by nlinarith)
    exact_mod_cast this
  have h17 : ¬ ((17 : ℕ) : ℝ) ≤ logPart n := by
    rw [logPart_ge n 17 h]; nlinarith
  push_cast at h17
  have hf : ⌊logPart n⌋₊ < 17 := (Nat.floor_lt h0).mpr (by push_cast; linarith)
  have hz : ⌊logPart n⌋ = ((⌊logPart n⌋₊ : ℕ) : ℤ) := (Int.natCast_floor_eq_floor h0).symm
  rw [Ideal.fptosi, Ideal.toIntClamped_coe, if_pos h0, hz]
  norm_num
  rw [min_eq_right (by omega)]
  rfl

/-- The magnitude of a distance. -/
theorem abs_at : ∀ n : Fin 2064, IntOp.absi (BitVec.ofNat 32 n) = BitVec.ofNat 32 n := by decide +kernel
/-- The magnitude of a distance backwards. -/
theorem abs_neg_at : ∀ n : Fin 2064, IntOp.absi (-(BitVec.ofNat 32 n)) = BitVec.ofNat 32 n := by decide +kernel
/-- A positive distance is above zero. -/
theorem sgt_at : ∀ n : Fin 2064, (0 : ℕ) < n → IntOp.cmpi .sgt (BitVec.ofNat 32 n) 0#32 = 1#1 := by decide +kernel
/-- A distance backwards is not. -/
theorem sgt_neg_at : ∀ n : Fin 2064, IntOp.cmpi .sgt (-(BitVec.ofNat 32 n)) 0#32 = 0#1 := by decide +kernel
/-- Which distances are below 8. -/
theorem slt8_at : ∀ n : Fin 2064, IntOp.cmpi .slt (BitVec.ofNat 32 n) 8#32 = if (n : ℕ) < 8 then 1#1 else 0#1 := by decide +kernel
/-- A positive distance is at least 1. -/
theorem max1_at : ∀ n : Fin 2064, (1 : ℕ) ≤ n → IntOp.maxsi (BitVec.ofNat 32 n) 1#32 = BitVec.ofNat 32 n := by decide +kernel
/-- A distance as an integer. -/
theorem toInt_at : ∀ n : Fin 2064, (BitVec.ofNat 32 n).toInt = ((n : ℕ) : ℤ) := by decide +kernel
/-- The bucket's cap. -/
theorem min15_at : ∀ t : Fin 17, IntOp.minsi (IntOp.addi 8#32 (BitVec.ofNat 32 t)) 15#32 = BitVec.ofNat 32 (min (8 + t) 15) := by
  decide +kernel
/-- A bucket of the lower half indexes the table as it is. -/
theorem wrap0_at : ∀ t : Fin 16, Scalar.select (IntOp.cmpi .slt (IntOp.addi 0#32 (BitVec.ofNat 32 t)) 0#32)
    (IntOp.addi (IntOp.addi 0#32 (BitVec.ofNat 32 t)) 32#32) (IntOp.addi 0#32 (BitVec.ofNat 32 t)) = BitVec.ofNat 32 t := by
  decide +kernel
/-- A bucket of the upper half indexes the table as it is. -/
theorem wrap16_at : ∀ t : Fin 16, Scalar.select (IntOp.cmpi .slt (IntOp.addi 16#32 (BitVec.ofNat 32 t)) 0#32)
    (IntOp.addi (IntOp.addi 16#32 (BitVec.ofNat 32 t)) 32#32) (IntOp.addi 16#32 (BitVec.ofNat 32 t)) = BitVec.ofNat 32 (16 + t) := by
  decide +kernel

/-- The bucket of a distance as the reference computes it. -/
theorem dist_word (n : ℕ) (hn : n < 2064) :
    Scalar.select (IntOp.cmpi .slt (BitVec.ofNat 32 n) 8#32) (BitVec.ofNat 32 n)
      (IntOp.minsi (IntOp.addi 8#32 (Ideal.fptosi 32 (Ideal.div (Ideal.log (Ideal.div
        ((((IntOp.maxsi (BitVec.ofNat 32 n) 1#32).toInt : ℝ) : EReal)) (Ideal.ofBits FTy.f32 1090519040#32)))
          (Ideal.log (Ideal.ofBits FTy.f32 1098907648#32)) * Ideal.ofBits FTy.f32 1090519040#32))) 15#32)
      = BitVec.ofNat 32 (distBucket n) := by
  rw [slt8_at ⟨n, hn⟩]
  by_cases h : n < 8
  · rw [if_pos h]
    unfold distBucket
    rw [if_pos h]
    rfl
  · rw [if_neg h]
    push Not at h
    have hp : (0 : ℝ) < n := by exact_mod_cast (by omega : 0 < n)
    have hl : Real.log 16 ≠ 0 := (Real.log_pos (by norm_num)).ne'
    rw [max1_at ⟨n, hn⟩ (by show 1 ≤ n; omega), toInt_at ⟨n, hn⟩, eight, sixteen, log_pos _ (by norm_num)]
    rw [show (((n : ℕ) : ℤ) : ℝ) = (n : ℝ) by norm_num, div_coe _ _ (by norm_num), log_pos _ (by positivity), div_coe _ _ hl,
      ← EReal.coe_mul, show Real.log ((n : ℝ) / 8) / Real.log 16 * 8 = logPart n from rfl, fptosi_logPart n h hn]
    have hf : ⌊logPart n⌋₊ < 17 := floor_lt n h hn
    show IntOp.minsi _ _ = _
    rw [min15_at ⟨_, hf⟩, distBucket_floor n h]

/-- The table index the reference looks up for a query's and a key's position. -/
theorem ref_bucket (q k : Fin 2064) : val_main_v60 (F := Ideal) (ix2 q k) = BitVec.ofNat 32 (bucketNo q k) := by
  simp only [val_main_v60_apply, val_main_v57_apply, val_main_v59_apply, val_main_v55_apply, val_main_v54_apply, val_main_v53_apply, val_main_v33_apply, val_main_v56_apply, val_main_v58_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v32_apply, val_main_v31_apply, val_main_v30_apply, val_main_v29_apply, val_main_v28_apply, val_main_v27_apply, val_main_v26_apply, val_main_v25_apply, val_main_c_apply, val_main_c_3_apply, val_main_c_4_apply, val_main_c_5_apply, val_main_c_9_apply, val_main_c_10_apply, val_main_c_11_apply, val_main_c_12_apply, val_main_c_13_apply, val_main_cst_6_apply, val_main_cst_7_apply, val_main_cst_8_apply, val_main_call0_v0_apply, val_main_call0_v1_apply]
  show Scalar.select (IntOp.cmpi .slt (IntOp.addi _ _) _) _ _ = _
  have hq := q.isLt
  have hk := k.isLt
  rw [show IntOp.subi (BitVec.ofNat 32 ↑(ix2 q k 1)) (BitVec.ofNat 32 ↑(ix2 q k 0)) = BitVec.ofNat 32 k - BitVec.ofNat 32 q from rfl]
  unfold bucketNo
  by_cases h : (q : ℕ) < k
  · rw [if_pos h, show BitVec.ofNat 32 (k : ℕ) - BitVec.ofNat 32 (q : ℕ) = BitVec.ofNat 32 (k - q) by bv_omega,
      abs_at ⟨k - q, by omega⟩, sgt_at ⟨k - q, by omega⟩ (by show 0 < (k : ℕ) - q; omega)]
    have e := dist_word (k - q) (by omega)
    refine Eq.trans ?_ (wrap16_at ⟨distBucket (k - q), distBucket_lt _⟩)
    rw [← e]
    rfl
  · rw [if_neg h, show BitVec.ofNat 32 (k : ℕ) - BitVec.ofNat 32 (q : ℕ) = -(BitVec.ofNat 32 (q - k)) by bv_omega,
      abs_neg_at ⟨q - k, by omega⟩, sgt_neg_at ⟨q - k, by omega⟩]
    have e := dist_word (q - k) (by omega)
    refine Eq.trans ?_ (wrap0_at ⟨distBucket (q - k), distBucket_lt _⟩)
    rw [← e]
    rfl

end Cert.DiffAttn
-- ==== Proof.RefRead.lean ====
/- The reference, read entry by entry: its scores are the ones of the mathematics, and its output is the tail of the
   difference of the two weighted means. -/
module

public import proofs.«01_k».proof.Proof.RefBucket
public import Idealize.ShloMosaic.Lib.Pointwise

@[expose] public section

set_option maxRecDepth 16384

noncomputable section

namespace Cert.DiffAttn

open Idealize.ShloMosaic Cert.ReferenceIdeal Cert.ReferenceIdeal.Read

/-- The projections with the meta tokens' in front. -/
theorem ref_full (x0 : S32x2048x3072.Idx → EReal) (x1 : S16x3072.Idx → EReal) (b : Fin 32) (p : Fin 2064) (c : Fin 3072) :
    val_main_v2 (F := Ideal) x0 x1 (ix3 b p c) =
      if h : (p : ℕ) < 16 then x1 (ix2 ⟨p, h⟩ c) else x0 (ix3 b ⟨p - 16, by omega⟩ c) := by
  unfold val_main_v2
  pointwise [val_main_v1_apply]
  by_cases h : (p : ℕ) < 16
  · rw [dif_pos h, dif_pos h]
    refine (val_main_v0_apply (F := Ideal) x1 _).trans ?_
    exact (congrArg x1 (by funext a; match a with | ⟨0, _⟩ => rfl | ⟨1, _⟩ => rfl))
  · rw [dif_neg h, dif_neg h]

/-- A key position's chunk in the reference. -/
theorem ref_chunk_key (k : Fin 2064) : val_main_v71 (F := Ideal) (ix1 k) = BitVec.ofNat 32 (chunkNo k) := by
  simp only [val_main_v71_apply, val_main_v70_apply, val_main_v69_apply, val_main_v68_apply, val_main_v67_apply, val_main_v66_apply, val_main_v65_apply, val_main_v64_apply, val_main_v25_apply, val_main_c_14_apply, val_main_c_15_apply, val_main_c_16_apply, val_main_c_17_apply, val_main_c_18_apply, val_main_call2_v13_apply, val_main_call2_v12_apply, val_main_call2_v11_apply, val_main_call2_v10_apply, val_main_call2_v9_apply, val_main_call2_v8_apply, val_main_call2_v7_apply, val_main_call2_v6_apply, val_main_call2_v5_apply, val_main_call2_v2_apply, val_main_call2_v1_apply, val_main_call2_v0_apply, val_main_call2_c_apply, val_main_call2_c_0_apply, val_main_call3_v1_apply]
  unfold val_main_call2_v3 val_main_call2_v4 signi
  revert k
  decide +kernel

/-- A query position's chunk in the reference. -/
theorem ref_chunk_query (k : Fin 2064) : val_main_v80 (F := Ideal) (ix1 k) = BitVec.ofNat 32 (chunkNo k) := by
  simp only [val_main_v80_apply, val_main_v79_apply, val_main_v78_apply, val_main_v77_apply, val_main_v76_apply, val_main_v75_apply, val_main_v74_apply, val_main_v73_apply, val_main_v25_apply, val_main_c_19_apply, val_main_c_20_apply, val_main_c_21_apply, val_main_c_22_apply, val_main_c_23_apply, val_main_call4_v13_apply, val_main_call4_v12_apply, val_main_call4_v11_apply, val_main_call4_v10_apply, val_main_call4_v9_apply, val_main_call4_v8_apply, val_main_call4_v7_apply, val_main_call4_v6_apply, val_main_call4_v5_apply, val_main_call4_v2_apply, val_main_call4_v1_apply, val_main_call4_v0_apply, val_main_call4_c_apply, val_main_call4_c_0_apply, val_main_call5_v1_apply]
  unfold val_main_call4_v3 val_main_call4_v4 signi
  revert k
  decide +kernel

/-- There are 33 chunks. -/
theorem chunkNo_lt (p : Fin 2064) : chunkNo p < 33 := by
  have := p.isLt
  unfold chunkNo; split_ifs <;> omega

/-- The order of chunk words. -/
theorem sle_at : ∀ x y : Fin 33, IntOp.cmpi .sle (BitVec.ofNat 32 x) (BitVec.ofNat 32 y) = if (x : ℕ) ≤ y then 1#1 else 0#1 := by
  decide +kernel

/-- Which keys the reference lets a query see. -/
theorem ref_visible (q k : Fin 2064) :
    val_main_v84 (F := Ideal) (ix2 q k) = if chunkNo k ≤ chunkNo q then 1#1 else 0#1 := by
  rw [val_main_v84_apply, val_main_v82_apply, val_main_v83_apply, val_main_v72_apply, val_main_v81_apply,
    show idx_main_v72 (idx_main_v82 (ix2 q k)) = ix1 k from (by funext a; match a with | ⟨0, _⟩ => rfl),
    show idx_main_v81 (idx_main_v83 (ix2 q k)) = ix1 q from (by funext a; match a with | ⟨0, _⟩ => rfl), ref_chunk_key, ref_chunk_query]
  exact sle_at ⟨_, chunkNo_lt k⟩ ⟨_, chunkNo_lt q⟩

/-- A bucket's word as a number. -/
theorem toInt_small : ∀ n : Fin 32, (BitVec.ofNat 32 n).toInt.toNat = n := by decide +kernel

/-- The table's entry the reference adds. -/
theorem ref_table (x2 : S32x4.Idx → EReal) (q k : Fin 2064) (h : Fin 4) (n : Fin 32)
    (hn : val_main_v60 (F := Ideal) (ix2 q k) = BitVec.ofNat 32 n) :
    val_main_v62 (F := Ideal) x2 (ix3 q k h) = x2 (ix2 n h) := by
  unfold val_main_v62 Host.gather
  congr 1
  have hs : (gather_S32x4_S2064x2064x1_S2064x2064x4_2_0_n_n_0_2_14).start (ix3 q k h) (val_main_v61 (F := Ideal)) 0 = n := by
    unfold GatherDims.start
    rw [dif_pos (show (0 : Fin 2) ∈ (gather_S32x4_S2064x2064x1_S2064x2064x4_2_0_n_n_0_2_14).startIndexMap from List.mem_singleton.mpr rfl)]
    rw [show ((gather_S32x4_S2064x2064x1_S2064x2064x4_2_0_n_n_0_2_14).siIdx (ix3 q k h) ⟨List.idxOf (0 : Fin 2) (gather_S32x4_S2064x2064x1_S2064x2064x4_2_0_n_n_0_2_14).startIndexMap,
      List.idxOf_lt_length_iff.2 (List.mem_singleton.mpr rfl)⟩) = ix3 q k (0 : Fin 1) from by
        funext b; refine Fin.ext ?_
        match b with
        | ⟨0, _⟩ => rfl
        | ⟨1, _⟩ => rfl
        | ⟨2, _⟩ => rfl]
    have e : val_main_v61 (F := Ideal) (ix3 q k (0 : Fin 1)) = BitVec.ofNat 32 n :=
      (val_main_v61_apply _).trans (Eq.trans (congrArg _ (by funext a; match a with | ⟨0, _⟩ => rfl | ⟨1, _⟩ => rfl)) hn)
    rw [e, toInt_small]
    exact min_eq_left (Nat.le_of_lt_succ n.isLt)
  funext a
  refine Fin.ext ?_
  match a with
  | ⟨0, _⟩ =>
    show (gather_S32x4_S2064x2064x1_S2064x2064x4_2_0_n_n_0_2_14).start (ix3 q k h) (val_main_v61 (F := Ideal)) 0 + (gather_S32x4_S2064x2064x1_S2064x2064x4_2_0_n_n_0_2_14).batchCoord (ix3 q k h) 0 + (gather_S32x4_S2064x2064x1_S2064x2064x4_2_0_n_n_0_2_14).offCoord (ix3 q k h) 0 = (n : ℕ)
    rw [GatherDims.batchCoord_eq_zero _ _ _ List.not_mem_nil,
      GatherDims.offCoord_eq_zero _ _ _ (fun h => ((GatherDims.mem_sKept _ _).mp h).1 (List.mem_singleton.mpr rfl)), hs, Nat.add_zero]
  | ⟨1, _⟩ =>
    show (gather_S32x4_S2064x2064x1_S2064x2064x4_2_0_n_n_0_2_14).start (ix3 q k h) (val_main_v61 (F := Ideal)) 1 + (gather_S32x4_S2064x2064x1_S2064x2064x4_2_0_n_n_0_2_14).batchCoord (ix3 q k h) 1 + (gather_S32x4_S2064x2064x1_S2064x2064x4_2_0_n_n_0_2_14).offCoord (ix3 q k h) 1 = (h : ℕ)
    rw [GatherDims.batchCoord_eq_zero _ _ _ List.not_mem_nil, show (gather_S32x4_S2064x2064x1_S2064x2064x4_2_0_n_n_0_2_14).start (ix3 q k h) (val_main_v61 (F := Ideal)) 1 = 0 from by
      unfold GatherDims.start
      exact dif_neg (by decide)]
    unfold GatherDims.offCoord
    rw [dif_pos (by decide)]
    exact Nat.zero_add _

/-- The arguments are the real inputs. -/
structure Agrees (A : Inputs) (x0 : S32x2048x3072.Idx → EReal) (x1 : S16x3072.Idx → EReal) (x2 : S32x4.Idx → EReal) : Prop where
  proj : ∀ b p c, x0 (ix3 b p c) = (A.proj b p c : EReal)
  mproj : ∀ p c, x1 (ix2 p c) = (A.mproj p c : EReal)
  table : ∀ n h, x2 (ix2 n h) = (A.table n h : EReal)

variable {A : Inputs} {x0 : S32x2048x3072.Idx → EReal} {x1 : S16x3072.Idx → EReal} {x2 : S32x4.Idx → EReal} (hA : Agrees A x0 x1 x2)
include hA

/-- The reference's joined projections are real. -/
theorem ref_full_real (b : Fin 32) (p : Fin 2064) (c : Fin 3072) : val_main_v2 (F := Ideal) x0 x1 (ix3 b p c) = (A.full b p c : EReal) := by
  rw [ref_full]
  unfold Inputs.full
  split_ifs with h
  · exact hA.mproj _ _
  · exact hA.proj _ _ _

/-- The reference's queries. -/
theorem ref_q (b : Fin 32) (p : Fin 2064) (u : Fin 8) (x : Fin 64) (c : Fin 3072) (hc : (c : ℕ) = 1536 + 64 * u + x) :
    val_main_v4 (F := Ideal) x0 x1 (ix4 b p u x) = (A.full b p c : EReal) := by
  rw [val_main_v4_apply, val_main_v3_apply, ← ref_full_real hA]
  congr 1
  have hb := b.isLt; have hp := p.isLt; have hu := u.isLt; have hx := x.isLt
  funext a; refine Fin.ext ?_
  match a with
  | ⟨0, _⟩ => show ((((b : ℕ) * 2064 + p) * 8 + u) * 64 + x) / 1056768 = (b : ℕ); omega
  | ⟨1, _⟩ => show ((((b : ℕ) * 2064 + p) * 8 + u) * 64 + x) / 512 % 2064 = (p : ℕ); omega
  | ⟨2, _⟩ => show 1536 + ((((b : ℕ) * 2064 + p) * 8 + u) * 64 + x) % 512 = (c : ℕ); omega

/-- The reference's keys. -/
theorem ref_k (b : Fin 32) (p : Fin 2064) (u : Fin 8) (x : Fin 64) (c : Fin 3072) (hc : (c : ℕ) = 2048 + 64 * u + x) :
    val_main_v6 (F := Ideal) x0 x1 (ix4 b p u x) = (A.full b p c : EReal) := by
  rw [val_main_v6_apply, val_main_v5_apply, ← ref_full_real hA]
  congr 1
  have hb := b.isLt; have hp := p.isLt; have hu := u.isLt; have hx := x.isLt
  funext a; refine Fin.ext ?_
  match a with
  | ⟨0, _⟩ => show ((((b : ℕ) * 2064 + p) * 8 + u) * 64 + x) / 1056768 = (b : ℕ); omega
  | ⟨1, _⟩ => show ((((b : ℕ) * 2064 + p) * 8 + u) * 64 + x) / 512 % 2064 = (p : ℕ); omega
  | ⟨2, _⟩ => show 2048 + ((((b : ℕ) * 2064 + p) * 8 + u) * 64 + x) % 512 = (c : ℕ); omega

/-- The reference's values. -/
theorem ref_v (b : Fin 32) (p : Fin 2064) (u : Fin 4) (x : Fin 128) (c : Fin 3072) (hc : (c : ℕ) = 2560 + 128 * u + x) :
    val_main_v8 (F := Ideal) x0 x1 (ix4 b p u x) = (A.full b p c : EReal) := by
  rw [val_main_v8_apply, val_main_v7_apply, ← ref_full_real hA]
  congr 1
  have hb := b.isLt; have hp := p.isLt; have hu := u.isLt; have hx := x.isLt
  funext a; refine Fin.ext ?_
  match a with
  | ⟨0, _⟩ => show ((((b : ℕ) * 2064 + p) * 4 + u) * 128 + x) / 1056768 = (b : ℕ); omega
  | ⟨1, _⟩ => show ((((b : ℕ) * 2064 + p) * 4 + u) * 128 + x) / 512 % 2064 = (p : ℕ); omega
  | ⟨2, _⟩ => show 2560 + ((((b : ℕ) * 2064 + p) * 4 + u) * 128 + x) % 512 = (c : ℕ); omega

omit hA in
/-- The word of 1/8. -/
theorem eighth : Ideal.ofBits FTy.f32 1040187392#32 = ((1 / 8 : ℝ) : EReal) := by
  simp [Ideal.ofBits, Ideal.ieee]; rw [← EReal.coe_mul]; norm_num

/-- The reference's masked scores are the ones of the mathematics. -/
theorem ref_score (b : Fin 32) (h : Fin 4) (s : Fin 2) (q k : Fin 2064) :
    val_main_v88 (F := Ideal) x0 x1 x2 (ix5 b h s q k) = A.sc b h s q k := by
  have hb := b.isLt; have hh := h.isLt; have hs := s.isLt; have hq := q.isLt; have hk := k.isLt
  rw [val_main_v88_apply, val_main_call6_v1_apply, show idx_main_call6_v1 (ix5 b h s q k) = ix2 q k from (by funext a; match a with | ⟨0, _⟩ => rfl | ⟨1, _⟩ => rfl),
    ref_visible]
  unfold Inputs.sc
  by_cases hv : chunkNo k ≤ chunkNo q
  · rw [if_pos hv, if_pos hv]
    show val_main_v87 (F := Ideal) x0 x1 x2 (ix5 b h s q k) = _
    rw [val_main_v87_apply, val_main_v24_apply, val_main_v23_apply, val_main_v22_apply, val_main_cst_2_apply, val_main_v86_apply,
      val_main_v85_apply, val_main_v63_apply,
      show idx_main_v63 (idx_main_v85 (idx_main_v86 (ix5 b h s q k))) = ix3 q k h from (by funext a; match a with | ⟨0, _⟩ => rfl | ⟨1, _⟩ => rfl | ⟨2, _⟩ => rfl),
      ref_table x2 q k h ⟨_, bucketNo_lt q k⟩ (ref_bucket q k), hA.table]
    have e : idx_main_v24 (ix5 b h s q k) = ix4 b (⟨2 * h + s, by omega⟩ : Fin 8) q k := by
      funext a; refine Fin.ext ?_
      match a with
      | ⟨0, _⟩ => show (((((b : ℕ) * 4 + h) * 2 + s) * 2064 + q) * 2064 + k) / 34080768 = (b : ℕ); omega
      | ⟨1, _⟩ => show (((((b : ℕ) * 4 + h) * 2 + s) * 2064 + q) * 2064 + k) / 4260096 % 8 = 2 * (h : ℕ) + s; omega
      | ⟨2, _⟩ => show (((((b : ℕ) * 4 + h) * 2 + s) * 2064 + q) * 2064 + k) / 2064 % 2064 = (q : ℕ); omega
      | ⟨3, _⟩ => show (((((b : ℕ) * 4 + h) * 2 + s) * 2064 + q) * 2064 + k) % 2064 = (k : ℕ); omega
    have hsum : val_main_v21 (F := Ideal) x0 x1 (ix4 b (⟨2 * h + s, by omega⟩ : Fin 8) q k) =
        ((∑ x : Fin 64, A.full b q ⟨1536 + 128 * h + 64 * s + x, by omega⟩ * A.full b k ⟨2048 + 128 * h + 64 * s + x, by omega⟩ : ℝ) : EReal) := by
      rw [val_main_v21_apply, coe_sum]
      refine Finset.sum_congr rfl fun x _ => ?_
      rw [show lidx_main_v21 (ix4 b (⟨2 * h + s, by omega⟩ : Fin 8) q k) x = ix4 b q (⟨2 * h + s, by omega⟩ : Fin 8) x from (by funext a; match a with | ⟨0, _⟩ => rfl | ⟨1, _⟩ => rfl | ⟨2, _⟩ => rfl | ⟨3, _⟩ => rfl),
        show ridx_main_v21 (ix4 b (⟨2 * h + s, by omega⟩ : Fin 8) q k) x = ix4 b k (⟨2 * h + s, by omega⟩ : Fin 8) x from (by funext a; match a with | ⟨0, _⟩ => rfl | ⟨1, _⟩ => rfl | ⟨2, _⟩ => rfl | ⟨3, _⟩ => rfl),
        ref_q hA b q _ x ⟨1536 + 128 * h + 64 * s + x, by omega⟩ (by show _ = 1536 + 64 * (2 * (h : ℕ) + s) + x; simp only; omega),
        ref_k hA b k _ x ⟨2048 + 128 * h + 64 * s + x, by omega⟩ (by show _ = 2048 + 64 * (2 * (h : ℕ) + s) + x; simp only; omega), EReal.coe_mul]
    rw [e, hsum]
    show _ * Ideal.ofBits FTy.f32 1040187392#32 + _ = _
    rw [eighth, ← EReal.coe_mul, ← EReal.coe_add]
  · rw [if_neg hv, if_neg hv]
    show val_main_call6_v2 (F := Ideal) (ix5 b h s q k) = ⊥
    rw [val_main_call6_v2_apply, val_main_call6_v0_apply, val_main_cst_24_apply]
    exact ninf_f32

/-- The reference's row maxima are real. -/
theorem ref_max (b : Fin 32) (h : Fin 4) (s : Fin 2) (q : Fin 2064) :
    ∃ μ : ℝ, val_main_v91 (F := Ideal) x0 x1 x2 (ix4 b h s q) = (μ : EReal) := by
  have e : val_main_v89 (F := Ideal) x0 x1 x2 (ix4 b h s q) = (Finset.univ : Finset (Fin 2064)).fold max ⊥ fun k => A.sc b h s q k := by
    simp only [← ref_score hA, ← ninf_f32]
    generalize hy : val_main_v88 (F := Ideal) x0 x1 x2 = y
    unfold val_main_v89
    rw [hy]
    pointwise [val_main_cst_25]
  have e0 : val_main_v90 (F := Ideal) (ix4 b h s q) = ⊥ := by
    rw [val_main_v90_apply, val_main_cst_26_apply]; exact ninf_f32
  rw [val_main_v91_apply, e0, e]
  show ∃ μ : ℝ, max (⊥ : EReal) _ = _
  rw [max_bot_left]
  obtain ⟨z, hz⟩ := A.sc_zero b h s q
  refine real_of_ge z _ ?_ (fold_max_ne_top _ _ fun k => A.sc_ne_top b h s q k)
  rw [← hz]
  exact (Finset.le_fold_max _).mpr (Or.inr ⟨0, Finset.mem_univ _, le_rfl⟩)

/-- The reference's attention weights. -/
theorem ref_weight (b : Fin 32) (h : Fin 4) (s : Fin 2) (q k : Fin 2064) :
    val_main_v99 (F := Ideal) x0 x1 x2 (ix5 b h s q k) = ((wt (A.sc b h s q k) / A.den b h s q : ℝ) : EReal) := by
  obtain ⟨μ, hμ⟩ := ref_max hA b h s q
  have hx : ∀ k, val_main_v95 (F := Ideal) x0 x1 x2 (ix5 b h s q k) = ((Real.exp (-μ) * wt (A.sc b h s q k) : ℝ) : EReal) := fun k => by
    rw [val_main_v95_apply, val_main_v94_apply, ref_score hA, val_main_v93_apply, val_main_v92_apply,
      show idx_main_v92 (idx_main_v93 (ix5 b h s q k)) = ix4 b h s q from (by funext a; match a with | ⟨0, _⟩ => rfl | ⟨1, _⟩ => rfl | ⟨2, _⟩ => rfl | ⟨3, _⟩ => rfl), hμ]
    exact exp_sub _ (A.sc_ne_top b h s q k) μ
  have hsum : val_main_v98 (F := Ideal) x0 x1 x2 (ix5 b h s q k) = ((Real.exp (-μ) * A.den b h s q : ℝ) : EReal) := by
    rw [val_main_v98_apply, val_main_v97_apply, show idx_main_v97 (idx_main_v98 (ix5 b h s q k)) = ix4 b h s q from (by funext a; match a with | ⟨0, _⟩ => rfl | ⟨1, _⟩ => rfl | ⟨2, _⟩ => rfl | ⟨3, _⟩ => rfl),
      val_main_v96_apply, val_main_cst_27_apply]
    rw [Finset.sum_congr rfl fun k _ => show _ = ((Real.exp (-μ) * wt (A.sc b h s q k) : ℝ) : EReal) by
      rw [show idx_main_v96 (ix4 b h s q) k = ix5 b h s q k from (by funext a; match a with | ⟨0, _⟩ => rfl | ⟨1, _⟩ => rfl | ⟨2, _⟩ => rfl | ⟨3, _⟩ => rfl | ⟨4, _⟩ => rfl), hx], ← coe_sum, ← Finset.mul_sum]
    show Ideal.ofBits FTy.f32 0#32 + _ = _
    rw [show Ideal.ofBits FTy.f32 0#32 = 0 by simp [Ideal.ofBits, Ideal.ieee], zero_add]
    rfl
  rw [val_main_v99_apply, hx, hsum]
  have hE := Real.exp_pos (-μ)
  have hD := A.den_pos b h s q
  refine (div_coe _ _ (by positivity)).trans ?_
  rw [mul_div_mul_left _ _ hE.ne']

variable {x3 x4 x5 x6 : S1x64.Idx → EReal} (hl : val_main_v20 (F := Ideal) x3 x4 x5 x6 (fun a => a.elim0) = (A.lam : EReal))
include hl

/-- The reference's combined weights. -/
theorem ref_diff (b : Fin 32) (h : Fin 4) (q k : Fin 2064) :
    val_main_v106 (F := Ideal) x0 x1 x2 x3 x4 x5 x6 (ix4 b h q k) =
      ((wt (A.sc b h 0 q k) / A.den b h 0 q - A.lam * (wt (A.sc b h 1 q k) / A.den b h 1 q) : ℝ) : EReal) := by
  have hb := b.isLt; have hh := h.isLt; have hq := q.isLt; have hk := k.isLt
  have e0 : idx_main_v100 (idx_main_v101 (ix4 b h q k)) = ix5 b h (0 : Fin 2) q k := by
    funext a; refine Fin.ext ?_
    match a with
    | ⟨0, _⟩ => show ((((b : ℕ) * 4 + h) * 2064 + q) * 2064 + k) / 17040384 = (b : ℕ); omega
    | ⟨1, _⟩ => show ((((b : ℕ) * 4 + h) * 2064 + q) * 2064 + k) / 4260096 % 4 = (h : ℕ); omega
    | ⟨2, _⟩ => rfl
    | ⟨3, _⟩ => show ((((b : ℕ) * 4 + h) * 2064 + q) * 2064 + k) / 2064 % 2064 = (q : ℕ); omega
    | ⟨4, _⟩ => show ((((b : ℕ) * 4 + h) * 2064 + q) * 2064 + k) % 2064 = (k : ℕ); omega
  have e1 : idx_main_v102 (idx_main_v103 (ix4 b h q k)) = ix5 b h (1 : Fin 2) q k := by
    funext a; refine Fin.ext ?_
    match a with
    | ⟨0, _⟩ => show ((((b : ℕ) * 4 + h) * 2064 + q) * 2064 + k) / 17040384 = (b : ℕ); omega
    | ⟨1, _⟩ => show ((((b : ℕ) * 4 + h) * 2064 + q) * 2064 + k) / 4260096 % 4 = (h : ℕ); omega
    | ⟨2, _⟩ => rfl
    | ⟨3, _⟩ => show ((((b : ℕ) * 4 + h) * 2064 + q) * 2064 + k) / 2064 % 2064 = (q : ℕ); omega
    | ⟨4, _⟩ => show ((((b : ℕ) * 4 + h) * 2064 + q) * 2064 + k) % 2064 = (k : ℕ); omega
  rw [val_main_v106_apply, val_main_v105_apply, val_main_v101_apply, val_main_v103_apply, val_main_v100_apply, val_main_v102_apply,
    e0, e1, ref_weight hA, ref_weight hA, val_main_v104_apply, show idx_main_v104 (ix4 b h q k) = (fun a => a.elim0) from funext fun a => a.elim0, hl]
  show _ - _ * _ = _
  rw [← EReal.coe_mul, ← EReal.coe_sub]

/-- The reference's attention output. -/
theorem ref_att (b : Fin 32) (h : Fin 4) (q : Fin 2064) (e : Fin 128) :
    val_main_v108 (F := Ideal) x0 x1 x2 x3 x4 x5 x6 (ix4 b q h e) = (A.att b h q e : EReal) := by
  have hh := h.isLt; have he := e.isLt
  rw [val_main_v108_apply, show idx_main_v108 (ix4 b q h e) = ix4 b h e q from (by funext a; match a with | ⟨0, _⟩ => rfl | ⟨1, _⟩ => rfl | ⟨2, _⟩ => rfl | ⟨3, _⟩ => rfl), val_main_v107_apply]
  refine Eq.trans (Finset.sum_congr rfl fun k _ => ?_) (Eq.trans (coe_sum Finset.univ fun k : Fin 2064 => A.full b k ⟨2560 + 128 * h + e, by omega⟩ *
      (wt (A.sc b h 0 q k) / A.den b h 0 q - A.lam * (wt (A.sc b h 1 q k) / A.den b h 1 q))).symm ?_)
  · rw [show lidx_main_v107 (ix4 b h e q) k = ix4 b k h e from (by funext a; match a with | ⟨0, _⟩ => rfl | ⟨1, _⟩ => rfl | ⟨2, _⟩ => rfl | ⟨3, _⟩ => rfl), show ridx_main_v107 (ix4 b h e q) k = ix4 b h q k from (by funext a; match a with | ⟨0, _⟩ => rfl | ⟨1, _⟩ => rfl | ⟨2, _⟩ => rfl | ⟨3, _⟩ => rfl),
      ref_diff hA hl, ref_v hA b k h e ⟨2560 + 128 * h + e, by omega⟩ rfl, EReal.coe_mul]
  refine congrArg _ ?_
  unfold Inputs.att Inputs.num
  rw [Finset.sum_div, Finset.sum_div, Finset.mul_sum, ← Finset.sum_sub_distrib]
  exact Finset.sum_congr rfl fun k _ => by ring

/-- The reference's result. -/
theorem ref_out (x7 : S1x128.Idx → EReal) (b : Fin 32) (j : Fin 2048) (h : Fin 4) (e : Fin 128) (r : Fin 65536) (w : Fin 512)
    (hr : (r : ℕ) = 2048 * b + j) (hw : (w : ℕ) = 128 * h + e) :
    val_main_v127 (F := Ideal) x0 x1 x2 x3 x4 x5 x6 x7 (ix2 r w) =
      tail (fun x => (A.att b h ⟨16 + j, by omega⟩ x : EReal)) (x7 (ix2 0 e)) e := by
  have hb := b.isLt; have hh := h.isLt; have hj := j.isLt; have he := e.isLt
  have ei : idx_main_v125 (idx_main_v126 (ix2 r w)) = ix4 b (⟨16 + j, by omega⟩ : Fin 2064) h e := by
    funext a; refine Fin.ext ?_
    match a with
    | ⟨0, _⟩ => show ((r : ℕ) * 512 + w) / 1048576 = (b : ℕ); omega
    | ⟨1, _⟩ => show 16 + ((r : ℕ) * 512 + w) / 512 % 2048 = 16 + (j : ℕ); omega
    | ⟨2, _⟩ => show ((r : ℕ) * 512 + w) / 128 % 4 = (h : ℕ); omega
    | ⟨3, _⟩ => show ((r : ℕ) * 512 + w) % 128 = (e : ℕ); omega
  rw [val_main_v127_apply, val_main_v126_apply, val_main_v125_apply, ei, val_main_v124_apply, val_main_v123_apply, val_main_cst_31_apply,
    val_main_v122_apply, val_main_v121_apply, val_main_v120_apply, val_main_v109_apply, val_main_v119_apply, val_main_v118_apply,
    val_main_v117_apply, val_main_v116_apply, val_main_v115_apply, val_main_cst_30_apply, val_main_v114_apply, val_main_v113_apply,
    val_main_cst_29_apply, val_main_v112_apply, val_main_v111_apply, val_main_cst_28_apply, ref_att hA hl]
  have hx : ∀ x : Fin 128, val_main_v110 (F := Ideal) x0 x1 x2 x3 x4 x5 x6 (idx_main_v111 (idx_main_v112 (idx_main_v118 (ix4 b (⟨16 + j, by omega⟩ : Fin 2064) h e))) x)
      = ((A.att b h ⟨16 + j, by omega⟩ x : EReal) * (A.att b h ⟨16 + j, by omega⟩ x : EReal)) := fun x => by
    rw [show idx_main_v111 (idx_main_v112 (idx_main_v118 (ix4 b (⟨16 + j, by omega⟩ : Fin 2064) h e))) x = ix4 b (⟨16 + j, by omega⟩ : Fin 2064) h x from (by funext a; match a with | ⟨0, _⟩ => rfl | ⟨1, _⟩ => rfl | ⟨2, _⟩ => rfl | ⟨3, _⟩ => rfl),
      val_main_v110_apply, ref_att hA hl]; rfl
  simp only [hx]
  rw [show idx_main_v109 (idx_main_v120 (idx_main_v121 (ix4 b (⟨16 + j, by omega⟩ : Fin 2064) h e))) = ix2 (0 : Fin 1) e from by
    funext a; refine Fin.ext ?_
    match a with
    | ⟨0, _⟩ => rfl
    | ⟨1, _⟩ => show (e : ℕ) % 128 = e; omega]
  unfold tail
  show _ * Ideal.rsqrt (Ideal.div (Ideal.ofBits FTy.f32 0#32 + _) _ + _) * _ * _ = _
  rw [show Ideal.ofBits FTy.f32 0#32 = 0 by simp [Ideal.ofBits, Ideal.ieee], zero_add]
  rfl

end Cert.DiffAttn
-- ==== Proof.Finite.lean ====
/- What the precondition says: every argument but the gain holds real numbers only. -/
module

public import proofs.«01_k».proof.Pre_finite
public import proofs.«01_k».proof.Proof.Gen.Pre_finite
public import Idealize.ShloMosaic.Lib.ReduceAll
public import Idealize.ShloMosaic.Lib.Affine
public import proofs.«01_k».proof.Proof.Spec

@[expose] public section

set_option maxRecDepth 16384

noncomputable section

namespace Cert.DiffAttn

open Idealize.ShloMosaic Cert.Pre_finite

/-- The word the magnitudes are compared with is infinity. -/
theorem inf_f32 : Ideal.ofBits FTy.f32 0x7F800000#32 = ⊤ := by simp [Ideal.ofBits, Ideal.ieee]

/-- A value below infinity in magnitude is real. -/
theorem real_of_abs (x : EReal) (h : Ideal.cmp .olt (max x (-x)) (Ideal.ofBits FTy.f32 0x7F800000#32) = 1#1) : x = (x.toReal : EReal) := by
  rw [inf_f32] at h
  induction x with
  | coe r => rfl
  | bot => simp [Ideal.cmp] at h
  | top => simp [Ideal.cmp] at h

/-- An array all of whose magnitudes are found below infinity is real throughout. -/
theorem real_of_all {s : Shape} {dims : List (Fin s.rank)} (x : s.Idx → EReal) (hb : S_.BroadcastsInDim s (![] : Fin 0 → Fin s.rank)) (hr : s.ReducesTo dims S_) (hu : 0 < S_.numel) (j : S_.Idx)
    (e : Host.reduce IntOp.andi (cmpf (F := Ideal) (φ := .f32) .olt (Host.absf (F := Ideal) (φ := .f32) x) (broadcastInDim s ![] hb (constant (F := Ideal) S_ .f32 0x7F800000#32))) (constantI S_ 1 1#1) hr hu j = 1#1) (i : s.Idx) :
    x i = ((x i).toReal : EReal) := by
  haveI : Subsingleton S_.Idx := ⟨fun a b => funext fun k => k.elim0⟩
  exact real_of_abs _ (Host.reduce_andi_all _ _ _ _ j e i)

/-- The conjunction of two one-bit arrays holds where both do. -/
theorem andi_at {s : Shape} (a b : IVec s 1) (j : s.Idx) (h : andi a b j = 1#1) : a j = 1#1 ∧ b j = 1#1 := IntOp.andi_eq_one.mp h

/-- The precondition, read: the seven arguments before the gain are real. -/
theorem reals_of_pre (x0 : S32x2048x3072.Idx → EReal) (x1 : S16x3072.Idx → EReal) (x2 : S32x4.Idx → EReal) (x3 x4 x5 x6 : S1x64.Idx → EReal) (x7 : S1x128.Idx → EReal)
    (h : Cert.Pre_finite.fn (F := Ideal) x0 x1 x2 x3 x4 x5 x6 x7 = fun _ => 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal)) ∧
      (∀ i, x4 i = ((x4 i).toReal : EReal)) ∧ (∀ i, x5 i = ((x5 i).toReal : EReal)) ∧ (∀ i, x6 i = ((x6 i).toReal : EReal)) := by
  have h33 := congrFun h (fun a => a.elim0)
  unfold Cert.Pre_finite.fn Cert.Pre_finite.fn_part1 at h33
  obtain ⟨h28, h6⟩ := andi_at _ _ _ h33
  obtain ⟨h23, h5⟩ := andi_at _ _ _ h28
  obtain ⟨h18, h4⟩ := andi_at _ _ _ h23
  obtain ⟨h13, h3⟩ := andi_at _ _ _ h18
  obtain ⟨h8, h2⟩ := andi_at _ _ _ h13
  obtain ⟨h0, h1⟩ := andi_at _ _ _ h8
  exact ⟨real_of_all x0 _ _ _ _ h0, real_of_all x1 _ _ _ _ h1, real_of_all x2 _ _ _ _ h2, real_of_all x3 _ _ _ _ h3, real_of_all x4 _ _ _ _ h4, real_of_all x5 _ _ _ _ h5, real_of_all x6 _ _ _ _ h6⟩

end Cert.DiffAttn
-- ==== Proof.Equal.lean ====
/- The kernel's result is the reference's. -/
module

public import proofs.«01_k».proof.Proof.AttnOut
public import proofs.«01_k».proof.Proof.RefRead
public import proofs.«01_k».proof.Proof.Finite
public import proofs.«01_k».proof.Defs
public import proofs.«01_k».proof.Proof.Gen.ReferenceIdeal.Run

@[expose] public section

set_option maxRecDepth 16384

noncomputable section

namespace Cert.DiffAttn

open Idealize.ShloMosaic Idealize.ShloMosaic.Pipeline Idealize.ShloMosaic.TcCoe Idealize.SL.Sem

/-- The indices of a vector of 64 are the numbers below 64. -/
def vec64 : Fin 64 ≃ Cert.ReferenceIdeal.S64.Idx where
  toFun := ix1
  invFun i := i 0
  left_inv _ := rfl
  right_inv i := by funext a; match a with | ⟨0, _⟩ => rfl

section Lam

open Cert.ReferenceIdeal Cert.ReferenceIdeal.Read

variable (x3 x4 x5 x6 : Cert.ReferenceIdeal.S1x64.Idx → EReal)

/-- The first inner product behind the factor. -/
theorem dot34 (i : Cert.ReferenceIdeal.S_.Idx) : val_main_v12 (F := Ideal) x3 x4 i = ∑ x : Fin 64, x3 (ix2 0 x) * x4 (ix2 0 x) := by
  rw [val_main_v12_apply, val_main_cst_apply, ← vec64.sum_comp]
  refine Eq.trans (congrArg (· + _) (show Ideal.ofBits FTy.f32 0#32 = 0 by simp [Ideal.ofBits, Ideal.ieee])) ((zero_add _).trans (Finset.sum_congr rfl fun x _ => ?_))
  have hx := x.isLt
  rw [val_main_v11_apply, val_main_v9_apply, val_main_v10_apply, show idx_main_v9 (vec64 x) = ix2 0 x from by
      funext a; refine Fin.ext ?_; match a with | ⟨0, _⟩ => rfl | ⟨1, _⟩ => show (x : ℕ) % 64 = x; omega,
    show idx_main_v10 (vec64 x) = ix2 0 x from by
      funext a; refine Fin.ext ?_; match a with | ⟨0, _⟩ => rfl | ⟨1, _⟩ => show (x : ℕ) % 64 = x; omega]
  rfl

/-- The second one. -/
theorem dot56 (i : Cert.ReferenceIdeal.S_.Idx) : val_main_v17 (F := Ideal) x5 x6 i = ∑ x : Fin 64, x5 (ix2 0 x) * x6 (ix2 0 x) := by
  rw [val_main_v17_apply, val_main_cst_0_apply, ← vec64.sum_comp]
  refine Eq.trans (congrArg (· + _) (show Ideal.ofBits FTy.f32 0#32 = 0 by simp [Ideal.ofBits, Ideal.ieee])) ((zero_add _).trans (Finset.sum_congr rfl fun x _ => ?_))
  have hx := x.isLt
  rw [val_main_v16_apply, val_main_v14_apply, val_main_v15_apply, show idx_main_v14 (vec64 x) = ix2 0 x from by
      funext a; refine Fin.ext ?_; match a with | ⟨0, _⟩ => rfl | ⟨1, _⟩ => show (x : ℕ) % 64 = x; omega,
    show idx_main_v15 (vec64 x) = ix2 0 x from by
      funext a; refine Fin.ext ?_; match a with | ⟨0, _⟩ => rfl | ⟨1, _⟩ => show (x : ℕ) % 64 = x; omega]
  rfl

/-- The reference's factor is the kernel's. -/
theorem ref_lam (i : Cert.ReferenceIdeal.S_.Idx) : val_main_v20 (F := Ideal) x3 x4 x5 x6 i = lamOf x3 x4 x5 x6 := by
  rw [val_main_v20_apply, val_main_v19_apply, val_main_v13_apply, val_main_v18_apply, dot34, dot56, val_main_cst_1_apply]
  rfl

end Lam

/-- The inner product of two real rows is real. -/
theorem rows_real (x y : Cert.KernelIdeal.S1x64.Idx → EReal) (hx : ∀ i, x i = ((x i).toReal : EReal)) (hy : ∀ i, y i = ((y i).toReal : EReal)) :
    (∑ k : Fin 64, x (ix2 0 k) * y (ix2 0 k)) = ((∑ k : Fin 64, (x (ix2 0 k)).toReal * (y (ix2 0 k)).toReal : ℝ) : EReal) := by
  rw [coe_sum]
  exact Finset.sum_congr rfl fun k _ => by rw [EReal.coe_mul, ← hx, ← hy]

/-- The factor's constant is real. -/
theorem init_real : ∃ r : ℝ, Ideal.ofBits FTy.f32 1045220557#32 = (r : EReal) := ⟨_, by simp only [Ideal.ofBits, Ideal.ieee]; rfl⟩

/-- The factor of real rows is real. -/
theorem lam_real (x3 x4 x5 x6 : Cert.KernelIdeal.S1x64.Idx → EReal) (h3 : ∀ i, x3 i = ((x3 i).toReal : EReal)) (h4 : ∀ i, x4 i = ((x4 i).toReal : EReal))
    (h5 : ∀ i, x5 i = ((x5 i).toReal : EReal)) (h6 : ∀ i, x6 i = ((x6 i).toReal : EReal)) : ∃ r : ℝ, lamOf x3 x4 x5 x6 = (r : EReal) := by
  obtain ⟨r, hr⟩ := init_real
  unfold lamOf
  rw [rows_real x3 x4 h3 h4, rows_real x5 x6 h5 h6, hr]
  exact ⟨_, by rw [Ideal.exp_coe, Ideal.exp_coe, ← EReal.coe_sub, ← EReal.coe_add]⟩

section Join

open Cert.KernelIdeal Cert.KernelIdeal.Gen

variable (m : (ℓ : Loc nD τ sig) → Buf (Elt Ideal) ℓ) (ρ : Dev nD → PrngReg) (c : Dev nD)

/-- Of real arguments the kernel's result is the reference's. -/
theorem kernel_eq_reference (hP : Cert.Pre_KernelIdeal_finite (hPre_finite := Cert.Pre_finite.Gen.facts) m) :
    W4 m ρ c (Proc.devRef .tc main_v21) = Cert.ReferenceIdeal.Read.val_main_v127 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) := by
  obtain ⟨h0, h1, h2, h3, h4, h5, h6⟩ := reals_of_pre _ _ _ _ _ _ _ _ (hP c)
  obtain ⟨l, hl⟩ := lam_real _ _ _ _ h3 h4 h5 h6
  let A : Inputs := ⟨fun b p x => (m ((c : Thread nD τ).loc main_arg0) (ix3 b p x) : EReal).toReal, fun p x => (m ((c : Thread nD τ).loc main_arg1) (ix2 p x) : EReal).toReal,
    fun n h => (m ((c : Thread nD τ).loc main_arg2) (ix2 n h) : EReal).toReal, l⟩
  have hA : Holds m c A := ⟨fun b p x => h0 _, fun p x => h1 _, fun n h => h2 _⟩
  have hB : Agrees A (m ((c : Thread nD τ).loc main_arg0)) (m ((c : Thread nD τ).loc main_arg1)) (m ((c : Thread nD τ).loc main_arg2)) :=
    ⟨fun b p x => h0 _, fun p x => h1 _, fun n h => h2 _⟩
  refine (W4_arr m ρ c 12).trans ((out_arr (A := A) hA hl).trans (funext fun y => ?_))
  have y0 : (y 0 : ℕ) < 65536 := (y 0).isLt
  have y1 : (y 1 : ℕ) < 512 := (y 1).isLt
  have hy : y = ix2 (y 0 : Fin 65536) (y 1 : Fin 512) := by funext a; match a with | ⟨0, _⟩ => rfl | ⟨1, _⟩ => rfl
  refine Eq.trans ?_ (congrArg _ hy.symm)
  exact (ref_out hB ((ref_lam _ _ _ _ _).trans hl) _ ⟨(y 0 : ℕ) / 2048, by omega⟩ ⟨(y 0 : ℕ) % 2048, Nat.mod_lt _ (by decide)⟩
    ⟨(y 1 : ℕ) / 128, by omega⟩ ⟨(y 1 : ℕ) % 128, Nat.mod_lt _ (by decide)⟩ (y 0) (y 1) (by show (y 0 : ℕ) = 2048 * ((y 0 : ℕ) / 2048) + (y 0 : ℕ) % 2048; omega)
    (by show (y 1 : ℕ) = 128 * ((y 1 : ℕ) / 128) + (y 1 : ℕ) % 128; omega)).symm

end Join

end Cert.DiffAttn
-- ==== Proof.FfnBody.lean ====
/- The runs of the expert kernel's body on any staging buffers: a block past the used ones, a block that opens an expert,
   and a block that follows one of its own expert. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Quiescent
public import Idealize.ShloMosaic.Lib.Ring
public import Idealize.ShloMosaic.Lib.Tactic
public import Idealize.ShloMosaic.Lib.WordCmp
public import Idealize.ShloMosaic.Lib.Pipeline.Value
public import Idealize.ShloMosaic.Lib.ValueIdxCore
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- Whether the body rounds its weight blocks at a point, as the kernel computes it of the number of used blocks and the
    point's own flag. -/
def openW (i : grid0.Coords) (nu nw : BitVec 32) : BitVec 1 :=
  Scalar.cmpi .ne (Scalar.extui (Scalar.andi (Scalar.cmpi .slt (BitVec.ofNat 32 (i 0).val) nu) (Scalar.cmpi .sgt nw 0#32)) : BitVec 32) 0#32

/-- Every eighth row of a block, from row `k`. -/
def rowsRect (k : ℕ) (hk : k < 8) : LoadRect S4096x128 :=
  ⟨![k, 0], S512x128.size, ![8, 1], by intro a; fin_cases a <;> first | (right; simp; omega) | (right; simp)⟩
/-- The hidden layer of a block: its rows' eight pieces side by side against the first weights. -/
def hidOf (x0 : Vec F S4096x128 .f32) (s1 : Vec F S1024x2048 .bf16) (x2 : Vec F S1x1x2048 .f32) : FVec F S512x1024 .bf16 :=
  k0_pay13 (fun y => x0 (rowsRect 0 (by omega) |>.idx y)) (fun y => x0 (rowsRect 1 (by omega) |>.idx y)) (fun y => x0 (rowsRect 2 (by omega) |>.idx y))
    (fun y => x0 (rowsRect 3 (by omega) |>.idx y)) (fun y => x0 (rowsRect 4 (by omega) |>.idx y)) (fun y => x0 (rowsRect 5 (by omega) |>.idx y))
    (fun y => x0 (rowsRect 6 (by omega) |>.idx y)) (fun y => x0 (rowsRect 7 (by omega) |>.idx y)) s1 x2
/-- What the body writes of a hidden layer: row `8·r + k` of the block holds columns `128·k …` of row `r` of the product. -/
def prodOut (h : FVec F S512x1024 .bf16) (s2 : Vec F S1024x1024 .bf16) (x4 : Vec F S1x1x1024 .f32) : Vec F S4096x128 .f32 :=
  fun y => k0_pay4 h s2 x4
    (ix2 ⟨(y 0).val / 8, by have : (y 0).val < 4096 := (y 0).isLt; omega⟩ ⟨128 * ((y 0).val % 8) + (y 1).val, by have : (y 1).val < 128 := (y 1).isLt; omega⟩)

theorem prod_cover (h : FVec F S512x1024 .bf16) (s2 : Vec F S1024x1024 .bf16) (x4 : Vec F S1x1x1024 .f32) (y : S4096x128.Idx) :
    ∃ p ∈ ([⟨⟨(⟨![7, 0], S512x128.size, ![8, 1], inb_S4096x128_S512x128_7_0_s_8_1⟩ : LoadRect S4096x128), spos_8_1⟩, k0_pay12 h s2 x4⟩,
      ⟨⟨(⟨![6, 0], S512x128.size, ![8, 1], inb_S4096x128_S512x128_6_0_s_8_1⟩ : LoadRect S4096x128), spos_8_1⟩, k0_pay11 h s2 x4⟩,
      ⟨⟨(⟨![5, 0], S512x128.size, ![8, 1], inb_S4096x128_S512x128_5_0_s_8_1⟩ : LoadRect S4096x128), spos_8_1⟩, k0_pay10 h s2 x4⟩,
      ⟨⟨(⟨![4, 0], S512x128.size, ![8, 1], inb_S4096x128_S512x128_4_0_s_8_1⟩ : LoadRect S4096x128), spos_8_1⟩, k0_pay9 h s2 x4⟩,
      ⟨⟨(⟨![3, 0], S512x128.size, ![8, 1], inb_S4096x128_S512x128_3_0_s_8_1⟩ : LoadRect S4096x128), spos_8_1⟩, k0_pay8 h s2 x4⟩,
      ⟨⟨(⟨![2, 0], S512x128.size, ![8, 1], inb_S4096x128_S512x128_2_0_s_8_1⟩ : LoadRect S4096x128), spos_8_1⟩, k0_pay7 h s2 x4⟩,
      ⟨⟨(⟨![1, 0], S512x128.size, ![8, 1], inb_S4096x128_S512x128_1_0_s_8_1⟩ : LoadRect S4096x128), spos_8_1⟩, k0_pay6 h s2 x4⟩,
      ⟨⟨(⟨![0, 0], S512x128.size, ![8, 1], inb_S4096x128_S512x128_0_0_s_8_1⟩ : LoadRect S4096x128), spos_8_1⟩, k0_pay5 h s2 x4⟩] : List (View.Piece (Elt F) S4096x128 .f32)), y ∈ p.1.set := by
  have h0 : (y 0).val < 4096 := (y 0).isLt
  have h1 : (y 1).val < 128 := (y 1).isLt
  have key : ∀ (k : ℕ) (inb : ∀ a, S512x128.size a = 0 ∨ (![k, 0] : Fin 2 → ℕ) a + (![8, 1] : Fin 2 → ℕ) a * (S512x128.size a - 1) < S4096x128.size a), (y 0).val % 8 = k →
      y ∈ (⟨(⟨![k, 0], S512x128.size, ![8, 1], inb⟩ : LoadRect S4096x128), spos_8_1⟩ : Rect S4096x128).set := by
    intro k inb hk
    have := LoadRect.idx_mem (⟨(⟨![k, 0], S512x128.size, ![8, 1], inb⟩ : LoadRect S4096x128), spos_8_1⟩ : Rect S4096x128).toLoadRect (ix2 (⟨(y 0).val / 8, by omega⟩ : Fin 512) (⟨(y 1).val, h1⟩ : Fin 128))
    convert this using 1
    funext a; apply Fin.ext
    fin_cases a
    · show (y 0).val = k + 8 * ((y 0).val / 8); omega
    · show (y 1).val = 0 + 1 * (y 1).val; omega
  have hm : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
  simp only [List.mem_cons, List.not_mem_nil, _root_.or_false, exists_eq_or_imp, exists_eq_left]
  rcases hm with hm | hm | hm | hm | hm | hm | hm | hm
  · exact Or.inl <| key _ _ hm
  · exact Or.inr <| Or.inl <| key _ _ hm
  · exact Or.inr <| Or.inr <| Or.inl <| key _ _ hm
  · exact Or.inr <| Or.inr <| Or.inr <| Or.inl <| key _ _ hm
  · exact Or.inr <| Or.inr <| Or.inr <| Or.inr <| Or.inl <| key _ _ hm
  · exact Or.inr <| Or.inr <| Or.inr <| Or.inr <| Or.inr <| Or.inl <| key _ _ hm
  · exact Or.inr <| Or.inr <| Or.inr <| Or.inr <| Or.inr <| Or.inr <| Or.inl <| key _ _ hm
  · exact Or.inr <| Or.inr <| Or.inr <| Or.inr <| Or.inr <| Or.inr <| Or.inr <| key _ _ hm

/-- The eight strided stores leave the product, its columns in eight pieces. -/
theorem pieces_read (v : View sig .tc .vmem S4096x128 .f32) (f : v.ty.Contents (Elt F)) (h : FVec F S512x1024 .bf16) (s2 : Vec F S1024x1024 .bf16) (x4 : Vec F S1x1x1024 .f32) :
    v.read (Elt F) (v.writes (Elt F) f [⟨⟨(⟨![7, 0], S512x128.size, ![8, 1], inb_S4096x128_S512x128_7_0_s_8_1⟩ : LoadRect S4096x128), spos_8_1⟩, k0_pay12 h s2 x4⟩,
      ⟨⟨(⟨![6, 0], S512x128.size, ![8, 1], inb_S4096x128_S512x128_6_0_s_8_1⟩ : LoadRect S4096x128), spos_8_1⟩, k0_pay11 h s2 x4⟩,
      ⟨⟨(⟨![5, 0], S512x128.size, ![8, 1], inb_S4096x128_S512x128_5_0_s_8_1⟩ : LoadRect S4096x128), spos_8_1⟩, k0_pay10 h s2 x4⟩,
      ⟨⟨(⟨![4, 0], S512x128.size, ![8, 1], inb_S4096x128_S512x128_4_0_s_8_1⟩ : LoadRect S4096x128), spos_8_1⟩, k0_pay9 h s2 x4⟩,
      ⟨⟨(⟨![3, 0], S512x128.size, ![8, 1], inb_S4096x128_S512x128_3_0_s_8_1⟩ : LoadRect S4096x128), spos_8_1⟩, k0_pay8 h s2 x4⟩,
      ⟨⟨(⟨![2, 0], S512x128.size, ![8, 1], inb_S4096x128_S512x128_2_0_s_8_1⟩ : LoadRect S4096x128), spos_8_1⟩, k0_pay7 h s2 x4⟩,
      ⟨⟨(⟨![1, 0], S512x128.size, ![8, 1], inb_S4096x128_S512x128_1_0_s_8_1⟩ : LoadRect S4096x128), spos_8_1⟩, k0_pay6 h s2 x4⟩,
      ⟨⟨(⟨![0, 0], S512x128.size, ![8, 1], inb_S4096x128_S512x128_0_0_s_8_1⟩ : LoadRect S4096x128), spos_8_1⟩, k0_pay5 h s2 x4⟩]) = prodOut h s2 x4 := by
  funext y
  refine (View.read_writes_apply_eq_canon v f y _ ?_).trans (View.canon_apply_of_pieces (prodOut h s2 x4) _ ?_ y ?_)
  · exact prod_cover h s2 x4 y
  · simp only [List.mem_cons, List.not_mem_nil, _root_.or_false, forall_eq_or_imp, forall_eq]
    refine ⟨?_, ?_, ?_, ?_, ?_, ?_, ?_, ?_⟩ <;> intro x
    · unfold k0_pay12
      refine extractStridedSlice_apply _ _ _ _ _ fun a => ?_
      match a with
      | ⟨0, _⟩ => show ((7 + 8 * (x 0).val) / 8 : ℕ) = 0 + (x 0).val; omega
      | ⟨1, _⟩ => show (128 * ((7 + 8 * (x 0).val) % 8) + (0 + 1 * (x 1).val) : ℕ) = 896 + (x 1).val; omega
    · unfold k0_pay11
      refine extractStridedSlice_apply _ _ _ _ _ fun a => ?_
      match a with
      | ⟨0, _⟩ => show ((6 + 8 * (x 0).val) / 8 : ℕ) = 0 + (x 0).val; omega
      | ⟨1, _⟩ => show (128 * ((6 + 8 * (x 0).val) % 8) + (0 + 1 * (x 1).val) : ℕ) = 768 + (x 1).val; omega
    · unfold k0_pay10
      refine extractStridedSlice_apply _ _ _ _ _ fun a => ?_
      match a with
      | ⟨0, _⟩ => show ((5 + 8 * (x 0).val) / 8 : ℕ) = 0 + (x 0).val; omega
      | ⟨1, _⟩ => show (128 * ((5 + 8 * (x 0).val) % 8) + (0 + 1 * (x 1).val) : ℕ) = 640 + (x 1).val; omega
    · unfold k0_pay9
      refine extractStridedSlice_apply _ _ _ _ _ fun a => ?_
      match a with
      | ⟨0, _⟩ => show ((4 + 8 * (x 0).val) / 8 : ℕ) = 0 + (x 0).val; omega
      | ⟨1, _⟩ => show (128 * ((4 + 8 * (x 0).val) % 8) + (0 + 1 * (x 1).val) : ℕ) = 512 + (x 1).val; omega
    · unfold k0_pay8
      refine extractStridedSlice_apply _ _ _ _ _ fun a => ?_
      match a with
      | ⟨0, _⟩ => show ((3 + 8 * (x 0).val) / 8 : ℕ) = 0 + (x 0).val; omega
      | ⟨1, _⟩ => show (128 * ((3 + 8 * (x 0).val) % 8) + (0 + 1 * (x 1).val) : ℕ) = 384 + (x 1).val; omega
    · unfold k0_pay7
      refine extractStridedSlice_apply _ _ _ _ _ fun a => ?_
      match a with
      | ⟨0, _⟩ => show ((2 + 8 * (x 0).val) / 8 : ℕ) = 0 + (x 0).val; omega
      | ⟨1, _⟩ => show (128 * ((2 + 8 * (x 0).val) % 8) + (0 + 1 * (x 1).val) : ℕ) = 256 + (x 1).val; omega
    · unfold k0_pay6
      refine extractStridedSlice_apply _ _ _ _ _ fun a => ?_
      match a with
      | ⟨0, _⟩ => show ((1 + 8 * (x 0).val) / 8 : ℕ) = 0 + (x 0).val; omega
      | ⟨1, _⟩ => show (128 * ((1 + 8 * (x 0).val) % 8) + (0 + 1 * (x 1).val) : ℕ) = 128 + (x 1).val; omega
    · unfold k0_pay5
      refine extractStridedSlice_apply _ _ _ _ _ fun a => ?_
      match a with
      | ⟨0, _⟩ => show ((0 + 8 * (x 0).val) / 8 : ℕ) = 0 + (x 0).val; omega
      | ⟨1, _⟩ => show (128 * ((0 + 8 * (x 0).val) % 8) + (0 + 1 * (x 1).val) : ℕ) = 0 + (x 1).val; omega
  · exact prod_cover h s2 x4 y

/-- What the body writes of a block in use. -/
def blkOut (x0 : Vec F S4096x128 .f32) (s1 : Vec F S1024x2048 .bf16) (x2 : Vec F S1x1x2048 .f32) (s2 : Vec F S1024x1024 .bf16) (x4 : Vec F S1x1x1024 .f32) :
    Vec F S4096x128 .f32 :=
  prodOut (hidOf x0 s1 x2) s2 x4

section Runs
variable (c : Dev nD) (i : grid0.Coords) (nu nw : BitVec 32)
  (arg1 : Memref sig .tc .smem S544 .i32) (harg1 : arg1.IsWhole) (arg2 : Memref sig .tc .smem S544 .i32) (harg2 : arg2.IsWhole)
  (arg3 : Memref sig .tc .smem S1 .i32) (harg3 : arg3.IsWhole) (arg4 : Memref sig .tc .vmem S4096x128 .f32) (harg4 : arg4.IsWhole)
  (arg5 : Memref sig .tc .vmem S1x1024x2048 .f32) (harg5 : arg5.IsWhole)
  (arg6 : Memref sig .tc .vmem S1x1x2048 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S4096x128 .f32) (harg9 : arg9.IsWhole)
  (arg10 : Memref sig .tc .vmem S1024x2048 .bf16) (harg10 : arg10.IsWhole) (arg11 : Memref sig .tc .vmem S1024x1024 .bf16) (harg11 : arg11.IsWhole)
  (T1 : BufTy.Contents (Elt F) arg2.view.ty) (T2 : BufTy.Contents (Elt F) arg3.view.ty)
  (hT1 : ∀ x, View.readAt (Elt F) arg2.view (Rect.unit (s := S544) (k0_off2 i) S1.size (k0_off2_inb i)).toLoadRect T1 x = nw)
  (hT2 : ∀ (r : LoadRect S1) x, View.readAt (Elt F) arg3.view r T2 x = nu)

include hT1 hT2

/-- A block past the used ones: zeros. -/
theorem run_idle (h1 : k0_cond1 i nu = 1#1) (h2 : ¬ openW i nu nw = 1#1) (h3 : ¬ k0_cond3 i nu = 1#1) (K : PUnit → sProp 𝕄) :
    iprop((arg2.view.loc (c : Thread nD τ) ↦{fullShare.right} T1) ∗ (arg3.view.loc (c : Thread nD τ) ↦{fullShare.right} T2) ∗ (∃ d, owns (c : Thread nD τ) arg9 fullShare d)
        ∗ (iprop((arg2.view.loc (c : Thread nD τ) ↦{fullShare.right} T1) ∗ (arg3.view.loc (c : Thread nD τ) ↦{fullShare.right} T2)
            ∗ (∃ f, arg9.view.loc (c : Thread nD τ) ↦[arg9.view.set]{fullShare} arg9.view.writes (Elt F) f [⟨Rect.unit (s := S4096x128) ![0, 0] S4096x128.size inb_S4096x128_S4096x128_0_0, k0_pay1 (F := F)⟩])) -∗ K ⟨⟩))
      ⊢ wp frame (wpE (defs₀ (F := F)) Variants.none c none) Set.univ (cc0_expert_ffn i arg1 harg1 arg2 harg2 arg3 harg3
          arg4 harg4 arg5 harg5 arg6 harg6 arg7 harg7 arg8 harg8 arg9 harg9 arg10 harg10 arg11 harg11) K := by
  simp only [cc0_expert_ffn_eq_skeleton]; unfold cc0_expert_ffn_skel
  unfold owns
  iintro ⟨HT1, HT2, ⟨%d, %f, -, H9⟩, Hk⟩
  sl_exec (disch := first | (delta run_idle.sl.r; simp only [hT2]; exact h1) | (delta run_idle.sl.v11 run_idle.sl.v10 run_idle.sl.v9; (try delta run_idle.sl.v5); (try delta run_idle.sl.v8); (try delta run_idle.sl.r); (try delta run_idle.sl.r_1); (try delta run_idle.sl.v4); (try delta run_idle.sl.r_2); simp only [hT1, hT2]; exact h2) | (delta run_idle.sl.r; simp only [hT2]; exact h3))
  sl_step
  iapply Hk
  isplitl [HT1]; · iexact HT1
  isplitl [HT2]; · iexact HT2
  iexists _; iexact H9

/-- A block that follows one of its own expert: its product off the weights already rounded. -/
theorem run_follow (x0 : Vec F S4096x128 .f32) (x1 : Vec F S1x1024x2048 .f32) (x2 : Vec F S1x1x2048 .f32) (x3 : Vec F S1x1024x1024 .f32) (x4 : Vec F S1x1x1024 .f32) (s1 : Vec F S1024x2048 .bf16) (s2 : Vec F S1024x1024 .bf16)
    (h1 : ¬ k0_cond1 i nu = 1#1) (h2 : ¬ openW i nu nw = 1#1) (h3 : k0_cond3 i nu = 1#1) (K : PUnit → sProp 𝕄) :
    iprop((arg2.view.loc (c : Thread nD τ) ↦{fullShare.right} T1) ∗ (arg3.view.loc (c : Thread nD τ) ↦{fullShare.right} T2) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg10 fullShare s1 ∗ owns (c : Thread nD τ) arg11 fullShare s2 ∗ (∃ d, owns (c : Thread nD τ) arg9 fullShare d)
        ∗ (iprop((arg2.view.loc (c : Thread nD τ) ↦{fullShare.right} T1) ∗ (arg3.view.loc (c : Thread nD τ) ↦{fullShare.right} T2) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg10 fullShare s1 ∗ owns (c : Thread nD τ) arg11 fullShare s2
            ∗ owns (c : Thread nD τ) arg9 fullShare (blkOut x0 s1 x2 s2 x4)) -∗ K ⟨⟩))
      ⊢ wp frame (wpE (defs₀ (F := F)) Variants.none c none) Set.univ (cc0_expert_ffn i arg1 harg1 arg2 harg2 arg3 harg3
          arg4 harg4 arg5 harg5 arg6 harg6 arg7 harg7 arg8 harg8 arg9 harg9 arg10 harg10 arg11 harg11) K := by
  simp only [cc0_expert_ffn_eq_skeleton]; unfold cc0_expert_ffn_skel
  simp only [k0_part1_eq_skeleton]
  unfold owns
  iintro ⟨HT1, HT2, ⟨%f0, %hf0, H0⟩, ⟨%f1, %hf1, H1⟩, ⟨%f2, %hf2, H2⟩, ⟨%f3, %hf3, H3⟩, ⟨%f4, %hf4, H4⟩, ⟨%g1, %hg1, G1⟩, ⟨%g2, %hg2, G2⟩, ⟨%d, %f, -, H9⟩, Hk⟩
  obtain rfl := harg4.eq_unread hf0
  obtain rfl := harg6.eq_unread hf2
  obtain rfl := harg8.eq_unread hf4
  obtain rfl := harg10.eq_unread hg1
  obtain rfl := harg11.eq_unread hg2
  sl_exec (disch := first
    | (delta run_follow.sl.r; simp only [hT2]; exact h1)
    | ((try delta run_follow.sl.v11); (try delta run_follow.sl.v10); (try delta run_follow.sl.v9); (try delta run_follow.sl.v5); (try delta run_follow.sl.v8); (try delta run_follow.sl.r); (try delta run_follow.sl.r_1); (try delta run_follow.sl.v4); (try delta run_follow.sl.r_2); (try delta run_follow.sl.r_3); simp only [hT1, hT2]; exact h2)
    | ((try delta run_follow.sl.r); (try delta run_follow.sl.r_1); (try delta run_follow.sl.v4); (try delta run_follow.sl.r_2); (try delta run_follow.sl.r_3); simp only [hT2]; exact h3))
  sl_step
  iapply Hk
  isplitl [HT1]; · iexact HT1
  isplitl [HT2]; · iexact HT2
  isplitl [H0]
  · iexists _; isplitr; · ipureintro; exact harg4.read_unread _
    iexact H0
  isplitl [H1]
  · iexists _; isplitr; · ipureintro; exact hf1
    iexact H1
  isplitl [H2]
  · iexists _; isplitr; · ipureintro; exact harg6.read_unread _
    iexact H2
  isplitl [H3]
  · iexists _; isplitr; · ipureintro; exact hf3
    iexact H3
  isplitl [H4]
  · iexists _; isplitr; · ipureintro; exact harg8.read_unread _
    iexact H4
  isplitl [G1]
  · iexists _; isplitr; · ipureintro; exact harg10.read_unread _
    iexact G1
  isplitl [G2]
  · iexists _; isplitr; · ipureintro; exact harg11.read_unread _
    iexact G2
  iexists _; isplitr; swap; · iexact H9
  ipureintro
  refine (pieces_read _ _ _ _ _).trans ?_
  have e0 : ∀ r : LoadRect S4096x128, View.readAt (Elt F) arg4.view r (harg4.unread x0) = fun y => x0 (r.idx y) := fun r => by
    funext y; rw [View.readAt_apply, harg4.read_unread]
  have e2 : View.readAt (Elt F) arg6.view (Rect.unit (s := S1x1x2048) ![0, 0, 0] S1x1x2048.size inb_S1x1x2048_S1x1x2048_0_0_0).toLoadRect (harg6.unread x2) = x2 :=
    (View.readAt_full _ _ _).trans (harg6.read_unread _)
  have e4 : View.readAt (Elt F) arg8.view (Rect.unit (s := S1x1x1024) ![0, 0, 0] S1x1x1024.size inb_S1x1x1024_S1x1x1024_0_0_0).toLoadRect (harg8.unread x4) = x4 :=
    (View.readAt_full _ _ _).trans (harg8.read_unread _)
  have e5 : View.readAt (Elt F) arg10.view (Rect.unit (s := S1024x2048) ![0, 0] S1024x2048.size inb_S1024x2048_S1024x2048_0_0).toLoadRect (harg10.unread s1) = s1 :=
    (View.readAt_full _ _ _).trans (harg10.read_unread _)
  have e6 : View.readAt (Elt F) arg11.view (Rect.unit (s := S1024x1024) ![0, 0] S1024x1024.size inb_S1024x1024_S1024x1024_0_0).toLoadRect (harg11.unread s2) = s2 :=
    (View.readAt_full _ _ _).trans (harg11.read_unread _)
  refine congr (congr (congrArg prodOut ?_) e6) e4
  delta run_follow.sl.r_2
  simp only [e0]
  erw [e2, e5]
  rfl

/-- A block that opens an expert: the weights are rounded into the scratch buffers, and its product is taken off them. -/
theorem run_open (x0 : Vec F S4096x128 .f32) (x1 : Vec F S1x1024x2048 .f32) (x2 : Vec F S1x1x2048 .f32) (x3 : Vec F S1x1024x1024 .f32) (x4 : Vec F S1x1x1024 .f32)
    (h1 : ¬ k0_cond1 i nu = 1#1) (h2 : openW i nu nw = 1#1) (h3 : k0_cond3 i nu = 1#1) (K : PUnit → sProp 𝕄) :
    iprop((arg2.view.loc (c : Thread nD τ) ↦{fullShare.right} T1) ∗ (arg3.view.loc (c : Thread nD τ) ↦{fullShare.right} T2) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg10 fullShare d) ∗ (∃ d, owns (c : Thread nD τ) arg11 fullShare d) ∗ (∃ d, owns (c : Thread nD τ) arg9 fullShare d)
        ∗ (iprop((arg2.view.loc (c : Thread nD τ) ↦{fullShare.right} T1) ∗ (arg3.view.loc (c : Thread nD τ) ↦{fullShare.right} T2) ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg10 fullShare (k0_pay2 x1) ∗ owns (c : Thread nD τ) arg11 fullShare (k0_pay3 x3)
            ∗ owns (c : Thread nD τ) arg9 fullShare (blkOut x0 (k0_pay2 x1) x2 (k0_pay3 x3) x4)) -∗ K ⟨⟩))
      ⊢ wp frame (wpE (defs₀ (F := F)) Variants.none c none) Set.univ (cc0_expert_ffn i arg1 harg1 arg2 harg2 arg3 harg3
          arg4 harg4 arg5 harg5 arg6 harg6 arg7 harg7 arg8 harg8 arg9 harg9 arg10 harg10 arg11 harg11) K := by
  simp only [cc0_expert_ffn_eq_skeleton]; unfold cc0_expert_ffn_skel
  simp only [k0_part1_eq_skeleton]
  unfold owns
  iintro ⟨HT1, HT2, ⟨%f0, %hf0, H0⟩, ⟨%f1, %hf1, H1⟩, ⟨%f2, %hf2, H2⟩, ⟨%f3, %hf3, H3⟩, ⟨%f4, %hf4, H4⟩, ⟨%d1, %g1, -, G1⟩, ⟨%d2, %g2, -, G2⟩, ⟨%d, %f, -, H9⟩, Hk⟩
  obtain rfl := harg4.eq_unread hf0
  obtain rfl := harg6.eq_unread hf2
  obtain rfl := harg8.eq_unread hf4
  obtain rfl := harg5.eq_unread hf1
  obtain rfl := harg7.eq_unread hf3
  have e1 : View.readAt (Elt F) arg5.view (Rect.unit (s := S1x1024x2048) ![0, 0, 0] S1x1024x2048.size inb_S1x1024x2048_S1x1024x2048_0_0_0).toLoadRect (harg5.unread x1) = x1 :=
    (View.readAt_full _ _ _).trans (harg5.read_unread _)
  have e3 : View.readAt (Elt F) arg7.view (Rect.unit (s := S1x1024x1024) ![0, 0, 0] S1x1024x1024.size inb_S1x1024x1024_S1x1024x1024_0_0_0).toLoadRect (harg7.unread x3) = x3 :=
    (View.readAt_full _ _ _).trans (harg7.read_unread _)
  sl_exec (disch := first
    | (delta run_open.sl.r; simp only [hT2]; exact h1)
    | ((try delta run_open.sl.v11); (try delta run_open.sl.v10); (try delta run_open.sl.v9); (try delta run_open.sl.v5); (try delta run_open.sl.v8); (try delta run_open.sl.r); (try delta run_open.sl.r_1); (try delta run_open.sl.v4); (try delta run_open.sl.r_2); (try delta run_open.sl.r_3); simp only [hT1, hT2]; exact h2)
    | ((try delta run_open.sl.r); (try delta run_open.sl.r_1); (try delta run_open.sl.v4); (try delta run_open.sl.r_2); (try delta run_open.sl.r_3); simp only [hT2]; exact h3))
  sl_step
  iapply Hk
  isplitl [HT1]; · iexact HT1
  isplitl [HT2]; · iexact HT2
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [G1]
  · iexists _; isplitr; swap; · iexact G1
    ipureintro; exact View.read_writes_full _ _ _ _ _
  isplitl [G2]
  · iexists _; isplitr; swap; · iexact G2
    ipureintro; exact View.read_writes_full _ _ _ _ _
  iexists _; isplitr; swap; · iexact H9
  ipureintro
  refine (pieces_read _ _ _ _ _).trans ?_
  have e0 : ∀ r : LoadRect S4096x128, View.readAt (Elt F) arg4.view r (harg4.unread x0) = fun y => x0 (r.idx y) := fun r => by
    funext y; rw [View.readAt_apply, harg4.read_unread]
  have e2 : View.readAt (Elt F) arg6.view (Rect.unit (s := S1x1x2048) ![0, 0, 0] S1x1x2048.size inb_S1x1x2048_S1x1x2048_0_0_0).toLoadRect (harg6.unread x2) = x2 :=
    (View.readAt_full _ _ _).trans (harg6.read_unread _)
  have e4 : View.readAt (Elt F) arg8.view (Rect.unit (s := S1x1x1024) ![0, 0, 0] S1x1x1024.size inb_S1x1x1024_S1x1x1024_0_0_0).toLoadRect (harg8.unread x4) = x4 :=
    (View.readAt_full _ _ _).trans (harg8.read_unread _)
  refine congr (congr (congrArg prodOut ?_) ?_) e4
  · delta run_open.sl.r_2
    simp only [e0]
    delta run_open.sl.v26
    delta run_open.sl.G1_1
    erw [e2, View.readCov_full]
    rfl
  · delta run_open.sl.v48
    delta run_open.sl.G2_1
    exact View.readCov_full _ _ _ _ _

end Runs

end Cert.Kernel2Ideal.Gen

end
-- ==== Proof.FfnRegion.lean ====
/- The expert call's region: what the plan's tables are asked, the pipeline at them, and what its buffers hold after each block. -/
module

public import proofs.«01_k».proof.Proof.FfnBody

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The plan -/

/-- The expert of a block, as the plan's table holds it. -/
def bW (pf : pre0.Contents (Elt F)) (n : Fin 544) : BitVec 32 := pf 0 (ix1 n)
/-- Whether a block is its expert's first, as the plan's table holds it. -/
def nwW (pf : pre0.Contents (Elt F)) (n : Fin 544) : BitVec 32 := pf 1 (ix1 n)
/-- The number of blocks in use, as the plan holds it. -/
def nuW (pf : pre0.Contents (Elt F)) : BitVec 32 := pf 2 (ix1 0)

/-- What a plan satisfies: its experts exist, a block is in use, the first block opens an expert, and a block that opens
    none is of the expert of the block before it. -/
structure PlanOK (pf : pre0.Contents (Elt F)) : Prop where
  be : ∀ n, (bW pf n).toNat < 32
  nu : (0#32).slt (nuW pf) = true
  first : (0#32).slt (nwW pf 0) = true
  next : ∀ n k : Fin 544, n.val = k.val + 1 → (0#32).slt (nwW pf n) = true ∨ bW pf n = bW pf k

/-- A block is in use. -/
def usedW (nu : BitVec 32) (n : ℕ) : Bool := (BitVec.ofNat 32 n).slt nu

theorem ne_zero_iff (b : Bool) : Scalar.cmpi .ne (Scalar.extui (BitVec.ofBool b) : BitVec 32) 0#32 = 1#1 ↔ b = true := by
  cases b <;> decide

theorem cond1_iff (i : grid0.Coords) (nu : BitVec 32) : k0_cond1 i nu = 1#1 ↔ usedW nu (i 0).val = false := by
  refine (ne_zero_iff (nu.sle (BitVec.ofNat 32 (i 0).val))).trans ?_
  unfold usedW
  rw [BitVec.sle_eq_not_slt]; simp

theorem cond3_iff (i : grid0.Coords) (nu : BitVec 32) : k0_cond3 i nu = 1#1 ↔ usedW nu (i 0).val = true :=
  ne_zero_iff (usedW nu (i 0).val)

theorem openW_iff (i : grid0.Coords) (nu nw : BitVec 32) : openW i nu nw = 1#1 ↔ usedW nu (i 0).val = true ∧ (0#32).slt nw = true := by
  have : Scalar.andi (Scalar.cmpi .slt (BitVec.ofNat 32 (i 0).val) nu) (Scalar.cmpi .sgt nw 0#32) = BitVec.ofBool (usedW nu (i 0).val && (0#32).slt nw) := by
    show BitVec.ofBool (usedW nu (i 0).val) &&& BitVec.ofBool ((0#32).slt nw) = _
    cases usedW nu (i 0).val <;> cases (0#32).slt nw <;> decide
  unfold openW
  rw [this]
  exact (ne_zero_iff _).trans (by simp)

theorem used_pred {nu : BitVec 32} {n : ℕ} (hn : n + 1 < 544) (h : usedW nu (n + 1) = true) : usedW nu n = true := by
  unfold usedW at *
  simp only [BitVec.slt_eq_decide, decide_eq_true_eq, BitVec.toInt_eq_toNat_cond, BitVec.toNat_ofNat, Nat.reducePow] at *
  rw [Nat.mod_eq_of_lt (by omega)] at *
  split at h <;> split <;> split <;> omega

theorem used_zero {nu : BitVec 32} (h : (0#32).slt nu = true) : usedW nu 0 = true := h

/-- A word of the plan read at a block's own entry. -/
theorem idx544 (i : grid0.Coords) (off : Fin 1 → ℕ) (h : off = ![(i 0).val]) (inb : ∀ a, off a + S1.size a ≤ S544.size a) (x) :
    (Rect.unit (s := S544) off S1.size inb).toLoadRect.idx x = ix1 (i 0) := by
  subst h
  funext a; apply Fin.ext
  match a with
  | ⟨0, _⟩ => have : (x 0).val < 1 := (x 0).isLt; show (i 0).val + 1 * (x 0).val = (i 0).val; omega

theorem idx1 (r : LoadRect S1) (x) : r.idx x = (ix1 (0 : Fin 1) : S1.Idx) := by
  funext a; apply Fin.ext
  match a with
  | ⟨0, _⟩ => have : (r.idx x 0).val < 1 := (r.idx x 0).isLt; show (r.idx x 0).val = 0; omega

theorem at0 (pf : pre0.Contents (Elt F)) (i : grid0.Coords) (off : Fin 1 → ℕ) (h : off = ![(i 0).val]) (inb) (h1) :
    pf.at 0 (Rect.unit (s := S544) off S1.size inb) h1 = bW pf (i 0) :=
  congrArg (pf 0) (idx544 i off h inb _)

theorem at2 (pf : pre0.Contents (Elt F)) (r : Rect S1) (h1) : pf.at 2 r h1 = nuW pf :=
  congrArg (pf 2) (idx1 r.toLoadRect _)

/-- The row block of the inputs a point reads. -/
def xBlk (nu : BitVec 32) (n : ℕ) : BitVec 32 := Scalar.minsi (BitVec.ofNat 32 n) (Scalar.subi nu 1#32)

theorem xBlk_used {nu : BitVec 32} {n : ℕ} (hn : n < 544) (h : usedW nu n = true) : (xBlk nu n).toNat = n := by
  unfold usedW at h
  unfold xBlk Scalar.minsi Scalar.subi IntOp.minsi IntOp.subi
  simp only [BitVec.sle_eq_decide, BitVec.slt_eq_decide, decide_eq_true_eq, BitVec.toInt_eq_toNat_cond, BitVec.toNat_ofNat, BitVec.toNat_sub, Nat.reducePow] at *
  have := nu.isLt
  rw [Nat.mod_eq_of_lt (by omega)] at *
  split at h <;> split at h <;> (repeat' split) <;> simp only [BitVec.toNat_ofNat, BitVec.toNat_sub, Nat.reducePow] at * <;> omega

theorem xBlk_lt {nu : BitVec 32} {n : ℕ} (hn : n < 544) (h : (0#32).slt nu = true) : (xBlk nu n).toNat < 544 := by
  unfold xBlk Scalar.minsi Scalar.subi IntOp.minsi IntOp.subi
  simp only [BitVec.sle_eq_decide, BitVec.slt_eq_decide, decide_eq_true_eq, BitVec.toInt_eq_toNat_cond, BitVec.toNat_ofNat, BitVec.toNat_sub, Nat.reducePow] at *
  have := nu.isLt
  rw [Nat.mod_eq_of_lt (by omega)] at *
  split at h <;> split at h <;> (repeat' split) <;> simp only [BitVec.toNat_ofNat, BitVec.toNat_sub, Nat.reducePow] at * <;> omega

theorem tr0 (pf : pre0.Contents (Elt F)) (i : grid0.Coords) : cc0_transform_0 inb_S1_S1_0 numel1_S1 pf i = ![(xBlk (nuW pf) (i 0).val).toNat, 0] :=
  congrArg (fun w : BitVec 32 => ![(Scalar.minsi (BitVec.ofNat 32 (i 0).val) (Scalar.subi w 1#32)).toNat, 0])
    (at2 pf (Rect.unit (s := S1) ![0] S1.size inb_S1_S1_0) numel1_S1)
theorem tr1 (pf : pre0.Contents (Elt F)) (i : grid0.Coords) : cc0_transform_1 k0_off1_inb numel1_S1 pf i = ![(bW pf (i 0)).toNat, 0, 0] :=
  congrArg (fun w : BitVec 32 => ![w.toNat, 0, 0]) (at0 pf i _ (k0_off1_eq i) (k0_off1_inb i) numel1_S1)
theorem tr2 (pf : pre0.Contents (Elt F)) (i : grid0.Coords) : cc0_transform_2 k0_off1_inb numel1_S1 pf i = ![(bW pf (i 0)).toNat, 0, 0] :=
  congrArg (fun w : BitVec 32 => ![w.toNat, 0, 0]) (at0 pf i _ (k0_off1_eq i) (k0_off1_inb i) numel1_S1)
theorem tr3 (pf : pre0.Contents (Elt F)) (i : grid0.Coords) : cc0_transform_3 k0_off1_inb numel1_S1 pf i = ![(bW pf (i 0)).toNat, 0, 0] :=
  congrArg (fun w : BitVec 32 => ![w.toNat, 0, 0]) (at0 pf i _ (k0_off1_eq i) (k0_off1_inb i) numel1_S1)
theorem tr4 (pf : pre0.Contents (Elt F)) (i : grid0.Coords) : cc0_transform_4 k0_off1_inb numel1_S1 pf i = ![(bW pf (i 0)).toNat, 0, 0] :=
  congrArg (fun w : BitVec 32 => ![w.toNat, 0, 0]) (at0 pf i _ (k0_off1_eq i) (k0_off1_inb i) numel1_S1)

/-- A plan's tables place every block inside its array. -/
theorem ok_of_plan (pf : pre0.Contents (Elt F)) (h : PlanOK pf) : ok0 pf := by
  unfold ok0
  refine ⟨fun i => ⟨?_, .inl rfl⟩, fun i => ⟨?_, .inl rfl⟩, fun i => ⟨?_, .inl rfl⟩, fun i => ⟨?_, .inl rfl⟩, fun i => ⟨?_, .inl rfl⟩⟩
  · intro a; rw [tr0]
    match a with
    | ⟨0, _⟩ =>
      have := xBlk_lt (i 0).isLt h.nu; show ((xBlk (nuW pf) (i 0).val).toNat + 1) * 4096 ≤ 2228224; omega
    | ⟨1, _⟩ => show (0 + 1) * 128 ≤ 128; omega
  · intro a; have := h.be (i 0); rw [tr1]
    match a with
    | ⟨0, _⟩ => show ((bW pf (i 0)).toNat + 1) * 1 ≤ 32; omega
    | ⟨1, _⟩ => show (0 + 1) * 1024 ≤ 1024; omega
    | ⟨2, _⟩ => show (0 + 1) * 2048 ≤ 2048; omega
  · intro a; have := h.be (i 0); rw [tr2]
    match a with
    | ⟨0, _⟩ => show ((bW pf (i 0)).toNat + 1) * 1 ≤ 32; omega
    | ⟨1, _⟩ => show (0 + 1) * 1 ≤ 1; omega
    | ⟨2, _⟩ => show (0 + 1) * 2048 ≤ 2048; omega
  · intro a; have := h.be (i 0); rw [tr3]
    match a with
    | ⟨0, _⟩ => show ((bW pf (i 0)).toNat + 1) * 1 ≤ 32; omega
    | ⟨1, _⟩ => show (0 + 1) * 1024 ≤ 1024; omega
    | ⟨2, _⟩ => show (0 + 1) * 1024 ≤ 1024; omega
  · intro a; have := h.be (i 0); rw [tr4]
    match a with
    | ⟨0, _⟩ => show ((bW pf (i 0)).toNat + 1) * 1 ≤ 32; omega
    | ⟨1, _⟩ => show (0 + 1) * 1 ≤ 1; omega
    | ⟨2, _⟩ => show (0 + 1) * 1024 ≤ 1024; omega

/-! ## The region's data -/

/-- The tables as the launch holds them. -/
def pfOf : pre0.Contents (Elt F) := fun k => m (((0 : Dev nD) : Thread nD τ).loc (pre0.ref k))

variable (hp : PlanOK (pfOf m))

/-- The tables' contents, admissible of a plan. -/
def adm : (pcfg0 (F := F)).Adm := ⟨pfOf m, ok_of_plan _ hp⟩

theorem coord_val : ∀ t : Fin grid0.N, (grid0.coords t 0).val = t.val := by decide +kernel

/-- Window `w`'s block at point `t`, read off its array at launch. -/
def iblk (c : Dev nD) (w : Fin 6) (t : Fin (cfg0 (adm m hp)).N) : ((win0 (adm m hp) w).xblock ((cfg0 (adm m hp)).grid.coords t)).Idx → Elt F (win0 (adm m hp) w).elt :=
  ((win0 (adm m hp) w).blk t).view.read (Elt F) (m ((c : Thread nD τ).loc (Pipeline.arrRef spec0 w)))

/-- The window's buffer at a step. -/
abbrev ms0_0 (t : Fin (cfg0 (adm m hp)).N) : Memref sig .tc .vmem S4096x128 .f32 := (win0 (adm m hp) 0).stage ((cfg0 (adm m hp)).slots t 0)
/-- The window's buffer at a step. -/
abbrev ms0_1 (t : Fin (cfg0 (adm m hp)).N) : Memref sig .tc .vmem S1x1024x2048 .f32 := (win0 (adm m hp) 1).stage ((cfg0 (adm m hp)).slots t 1)
/-- The window's buffer at a step. -/
abbrev ms0_2 (t : Fin (cfg0 (adm m hp)).N) : Memref sig .tc .vmem S1x1x2048 .f32 := (win0 (adm m hp) 2).stage ((cfg0 (adm m hp)).slots t 2)
/-- The window's buffer at a step. -/
abbrev ms0_3 (t : Fin (cfg0 (adm m hp)).N) : Memref sig .tc .vmem S1x1024x1024 .f32 := (win0 (adm m hp) 3).stage ((cfg0 (adm m hp)).slots t 3)
/-- The window's buffer at a step. -/
abbrev ms0_4 (t : Fin (cfg0 (adm m hp)).N) : Memref sig .tc .vmem S1x1x1024 .f32 := (win0 (adm m hp) 4).stage ((cfg0 (adm m hp)).slots t 4)
/-- The window's buffer at a step. -/
abbrev ms0_5 (t : Fin (cfg0 (adm m hp)).N) : Memref sig .tc .vmem S4096x128 .f32 := (win0 (adm m hp) 5).stage ((cfg0 (adm m hp)).slots t 5)

/-- What the result's buffer holds after a point: the block's product where it is in use, zeros past that. -/
def outB (c : Dev nD) (t : Fin (cfg0 (adm m hp)).N) : Vec F S4096x128 .f32 :=
  match usedW (nuW (pfOf m)) t.val with
  | true => blkOut (iblk m hp c 0 t) (k0_pay2 (iblk m hp c 1 t)) (iblk m hp c 2 t) (k0_pay3 (iblk m hp c 3 t)) (iblk m hp c 4 t)
  | false => k0_pay1

/-- The tables' half the body holds. -/
def tabs (c : Dev nD) : sProp 𝕄 :=
  iprop(((Memref.whole main_arg0 : Memref sig .tc .smem S544 .i32).view.loc (c : Thread nD τ) ↦{fullShare.right} (pfOf m 0))
    ∗ ((Memref.whole main_arg1 : Memref sig .tc .smem S544 .i32).view.loc (c : Thread nD τ) ↦{fullShare.right} (pfOf m 1))
    ∗ ((Memref.whole main_arg2 : Memref sig .tc .smem S1 .i32).view.loc (c : Thread nD τ) ↦{fullShare.right} (pfOf m 2)))

/-- Between points: the tables' half, and the two scratch buffers, which after a block in use hold its expert's rounded weights. -/
def ΦE (c : Dev nD) (n : ℕ) : sProp 𝕄 :=
  iprop(tabs m c ∗ ∃ (f0 : Vec F S1024x2048 .bf16) (f1 : Vec F S1024x1024 .bf16),
    ⌜∀ k : Fin (cfg0 (adm m hp)).N, k.val + 1 = n → usedW (nuW (pfOf m)) k.val = true → f0 = k0_pay2 (iblk m hp c 1 k) ∧ f1 = k0_pay3 (iblk m hp c 3 k)⌝
    ∗ owns (c : Thread nD τ) (Memref.whole cc0_scratch0 : Memref sig .tc .vmem S1024x2048 .bf16) fullShare f0
    ∗ owns (c : Thread nD τ) (Memref.whole cc0_scratch1 : Memref sig .tc .vmem S1024x1024 .bf16) fullShare f1)

/-- The proof data of the pipeline on core `c`. -/
def dat (c : Dev nD) : Dat τ (Elt F) Unit ℕ (UR sig nD τ) ℕ (cfg0 (adm m hp)) c where
  A w := m ((c : Thread nD τ).loc (Pipeline.arrRef spec0 w))
  after w t := match w with
    | ⟨0, _⟩ => iblk m hp c 0 t
    | ⟨1, _⟩ => iblk m hp c 1 t
    | ⟨2, _⟩ => iblk m hp c 2 t
    | ⟨3, _⟩ => iblk m hp c 3 t
    | ⟨4, _⟩ => iblk m hp c 4 t
    | ⟨5, _⟩ => outB m hp c t
  Φ t := ΦE m hp c t.val
  q _ := fullShare
  owed _ := 0

theorem A_eq (c : Dev nD) (w : Fin 6) : (dat m hp c).A w = m ((c : Thread nD τ).loc (Pipeline.arrRef spec0 w)) := by
  dsimp only [dat]
theorem after_0 (c : Dev nD) (t : Fin (cfg0 (adm m hp)).N) : (dat m hp c).after 0 t = iblk m hp c 0 t := rfl
theorem after_1 (c : Dev nD) (t : Fin (cfg0 (adm m hp)).N) : (dat m hp c).after 1 t = iblk m hp c 1 t := rfl
theorem after_2 (c : Dev nD) (t : Fin (cfg0 (adm m hp)).N) : (dat m hp c).after 2 t = iblk m hp c 2 t := rfl
theorem after_3 (c : Dev nD) (t : Fin (cfg0 (adm m hp)).N) : (dat m hp c).after 3 t = iblk m hp c 3 t := rfl
theorem after_4 (c : Dev nD) (t : Fin (cfg0 (adm m hp)).N) : (dat m hp c).after 4 t = iblk m hp c 4 t := rfl
theorem after_5 (c : Dev nD) (t : Fin (cfg0 (adm m hp)).N) : (dat m hp c).after 5 t = outB m hp c t := rfl
theorem before_0 (c : Dev nD) (t : Fin (cfg0 (adm m hp)).N) (d) : (dat m hp c).before 0 t d = iblk m hp c 0 t :=
  ((dat m hp c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (adm m hp)).N) (d) : (dat m hp c).before 1 t d = iblk m hp c 1 t :=
  ((dat m hp c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (adm m hp)).N) (d) : (dat m hp c).before 2 t d = iblk m hp c 2 t :=
  ((dat m hp c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (adm m hp)).N) (d) : (dat m hp c).before 3 t d = iblk m hp c 3 t :=
  ((dat m hp c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (adm m hp)).N) (d) : (dat m hp c).before 4 t d = iblk m hp c 4 t :=
  ((dat m hp c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- Two points of one expert read one block of its weights. -/
theorem iblk_congr (c : Dev nD) {t t' : Fin (cfg0 (adm m hp)).N} (h : bW (pfOf m) (grid0.coords t 0) = bW (pfOf m) (grid0.coords t' 0)) :
    iblk m hp c 1 t = iblk m hp c 1 t' ∧ iblk m hp c 3 t = iblk m hp c 3 t' := by
  have d1 : (win0 (adm m hp) 1).block.Idx → Elt F (win0 (adm m hp) 1).elt := iblk m hp c 1 t
  have d3 : (win0 (adm m hp) 3).block.Idx → Elt F (win0 (adm m hp) 3).elt := iblk m hp c 3 t
  have e1 : (win0 (adm m hp) 1).index t = (win0 (adm m hp) 1).index t' :=
    (tr1 (pfOf m) (grid0.coords t)).trans ((congrArg (fun w : BitVec 32 => ![w.toNat, 0, 0]) h).trans (tr1 (pfOf m) (grid0.coords t')).symm)
  have e3 : (win0 (adm m hp) 3).index t = (win0 (adm m hp) 3).index t' :=
    (tr3 (pfOf m) (grid0.coords t)).trans ((congrArg (fun w : BitVec 32 => ![w.toNat, 0, 0]) h).trans (tr3 (pfOf m) (grid0.coords t')).symm)
  exact ⟨(before_1 m hp c t d1).symm.trans (((dat m hp c).before_in_eq_fetched 1 rfl (fun _ => rfl) (fun _ _ _ => rfl) (fun t => by rw [after_1]; unfold Dat.blockOf iblk; rw [A_eq]; try rfl) t d1).trans
      (((dat m hp c).fetched_congr 1 e1 rfl d1).trans (((dat m hp c).before_in_eq_fetched 1 rfl (fun _ => rfl) (fun _ _ _ => rfl) (fun t => by rw [after_1]; unfold Dat.blockOf iblk; rw [A_eq]; try rfl) t' d1).symm.trans (before_1 m hp c t' d1)))),
    (before_3 m hp c t d3).symm.trans (((dat m hp c).before_in_eq_fetched 3 rfl (fun _ => rfl) (fun _ _ _ => rfl) (fun t => by rw [after_3]; unfold Dat.blockOf iblk; rw [A_eq]; try rfl) t d3).trans
      (((dat m hp c).fetched_congr 3 e3 rfl d3).trans (((dat m hp c).before_in_eq_fetched 3 rfl (fun _ => rfl) (fun _ _ _ => rfl) (fun t => by rw [after_3]; unfold Dat.blockOf iblk; rw [A_eq]; try rfl) t' d3).symm.trans (before_3 m hp c t' d3))))⟩

/-! ## The body at a point -/

/-- What the body is called with at a point, the windows one by one, -/
def bodyPre (c : Dev nD) (t : Fin (cfg0 (adm m hp)).N) : sProp 𝕄 :=
  iprop((dat m hp c).Φ t.castSucc ∗ (dat m hp c).owesAt () t.castSucc
    ∗ (∃ d, owns (c : Thread nD τ) (ms0_0 m hp t) fullShare ((dat m hp c).before 0 t d))
    ∗ (∃ d, owns (c : Thread nD τ) (ms0_1 m hp t) fullShare ((dat m hp c).before 1 t d))
    ∗ (∃ d, owns (c : Thread nD τ) (ms0_2 m hp t) fullShare ((dat m hp c).before 2 t d))
    ∗ (∃ d, owns (c : Thread nD τ) (ms0_3 m hp t) fullShare ((dat m hp c).before 3 t d))
    ∗ (∃ d, owns (c : Thread nD τ) (ms0_4 m hp t) fullShare ((dat m hp c).before 4 t d))
    ∗ (∃ d, owns (c : Thread nD τ) (ms0_5 m hp t) fullShare ((dat m hp c).before 5 t d)))

/-- and what it returns. -/
def bodyPost (c : Dev nD) (t : Fin (cfg0 (adm m hp)).N) : sProp 𝕄 :=
  iprop((dat m hp c).Φ t.succ ∗ (dat m hp c).owesAt () t.succ
    ∗ owns (c : Thread nD τ) (ms0_0 m hp t) fullShare ((dat m hp c).after 0 t)
    ∗ owns (c : Thread nD τ) (ms0_1 m hp t) fullShare ((dat m hp c).after 1 t)
    ∗ owns (c : Thread nD τ) (ms0_2 m hp t) fullShare ((dat m hp c).after 2 t)
    ∗ owns (c : Thread nD τ) (ms0_3 m hp t) fullShare ((dat m hp c).after 3 t)
    ∗ owns (c : Thread nD τ) (ms0_4 m hp t) fullShare ((dat m hp c).after 4 t)
    ∗ owns (c : Thread nD τ) (ms0_5 m hp t) fullShare ((dat m hp c).after 5 t))

/-- The kernel as the pipeline calls it at a point. -/
abbrev bodyAt (t : Fin (cfg0 (adm m hp)).N) : Prog (TpuEff nD τ sig (Elt F) Λ₀ .tc) PUnit :=
  cc0_expert_ffn (grid0.coords t) (Memref.whole main_arg0) (Memref.isWhole_whole _) (Memref.whole main_arg1) (Memref.isWhole_whole _) (Memref.whole main_arg2) (Memref.isWhole_whole _)
    (ms0_0 m hp t) (hstage0_0 (((cfg0 (adm m hp)).slots t 0).cast nbuf0_0)) (ms0_1 m hp t) (hstage0_1 (((cfg0 (adm m hp)).slots t 1).cast nbuf0_1)) (ms0_2 m hp t) (hstage0_2 (((cfg0 (adm m hp)).slots t 2).cast nbuf0_2)) (ms0_3 m hp t) (hstage0_3 (((cfg0 (adm m hp)).slots t 3).cast nbuf0_3)) (ms0_4 m hp t) (hstage0_4 (((cfg0 (adm m hp)).slots t 4).cast nbuf0_4)) (ms0_5 m hp t) (hstage0_5 (((cfg0 (adm m hp)).slots t 5).cast nbuf0_5))
    (Memref.whole cc0_scratch0) (Memref.isWhole_whole _) (Memref.whole cc0_scratch1) (Memref.isWhole_whole _)

theorem read_new (i : grid0.Coords) (x) : View.readAt (Elt F) (Memref.whole main_arg1 : Memref sig .tc .smem S544 .i32).view
    (Rect.unit (s := S544) (k0_off2 i) S1.size (k0_off2_inb i)).toLoadRect (pfOf m 1) x = nwW (pfOf m) (i 0) :=
  congrArg (pfOf m 1) (idx544 i _ (k0_off2_eq i) _ x)

theorem read_used (r : LoadRect S1) (x) : View.readAt (Elt F) (Memref.whole main_arg2 : Memref sig .tc .smem S1 .i32).view r (pfOf m 2) x = nuW (pfOf m) :=
  congrArg (pfOf m 2) (idx1 r x)

set_option maxHeartbeats 4000000 in
/-- The body's triple at a point. -/
theorem sound_body (c : Dev nD) (t : Fin (cfg0 (adm m hp)).N) :
    bodyPre m hp c t ⊢ wp frame (wpE (defs₀ (F := F)) Variants.none c none) Set.univ (bodyAt m hp t) (fun _ => bodyPost m hp c t) := by
  have hN : t.val < 544 := t.isLt.trans_eq N_0
  have hc : (grid0.coords t 0).val = t.val := coord_val t
  unfold bodyPre bodyPost bodyAt
  simp only [before_0, before_1, before_2, before_3, before_4]
  rw [show (dat m hp c).Φ t.succ = ΦE m hp c (t.val + 1) from rfl, show (dat m hp c).Φ t.castSucc = ΦE m hp c t.val from rfl,
    show (dat m hp c).owesAt () t.succ = (dat m hp c).owesAt () t.castSucc from rfl,
    after_0, after_1, after_2, after_3, after_4, after_5]
  unfold ΦE tabs
  have hout : outB m hp c t = match usedW (nuW (pfOf m)) t.val with
    | true => blkOut (iblk m hp c 0 t) (k0_pay2 (iblk m hp c 1 t)) (iblk m hp c 2 t) (k0_pay3 (iblk m hp c 3 t)) (iblk m hp c 4 t)
    | false => k0_pay1 := rfl
  have hlast : ∀ k : Fin (cfg0 (adm m hp)).N, k.val + 1 = t.val + 1 → k = t := fun k hk => Fin.ext (by omega)
  cases hu : usedW (nuW (pfOf m)) t.val
  · rw [hu] at hout; rw [hout]
    iintro ⟨⟨⟨HT0, HT1, HT2⟩, %f0, %f1, -, G0, G1⟩, Ho, ⟨%d0, H0⟩, ⟨%d1, H1⟩, ⟨%d2, H2⟩, ⟨%d3, H3⟩, ⟨%d4, H4⟩, ⟨%d5, H5⟩⟩
    iapply (run_idle c (grid0.coords t) (nuW (pfOf m)) (nwW (pfOf m) (grid0.coords t 0)) _ _ _ _ _ _ _ _ _ _ _ _ _ _ _ _ _ _ _ _ _ _ (pfOf m 1) (pfOf m 2)
      (read_new m _) (read_used m) ((cond1_iff _ _).2 (by rw [hc]; exact hu)) (fun h => by rw [openW_iff, hc, hu] at h; exact absurd h.1 (by decide)) (fun h => by rw [cond3_iff, hc, hu] at h; exact absurd h (by decide)))
    isplitl [HT1]; · iexact HT1
    isplitl [HT2]; · iexact HT2
    isplitl [H5]; · iexists _; iexact H5
    iintro ⟨HT1, HT2, ⟨%e5, H5⟩⟩
    isplitl [HT0 HT1 HT2 G0 G1]
    · isplitl [HT0 HT1 HT2]
      · isplitl [HT0]; · iexact HT0
        isplitl [HT1]; · iexact HT1
        iexact HT2
      iexists _; iexists _
      isplitr; swap
      · isplitl [G0]; · iexact G0
        iexact G1
      ipureintro
      intro k hk hk'; rw [hlast k hk, hu] at hk'; exact absurd hk' (by decide)
    isplitl [Ho]; · iexact Ho
    isplitl [H0]; · iexact H0
    isplitl [H1]; · iexact H1
    isplitl [H2]; · iexact H2
    isplitl [H3]; · iexact H3
    isplitl [H4]; · iexact H4
    unfold owns; iexists _; isplitr; swap; · iexact H5
    ipureintro; exact View.read_writes_full _ _ _ _ _
  · rw [hu] at hout; rw [hout]
    have c1 : ¬ k0_cond1 (grid0.coords t) (nuW (pfOf m)) = 1#1 := fun h => by rw [cond1_iff, hc, hu] at h; exact absurd h (by decide)
    have c3 : k0_cond3 (grid0.coords t) (nuW (pfOf m)) = 1#1 := (cond3_iff _ _).2 (by rw [hc]; exact hu)
    by_cases ho : openW (grid0.coords t) (nuW (pfOf m)) (nwW (pfOf m) (grid0.coords t 0)) = 1#1
    · iintro ⟨⟨⟨HT0, HT1, HT2⟩, %f0, %f1, -, G0, G1⟩, Ho, ⟨%d0, H0⟩, ⟨%d1, H1⟩, ⟨%d2, H2⟩, ⟨%d3, H3⟩, ⟨%d4, H4⟩, ⟨%d5, H5⟩⟩
      iapply (run_open c (grid0.coords t) (nuW (pfOf m)) (nwW (pfOf m) (grid0.coords t 0)) _ _ _ _ _ _ _ _ _ _ _ _ _ _ _ _ _ _ _ _ _ _ (pfOf m 1) (pfOf m 2)
        (read_new m _) (read_used m) (iblk m hp c 0 t) (iblk m hp c 1 t) (iblk m hp c 2 t) (iblk m hp c 3 t) (iblk m hp c 4 t) c1 ho c3)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [G0]; · iexists _; iexact G0
      isplitl [G1]; · iexists _; iexact G1
      isplitl [H5]; · iexists _; iexact H5
      iintro ⟨HT1, HT2, H0, H1, H2, H3, H4, G0, G1, H5⟩
      isplitl [HT0 HT1 HT2 G0 G1]
      · isplitl [HT0 HT1 HT2]
        · isplitl [HT0]; · iexact HT0
          isplitl [HT1]; · iexact HT1
          iexact HT2
        iexists _; iexists _
        isplitr; swap
        · isplitl [G0]; · iexact G0
          iexact G1
        ipureintro
        intro k hk _; rw [hlast k hk]; exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5
    · have hkey : ∃ k : Fin (cfg0 (adm m hp)).N, k.val + 1 = t.val ∧ usedW (nuW (pfOf m)) k.val = true ∧ iblk m hp c 1 t = iblk m hp c 1 k ∧ iblk m hp c 3 t = iblk m hp c 3 k := by
        rw [openW_iff, hc] at ho
        have hnw : ¬ (0#32).slt (nwW (pfOf m) (grid0.coords t 0)) = true := fun h => ho ⟨hu, h⟩
        have ht : t.val ≠ 0 := fun h0 => hnw (by
          have : grid0.coords t 0 = (0 : Fin 544) := Fin.ext (hc.trans h0)
          rw [this]; exact hp.first)
        refine ⟨⟨t.val - 1, by have := t.isLt; omega⟩, Nat.sub_add_cancel (by omega), ?_, ?_⟩
        · exact used_pred (n := t.val - 1) (by omega) (by rw [Nat.sub_add_cancel (by omega)]; exact hu)
        · refine iblk_congr m hp c ?_
          refine (hp.next (grid0.coords t 0) (grid0.coords ⟨t.val - 1, _⟩ 0) ?_).resolve_left hnw
          rw [coord_val, coord_val]; show t.val = t.val - 1 + 1; omega
      obtain ⟨k, hk1, hk2, hk3, hk4⟩ := hkey
      rw [hk3, hk4]
      iintro ⟨⟨⟨HT0, HT1, HT2⟩, %f0, %f1, %hf, G0, G1⟩, Ho, ⟨%d0, H0⟩, ⟨%d1, H1⟩, ⟨%d2, H2⟩, ⟨%d3, H3⟩, ⟨%d4, H4⟩, ⟨%d5, H5⟩⟩
      obtain ⟨rfl, rfl⟩ := hf k hk1 hk2
      iapply (run_follow c (grid0.coords t) (nuW (pfOf m)) (nwW (pfOf m) (grid0.coords t 0)) _ _ _ _ _ _ _ _ _ _ _ _ _ _ _ _ _ _ _ _ _ _ (pfOf m 1) (pfOf m 2)
        (read_new m _) (read_used m) (iblk m hp c 0 t) (iblk m hp c 1 k) (iblk m hp c 2 t) (iblk m hp c 3 k) (iblk m hp c 4 t) (k0_pay2 (iblk m hp c 1 k)) (k0_pay3 (iblk m hp c 3 k)) c1 ho c3)
      isplitl [HT1]; · iexact HT1
      isplitl [HT2]; · iexact HT2
      isplitl [H0]; · iexact H0
      isplitl [H1]; · iexact H1
      isplitl [H2]; · iexact H2
      isplitl [H3]; · iexact H3
      isplitl [H4]; · iexact H4
      isplitl [G0]; · iexact G0
      isplitl [G1]; · iexact G1
      isplitl [H5]; · iexists _; iexact H5
      iintro ⟨HT1, HT2, H0, H1, H2, H3, H4, G0, G1, H5⟩
      isplitl [HT0 HT1 HT2 G0 G1]
      · isplitl [HT0 HT1 HT2]
        · isplitl [HT0]; · iexact HT0
          isplitl [HT1]; · iexact HT1
          iexact HT2
        iexists _; iexists _
        isplitr; swap
        · isplitl [G0]; · iexact G0
          iexact G1
        ipureintro
        intro k' hk' _; rw [hlast k' hk', hk3, hk4]; exact ⟨rfl, rfl⟩
      isplitl [Ho]; · iexact Ho
      isplitl [H0]; · iexact H0
      isplitl [H1]; · iexact H1
      isplitl [H2]; · iexact H2
      isplitl [H3]; · iexact H3
      isplitl [H4]; · iexact H4
      iexact H5

theorem defs₀_row (t : Fin (cfg0 (adm m hp)).N) :
    defs₀ (F := F) .tc (cfg0 (adm m hp)).body ((cfg0 (adm m hp)).bodyArgs t ((cfg0 (adm m hp)).slots t)) = bodyAt m hp t := by
  unfold defs₀; rw [Defs.onTc_tc]

/-- The output window is written at every point. -/
theorem idle_5 (i : grid0.Coords) : (cfg0 (adm m hp)).idle 5 i = false := by
  show (!(k0_cond1 i ((pfOf m).atD 2 ![0]) == 1#1) && !(k0_cond3 i ((pfOf m).atD 2 ![0]) == 1#1)) = false
  rw [show (pfOf m).atD 2 ![0] = nuW (pfOf m) from (dif_pos (by decide)).trans (congrArg (pfOf m 2) (funext fun a => match a with | ⟨0, _⟩ => rfl))]
  cases hu : usedW (nuW (pfOf m)) (i 0).val
  · rw [(cond1_iff _ _).2 hu]; rfl
  · rw [(cond3_iff _ _).2 hu, Bool.and_comm]; rfl

/-- The library's body obligation, at every point. -/
theorem body_obligation' (c : Dev nD) : BodyObligation (dat m hp c) (defs₀ (F := F)) Variants.none () Set.univ := fun t => by
  rw [bigSep_W0, bigSep_W0, defs₀_row, idle_5]
  exact triple_restated (sound_body m hp c t) rfl .rfl fun _ => .rfl

/-- So as the pipeline's loop uses it. -/
theorem body_obligation (c : Dev nD) : Pipeline.BodyObligationLoose (dat m hp c) (defs₀ (F := F)) Variants.none () Set.univ :=
  (body_obligation' m hp c).loose

/-! ## The run -/

/-- The one pipeline's tables, -/
def adms (p : Fin 1) : (pcfgs (F := F) p).Adm := match p with | ⟨0, _⟩ => adm m hp
/-- and its data. -/
def pdats (p : Fin 1) (c : Dev nD) : Dat τ (Elt F) Unit ℕ (UR sig nD τ) ℕ (Pipeline.pin (pcfgs (F := F)) (adms m hp) p) c :=
  match p with | ⟨0, _⟩ => dat m hp c

theorem tabs_of_prefHeld (c : Dev nD) : (Pipeline.prefHeld pre0 c (fun _ => fullShare.right) (pfOf m) : sProp 𝕄) ⊢ tabs m c := by
  unfold Pipeline.prefHeld tabs
  rw [bigSep_univ_eq_bigSepL [(0 : Fin 3), (1 : Fin 3), (2 : Fin 3)] (by decide) (by decide)]
  exact .rfl

set_option backward.isDefEq.respectTransparency.types false in
/-- From any memory whose tables are a plan's and whose counters are zero, the call terminates with the result's array at the
    blocks' values, the arguments as launched and every counter zero. -/
theorem run (g : Dev nD → PrngReg) : θ_run defs (onTc (τ := τ) (main (F := F))) ⟨m, fun _ => 0, g⟩ (fun r =>
    (∀ c : Dev nD, (∀ w : Fin 6, r.2.mem ((spec0 w).arr.view.loc (c : Thread nD τ)) = (dat m hp c).arrAt w (cfg0 (adm m hp)).N)
      ∧ ∀ k : Fin 3, r.2.mem ((c : Thread nD τ).loc (pre0.ref k)) = pfOf m k) ∧ r.2.sem = fun _ => 0) :=
  Pipeline.θ_run_region_noSem_pf_quiescent (pcfgs (F := F)) (adms m hp) (pdats m hp) () (cellOf_inj _) (0 : Fin 1)
    (launch0 (F := F)).win.to₀ (launch0 (F := F)).pre emb₁ defs₀ Variants.none m g main
    (hbody := body_obligation m hp) (hne := (launch0 (F := F)).block_pos) (harr := (launch0 (F := F)).arr_whole) (hstage := (launch0 (F := F)).stage_whole)
    (howed := fun _ _ => rfl)
    (u₀ := initOf (Pipeline.cells (Pipeline.pin (pcfgs (F := F)) (adms m hp)) (cellOf_inj _)) (Pipeline.launchToks (Pipeline.pin (pcfgs (F := F)) (adms m hp)) (cellOf_inj _)))
    (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := fun c => Pipeline.arrays_split (Pipeline.pin (pcfgs (F := F)) (adms m hp)) (pdats m hp) (0 : Fin 1) (launch0 (F := F)).win.arr_inj c
      (launch0 (F := F)).arr_whole (fun w => (dat m hp c).share_full (fun _ => rfl) w) _ _ (fun w => rfl))
    (hpf := fun c k => by obtain rfl : c = 0 := Subsingleton.elim _ _; rfl)
    (X := fun _ => iprop(emp)) (Y := fun _ => iprop(emp)) (Z := fun _ => iprop(emp))
    (hX := fun c => by rw [unscopedRestP0_eq]; iintro -; isplitr <;> iempintro)
    (hin := fun c => by
      show iprop(emp ∗ Pipeline.prefHeld pre0 c (fun _ => fullShare.right) (pfOf m) ∗ Pipeline.scopedRest spec0 c) ⊢ ΦE m hp c 0
      rw [scopedRest0_eq]; unfold ΦE
      iintro ⟨-, HT, ⟨%f0, G0⟩, ⟨%f1, G1⟩⟩
      isplitl [HT]; · iapply (tabs_of_prefHeld m c); iexact HT
      iexists f0; iexists f1
      isplitr; · ipureintro; intro k hk; exact absurd hk (by omega)
      rw [owns_whole, owns_whole]
      isplitl [G0]; · iexact G0
      iexact G1)
    (hout := fun c => by
      show ΦE m hp c (cfg0 (adm m hp)).N ⊢ iprop(emp ∗ Pipeline.scopedRest spec0 c)
      rw [scopedRest0_eq]; unfold ΦE
      simp only [owns_whole]
      iintro ⟨-, %f0, %f1, -, G0, G1⟩
      isplitr; · iempintro
      isplitl [G0]; · iexists f0; iexact G0
      iexists f1; iexact G1)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Kernel2Ideal.Gen
-- ==== Proof.FfnValue.lean ====
/- The expert call's run, read: its result array block by block, its arguments as launched. -/
module

public import proofs.«01_k».proof.Proof.FfnRegion
public import Idealize.ShloMosaic.Lib.Pipeline.ValueKit.Geometry

@[expose] public section

set_option maxRecDepth 16384

noncomputable section

namespace Cert.Kernel2Ideal.Gen

open Idealize.ShloMosaic Idealize.ShloMosaic.TcCoe Idealize.SL.Sem
open Idealize.ShloMosaic.ValueIdx (ix1 ix2)
open Idealize.ShloMosaic.Pipeline (Dat Cfg Window)

variable {F : FTy → Type} [FloatOps F]
variable (m : (ℓ : Loc nD τ sig) → Buf (Elt F) ℓ) (hp : PlanOK (pfOf m))

/-- The result's block at a step is the step's. -/
theorem index_5 (t : Fin (cfg0 (adm m hp)).N) : (win0 (adm m hp) 5).index t = ![t.val, 0] := by
  have h : ∀ t : Fin grid0.N, cc0_transform_5 (grid0.coords t) = ![t.val, 0] := by decide +kernel
  exact h t

/-- Every block is written back. -/
theorem flush_5 (t : Fin (cfg0 (adm m hp)).N) : (win0 (adm m hp) 5).flush t = true := by
  have h : ∀ t : Fin grid0.N, Window.flushOf grid0 true cc0_transform_5 t = true := by decide +kernel
  exact (Window.flush_eq_flushOf _ t).trans (h t)

/-- The result array's entry. -/
def outAt (c : Dev nD) (i : S2228224x128.Idx) : F .f32 :=
  outB m hp c ⟨(i 0).val / 4096, by have : (i 0).val < 2228224 := (i 0).isLt; show (i 0).val / 4096 < 544; omega⟩
    (ix2 ⟨(i 0).val % 4096, by omega⟩ ⟨(i 1).val, (i 1).isLt⟩)

/-- Where the result's block at a step puts an entry. -/
def emb5 (t : Fin (cfg0 (adm m hp)).N) (y : S4096x128.Idx) : S2228224x128.Idx := ((win0 (adm m hp) 5).blk t).view.emb y

theorem emb5_0 (t : Fin (cfg0 (adm m hp)).N) (y : S4096x128.Idx) : ((emb5 m hp t y) 0).val = t.val * 4096 + (y 0).val := by
  refine (show _ = (win0 (adm m hp) 5).index t 0 * 4096 + 1 * (y 0).val from rfl).trans ?_
  rw [index_5]; show t.val * 4096 + 1 * (y 0).val = _; omega

theorem emb5_1 (t : Fin (cfg0 (adm m hp)).N) (y : S4096x128.Idx) : ((emb5 m hp t y) 1).val = (y 1).val := by
  refine (show _ = (win0 (adm m hp) 5).index t 1 * 128 + 1 * (y 1).val from rfl).trans ?_
  rw [index_5]; show 0 * 128 + 1 * (y 1).val = _; omega

theorem out_point (c : Dev nD) (t : Fin (cfg0 (adm m hp)).N) (y : S4096x128.Idx) : outB m hp c t y = outAt m hp c (emb5 m hp t y) := by
  have ht : t.val < 544 := t.isLt
  have h0 : (y 0).val < 4096 := (y 0).isLt
  have h1 : (y 1).val < 128 := (y 1).isLt
  have e0 := emb5_0 m hp t y
  have e1 := emb5_1 m hp t y
  generalize emb5 m hp t y = i at e0 e1 ⊢
  unfold outAt
  refine congr (congrArg (outB m hp c) (Fin.ext ?_)) (funext fun a => Fin.ext ?_)
  · show t.val = (i 0).val / 4096; omega
  · match a with
    | ⟨0, _⟩ => show (y 0).val = (i 0).val % 4096; omega
    | ⟨1, _⟩ => exact e1.symm

theorem out_cover (i : S2228224x128.Idx) : ∃ t : Fin (cfg0 (adm m hp)).N, ((cfg0 (adm m hp)).win 5).flush t = true ∧ i ∈ (((cfg0 (adm m hp)).win 5).blk t).view.set := by
  have hi0 : (i 0).val < 2228224 := (i 0).isLt
  have hi1 : (i 1).val < 128 := (i 1).isLt
  refine ⟨⟨(i 0).val / 4096, by show _ < 544; omega⟩, flush_5 m hp _, ?_⟩
  refine ((win0 (adm m hp) 5).emb_mem_blk_iff _ i (by rfl)).mpr fun a => ?_
  rw [index_5]
  match a with
  | ⟨0, _⟩ => exact ⟨by show (i 0).val / 4096 * 4096 ≤ (i 0).val; omega, by show (i 0).val < (i 0).val / 4096 * 4096 + 4096; omega⟩
  | ⟨1, _⟩ => exact ⟨by show 0 * 128 ≤ (i 1).val; omega, by show (i 1).val < 0 * 128 + 128; omega⟩

theorem out_arr (c : Dev nD) : (dat m hp c).arrAt 5 (cfg0 (adm m hp)).N = outAt m hp c :=
  (dat m hp c).arrAt_eq_of_emb 5 (outAt m hp c) (fun t _ y => out_point m hp c t y) (fun i => out_cover m hp i)

theorem kept (c : Dev nD) (w : Fin 6) (h : ((cfg0 (adm m hp)).win w).isOut = false) :
    (dat m hp c).arrAt w (cfg0 (adm m hp)).N = m ((c : Thread nD τ).loc (Pipeline.arrRef spec0 w)) :=
  ((dat m hp c).arrAt_in w h _).trans (A_eq m hp c w)

/-- The run: the result array as read above, the arguments as launched, the counters at zero. -/
theorem run_read (g : Dev nD → PrngReg) : θ_run defs (onTc (τ := τ) (main (F := F))) ⟨m, fun _ => 0, g⟩ (fun r => (∀ c : Dev nD,
    r.2.mem ((c.tc : Thread nD τ).loc main_v0) = outAt m hp c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
    ∧ r.2.sem = fun _ => 0) := by
  refine (θ_run _ _ _).mono (fun r h => ⟨fun c => ?_, h.2⟩) (run m hp g)
  have hc : c = 0 := Subsingleton.elim (α := Fin 1) _ _
  have hw := (h.1 c).1
  have hk := (h.1 c).2
  refine ⟨(hw 5).trans (out_arr m hp c), ?_, ?_, ?_, (hw 0).trans (kept m hp c 0 rfl), (hw 1).trans (kept m hp c 1 rfl), (hw 2).trans (kept m hp c 2 rfl),
    (hw 3).trans (kept m hp c 3 rfl), (hw 4).trans (kept m hp c 4 rfl)⟩
  · subst hc; exact hk 0
  · subst hc; exact hk 1
  · subst hc; exact hk 2

end Cert.Kernel2Ideal.Gen
-- ==== Proof.FfnSame.lean ====
/- The compiled expert call and the one over the extended reals are the same program, so that the one's run is the other's. -/
module

public import proofs.«01_k».proof.Proof.FfnValue
public import proofs.«01_k».proof.Proof.Gen.Kernel2

@[expose] public section

set_option maxRecDepth 16384

noncomputable section

namespace Cert.Ffn

open Idealize.ShloMosaic Idealize.SL.Sem

variable {F : FTy → Type} [FloatOps F]

/-- The bodies are the same, at any float values. -/
theorem same_ffn : @Cert.Kernel2.cc0_expert_ffn F _ Cert.Kernel2.Gen.facts = @Cert.Kernel2Ideal.cc0_expert_ffn F _ Cert.Kernel2Ideal.Gen.facts := by
  delta Cert.Kernel2.cc0_expert_ffn Cert.Kernel2Ideal.cc0_expert_ffn
  rfl

/-- So are the kernels' tables, -/
theorem same_defs0 : @Cert.Kernel2.defs₀ F _ Cert.Kernel2.Gen.facts = @Cert.Kernel2Ideal.defs₀ F _ Cert.Kernel2Ideal.Gen.facts := by
  funext pr l a
  match pr, l, a with
  | .tc, 0, (t, s) =>
    have h := same_ffn (F := F)
    show @Cert.Kernel2.cc0_expert_ffn F _ Cert.Kernel2.Gen.facts _ _ _ _ _ _ _ _ _ _ _ _ _ _ _ _ _ _ _ _ _ _ _ = _
    rw [h]
    rfl
  | .tc, ⟨n + 1, h⟩, _ => exact absurd h (Nat.not_lt.2 (Nat.le_add_left _ _))
  | .scScalar _, _, _ => rfl
  | .scVector _ _, _, _ => rfl

/-- the programs' tables, -/
theorem same_defs : @Cert.Kernel2.defs F _ Cert.Kernel2.Gen.facts = @Cert.Kernel2Ideal.defs F _ Cert.Kernel2Ideal.Gen.facts := by
  exact congrArg (Pipeline.defs (@Cert.Kernel2Ideal.pcfgs F _ Cert.Kernel2Ideal.Gen.facts)) same_defs0

/-- and the programs. -/
theorem same_main : @Cert.Kernel2.main F _ Cert.Kernel2.Gen.facts = @Cert.Kernel2Ideal.main F _ Cert.Kernel2Ideal.Gen.facts := rfl

/-- A run of the one is a run of the other. -/
theorem same_run (m : (ℓ : Loc Cert.Kernel2Ideal.nD Cert.Kernel2Ideal.τ Cert.Kernel2Ideal.sig) → Buf (Elt F) ℓ) (g : Dev Cert.Kernel2Ideal.nD → PrngReg)
    (P) (h : θ_run (@Cert.Kernel2Ideal.defs F _ Cert.Kernel2Ideal.Gen.facts) (onTc (τ := Cert.Kernel2Ideal.τ) (@Cert.Kernel2Ideal.main F _ Cert.Kernel2Ideal.Gen.facts))
      ⟨m, fun _ => 0, g⟩ P) :
    θ_run (@Cert.Kernel2.defs F _ Cert.Kernel2.Gen.facts) (onTc (τ := Cert.Kernel2.τ) (@Cert.Kernel2.main F _ Cert.Kernel2.Gen.facts)) ⟨m, fun _ => 0, g⟩ P :=
  (congrArg (fun D => θ_run D (onTc (τ := Cert.Kernel2Ideal.τ) (@Cert.Kernel2Ideal.main F _ Cert.Kernel2Ideal.Gen.facts)) ⟨m, fun _ => 0, g⟩ P) same_defs).mpr h

end Cert.Ffn

end
-- ==== Proof.FfnPlan.lean ====
/- What the plan's precondition says of the tables' words. -/
module

public import proofs.«01_k».proof.Pre_plan
public import proofs.«01_k».proof.Proof.Gen.Pre_plan
public import Idealize.ShloMosaic.Lib.ReduceAll
public import Idealize.ShloMosaic.Lib.Affine
public import Idealize.ShloMosaic.Lib.ValueIdxCore
public import Idealize.ShloMosaic.Lib.Pointwise

@[expose] public section

set_option maxRecDepth 16384

noncomputable section

namespace Cert.Ffn

open Idealize.ShloMosaic Cert.Pre_plan

variable {F : FTy → Type} [FloatOps F]

theorem and_at {s : Shape} (a b : IVec s 1) (j : s.Idx) (h : andi a b j = 1#1) : a j = 1#1 ∧ b j = 1#1 := IntOp.andi_eq_one.mp h

theorem ofBool_one : ∀ b : Bool, BitVec.ofBool b = 1#1 → b = true := by decide

/-- A word from 0 below 32, both compared as signed words. -/
theorem lt_of_cmp (w : BitVec 32) (h0 : IntOp.cmpi .sge w 0#32 = 1#1) (h1 : IntOp.cmpi .slt w 32#32 = 1#1) : w.toNat < 32 := by
  have h0' : BitVec.ofBool ((0#32).sle w) = 1#1 := h0
  have h1' : BitVec.ofBool (w.slt 32#32) = 1#1 := h1
  replace h0' := ofBool_one _ h0'
  replace h1' := ofBool_one _ h1'
  simp only [BitVec.sle_eq_decide, BitVec.slt_eq_decide, decide_eq_true_eq, BitVec.toInt_eq_toNat_cond, BitVec.toNat_ofNat, Nat.reducePow] at h0' h1'
  have := w.isLt
  omega

theorem pos_of_cmp (w : BitVec 32) (h : IntOp.cmpi .sgt w 0#32 = 1#1) : (0#32).slt w = true := by
  have h' : BitVec.ofBool ((0#32).slt w) = 1#1 := h
  exact ofBool_one _ h'

theorem eq_of_cmp (w v : BitVec 32) (h : IntOp.cmpi .eq w v = 1#1) : w = v := by
  have h' : BitVec.ofBool (w == v) = 1#1 := h
  exact eq_of_beq (ofBool_one _ h')

theorem or_one : ∀ a b : BitVec 1, IntOp.ori a b = 1#1 → a = 1#1 ∨ b = 1#1 := by decide

/-- The precondition's words. -/
theorem plan_words (x0 x1 : S544.Idx → BitVec 32) (x2 : S1.Idx → BitVec 32) (x3 : FVec F S2228224x128 .f32) (x4 : FVec F S32x1024x2048 .f32)
    (x5 : FVec F S32x1x2048 .f32) (x6 : FVec F S32x1024x1024 .f32) (x7 : FVec F S32x1x1024 .f32)
    (h : Cert.Pre_plan.fn (F := F) x0 x1 x2 x3 x4 x5 x6 x7 = fun _ => 1#1) :
    (∀ n : Fin 544, (x0 (ix1 n)).toNat < 32) ∧ (0#32).slt (x2 (ix1 0)) = true ∧ (0#32).slt (x1 (ix1 0)) = true ∧
      ∀ n k : Fin 544, n.val = k.val + 1 → (0#32).slt (x1 (ix1 n)) = true ∨ x0 (ix1 n) = x0 (ix1 k) := by
  haveI : Subsingleton S_.Idx := ⟨fun a b => funext fun k => k.elim0⟩
  have h23 := congrFun h (fun a => a.elim0)
  unfold Cert.Pre_plan.fn Cert.Pre_plan.fn_part1 at h23
  obtain ⟨h17, h22⟩ := and_at _ _ _ h23
  obtain ⟨h12, h16⟩ := and_at _ _ _ h17
  obtain ⟨h8, h11⟩ := and_at _ _ _ h12
  have e22 := fun i => Host.reduce_andi_all _ _ _ _ _ h22 i
  have e11 := fun i => Host.reduce_andi_all _ _ _ _ _ h11 i
  have e8 := fun i => Host.reduce_andi_all _ _ _ _ _ h8 i
  refine ⟨fun n => ?_, ?_, ?_, fun n k hk => ?_⟩
  · obtain ⟨a, b⟩ := and_at _ _ _ (e8 (ix1 n))
    exact lt_of_cmp _ a b
  · exact pos_of_cmp _ (e11 (ix1 0))
  · refine pos_of_cmp _ ?_
    have e16 := Host.reduce_andi_all _ _ _ _ _ h16 (ix1 (0 : Fin 1))
    refine Eq.trans (congrArg (fun w => IntOp.cmpi .sgt w 0#32) ?_) e16
    exact (extractStridedSlice_apply _ _ _ (ix1 (0 : Fin 1)) (ix1 (0 : Fin 544)) fun a => match a with | ⟨0, _⟩ => rfl).symm
  · have hk' : k.val < 543 := by omega
    have e1 : ∀ (x : S544.Idx → BitVec 32) (hs : S544.Slices ![1] S543), extractStridedSlice S543 ![1] x hs (ix1 ⟨k.val, hk'⟩) = x (ix1 n) := fun x hs =>
      extractStridedSlice_apply _ _ _ _ (ix1 n) fun a => match a with | ⟨0, _⟩ => by show n.val = 1 + k.val; omega
    have e0 : ∀ (x : S544.Idx → BitVec 32) (hs : S544.Slices ![0] S543), extractStridedSlice S543 ![0] x hs (ix1 ⟨k.val, hk'⟩) = x (ix1 k) := fun x hs =>
      extractStridedSlice_apply _ _ _ _ (ix1 k) fun a => match a with | ⟨0, _⟩ => by show k.val = 0 + k.val; omega
    rcases or_one _ _ (e22 (ix1 ⟨k.val, hk'⟩)) with h | h
    · left
      refine pos_of_cmp _ (Eq.trans (congrArg (fun w => IntOp.cmpi .sgt w 0#32) ?_) h)
      exact (e1 x1 _).symm
    · right
      have h' := eq_of_cmp _ _ h
      exact (e1 x0 _).symm.trans (h'.trans (e0 x0 _))

end Cert.Ffn
-- ==== Proof.FfnSpec.lean ====
/- A row through an expert: a linear layer, the clamped gated unit, and a second linear layer. -/
module

public import Idealize.ShloMosaic.PureOps.Ideal.Laws
public import Idealize.ShloMosaic.Lib.ValueIdxCore

@[expose] public section

noncomputable section

namespace Cert.Ffn

open Idealize.ShloMosaic Idealize.ShloMosaic.ValueIdx

/-- The gate's column of a hidden unit. -/
def gateAt (f : Fin 1024) : Fin 2048 := ⟨f.val, by omega⟩
/-- The linear part's column of a hidden unit. -/
def linAt (f : Fin 1024) : Fin 2048 := ⟨1024 + f.val, by omega⟩

/-- At most seven. -/
def capped (a : EReal) : EReal := min a (Ideal.ofBits .f32 0x40E00000#32)
/-- At most seven and at least minus seven. -/
def clipped (a : EReal) : EReal := min (Ideal.ofBits .f32 0x40E00000#32) (max (Ideal.ofBits .f32 0xC0E00000#32) a)
/-- The gate times its logistic, times one more than the linear part. -/
def glu (g l : EReal) : EReal :=
  g * Ideal.logistic (Ideal.ofBits .f32 0x3FD9DB23#32 * g) * (l + Ideal.ofBits .f32 0x3F800000#32)

/-- The word of one. -/
theorem one_word : Ideal.ofBits .f32 0x3F800000#32 = 1 := by
  simp [Ideal.ofBits, Ideal.ieee]; rw [← EReal.coe_mul]; norm_num
/-- The logistic with its ones as words. -/
theorem logistic_words (a : EReal) : Ideal.logistic a = Ideal.div (Ideal.ofBits .f32 0x3F800000#32) (Ideal.ofBits .f32 0x3F800000#32 + Ideal.exp (-a)) := by
  rw [one_word]; rfl

/-- The first layer before its unit. -/
def preAct (x : Fin 1024 → EReal) (w : Fin 1024 → Fin 2048 → EReal) (b : Fin 2048 → EReal) (f : Fin 2048) : EReal :=
  (∑ k, x k * w k f) + b f
/-- The hidden layer. -/
def hidden (x : Fin 1024 → EReal) (w : Fin 1024 → Fin 2048 → EReal) (b : Fin 2048 → EReal) (f : Fin 1024) : EReal :=
  glu (capped (preAct x w b (gateAt f))) (clipped (preAct x w b (linAt f)))
/-- The row out. -/
def ffnRow (x : Fin 1024 → EReal) (w1 : Fin 1024 → Fin 2048 → EReal) (b1 : Fin 2048 → EReal) (w2 : Fin 1024 → Fin 1024 → EReal) (b2 : Fin 1024 → EReal)
    (d : Fin 1024) : EReal := (∑ f, hidden x w1 b1 f * w2 f d) + b2 d

/-- Row `r` of block `n`, as the rows of 128 hold it. -/
def rowOf (x : (⟨2, ![2228224, 128]⟩ : Shape).Idx → EReal) (n : Fin 544) (r : Fin 512) (k : Fin 1024) : EReal :=
  x (ix2 ⟨((n.val * 512 + r.val) * 1024 + k.val) / 128, by omega⟩ ⟨((n.val * 512 + r.val) * 1024 + k.val) % 128, by omega⟩)

end Cert.Ffn
-- ==== Proof.FfnMath.lean ====
/- What the expert call's body computes of a block, over the extended reals: each row through its expert. -/
module

public import proofs.«01_k».proof.Proof.FfnBody
public import proofs.«01_k».proof.Proof.FfnSpec
public import Idealize.ShloMosaic.Lib.Pointwise

@[expose] public section

set_option maxRecDepth 16384

noncomputable section

namespace Cert.Ffn

open Idealize.ShloMosaic Cert.Kernel2Ideal Cert.Kernel2Ideal.Gen

/-- The second layer of a hidden layer. -/
theorem pay4_at (h : FVec Ideal S512x1024 .bf16) (s2 : FVec Ideal S1024x1024 .bf16) (x4 : FVec Ideal S1x1x1024 .f32) (r : Fin 512) (d : Fin 1024) :
    k0_pay4 (F := Ideal) h s2 x4 (ix2 r d) = (∑ f : Fin 1024, h (ix2 r f) * s2 (ix2 f d)) + x4 (ix3 0 0 d) := by
  pointwise [k0_pay4]

/-- The first weights as the body keeps them. -/
theorem pay2_at (x : FVec Ideal S1x1024x2048 .f32) (k : Fin 1024) (f : Fin 2048) : k0_pay2 (F := Ideal) x (ix2 k f) = x (ix3 0 k f) := by
  pointwise [k0_pay2]

/-- The second weights as the body keeps them. -/
theorem pay3_at (x : FVec Ideal S1x1024x1024 .f32) (f d : Fin 1024) : k0_pay3 (F := Ideal) x (ix2 f d) = x (ix3 0 f d) := by
  pointwise [k0_pay3]

/-- A row of a block, its eight pieces side by side. -/
def pieceRow (x0 : FVec Ideal S4096x128 .f32) (r : Fin 512) (k : Fin 1024) : EReal := x0 (ix2 ⟨8 * r.val + k.val / 128, by omega⟩ ⟨k.val % 128, by omega⟩)

theorem pieces_at (x0 : FVec Ideal S4096x128 .f32) (r : Fin 512) (k : Fin 1024) :
    concatenate S512x1024 1 [⟨S512x128, fun y => x0 (rowsRect 0 (by omega) |>.idx y)⟩, ⟨S512x128, fun y => x0 (rowsRect 1 (by omega) |>.idx y)⟩, ⟨S512x128, fun y => x0 (rowsRect 2 (by omega) |>.idx y)⟩, ⟨S512x128, fun y => x0 (rowsRect 3 (by omega) |>.idx y)⟩, ⟨S512x128, fun y => x0 (rowsRect 4 (by omega) |>.idx y)⟩, ⟨S512x128, fun y => x0 (rowsRect 5 (by omega) |>.idx y)⟩, ⟨S512x128, fun y => x0 (rowsRect 6 (by omega) |>.idx y)⟩, ⟨S512x128, fun y => x0 (rowsRect 7 (by omega) |>.idx y)⟩] concatenates_S512x128_S512x128_S512x128_S512x128_S512x128_S512x128_S512x128_S512x128_S512x1024_d1 (ix2 r k) = pieceRow x0 r k := by
  unfold pieceRow
  have h : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases h with h | h | h | h | h | h | h | h
  · refine (concatenate_apply_piece (1 : Fin 2) _ _ (ix2 r k) 0 (by show 0 < 8; omega) S512x128 (fun y => x0 (rowsRect 0 (by omega) |>.idx y)) rfl rfl 0 rfl
      (ix2 r ⟨k.val - 0, by omega⟩) (fun b hb => match b, hb with | ⟨0, _⟩, _ => rfl | ⟨1, _⟩, hb => absurd rfl hb) (by show 0 + (k.val - 0) = k.val; omega)).trans ?_
    refine congrArg x0 (funext fun a => Fin.ext ?_)
    match a with
    | ⟨0, _⟩ => show 0 + 8 * r.val = 8 * r.val + k.val / 128; omega
    | ⟨1, _⟩ => show 0 + 1 * (k.val - 0) = k.val % 128; omega
  · refine (concatenate_apply_piece (1 : Fin 2) _ _ (ix2 r k) 1 (by show 1 < 8; omega) S512x128 (fun y => x0 (rowsRect 1 (by omega) |>.idx y)) rfl rfl 128 rfl
      (ix2 r ⟨k.val - 128, by omega⟩) (fun b hb => match b, hb with | ⟨0, _⟩, _ => rfl | ⟨1, _⟩, hb => absurd rfl hb) (by show 128 + (k.val - 128) = k.val; omega)).trans ?_
    refine congrArg x0 (funext fun a => Fin.ext ?_)
    match a with
    | ⟨0, _⟩ => show 1 + 8 * r.val = 8 * r.val + k.val / 128; omega
    | ⟨1, _⟩ => show 0 + 1 * (k.val - 128) = k.val % 128; omega
  · refine (concatenate_apply_piece (1 : Fin 2) _ _ (ix2 r k) 2 (by show 2 < 8; omega) S512x128 (fun y => x0 (rowsRect 2 (by omega) |>.idx y)) rfl rfl 256 rfl
      (ix2 r ⟨k.val - 256, by omega⟩) (fun b hb => match b, hb with | ⟨0, _⟩, _ => rfl | ⟨1, _⟩, hb => absurd rfl hb) (by show 256 + (k.val - 256) = k.val; omega)).trans ?_
    refine congrArg x0 (funext fun a => Fin.ext ?_)
    match a with
    | ⟨0, _⟩ => show 2 + 8 * r.val = 8 * r.val + k.val / 128; omega
    | ⟨1, _⟩ => show 0 + 1 * (k.val - 256) = k.val % 128; omega
  · refine (concatenate_apply_piece (1 : Fin 2) _ _ (ix2 r k) 3 (by show 3 < 8; omega) S512x128 (fun y => x0 (rowsRect 3 (by omega) |>.idx y)) rfl rfl 384 rfl
      (ix2 r ⟨k.val - 384, by omega⟩) (fun b hb => match b, hb with | ⟨0, _⟩, _ => rfl | ⟨1, _⟩, hb => absurd rfl hb) (by show 384 + (k.val - 384) = k.val; omega)).trans ?_
    refine congrArg x0 (funext fun a => Fin.ext ?_)
    match a with
    | ⟨0, _⟩ => show 3 + 8 * r.val = 8 * r.val + k.val / 128; omega
    | ⟨1, _⟩ => show 0 + 1 * (k.val - 384) = k.val % 128; omega
  · refine (concatenate_apply_piece (1 : Fin 2) _ _ (ix2 r k) 4 (by show 4 < 8; omega) S512x128 (fun y => x0 (rowsRect 4 (by omega) |>.idx y)) rfl rfl 512 rfl
      (ix2 r ⟨k.val - 512, by omega⟩) (fun b hb => match b, hb with | ⟨0, _⟩, _ => rfl | ⟨1, _⟩, hb => absurd rfl hb) (by show 512 + (k.val - 512) = k.val; omega)).trans ?_
    refine congrArg x0 (funext fun a => Fin.ext ?_)
    match a with
    | ⟨0, _⟩ => show 4 + 8 * r.val = 8 * r.val + k.val / 128; omega
    | ⟨1, _⟩ => show 0 + 1 * (k.val - 512) = k.val % 128; omega
  · refine (concatenate_apply_piece (1 : Fin 2) _ _ (ix2 r k) 5 (by show 5 < 8; omega) S512x128 (fun y => x0 (rowsRect 5 (by omega) |>.idx y)) rfl rfl 640 rfl
      (ix2 r ⟨k.val - 640, by omega⟩) (fun b hb => match b, hb with | ⟨0, _⟩, _ => rfl | ⟨1, _⟩, hb => absurd rfl hb) (by show 640 + (k.val - 640) = k.val; omega)).trans ?_
    refine congrArg x0 (funext fun a => Fin.ext ?_)
    match a with
    | ⟨0, _⟩ => show 5 + 8 * r.val = 8 * r.val + k.val / 128; omega
    | ⟨1, _⟩ => show 0 + 1 * (k.val - 640) = k.val % 128; omega
  · refine (concatenate_apply_piece (1 : Fin 2) _ _ (ix2 r k) 6 (by show 6 < 8; omega) S512x128 (fun y => x0 (rowsRect 6 (by omega) |>.idx y)) rfl rfl 768 rfl
      (ix2 r ⟨k.val - 768, by omega⟩) (fun b hb => match b, hb with | ⟨0, _⟩, _ => rfl | ⟨1, _⟩, hb => absurd rfl hb) (by show 768 + (k.val - 768) = k.val; omega)).trans ?_
    refine congrArg x0 (funext fun a => Fin.ext ?_)
    match a with
    | ⟨0, _⟩ => show 6 + 8 * r.val = 8 * r.val + k.val / 128; omega
    | ⟨1, _⟩ => show 0 + 1 * (k.val - 768) = k.val % 128; omega
  · refine (concatenate_apply_piece (1 : Fin 2) _ _ (ix2 r k) 7 (by show 7 < 8; omega) S512x128 (fun y => x0 (rowsRect 7 (by omega) |>.idx y)) rfl rfl 896 rfl
      (ix2 r ⟨k.val - 896, by omega⟩) (fun b hb => match b, hb with | ⟨0, _⟩, _ => rfl | ⟨1, _⟩, hb => absurd rfl hb) (by show 896 + (k.val - 896) = k.val; omega)).trans ?_
    refine congrArg x0 (funext fun a => Fin.ext ?_)
    match a with
    | ⟨0, _⟩ => show 7 + 8 * r.val = 8 * r.val + k.val / 128; omega
    | ⟨1, _⟩ => show 0 + 1 * (k.val - 896) = k.val % 128; omega

/-- The hidden layer of a block. -/
theorem hid_at (x0 : FVec Ideal S4096x128 .f32) (s1 : FVec Ideal S1024x2048 .bf16) (x2 : FVec Ideal S1x1x2048 .f32) (r : Fin 512) (f : Fin 1024) :
    hidOf (F := Ideal) x0 s1 x2 (ix2 r f) = hidden (pieceRow x0 r) (fun k f => s1 (ix2 k f)) (fun f => x2 (ix3 0 0 f)) f := by
  have hp := pieces_at x0 r
  unfold hidOf k0_pay13
  generalize concatenate S512x1024 1 [⟨S512x128, fun y => x0 (rowsRect 0 (by omega) |>.idx y)⟩, ⟨S512x128, fun y => x0 (rowsRect 1 (by omega) |>.idx y)⟩, ⟨S512x128, fun y => x0 (rowsRect 2 (by omega) |>.idx y)⟩, ⟨S512x128, fun y => x0 (rowsRect 3 (by omega) |>.idx y)⟩, ⟨S512x128, fun y => x0 (rowsRect 4 (by omega) |>.idx y)⟩, ⟨S512x128, fun y => x0 (rowsRect 5 (by omega) |>.idx y)⟩, ⟨S512x128, fun y => x0 (rowsRect 6 (by omega) |>.idx y)⟩, ⟨S512x128, fun y => x0 (rowsRect 7 (by omega) |>.idx y)⟩] concatenates_S512x128_S512x128_S512x128_S512x128_S512x128_S512x128_S512x128_S512x128_S512x1024_d1 = X at hp ⊢
  pointwise
  simp only [hp]
  unfold hidden glu capped clipped preAct gateAt linAt
  rw [one_word]

/-- What the body leaves of a block in use. -/
theorem blk_at (x0 : FVec Ideal S4096x128 .f32) (x1 : FVec Ideal S1x1024x2048 .f32) (x2 : FVec Ideal S1x1x2048 .f32) (x3 : FVec Ideal S1x1024x1024 .f32)
    (x4 : FVec Ideal S1x1x1024 .f32) (y : S4096x128.Idx) : blkOut (F := Ideal) x0 (k0_pay2 (F := Ideal) x1) x2 (k0_pay3 (F := Ideal) x3) x4 y =
      ffnRow (pieceRow x0 ⟨(y 0).val / 8, by have : (y 0).val < 4096 := (y 0).isLt; omega⟩) (fun k f => x1 (ix3 0 k f)) (fun f => x2 (ix3 0 0 f))
        (fun f d => x3 (ix3 0 f d)) (fun d => x4 (ix3 0 0 d)) ⟨128 * ((y 0).val % 8) + (y 1).val, by have : (y 1).val < 128 := (y 1).isLt; omega⟩ := by
  unfold blkOut prodOut ffnRow
  refine (pay4_at _ _ _ _ _).trans ?_
  refine congrArg (· + _) (Finset.sum_congr rfl fun f _ => ?_)
  rw [hid_at, pay3_at]
  simp only [pay2_at]

end Cert.Ffn
-- ==== Proof.FfnRef.lean ====
/- The expert network's reference, read entry by entry: each row of a block through its expert's two layers, and zero in
   the blocks the plan does not use. -/
module

public import proofs.«01_k».proof.Proof.Gen.Reference2Ideal.Read
public import proofs.«01_k».proof.Proof.FfnSpec
public import Idealize.ShloMosaic.Lib.ValueIdxCore

@[expose] public section

set_option maxRecDepth 16384

noncomputable section

namespace Cert.Ffn

open Idealize.ShloMosaic Cert.Reference2Ideal Cert.Reference2Ideal.Read Idealize.ShloMosaic.ValueIdx

/-- An expert's word as a number. -/
theorem expert_toInt : ∀ e : Fin 32, (BitVec.ofNat 32 e).toInt.toNat = e := by decide +kernel
/-- An expert's word is not below zero, so the index taken is the word itself. -/
theorem expert_wrap : ∀ e : Fin 32, Scalar.select (IntOp.cmpi .slt (BitVec.ofNat 32 e) 0#32) (IntOp.addi (BitVec.ofNat 32 e) 32#32) (BitVec.ofNat 32 e) = BitVec.ofNat 32 e := by
  decide +kernel

theorem ref_v6 (x0 : S544.Idx → BitVec 32) (n : Fin 544) (e : Fin 32) (h : x0 (ix1 n) = BitVec.ofNat 32 e) :
    val_main_v6 (F := Ideal) x0 (ix2 n (0 : Fin 1)) = BitVec.ofNat 32 e := by
  rw [val_main_v6_apply, show idx_main_v6 (ix2 n (0 : Fin 1)) = ix1 n from (by funext a; match a with | ⟨0, _⟩ => rfl), val_main_v5_apply,
    val_main_v2_apply, val_main_v4_apply, val_main_v1_apply, val_main_v3_apply, h]
  exact expert_wrap e

theorem ref_v7 (x0 : S544.Idx → BitVec 32) (x4 : S32x1024x2048.Idx → EReal) (n : Fin 544) (e : Fin 32) (h : x0 (ix1 n) = BitVec.ofNat 32 e)
    (k : Fin 1024) (f : Fin 2048) : val_main_v7 (F := Ideal) x0 x4 (ix3 n k f) = x4 (ix3 e k f) := by
  unfold val_main_v7 Host.gather
  congr 1
  have hs : (gather_S32x1024x2048_S544x1_S544x1024x2048_12_0_n_n_0_1_110242048).start (ix3 n k f) (val_main_v6 (F := Ideal) x0) 0 = e := by
    unfold GatherDims.start
    rw [dif_pos (show (0 : Fin 3) ∈ (gather_S32x1024x2048_S544x1_S544x1024x2048_12_0_n_n_0_1_110242048).startIndexMap from List.mem_singleton.mpr rfl)]
    rw [show ((gather_S32x1024x2048_S544x1_S544x1024x2048_12_0_n_n_0_1_110242048).siIdx (ix3 n k f) ⟨List.idxOf (0 : Fin 3) (gather_S32x1024x2048_S544x1_S544x1024x2048_12_0_n_n_0_1_110242048).startIndexMap,
      List.idxOf_lt_length_iff.2 (List.mem_singleton.mpr rfl)⟩) = ix2 n (0 : Fin 1) from by
        funext b; refine Fin.ext ?_
        match b with
        | ⟨0, _⟩ => rfl
        | ⟨1, _⟩ => rfl]
    rw [ref_v6 x0 n e h, expert_toInt]
    exact min_eq_left (Nat.le_of_lt_succ e.isLt)
  funext a
  refine Fin.ext ?_
  match a with
  | ⟨0, _⟩ =>
    show (gather_S32x1024x2048_S544x1_S544x1024x2048_12_0_n_n_0_1_110242048).start (ix3 n k f) (val_main_v6 (F := Ideal) x0) 0 + (gather_S32x1024x2048_S544x1_S544x1024x2048_12_0_n_n_0_1_110242048).batchCoord (ix3 n k f) 0 + (gather_S32x1024x2048_S544x1_S544x1024x2048_12_0_n_n_0_1_110242048).offCoord (ix3 n k f) 0 = (e : ℕ)
    rw [GatherDims.batchCoord_eq_zero _ _ _ List.not_mem_nil,
      GatherDims.offCoord_eq_zero _ _ _ (fun h => ((GatherDims.mem_sKept _ _).mp h).1 (List.mem_singleton.mpr rfl)), hs, Nat.add_zero]
  | ⟨1, _⟩ =>
    show (gather_S32x1024x2048_S544x1_S544x1024x2048_12_0_n_n_0_1_110242048).start (ix3 n k f) (val_main_v6 (F := Ideal) x0) 1 + (gather_S32x1024x2048_S544x1_S544x1024x2048_12_0_n_n_0_1_110242048).batchCoord (ix3 n k f) 1 + (gather_S32x1024x2048_S544x1_S544x1024x2048_12_0_n_n_0_1_110242048).offCoord (ix3 n k f) 1 = (k : ℕ)
    rw [GatherDims.batchCoord_eq_zero _ _ _ List.not_mem_nil, show (gather_S32x1024x2048_S544x1_S544x1024x2048_12_0_n_n_0_1_110242048).start (ix3 n k f) (val_main_v6 (F := Ideal) x0) 1 = 0 from by
      unfold GatherDims.start
      exact dif_neg (by decide)]
    unfold GatherDims.offCoord
    rw [dif_pos (by decide)]
    exact Nat.zero_add _
  | ⟨2, _⟩ =>
    show (gather_S32x1024x2048_S544x1_S544x1024x2048_12_0_n_n_0_1_110242048).start (ix3 n k f) (val_main_v6 (F := Ideal) x0) 2 + (gather_S32x1024x2048_S544x1_S544x1024x2048_12_0_n_n_0_1_110242048).batchCoord (ix3 n k f) 2 + (gather_S32x1024x2048_S544x1_S544x1024x2048_12_0_n_n_0_1_110242048).offCoord (ix3 n k f) 2 = (f : ℕ)
    rw [GatherDims.batchCoord_eq_zero _ _ _ List.not_mem_nil, show (gather_S32x1024x2048_S544x1_S544x1024x2048_12_0_n_n_0_1_110242048).start (ix3 n k f) (val_main_v6 (F := Ideal) x0) 2 = 0 from by
      unfold GatherDims.start
      exact dif_neg (by decide)]
    unfold GatherDims.offCoord
    rw [dif_pos (by decide)]
    exact Nat.zero_add _

theorem ref_v14 (x0 : S544.Idx → BitVec 32) (n : Fin 544) (e : Fin 32) (h : x0 (ix1 n) = BitVec.ofNat 32 e) :
    val_main_v14 (F := Ideal) x0 (ix2 n (0 : Fin 1)) = BitVec.ofNat 32 e := by
  rw [val_main_v14_apply, show idx_main_v14 (ix2 n (0 : Fin 1)) = ix1 n from (by funext a; match a with | ⟨0, _⟩ => rfl), val_main_v13_apply,
    val_main_v10_apply, val_main_v12_apply, val_main_v9_apply, val_main_v11_apply, h]
  exact expert_wrap e

theorem ref_v15 (x0 : S544.Idx → BitVec 32) (x5 : S32x1x2048.Idx → EReal) (n : Fin 544) (e : Fin 32) (h : x0 (ix1 n) = BitVec.ofNat 32 e)
    (k : Fin 1) (f : Fin 2048) : val_main_v15 (F := Ideal) x0 x5 (ix3 n k f) = x5 (ix3 e k f) := by
  unfold val_main_v15 Host.gather
  congr 1
  have hs : (gather_S32x1x2048_S544x1_S544x1x2048_12_0_n_n_0_1_112048).start (ix3 n k f) (val_main_v14 (F := Ideal) x0) 0 = e := by
    unfold GatherDims.start
    rw [dif_pos (show (0 : Fin 3) ∈ (gather_S32x1x2048_S544x1_S544x1x2048_12_0_n_n_0_1_112048).startIndexMap from List.mem_singleton.mpr rfl)]
    rw [show ((gather_S32x1x2048_S544x1_S544x1x2048_12_0_n_n_0_1_112048).siIdx (ix3 n k f) ⟨List.idxOf (0 : Fin 3) (gather_S32x1x2048_S544x1_S544x1x2048_12_0_n_n_0_1_112048).startIndexMap,
      List.idxOf_lt_length_iff.2 (List.mem_singleton.mpr rfl)⟩) = ix2 n (0 : Fin 1) from by
        funext b; refine Fin.ext ?_
        match b with
        | ⟨0, _⟩ => rfl
        | ⟨1, _⟩ => rfl]
    rw [ref_v14 x0 n e h, expert_toInt]
    exact min_eq_left (Nat.le_of_lt_succ e.isLt)
  funext a
  refine Fin.ext ?_
  match a with
  | ⟨0, _⟩ =>
    show (gather_S32x1x2048_S544x1_S544x1x2048_12_0_n_n_0_1_112048).start (ix3 n k f) (val_main_v14 (F := Ideal) x0) 0 + (gather_S32x1x2048_S544x1_S544x1x2048_12_0_n_n_0_1_112048).batchCoord (ix3 n k f) 0 + (gather_S32x1x2048_S544x1_S544x1x2048_12_0_n_n_0_1_112048).offCoord (ix3 n k f) 0 = (e : ℕ)
    rw [GatherDims.batchCoord_eq_zero _ _ _ List.not_mem_nil,
      GatherDims.offCoord_eq_zero _ _ _ (fun h => ((GatherDims.mem_sKept _ _).mp h).1 (List.mem_singleton.mpr rfl)), hs, Nat.add_zero]
  | ⟨1, _⟩ =>
    show (gather_S32x1x2048_S544x1_S544x1x2048_12_0_n_n_0_1_112048).start (ix3 n k f) (val_main_v14 (F := Ideal) x0) 1 + (gather_S32x1x2048_S544x1_S544x1x2048_12_0_n_n_0_1_112048).batchCoord (ix3 n k f) 1 + (gather_S32x1x2048_S544x1_S544x1x2048_12_0_n_n_0_1_112048).offCoord (ix3 n k f) 1 = (k : ℕ)
    rw [GatherDims.batchCoord_eq_zero _ _ _ List.not_mem_nil, show (gather_S32x1x2048_S544x1_S544x1x2048_12_0_n_n_0_1_112048).start (ix3 n k f) (val_main_v14 (F := Ideal) x0) 1 = 0 from by
      unfold GatherDims.start
      exact dif_neg (by decide)]
    unfold GatherDims.offCoord
    rw [dif_pos (by decide)]
    exact Nat.zero_add _
  | ⟨2, _⟩ =>
    show (gather_S32x1x2048_S544x1_S544x1x2048_12_0_n_n_0_1_112048).start (ix3 n k f) (val_main_v14 (F := Ideal) x0) 2 + (gather_S32x1x2048_S544x1_S544x1x2048_12_0_n_n_0_1_112048).batchCoord (ix3 n k f) 2 + (gather_S32x1x2048_S544x1_S544x1x2048_12_0_n_n_0_1_112048).offCoord (ix3 n k f) 2 = (f : ℕ)
    rw [GatherDims.batchCoord_eq_zero _ _ _ List.not_mem_nil, show (gather_S32x1x2048_S544x1_S544x1x2048_12_0_n_n_0_1_112048).start (ix3 n k f) (val_main_v14 (F := Ideal) x0) 2 = 0 from by
      unfold GatherDims.start
      exact dif_neg (by decide)]
    unfold GatherDims.offCoord
    rw [dif_pos (by decide)]
    exact Nat.zero_add _

theorem ref_v40 (x0 : S544.Idx → BitVec 32) (n : Fin 544) (e : Fin 32) (h : x0 (ix1 n) = BitVec.ofNat 32 e) :
    val_main_v40 (F := Ideal) x0 (ix2 n (0 : Fin 1)) = BitVec.ofNat 32 e := by
  rw [val_main_v40_apply, show idx_main_v40 (ix2 n (0 : Fin 1)) = ix1 n from (by funext a; match a with | ⟨0, _⟩ => rfl), val_main_v39_apply,
    val_main_v36_apply, val_main_v38_apply, val_main_v35_apply, val_main_v37_apply, h]
  exact expert_wrap e

theorem ref_v41 (x0 : S544.Idx → BitVec 32) (x6 : S32x1024x1024.Idx → EReal) (n : Fin 544) (e : Fin 32) (h : x0 (ix1 n) = BitVec.ofNat 32 e)
    (k : Fin 1024) (f : Fin 1024) : val_main_v41 (F := Ideal) x0 x6 (ix3 n k f) = x6 (ix3 e k f) := by
  unfold val_main_v41 Host.gather
  congr 1
  have hs : (gather_S32x1024x1024_S544x1_S544x1024x1024_12_0_n_n_0_1_110241024).start (ix3 n k f) (val_main_v40 (F := Ideal) x0) 0 = e := by
    unfold GatherDims.start
    rw [dif_pos (show (0 : Fin 3) ∈ (gather_S32x1024x1024_S544x1_S544x1024x1024_12_0_n_n_0_1_110241024).startIndexMap from List.mem_singleton.mpr rfl)]
    rw [show ((gather_S32x1024x1024_S544x1_S544x1024x1024_12_0_n_n_0_1_110241024).siIdx (ix3 n k f) ⟨List.idxOf (0 : Fin 3) (gather_S32x1024x1024_S544x1_S544x1024x1024_12_0_n_n_0_1_110241024).startIndexMap,
      List.idxOf_lt_length_iff.2 (List.mem_singleton.mpr rfl)⟩) = ix2 n (0 : Fin 1) from by
        funext b; refine Fin.ext ?_
        match b with
        | ⟨0, _⟩ => rfl
        | ⟨1, _⟩ => rfl]
    rw [ref_v40 x0 n e h, expert_toInt]
    exact min_eq_left (Nat.le_of_lt_succ e.isLt)
  funext a
  refine Fin.ext ?_
  match a with
  | ⟨0, _⟩ =>
    show (gather_S32x1024x1024_S544x1_S544x1024x1024_12_0_n_n_0_1_110241024).start (ix3 n k f) (val_main_v40 (F := Ideal) x0) 0 + (gather_S32x1024x1024_S544x1_S544x1024x1024_12_0_n_n_0_1_110241024).batchCoord (ix3 n k f) 0 + (gather_S32x1024x1024_S544x1_S544x1024x1024_12_0_n_n_0_1_110241024).offCoord (ix3 n k f) 0 = (e : ℕ)
    rw [GatherDims.batchCoord_eq_zero _ _ _ List.not_mem_nil,
      GatherDims.offCoord_eq_zero _ _ _ (fun h => ((GatherDims.mem_sKept _ _).mp h).1 (List.mem_singleton.mpr rfl)), hs, Nat.add_zero]
  | ⟨1, _⟩ =>
    show (gather_S32x1024x1024_S544x1_S544x1024x1024_12_0_n_n_0_1_110241024).start (ix3 n k f) (val_main_v40 (F := Ideal) x0) 1 + (gather_S32x1024x1024_S544x1_S544x1024x1024_12_0_n_n_0_1_110241024).batchCoord (ix3 n k f) 1 + (gather_S32x1024x1024_S544x1_S544x1024x1024_12_0_n_n_0_1_110241024).offCoord (ix3 n k f) 1 = (k : ℕ)
    rw [GatherDims.batchCoord_eq_zero _ _ _ List.not_mem_nil, show (gather_S32x1024x1024_S544x1_S544x1024x1024_12_0_n_n_0_1_110241024).start (ix3 n k f) (val_main_v40 (F := Ideal) x0) 1 = 0 from by
      unfold GatherDims.start
      exact dif_neg (by decide)]
    unfold GatherDims.offCoord
    rw [dif_pos (by decide)]
    exact Nat.zero_add _
  | ⟨2, _⟩ =>
    show (gather_S32x1024x1024_S544x1_S544x1024x1024_12_0_n_n_0_1_110241024).start (ix3 n k f) (val_main_v40 (F := Ideal) x0) 2 + (gather_S32x1024x1024_S544x1_S544x1024x1024_12_0_n_n_0_1_110241024).batchCoord (ix3 n k f) 2 + (gather_S32x1024x1024_S544x1_S544x1024x1024_12_0_n_n_0_1_110241024).offCoord (ix3 n k f) 2 = (f : ℕ)
    rw [GatherDims.batchCoord_eq_zero _ _ _ List.not_mem_nil, show (gather_S32x1024x1024_S544x1_S544x1024x1024_12_0_n_n_0_1_110241024).start (ix3 n k f) (val_main_v40 (F := Ideal) x0) 2 = 0 from by
      unfold GatherDims.start
      exact dif_neg (by decide)]
    unfold GatherDims.offCoord
    rw [dif_pos (by decide)]
    exact Nat.zero_add _

theorem ref_v48 (x0 : S544.Idx → BitVec 32) (n : Fin 544) (e : Fin 32) (h : x0 (ix1 n) = BitVec.ofNat 32 e) :
    val_main_v48 (F := Ideal) x0 (ix2 n (0 : Fin 1)) = BitVec.ofNat 32 e := by
  rw [val_main_v48_apply, show idx_main_v48 (ix2 n (0 : Fin 1)) = ix1 n from (by funext a; match a with | ⟨0, _⟩ => rfl), val_main_v47_apply,
    val_main_v44_apply, val_main_v46_apply, val_main_v43_apply, val_main_v45_apply, h]
  exact expert_wrap e

theorem ref_v49 (x0 : S544.Idx → BitVec 32) (x7 : S32x1x1024.Idx → EReal) (n : Fin 544) (e : Fin 32) (h : x0 (ix1 n) = BitVec.ofNat 32 e)
    (k : Fin 1) (f : Fin 1024) : val_main_v49 (F := Ideal) x0 x7 (ix3 n k f) = x7 (ix3 e k f) := by
  unfold val_main_v49 Host.gather
  congr 1
  have hs : (gather_S32x1x1024_S544x1_S544x1x1024_12_0_n_n_0_1_111024).start (ix3 n k f) (val_main_v48 (F := Ideal) x0) 0 = e := by
    unfold GatherDims.start
    rw [dif_pos (show (0 : Fin 3) ∈ (gather_S32x1x1024_S544x1_S544x1x1024_12_0_n_n_0_1_111024).startIndexMap from List.mem_singleton.mpr rfl)]
    rw [show ((gather_S32x1x1024_S544x1_S544x1x1024_12_0_n_n_0_1_111024).siIdx (ix3 n k f) ⟨List.idxOf (0 : Fin 3) (gather_S32x1x1024_S544x1_S544x1x1024_12_0_n_n_0_1_111024).startIndexMap,
      List.idxOf_lt_length_iff.2 (List.mem_singleton.mpr rfl)⟩) = ix2 n (0 : Fin 1) from by
        funext b; refine Fin.ext ?_
        match b with
        | ⟨0, _⟩ => rfl
        | ⟨1, _⟩ => rfl]
    rw [ref_v48 x0 n e h, expert_toInt]
    exact min_eq_left (Nat.le_of_lt_succ e.isLt)
  funext a
  refine Fin.ext ?_
  match a with
  | ⟨0, _⟩ =>
    show (gather_S32x1x1024_S544x1_S544x1x1024_12_0_n_n_0_1_111024).start (ix3 n k f) (val_main_v48 (F := Ideal) x0) 0 + (gather_S32x1x1024_S544x1_S544x1x1024_12_0_n_n_0_1_111024).batchCoord (ix3 n k f) 0 + (gather_S32x1x1024_S544x1_S544x1x1024_12_0_n_n_0_1_111024).offCoord (ix3 n k f) 0 = (e : ℕ)
    rw [GatherDims.batchCoord_eq_zero _ _ _ List.not_mem_nil,
      GatherDims.offCoord_eq_zero _ _ _ (fun h => ((GatherDims.mem_sKept _ _).mp h).1 (List.mem_singleton.mpr rfl)), hs, Nat.add_zero]
  | ⟨1, _⟩ =>
    show (gather_S32x1x1024_S544x1_S544x1x1024_12_0_n_n_0_1_111024).start (ix3 n k f) (val_main_v48 (F := Ideal) x0) 1 + (gather_S32x1x1024_S544x1_S544x1x1024_12_0_n_n_0_1_111024).batchCoord (ix3 n k f) 1 + (gather_S32x1x1024_S544x1_S544x1x1024_12_0_n_n_0_1_111024).offCoord (ix3 n k f) 1 = (k : ℕ)
    rw [GatherDims.batchCoord_eq_zero _ _ _ List.not_mem_nil, show (gather_S32x1x1024_S544x1_S544x1x1024_12_0_n_n_0_1_111024).start (ix3 n k f) (val_main_v48 (F := Ideal) x0) 1 = 0 from by
      unfold GatherDims.start
      exact dif_neg (by decide)]
    unfold GatherDims.offCoord
    rw [dif_pos (by decide)]
    exact Nat.zero_add _
  | ⟨2, _⟩ =>
    show (gather_S32x1x1024_S544x1_S544x1x1024_12_0_n_n_0_1_111024).start (ix3 n k f) (val_main_v48 (F := Ideal) x0) 2 + (gather_S32x1x1024_S544x1_S544x1x1024_12_0_n_n_0_1_111024).batchCoord (ix3 n k f) 2 + (gather_S32x1x1024_S544x1_S544x1x1024_12_0_n_n_0_1_111024).offCoord (ix3 n k f) 2 = (f : ℕ)
    rw [GatherDims.batchCoord_eq_zero _ _ _ List.not_mem_nil, show (gather_S32x1x1024_S544x1_S544x1x1024_12_0_n_n_0_1_111024).start (ix3 n k f) (val_main_v48 (F := Ideal) x0) 2 = 0 from by
      unfold GatherDims.start
      exact dif_neg (by decide)]
    unfold GatherDims.offCoord
    rw [dif_pos (by decide)]
    exact Nat.zero_add _

section
variable (x0 : S544.Idx → BitVec 32) (x2 : S1.Idx → BitVec 32) (x3 : S2228224x128.Idx → EReal) (x4 : S32x1024x2048.Idx → EReal)
  (x5 : S32x1x2048.Idx → EReal) (x6 : S32x1024x1024.Idx → EReal) (x7 : S32x1x1024.Idx → EReal)
  (n : Fin 544) (e : Fin 32) (h : x0 (ix1 n) = BitVec.ofNat 32 e) (r : Fin 512)

include h in
theorem ref_v17 (f : Fin 2048) : val_main_v17 (F := Ideal) x0 x3 x4 x5 (ix3 n r f) =
    preAct (rowOf x3 n r) (fun k f => x4 (ix3 e k f)) (fun f => x5 (ix3 e 0 f)) f := by
  rw [val_main_v17_apply, val_main_v8_apply, val_main_v16_apply,
    show idx_main_v16 (ix3 n r f) = ix3 n (0 : Fin 1) f from (by funext a; match a with | ⟨0, _⟩ => rfl | ⟨1, _⟩ => rfl | ⟨2, _⟩ => rfl), ref_v15 x0 x5 n e h]
  refine congrArg (· + x5 (ix3 e 0 f)) (Finset.sum_congr rfl fun k _ => ?_)
  rw [show lidx_main_v8 (ix3 n r f) k = ix3 n r k from (by funext a; match a with | ⟨0, _⟩ => rfl | ⟨1, _⟩ => rfl | ⟨2, _⟩ => rfl),
    show ridx_main_v8 (ix3 n r f) k = ix3 n k f from (by funext a; match a with | ⟨0, _⟩ => rfl | ⟨1, _⟩ => rfl | ⟨2, _⟩ => rfl), ref_v7 x0 x4 n e h, val_main_v0_apply]
  refine congrArg (· * _) (congrArg x3 ?_)
  funext a; match a with | ⟨0, _⟩ => rfl | ⟨1, _⟩ => rfl

include h in
theorem ref_v34 (f : Fin 1024) : val_main_v34 (F := Ideal) x0 x3 x4 x5 (ix3 n r f) =
    hidden (rowOf x3 n r) (fun k f => x4 (ix3 e k f)) (fun f => x5 (ix3 e 0 f)) f := by
  have h21 : val_main_v21 (F := Ideal) x0 x3 x4 x5 (ix3 n r f) = capped (preAct (rowOf x3 n r) (fun k f => x4 (ix3 e k f)) (fun f => x5 (ix3 e 0 f)) (gateAt f)) := by
    rw [val_main_v21_apply, val_main_v18_apply, show idx_main_v18 (ix3 n r f) = ix3 n r (gateAt f) from (by funext a; match a with | ⟨0, _⟩ => rfl | ⟨1, _⟩ => rfl | ⟨2, _⟩ => rfl),
      ref_v17 x0 x3 x4 x5 n e h, val_main_v20_apply, val_main_cst_apply]
    rfl
  have h22 : val_main_v22 (F := Ideal) x0 x3 x4 x5 (ix3 n r f) = clipped (preAct (rowOf x3 n r) (fun k f => x4 (ix3 e k f)) (fun f => x5 (ix3 e 0 f)) (linAt f)) := by
    rw [val_main_v22_apply, val_main_call0_v4_apply, val_main_call0_v3_apply, val_main_cst_4_apply, val_main_call0_v2_apply, val_main_call0_v1_apply,
      val_main_call0_v0_apply, val_main_cst_3_apply, val_main_v19_apply,
      show idx_main_v19 (ix3 n r f) = ix3 n r (linAt f) from (by funext a; match a with | ⟨0, _⟩ => rfl | ⟨1, _⟩ => rfl | ⟨2, _⟩ => rfl), ref_v17 x0 x3 x4 x5 n e h]
    rfl
  rw [val_main_v34_apply, val_main_v31_apply, val_main_v30_apply, val_main_v29_apply, val_main_cst_7_apply, val_main_v28_apply, val_main_v27_apply, val_main_cst_6_apply,
    val_main_v26_apply, val_main_v25_apply, val_main_v24_apply, val_main_v23_apply, val_main_cst_5_apply, val_main_v33_apply, val_main_v32_apply, val_main_cst_8_apply, h21, h22]
  unfold hidden glu
  rw [logistic_words]
  rfl

include h in
theorem ref_v51 (d : Fin 1024) : val_main_v51 (F := Ideal) x0 x3 x4 x5 x6 x7 (ix3 n r d) =
    ffnRow (rowOf x3 n r) (fun k f => x4 (ix3 e k f)) (fun f => x5 (ix3 e 0 f)) (fun f d => x6 (ix3 e f d)) (fun d => x7 (ix3 e 0 d)) d := by
  rw [val_main_v51_apply, val_main_v42_apply, val_main_v50_apply,
    show idx_main_v50 (ix3 n r d) = ix3 n (0 : Fin 1) d from (by funext a; match a with | ⟨0, _⟩ => rfl | ⟨1, _⟩ => rfl | ⟨2, _⟩ => rfl), ref_v49 x0 x7 n e h]
  refine congrArg (· + x7 (ix3 e 0 d)) (Finset.sum_congr rfl fun f _ => ?_)
  rw [show lidx_main_v42 (ix3 n r d) f = ix3 n r f from (by funext a; match a with | ⟨0, _⟩ => rfl | ⟨1, _⟩ => rfl | ⟨2, _⟩ => rfl),
    show ridx_main_v42 (ix3 n r d) f = ix3 n f d from (by funext a; match a with | ⟨0, _⟩ => rfl | ⟨1, _⟩ => rfl | ⟨2, _⟩ => rfl), ref_v41 x0 x6 n e h,
    ref_v34 x0 x3 x4 x5 n e h]

include h in
/-- The reference's block `n`, row `r`, column `d`. -/
theorem ref_v57 (d : Fin 1024) : val_main_v57 (F := Ideal) x0 x2 x3 x4 x5 x6 x7 (ix3 n r d) =
    match (BitVec.ofNat 32 n.val).slt (x2 (ix1 0)) with
    | true => ffnRow (rowOf x3 n r) (fun k f => x4 (ix3 e k f)) (fun f => x5 (ix3 e 0 f)) (fun f d => x6 (ix3 e f d)) (fun d => x7 (ix3 e 0 d)) d
    | false => Ideal.ofBits .f32 0x00000000#32 := by
  have h54 : ∀ z, val_main_v54 (F := Ideal) x2 z = x2 (ix1 0) := fun z => by
    haveI : Subsingleton S1.Idx := ⟨fun a b => funext fun k => match k with | ⟨0, _⟩ => Subsingleton.elim (α := Fin 1) _ _⟩
    unfold val_main_v54 shapeCast
    exact congrArg x2 (Subsingleton.elim _ _)
  rw [val_main_v57_apply, val_main_call1_v1_apply, val_main_v56_apply, val_main_v53_apply, val_main_v52_apply, val_main_v55_apply, h54, ref_v51 x0 x3 x4 x5 x6 x7 n e h,
    val_main_call1_v2_apply, val_main_call1_v0_apply, val_main_cst_13_apply]
  show Scalar.select (BitVec.ofBool ((BitVec.ofNat 32 n.val).slt (x2 (ix1 0)))) _ _ = _
  cases (BitVec.ofNat 32 n.val).slt (x2 (ix1 0)) <;> rfl

end

end Cert.Ffn
-- ==== Proof.FfnJoin.lean ====
/- The expert call's result is the reference's: block by block, each staged block being its rows and its expert's weights. -/
module

public import proofs.«01_k».proof.Proof.FfnValue
public import proofs.«01_k».proof.Proof.FfnMath
public import proofs.«01_k».proof.Proof.FfnRef

@[expose] public section

set_option maxRecDepth 16384

noncomputable section

namespace Cert.Kernel2Ideal.Gen

open Idealize.ShloMosaic Idealize.ShloMosaic.TcCoe Idealize.SL.Sem Cert.Ffn
open Idealize.ShloMosaic.Pipeline (Dat Cfg Window)

variable (m : (ℓ : Loc nD τ sig) → Buf (Elt Ideal) ℓ) (hp : PlanOK (pfOf m))

/-- A step's block number. -/
def blkNo (t : Fin (cfg0 (adm m hp)).N) : Fin 544 := ⟨t.val, t.isLt⟩

theorem coord_eq (t : Fin (cfg0 (adm m hp)).N) : (grid0.coords t 0 : Fin 544) = blkNo m hp t := Fin.ext (coord_val t)

/-- The rows' block at a step in use. -/
theorem index_0 (t : Fin (cfg0 (adm m hp)).N) (h : usedW (nuW (pfOf m)) t.val = true) : (win0 (adm m hp) 0).index t = ![t.val, 0] := by
  refine (tr0 (pfOf m) (grid0.coords t)).trans ?_
  rw [coord_val t, xBlk_used t.isLt h]

/-- The expert of a step's block. -/
def expOf (t : Fin (cfg0 (adm m hp)).N) : Fin 32 := ⟨(bW (pfOf m) (blkNo m hp t)).toNat, hp.be _⟩

theorem index_1 (t : Fin (cfg0 (adm m hp)).N) : (win0 (adm m hp) 1).index t = ![(expOf m hp t).val, 0, 0] := by
  refine (tr1 (pfOf m) (grid0.coords t)).trans ?_
  exact congrArg (fun n : Fin 544 => ![(bW (pfOf m) n).toNat, 0, 0]) (coord_eq m hp t)

theorem iblk_1 (c : Dev nD) (t : Fin (cfg0 (adm m hp)).N) (k : Fin 1024) (f : Fin 2048) :
    (iblk m hp c 1 t : S1x1024x2048.Idx → EReal) (ix3 0 k f) = (m ((c.tc : Thread nD τ).loc main_arg4) : S32x1024x2048.Idx → EReal) (ix3 (expOf m hp t) k f) := by
  have hi := index_1 m hp t
  refine congrArg (m ((c.tc : Thread nD τ).loc main_arg4) : S32x1024x2048.Idx → EReal) (funext fun a => Fin.ext ?_)
  match a with
  | ⟨0, _⟩ =>
    refine (show _ = (win0 (adm m hp) 1).index t 0 * 1 + 1 * 0 from rfl).trans ?_
    rw [hi]; show (expOf m hp t).val * 1 + 1 * 0 = (expOf m hp t).val; omega
  | ⟨1, _⟩ =>
    refine (show _ = (win0 (adm m hp) 1).index t 1 * 1024 + 1 * k.val from rfl).trans ?_
    rw [hi]; show 0 * 1024 + 1 * k.val = k.val; omega
  | ⟨2, _⟩ =>
    refine (show _ = (win0 (adm m hp) 1).index t 2 * 2048 + 1 * f.val from rfl).trans ?_
    rw [hi]; show 0 * 2048 + 1 * f.val = f.val; omega

theorem index_2 (t : Fin (cfg0 (adm m hp)).N) : (win0 (adm m hp) 2).index t = ![(expOf m hp t).val, 0, 0] := by
  refine (tr2 (pfOf m) (grid0.coords t)).trans ?_
  exact congrArg (fun n : Fin 544 => ![(bW (pfOf m) n).toNat, 0, 0]) (coord_eq m hp t)

theorem iblk_2 (c : Dev nD) (t : Fin (cfg0 (adm m hp)).N) (f : Fin 2048) :
    (iblk m hp c 2 t : S1x1x2048.Idx → EReal) (ix3 0 0 f) = (m ((c.tc : Thread nD τ).loc main_arg5) : S32x1x2048.Idx → EReal) (ix3 (expOf m hp t) 0 f) := by
  have hi := index_2 m hp t
  refine congrArg (m ((c.tc : Thread nD τ).loc main_arg5) : S32x1x2048.Idx → EReal) (funext fun a => Fin.ext ?_)
  match a with
  | ⟨0, _⟩ =>
    refine (show _ = (win0 (adm m hp) 2).index t 0 * 1 + 1 * 0 from rfl).trans ?_
    rw [hi]; show (expOf m hp t).val * 1 + 1 * 0 = (expOf m hp t).val; omega
  | ⟨1, _⟩ =>
    refine (show _ = (win0 (adm m hp) 2).index t 1 * 1 + 1 * 0 from rfl).trans ?_
    rw [hi]; show 0 * 1 + 1 * 0 = 0; omega
  | ⟨2, _⟩ =>
    refine (show _ = (win0 (adm m hp) 2).index t 2 * 2048 + 1 * f.val from rfl).trans ?_
    rw [hi]; show 0 * 2048 + 1 * f.val = f.val; omega

theorem index_3 (t : Fin (cfg0 (adm m hp)).N) : (win0 (adm m hp) 3).index t = ![(expOf m hp t).val, 0, 0] := by
  refine (tr3 (pfOf m) (grid0.coords t)).trans ?_
  exact congrArg (fun n : Fin 544 => ![(bW (pfOf m) n).toNat, 0, 0]) (coord_eq m hp t)

theorem iblk_3 (c : Dev nD) (t : Fin (cfg0 (adm m hp)).N) (f d : Fin 1024) :
    (iblk m hp c 3 t : S1x1024x1024.Idx → EReal) (ix3 0 f d) = (m ((c.tc : Thread nD τ).loc main_arg6) : S32x1024x1024.Idx → EReal) (ix3 (expOf m hp t) f d) := by
  have hi := index_3 m hp t
  refine congrArg (m ((c.tc : Thread nD τ).loc main_arg6) : S32x1024x1024.Idx → EReal) (funext fun a => Fin.ext ?_)
  match a with
  | ⟨0, _⟩ =>
    refine (show _ = (win0 (adm m hp) 3).index t 0 * 1 + 1 * 0 from rfl).trans ?_
    rw [hi]; show (expOf m hp t).val * 1 + 1 * 0 = (expOf m hp t).val; omega
  | ⟨1, _⟩ =>
    refine (show _ = (win0 (adm m hp) 3).index t 1 * 1024 + 1 * f.val from rfl).trans ?_
    rw [hi]; show 0 * 1024 + 1 * f.val = f.val; omega
  | ⟨2, _⟩ =>
    refine (show _ = (win0 (adm m hp) 3).index t 2 * 1024 + 1 * d.val from rfl).trans ?_
    rw [hi]; show 0 * 1024 + 1 * d.val = d.val; omega

theorem index_4 (t : Fin (cfg0 (adm m hp)).N) : (win0 (adm m hp) 4).index t = ![(expOf m hp t).val, 0, 0] := by
  refine (tr4 (pfOf m) (grid0.coords t)).trans ?_
  exact congrArg (fun n : Fin 544 => ![(bW (pfOf m) n).toNat, 0, 0]) (coord_eq m hp t)

theorem iblk_4 (c : Dev nD) (t : Fin (cfg0 (adm m hp)).N) (d : Fin 1024) :
    (iblk m hp c 4 t : S1x1x1024.Idx → EReal) (ix3 0 0 d) = (m ((c.tc : Thread nD τ).loc main_arg7) : S32x1x1024.Idx → EReal) (ix3 (expOf m hp t) 0 d) := by
  have hi := index_4 m hp t
  refine congrArg (m ((c.tc : Thread nD τ).loc main_arg7) : S32x1x1024.Idx → EReal) (funext fun a => Fin.ext ?_)
  match a with
  | ⟨0, _⟩ =>
    refine (show _ = (win0 (adm m hp) 4).index t 0 * 1 + 1 * 0 from rfl).trans ?_
    rw [hi]; show (expOf m hp t).val * 1 + 1 * 0 = (expOf m hp t).val; omega
  | ⟨1, _⟩ =>
    refine (show _ = (win0 (adm m hp) 4).index t 1 * 1 + 1 * 0 from rfl).trans ?_
    rw [hi]; show 0 * 1 + 1 * 0 = 0; omega
  | ⟨2, _⟩ =>
    refine (show _ = (win0 (adm m hp) 4).index t 2 * 1024 + 1 * d.val from rfl).trans ?_
    rw [hi]; show 0 * 1024 + 1 * d.val = d.val; omega

theorem iblk_0 (c : Dev nD) (t : Fin (cfg0 (adm m hp)).N) (h : usedW (nuW (pfOf m)) t.val = true) (r : Fin 512) :
    pieceRow (iblk m hp c 0 t) r = rowOf (m ((c.tc : Thread nD τ).loc main_arg3)) (blkNo m hp t) r := by
  have hi := index_0 m hp t h
  funext k
  unfold pieceRow rowOf
  refine congrArg (m ((c.tc : Thread nD τ).loc main_arg3) : S2228224x128.Idx → EReal) (funext fun a => Fin.ext ?_)
  have hr := r.isLt
  have hk := k.isLt
  match a with
  | ⟨0, _⟩ =>
    refine (show _ = (win0 (adm m hp) 0).index t 0 * 4096 + 1 * (8 * r.val + k.val / 128) from rfl).trans ?_
    rw [hi]; show t.val * 4096 + 1 * (8 * r.val + k.val / 128) = ((t.val * 512 + r.val) * 1024 + k.val) / 128; omega
  | ⟨1, _⟩ =>
    refine (show _ = (win0 (adm m hp) 0).index t 1 * 128 + 1 * (k.val % 128) from rfl).trans ?_
    rw [hi]; show 0 * 128 + 1 * (k.val % 128) = ((t.val * 512 + r.val) * 1024 + k.val) % 128; omega

/-- The result's block at a step, entry by entry. -/
theorem outB_at (c : Dev nD) (t : Fin (cfg0 (adm m hp)).N) (y : S4096x128.Idx) : outB m hp c t y =
    match usedW (nuW (pfOf m)) t.val with
    | true => ffnRow (rowOf (m ((c.tc : Thread nD τ).loc main_arg3)) (blkNo m hp t) ⟨(y 0).val / 8, by have : (y 0).val < 4096 := (y 0).isLt; omega⟩)
        (fun k f => (m ((c.tc : Thread nD τ).loc main_arg4) : S32x1024x2048.Idx → EReal) (ix3 (expOf m hp t) k f))
        (fun f => (m ((c.tc : Thread nD τ).loc main_arg5) : S32x1x2048.Idx → EReal) (ix3 (expOf m hp t) 0 f))
        (fun f d => (m ((c.tc : Thread nD τ).loc main_arg6) : S32x1024x1024.Idx → EReal) (ix3 (expOf m hp t) f d))
        (fun d => (m ((c.tc : Thread nD τ).loc main_arg7) : S32x1x1024.Idx → EReal) (ix3 (expOf m hp t) 0 d))
        ⟨128 * ((y 0).val % 8) + (y 1).val, by have : (y 1).val < 128 := (y 1).isLt; omega⟩
    | false => Ideal.ofBits .f32 0x00000000#32 := by
  unfold outB
  cases h : usedW (nuW (pfOf m)) t.val with
  | false => rfl
  | true =>
    refine (blk_at (iblk m hp c 0 t) (iblk m hp c 1 t) (iblk m hp c 2 t) (iblk m hp c 3 t) (iblk m hp c 4 t) y).trans ?_
    have e1 := iblk_1 m hp c t
    have e2 := iblk_2 m hp c t
    have e3 := iblk_3 m hp c t
    have e4 := iblk_4 m hp c t
    rw [iblk_0 m hp c t h]
    simp only [e1, e2, e3, e4]

theorem plan_word (t : Fin (cfg0 (adm m hp)).N) : bW (pfOf m) (blkNo m hp t) = BitVec.ofNat 32 (expOf m hp t).val := by
  show bW (pfOf m) (blkNo m hp t) = BitVec.ofNat 32 (bW (pfOf m) (blkNo m hp t)).toNat
  rw [BitVec.ofNat_toNat, BitVec.setWidth_eq]

/-- The result is the reference's. -/
theorem join (c : Dev nD) : outAt m hp c = Cert.Reference2Ideal.Read.val_main_v58 (F := Ideal) (m ((c.tc : Thread nD τ).loc main_arg0))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := by
  have hc : c = 0 := Subsingleton.elim (α := Fin 1) _ _
  subst hc
  funext (i : S2228224x128.Idx)
  have hi0 : (i 0).val < 2228224 := (i 0).isLt
  have hi1 : (i 1).val < 128 := (i 1).isLt
  refine Eq.trans ?_ (Cert.Reference2Ideal.Read.val_main_v58_apply (F := Ideal) (m (((0 : Dev nD).tc : Thread nD τ).loc main_arg0)) (m (((0 : Dev nD).tc : Thread nD τ).loc main_arg2)) (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6)) (m (((0 : Dev nD).tc : Thread nD τ).loc main_arg7)) i).symm
  unfold outAt
  refine (outB_at m hp 0 _ _).trans ?_
  generalize ht : (⟨(i 0).val / 4096, by show (i 0).val / 4096 < 544; omega⟩ : Fin (cfg0 (adm m hp)).N) = t
  have htv : (i 0).val / 4096 = t.val := congrArg Fin.val ht
  have hidx : Cert.Reference2Ideal.Read.idx_main_v58 i = ix3 (blkNo m hp t) (⟨(i 0).val % 4096 / 8, by omega⟩ : Fin 512) (⟨128 * ((i 0).val % 4096 % 8) + (i 1).val, by omega⟩ : Fin 1024) := by
    funext a
    refine Fin.ext ?_
    match a with
    | ⟨0, _⟩ => show ((i 0).val * 128 + (i 1).val) / 524288 = t.val; omega
    | ⟨1, _⟩ => show ((i 0).val * 128 + (i 1).val) / 1024 % 512 = (i 0).val % 4096 / 8; omega
    | ⟨2, _⟩ => show ((i 0).val * 128 + (i 1).val) % 1024 = 128 * ((i 0).val % 4096 % 8) + (i 1).val; omega
  rw [hidx]
  exact (ref_v57 (m (((0 : Dev nD).tc : Thread nD τ).loc main_arg0)) (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5)) (m (((0 : Dev nD).tc : Thread nD τ).loc main_arg6))
    (m (((0 : Dev nD).tc : Thread nD τ).loc main_arg7)) (blkNo m hp t) (expOf m hp t) (plan_word m hp t) _ _).symm

end Cert.Kernel2Ideal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.IdealRun
public import proofs.«01_k».proof.Proof.Equal
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_plan
public import proofs.«01_k».proof.Proof.FfnSame
public import proofs.«01_k».proof.Proof.FfnPlan
public import proofs.«01_k».proof.Proof.FfnJoin
public import proofs.«01_k».proof.Proof.Gen.ReferenceIdeal.Run
public import proofs.«01_k».proof.Proof.Gen.ReferenceIdeal.Read
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem Cert.Kernel

/-- The kernel as compiled terminates, leaves its arguments alone and its counters at zero. -/
theorem frame_kernel : Cert.quiescent_Kernel (hKernel := Cert.Kernel.Gen.facts) := fun m ρ _ => Cert.Kernel.Gen.frame m ρ

/-- So does the kernel over the extended reals. -/
theorem frame_ideal : Cert.quiescent_KernelIdeal (hKernelIdeal := Cert.KernelIdeal.Gen.facts) := fun m ρ _ => Cert.KernelIdeal.Gen.frame m ρ

/-- And the reference: its run ends with the arguments as launched, and it has no semaphore at all. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The mask's literal stands for minus infinity. -/
theorem preserves : Cert.preserves_Kernel_KernelIdeal := IdealRules.named_const.statement Cert.KernelIdeal.κ "mask" .f32 0xF149F2CA#32 ⊥ rfl

/-- The reference's result over launch contents is its result over the arrays those contents hold. -/
theorem reference_at (m' : (ℓ : Loc Cert.ReferenceIdeal.nD Cert.ReferenceIdeal.τ Cert.ReferenceIdeal.sig) → Buf (Elt Ideal) ℓ) (c : Dev Cert.ReferenceIdeal.nD)
    (x0 : Cert.ReferenceIdeal.S32x2048x3072.Idx → EReal) (x1 : Cert.ReferenceIdeal.S16x3072.Idx → EReal) (x2 : Cert.ReferenceIdeal.S32x4.Idx → EReal)
    (x3 x4 x5 x6 : Cert.ReferenceIdeal.S1x64.Idx → EReal) (x7 : Cert.ReferenceIdeal.S1x128.Idx → EReal)
    (e0 : m' ((c.tc : Thread _ Cert.ReferenceIdeal.τ).loc Cert.ReferenceIdeal.main_arg0) = x0) (e1 : m' ((c.tc : Thread _ Cert.ReferenceIdeal.τ).loc Cert.ReferenceIdeal.main_arg1) = x1)
    (e2 : m' ((c.tc : Thread _ Cert.ReferenceIdeal.τ).loc Cert.ReferenceIdeal.main_arg2) = x2) (e3 : m' ((c.tc : Thread _ Cert.ReferenceIdeal.τ).loc Cert.ReferenceIdeal.main_arg3) = x3)
    (e4 : m' ((c.tc : Thread _ Cert.ReferenceIdeal.τ).loc Cert.ReferenceIdeal.main_arg4) = x4) (e5 : m' ((c.tc : Thread _ Cert.ReferenceIdeal.τ).loc Cert.ReferenceIdeal.main_arg5) = x5)
    (e6 : m' ((c.tc : Thread _ Cert.ReferenceIdeal.τ).loc Cert.ReferenceIdeal.main_arg6) = x6) (e7 : m' ((c.tc : Thread _ Cert.ReferenceIdeal.τ).loc Cert.ReferenceIdeal.main_arg7) = x7) :
    Cert.ReferenceIdeal.Read.val_main_v127 (F := Ideal) (launchContents m' c (Proc.devRef .tc Cert.ReferenceIdeal.main_arg0)) (launchContents m' c (Proc.devRef .tc Cert.ReferenceIdeal.main_arg1))
      (launchContents m' c (Proc.devRef .tc Cert.ReferenceIdeal.main_arg2)) (launchContents m' c (Proc.devRef .tc Cert.ReferenceIdeal.main_arg3))
      (launchContents m' c (Proc.devRef .tc Cert.ReferenceIdeal.main_arg4)) (launchContents m' c (Proc.devRef .tc Cert.ReferenceIdeal.main_arg5))
      (launchContents m' c (Proc.devRef .tc Cert.ReferenceIdeal.main_arg6)) (launchContents m' c (Proc.devRef .tc Cert.ReferenceIdeal.main_arg7))
      = Cert.ReferenceIdeal.Read.val_main_v127 (F := Ideal) x0 x1 x2 x3 x4 x5 x6 x7 := by
  subst e0 e1 e2 e3 e4 e5 e6 e7
  simp only [launchContents_devRef]

/-- Over the extended reals, from the same real arguments, the kernel and the reference end with the same result. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := fun m g m' g' hP hm =>
  ⟨fun c => Cert.KernelIdeal.Gen.W4 m g c (Proc.devRef .tc Cert.KernelIdeal.main_v21), (θ_run _ _ _).mono (fun r h => h.1) (Cert.KernelIdeal.Gen.run m g),
    (θ_run _ _ _).mono (fun r h c => ⟨((h c).1.trans (Cert.ReferenceIdeal.Read.val_main_v127_eq (launchContents m' c))).trans
      ((reference_at m' c _ _ _ _ _ _ _ _ (hm c).1 (hm c).2.1 (hm c).2.2.1 (hm c).2.2.2.1 (hm c).2.2.2.2.1 (hm c).2.2.2.2.2.1 (hm c).2.2.2.2.2.2.1 (hm c).2.2.2.2.2.2.2).trans
        (Cert.DiffAttn.kernel_eq_reference m g c hP).symm), (h c).2⟩) (Cert.ReferenceIdeal.Value.run m' g')⟩

/-- The precondition's plan, as the compiled expert call's tables hold it. -/
theorem plan_Kernel2 (m : (ℓ : Loc Cert.Kernel2.nD Cert.Kernel2.τ Cert.Kernel2.sig) → Buf (Elt Bits) ℓ) (h : Cert.Pre_Kernel2 (hPre_plan := Cert.Pre_plan.Gen.facts) m) :
    Cert.Kernel2Ideal.Gen.PlanOK (F := Bits) (Cert.Kernel2Ideal.Gen.pfOf m) :=
  have p := Cert.Ffn.plan_words (F := Bits) _ _ _ _ _ _ _ _ (h 0)
  ⟨p.1, p.2.1, p.2.2.1, p.2.2.2⟩

/-- The precondition's plan, as the expert call's tables hold it. -/
theorem plan_Kernel2Ideal (m : (ℓ : Loc Cert.Kernel2Ideal.nD Cert.Kernel2Ideal.τ Cert.Kernel2Ideal.sig) → Buf (Elt Ideal) ℓ) (h : Cert.Pre_Kernel2Ideal (hPre_plan := Cert.Pre_plan.Gen.facts) m) :
    Cert.Kernel2Ideal.Gen.PlanOK (Cert.Kernel2Ideal.Gen.pfOf m) :=
  have p := Cert.Ffn.plan_words (F := Ideal) _ _ _ _ _ _ _ _ (h 0)
  ⟨p.1, p.2.1, p.2.2.1, p.2.2.2⟩

/-- The expert call as compiled terminates, leaves its arguments alone and its counters at zero. -/
theorem frame_kernel2 : Cert.quiescent_Kernel2 (hKernel2 := Cert.Kernel2.Gen.facts) (hPre_plan := Cert.Pre_plan.Gen.facts) := fun m g h =>
  Cert.Ffn.same_run m g _ ((θ_run Cert.Kernel2Ideal.defs _ _).mono (fun r q => ⟨fun c => (q.1 c).2, q.2⟩) (Cert.Kernel2Ideal.Gen.run_read (F := Bits) m (plan_Kernel2 m h) g))

/-- So does the expert call over the extended reals. -/
theorem frame_ideal2 : Cert.quiescent_Kernel2Ideal (hKernel2Ideal := Cert.Kernel2Ideal.Gen.facts) (hPre_plan := Cert.Pre_plan.Gen.facts) := fun m g h =>
  (θ_run _ _ _).mono (fun r q => ⟨fun c => (q.1 c).2, q.2⟩) (Cert.Kernel2Ideal.Gen.run_read m (plan_Kernel2Ideal m h) g)

/-- And its reference. -/
theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The expert reference's result over memory is its result over the arrays that memory holds. -/
theorem reference2_at (m' : (ℓ : Loc Cert.Reference2Ideal.nD Cert.Reference2Ideal.τ Cert.Reference2Ideal.sig) → Buf (Elt Ideal) ℓ) (c : Dev Cert.Reference2Ideal.nD)
    (x0 : Cert.Reference2Ideal.S544.Idx → BitVec 32)
    (x2 : Cert.Reference2Ideal.S1.Idx → BitVec 32)
    (x3 : Cert.Reference2Ideal.S2228224x128.Idx → EReal)
    (x4 : Cert.Reference2Ideal.S32x1024x2048.Idx → EReal)
    (x5 : Cert.Reference2Ideal.S32x1x2048.Idx → EReal)
    (x6 : Cert.Reference2Ideal.S32x1024x1024.Idx → EReal)
    (x7 : Cert.Reference2Ideal.S32x1x1024.Idx → EReal)
    (e0 : m' ((c.tc : Thread _ Cert.Reference2Ideal.τ).loc Cert.Reference2Ideal.main_arg0) = x0)
    (e2 : m' ((c.tc : Thread _ Cert.Reference2Ideal.τ).loc Cert.Reference2Ideal.main_arg2) = x2)
    (e3 : m' ((c.tc : Thread _ Cert.Reference2Ideal.τ).loc Cert.Reference2Ideal.main_arg3) = x3)
    (e4 : m' ((c.tc : Thread _ Cert.Reference2Ideal.τ).loc Cert.Reference2Ideal.main_arg4) = x4)
    (e5 : m' ((c.tc : Thread _ Cert.Reference2Ideal.τ).loc Cert.Reference2Ideal.main_arg5) = x5)
    (e6 : m' ((c.tc : Thread _ Cert.Reference2Ideal.τ).loc Cert.Reference2Ideal.main_arg6) = x6)
    (e7 : m' ((c.tc : Thread _ Cert.Reference2Ideal.τ).loc Cert.Reference2Ideal.main_arg7) = x7) :
    Cert.Reference2Ideal.Read.val_main_v58 (F := Ideal) (m' ((c.tc : Thread _ Cert.Reference2Ideal.τ).loc Cert.Reference2Ideal.main_arg0))
      (m' ((c.tc : Thread _ Cert.Reference2Ideal.τ).loc Cert.Reference2Ideal.main_arg2))
      (m' ((c.tc : Thread _ Cert.Reference2Ideal.τ).loc Cert.Reference2Ideal.main_arg3))
      (m' ((c.tc : Thread _ Cert.Reference2Ideal.τ).loc Cert.Reference2Ideal.main_arg4))
      (m' ((c.tc : Thread _ Cert.Reference2Ideal.τ).loc Cert.Reference2Ideal.main_arg5))
      (m' ((c.tc : Thread _ Cert.Reference2Ideal.τ).loc Cert.Reference2Ideal.main_arg6))
      (m' ((c.tc : Thread _ Cert.Reference2Ideal.τ).loc Cert.Reference2Ideal.main_arg7))
      = Cert.Reference2Ideal.Read.val_main_v58 (F := Ideal) x0 x2 x3 x4 x5 x6 x7 := by
  rw [e0, e2, e3, e4, e5, e6, e7]

/-- Over the extended reals, from the same arguments with a plan in front, the expert call and its reference end with the same result. -/
theorem algebraic2 : Cert.algebraic_Kernel2Ideal_Reference2Ideal (hKernel2Ideal := Cert.Kernel2Ideal.Gen.facts) (hReference2Ideal := Cert.Reference2Ideal.Gen.facts)
    (hPre_plan := Cert.Pre_plan.Gen.facts) := fun m g m' g' hP hm =>
  have hp := plan_Kernel2Ideal m hP
  ⟨fun c => Cert.Kernel2Ideal.Gen.outAt m hp c, (θ_run _ _ _).mono (fun r h => h.1) (Cert.Kernel2Ideal.Gen.run_read m hp g),
    (θ_run _ _ _).mono (fun r h c => ⟨((h c).1.trans (Cert.Reference2Ideal.Read.val_main_v58_eq (F := Ideal) m' c)).trans
      ((reference2_at m' c _ _ _ _ _ _ _ (hm c).1 (hm c).2.2.1 (hm c).2.2.2.1 (hm c).2.2.2.2.1 (hm c).2.2.2.2.2.1 (hm c).2.2.2.2.2.2.1 (hm c).2.2.2.2.2.2.2).trans
        (Cert.Kernel2Ideal.Gen.join m hp c).symm), (h c).2⟩) (Cert.Reference2Ideal.Value.run m' g')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_finite.Gen.facts, Cert.Pre_plan.Gen.facts,
  frame_kernel, frame_ideal, fun m ρ _ => Cert.KernelIdeal.Gen.frame m ρ, frame_reference, fun m ρ _ => frame_reference m ρ trivial,
  frame_kernel2, frame_ideal2, frame_reference2, fun m ρ _ => frame_reference2 m ρ trivial,
  preserves, algebraic, trivial, algebraic2⟩

end Cert.Proof

end
